-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e_over_8" .f32 0x3E38AA3B#32 (((1 / 8) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_finite_inputs : Cert.Pre_finite_inputs.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2 : Shape := ⟨1, ![2]⟩
abbrev S2x13x256x9216 : Shape := ⟨4, ![2, 13, 256, 9216]⟩
abbrev S2x13x4x9216 : Shape := ⟨4, ![2, 13, 4, 9216]⟩
abbrev S2x13x9216x256 : Shape := ⟨4, ![2, 13, 9216, 256]⟩
abbrev S256x256 : Shape := ⟨2, ![256, 256]⟩
abbrev S9216 : Shape := ⟨1, ![9216]⟩
abbrev S1x9216 : Shape := ⟨2, ![1, 9216]⟩
abbrev S2x1 : Shape := ⟨2, ![2, 1]⟩
abbrev S2x9216 : Shape := ⟨2, ![2, 9216]⟩
abbrev S2x1x1x9216 : Shape := ⟨4, ![2, 1, 1, 9216]⟩
abbrev S_ : Shape := ⟨0, ![]⟩
abbrev S2x1x9216x1 : Shape := ⟨4, ![2, 1, 9216, 1]⟩

class Facts : Prop where
  bcast_S9216_S1x9216_1 : S9216.BroadcastsInDim S1x9216 (![1] : Fin 1 → Fin S1x9216.rank)
  bcast_S2_S2x1_0 : S2.BroadcastsInDim S2x1 (![0] : Fin 1 → Fin S2x1.rank)
  bcast_S1x9216_S2x9216_0_1 : S1x9216.BroadcastsInDim S2x9216 (![0, 1] : Fin 2 → Fin S2x9216.rank)
  bcast_S2x1_S2x9216_0_1 : S2x1.BroadcastsInDim S2x9216 (![0, 1] : Fin 2 → Fin S2x9216.rank)
  bcast_S2x9216_S2x1x1x9216_0_3 : S2x9216.BroadcastsInDim S2x1x1x9216 (![0, 3] : Fin 2 → Fin S2x1x1x9216.rank)
  bcast_S_S2 : S_.BroadcastsInDim S2 (![] : Fin 0 → Fin S2.rank)
  reducesTo_S2_S_d0 : S2.ReducesTo [0] S_
  h_S_ : 0 < S_.numel
  bcast_S_S2x13x256x9216 : S_.BroadcastsInDim S2x13x256x9216 (![] : Fin 0 → Fin S2x13x256x9216.rank)
  bcast_S2x1x1x9216_S2x13x256x9216_0_1_2_3 : S2x1x1x9216.BroadcastsInDim S2x13x256x9216 (![0, 1, 2, 3] : Fin 4 → Fin S2x13x256x9216.rank)
  reducesTo_S2x13x256x9216_S_d0_1_2_3 : S2x13x256x9216.ReducesTo [0, 1, 2, 3] S_
  bcast_S2x9216_S2x1x9216x1_0_2 : S2x9216.BroadcastsInDim S2x1x9216x1 (![0, 2] : Fin 2 → Fin S2x1x9216x1.rank)
  bcast_S_S2x13x9216x256 : S_.BroadcastsInDim S2x13x9216x256 (![] : Fin 0 → Fin S2x13x9216x256.rank)
  bcast_S2x1x9216x1_S2x13x9216x256_0_1_2_3 : S2x1x9216x1.BroadcastsInDim S2x13x9216x256 (![0, 1, 2, 3] : Fin 4 → Fin S2x13x9216x256.rank)
  reducesTo_S2x13x9216x256_S_d0_1_2_3 : S2x13x9216x256.ReducesTo [0, 1, 2, 3] S_
  bcast_S_S2x13x4x9216 : S_.BroadcastsInDim S2x13x4x9216 (![] : Fin 0 → Fin S2x13x4x9216.rank)
  bcast_S2x1x1x9216_S2x13x4x9216_0_1_2_3 : S2x1x1x9216.BroadcastsInDim S2x13x4x9216 (![0, 1, 2, 3] : Fin 4 → Fin S2x13x4x9216.rank)
  reducesTo_S2x13x4x9216_S_d0_1_2_3 : S2x13x4x9216.ReducesTo [0, 1, 2, 3] S_

variable [Facts]

def fn_part2 {F : FTy → Type} [FloatOps F] (main_arg2 : FVec F S2x13x4x9216 .f32) (main_v25 : IVec S_ 1) (main_v31 : IVec S_ 1) (main_v32 : IVec S_ 1) (main_v36 : IVec S_ 1) : IVec S_ 1 :=
  let main_v37 : IVec S_ 1 := andi main_v32 main_v36
  let main_v38 : FVec F S2x13x4x9216 .f32 := Host.absf main_arg2
  let main_cst_9 : FVec F S_ .f32 := constant S_ .f32 0x7F800000#32
  let main_v39 : FVec F S2x13x4x9216 .f32 := broadcastInDim S2x13x4x9216 ![] bcast_S_S2x13x4x9216 main_cst_9
  let main_v40 : IVec S2x13x4x9216 1 := cmpf .olt main_v38 main_v39
  let main_c_10 : IVec S_ 1 := constantI S_ 1 1#1
  let main_v41 : IVec S_ 1 := (fun x v => Host.reduce IntOp.andi x v reducesTo_S2x13x4x9216_S_d0_1_2_3 h_S_) main_v40 main_c_10
  let main_v42 : IVec S_ 1 := andi main_v37 main_v41
  let main_v43 : IVec S_ 1 := andi main_v42 main_v25
  let main_v44 : IVec S_ 1 := andi main_v43 main_v31
  main_v44

def fn_part1 {F : FTy → Type} [FloatOps F] (main_arg1 : FVec F S2x13x256x9216 .f32) (main_arg2 : FVec F S2x13x4x9216 .f32) (main_arg3 : FVec F S2x13x9216x256 .f32) (main_arg4 : FVec F S2x13x4x9216 .f32) (main_v5 : IVec S2x9216 1) (main_v6 : IVec S2x1x1x9216 1) (main_v13 : IVec S_ 1) (main_v18 : IVec S_ 1) : IVec S_ 1 :=
  let main_v19 : IVec S2x1x9216x1 1 := broadcastInDim S2x1x9216x1 ![0, 2] bcast_S2x9216_S2x1x9216x1_0_2 main_v5
  let main_v20 : FVec F S2x13x9216x256 .f32 := Host.absf main_arg3
  let main_cst_3 : FVec F S_ .f32 := constant S_ .f32 0x7F800000#32
  let main_v21 : FVec F S2x13x9216x256 .f32 := broadcastInDim S2x13x9216x256 ![] bcast_S_S2x13x9216x256 main_cst_3
  let main_v22 : IVec S2x13x9216x256 1 := cmpf .olt main_v20 main_v21
  let main_v23 : IVec S2x13x9216x256 1 := broadcastInDim S2x13x9216x256 ![0, 1, 2, 3] bcast_S2x1x9216x1_S2x13x9216x256_0_1_2_3 main_v19
  let main_v24 : IVec S2x13x9216x256 1 := ori main_v23 main_v22
  let main_c_4 : IVec S_ 1 := constantI S_ 1 1#1
  let main_v25 : IVec S_ 1 := (fun x v => Host.reduce IntOp.andi x v reducesTo_S2x13x9216x256_S_d0_1_2_3 h_S_) main_v24 main_c_4
  let main_v26 : FVec F S2x13x4x9216 .f32 := Host.absf main_arg4
  let main_cst_5 : FVec F S_ .f32 := constant S_ .f32 0x7F800000#32
  let main_v27 : FVec F S2x13x4x9216 .f32 := broadcastInDim S2x13x4x9216 ![] bcast_S_S2x13x4x9216 main_cst_5
  let main_v28 : IVec S2x13x4x9216 1 := cmpf .olt main_v26 main_v27
  let main_v29 : IVec S2x13x4x9216 1 := broadcastInDim S2x13x4x9216 ![0, 1, 2, 3] bcast_S2x1x1x9216_S2x13x4x9216_0_1_2_3 main_v6
  let main_v30 : IVec S2x13x4x9216 1 := ori main_v29 main_v28
  let main_c_6 : IVec S_ 1 := constantI S_ 1 1#1
  let main_v31 : IVec S_ 1 := (fun x v => Host.reduce IntOp.andi x v reducesTo_S2x13x4x9216_S_d0_1_2_3 h_S_) main_v30 main_c_6
  let main_v32 : IVec S_ 1 := andi main_v13 main_v18
  let main_v33 : FVec F S2x13x256x9216 .f32 := Host.absf main_arg1
  let main_cst_7 : FVec F S_ .f32 := constant S_ .f32 0x7F800000#32
  let main_v34 : FVec F S2x13x256x9216 .f32 := broadcastInDim S2x13x256x9216 ![] bcast_S_S2x13x256x9216 main_cst_7
  let main_v35 : IVec S2x13x256x9216 1 := cmpf .olt main_v33 main_v34
  let main_c_8 : IVec S_ 1 := constantI S_ 1 1#1
  let main_v36 : IVec S_ 1 := (fun x v => Host.reduce IntOp.andi x v reducesTo_S2x13x256x9216_S_d0_1_2_3 h_S_) main_v35 main_c_8
  fn_part2 (F := F) main_arg2 main_v25 main_v31 main_v32 main_v36

def fn {F : FTy → Type} [FloatOps F] (main_arg0 : IVec S2 32) (main_arg1 : FVec F S2x13x256x9216 .f32) (main_arg2 : FVec F S2x13x4x9216 .f32) (main_arg3 : FVec F S2x13x9216x256 .f32) (main_arg4 : FVec F S2x13x4x9216 .f32) (main_arg5 : FVec F S2x13x256x9216 .bf16) (main_arg6 : FVec F S2x13x9216x256 .f32) (main_arg7 : FVec F S256x256 .bf16) : IVec S_ 1 :=
  let main_v0 : IVec S9216 32 := iotaInDim S9216 32 0
  let main_v1 : IVec S1x9216 32 := broadcastInDim S1x9216 ![1] bcast_S9216_S1x9216_1 main_v0
  let main_v2 : IVec S2x1 32 := broadcastInDim S2x1 ![0] bcast_S2_S2x1_0 main_arg0
  let main_v3 : IVec S2x9216 32 := broadcastInDim S2x9216 ![0, 1] bcast_S1x9216_S2x9216_0_1 main_v1
  let main_v4 : IVec S2x9216 32 := broadcastInDim S2x9216 ![0, 1] bcast_S2x1_S2x9216_0_1 main_v2
  let main_v5 : IVec S2x9216 1 := cmpi .sge main_v3 main_v4
  let main_v6 : IVec S2x1x1x9216 1 := broadcastInDim S2x1x1x9216 ![0, 3] bcast_S2x9216_S2x1x1x9216_0_3 main_v5
  let main_v7 : IVec S2x1x1x9216 1 := noti main_v6
  let main_c : IVec S_ 32 := constantI S_ 32 1#32
  let main_v8 : IVec S2 32 := broadcastInDim S2 ![] bcast_S_S2 main_c
  let main_v9 : IVec S2 1 := cmpi .sge main_arg0 main_v8
  let main_c_0 : IVec S_ 32 := constantI S_ 32 9216#32
  let main_v10 : IVec S2 32 := broadcastInDim S2 ![] bcast_S_S2 main_c_0
  let main_v11 : IVec S2 1 := cmpi .sle main_arg0 main_v10
  let main_v12 : IVec S2 1 := andi main_v9 main_v11
  let main_c_1 : IVec S_ 1 := constantI S_ 1 1#1
  let main_v13 : IVec S_ 1 := (fun x v => Host.reduce IntOp.andi x v reducesTo_S2_S_d0 h_S_) main_v12 main_c_1
  let main_cst : FVec F S_ .bf16 := constant S_ .bf16 0x0000#16
  let main_v14 : FVec F S2x13x256x9216 .bf16 := broadcastInDim S2x13x256x9216 ![] bcast_S_S2x13x256x9216 main_cst
  let main_v15 : IVec S2x13x256x9216 1 := cmpf .oeq main_arg5 main_v14
  let main_v16 : IVec S2x13x256x9216 1 := broadcastInDim S2x13x256x9216 ![0, 1, 2, 3] bcast_S2x1x1x9216_S2x13x256x9216_0_1_2_3 main_v7
  let main_v17 : IVec S2x13x256x9216 1 := ori main_v16 main_v15
  let main_c_2 : IVec S_ 1 := constantI S_ 1 1#1
  let main_v18 : IVec S_ 1 := (fun x v => Host.reduce IntOp.andi x v reducesTo_S2x13x256x9216_S_d0_1_2_3 h_S_) main_v17 main_c_2
  fn_part1 (F := F) main_arg1 main_arg2 main_arg3 main_arg4 main_v5 main_v6 main_v13 main_v18
-- ==== Pre_rows_in_range.lean ====
abbrev S2 : Shape := ⟨1, ![2]⟩
abbrev S2x13x256x9216 : Shape := ⟨4, ![2, 13, 256, 9216]⟩
abbrev S2x13x4x9216 : Shape := ⟨4, ![2, 13, 4, 9216]⟩
abbrev S2x13x9216x256 : Shape := ⟨4, ![2, 13, 9216, 256]⟩
abbrev S256x256 : Shape := ⟨2, ![256, 256]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : IVec S2 32) (main_arg1 : FVec F S2x13x256x9216 .f32) (main_arg2 : FVec F S2x13x4x9216 .f32) (main_arg3 : FVec F S2x13x9216x256 .f32) (main_arg4 : FVec F S2x13x4x9216 .f32) (main_arg5 : FVec F S2x13x256x9216 .bf16) (main_arg6 : FVec F S2x13x9216x256 .f32) (main_arg7 : FVec F S256x256 .bf16) : IVec S_ 1 :=
  let main_c : IVec S_ 32 := constantI S_ 32 1#32
  let main_v0 : IVec S2 32 := broadcastInDim S2 ![] bcast_S_S2 main_c
  let main_v1 : IVec S2 1 := cmpi .sge main_arg0 main_v0
  let main_c_0 : IVec S_ 32 := constantI S_ 32 9216#32
  let main_v2 : IVec S2 32 := broadcastInDim S2 ![] bcast_S_S2 main_c_0
  let main_v3 : IVec S2 1 := cmpi .sle main_arg0 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Kernel.lean ====
abbrev S2 : Shape := ⟨1, ![2]⟩
abbrev S2x13x256x9216 : Shape := ⟨4, ![2, 13, 256, 9216]⟩
abbrev S2x13x4x9216 : Shape := ⟨4, ![2, 13, 4, 9216]⟩
abbrev S2x13x9216x256 : Shape := ⟨4, ![2, 13, 9216, 256]⟩
abbrev S256x256 : Shape := ⟨2, ![256, 256]⟩
abbrev S1x1x256x1024 : Shape := ⟨4, ![1, 1, 256, 1024]⟩
abbrev S1x1x4x1024 : Shape := ⟨4, ![1, 1, 4, 1024]⟩
abbrev S1x1x9216x256 : Shape := ⟨4, ![1, 1, 9216, 256]⟩
abbrev S1x1x4x9216 : Shape := ⟨4, ![1, 1, 4, 9216]⟩
abbrev S1x1x256x9216 : Shape := ⟨4, ![1, 1, 256, 9216]⟩
abbrev S1x1x1024x256 : Shape := ⟨4, ![1, 1, 1024, 256]⟩
abbrev S4x9216x128 : Shape := ⟨3, ![4, 9216, 128]⟩
abbrev S4x80x1024 : Shape := ⟨3, ![4, 80, 1024]⟩
abbrev S4x1024 : Shape := ⟨2, ![4, 1024]⟩
abbrev S1 : Shape := ⟨1, ![1]⟩
abbrev S1x128 : Shape := ⟨2, ![1, 128]⟩
abbrev S1x1x1x128 : Shape := ⟨4, ![1, 1, 1, 128]⟩
abbrev S128x128 : Shape := ⟨2, ![128, 128]⟩
abbrev S1x128x128 : Shape := ⟨3, ![1, 128, 128]⟩
abbrev S1x1x1x256 : Shape := ⟨4, ![1, 1, 1, 256]⟩
abbrev S1x256 : Shape := ⟨2, ![1, 256]⟩
abbrev S1x1x256x128 : Shape := ⟨4, ![1, 1, 256, 128]⟩
abbrev S256x128 : Shape := ⟨2, ![256, 128]⟩
abbrev S1x1x64x256 : Shape := ⟨4, ![1, 1, 64, 256]⟩
abbrev S64x256 : Shape := ⟨2, ![64, 256]⟩
abbrev S128x256 : Shape := ⟨2, ![128, 256]⟩
abbrev S1x256x128 : Shape := ⟨3, ![1, 256, 128]⟩
abbrev S256 : Shape := ⟨1, ![256]⟩
abbrev S80x256 : Shape := ⟨2, ![80, 256]⟩
abbrev S1x80x256 : Shape := ⟨3, ![1, 80, 256]⟩
abbrev S1x1x1024x128 : Shape := ⟨4, ![1, 1, 1024, 128]⟩
abbrev S1024x128 : Shape := ⟨2, ![1024, 128]⟩
abbrev S1024x256 : Shape := ⟨2, ![1024, 256]⟩
abbrev S1x1024x128 : Shape := ⟨3, ![1, 1024, 128]⟩
abbrev S16x1024 : Shape := ⟨2, ![16, 1024]⟩
abbrev S1x1x64x1024 : Shape := ⟨4, ![1, 1, 64, 1024]⟩
abbrev S64x1024 : Shape := ⟨2, ![64, 1024]⟩
abbrev S80x1024 : Shape := ⟨2, ![80, 1024]⟩
abbrev S1x1x1024 : Shape := ⟨3, ![1, 1, 1024]⟩
abbrev S1x1024 : Shape := ⟨2, ![1, 1024]⟩
abbrev S4x64x1024 : Shape := ⟨3, ![4, 64, 1024]⟩
abbrev S1024 : Shape := ⟨1, ![1024]⟩
abbrev S1x4x1024 : Shape := ⟨3, ![1, 4, 1024]⟩
abbrev S1x1x1 : Shape := ⟨3, ![1, 1, 1]⟩
abbrev S16x256 : Shape := ⟨2, ![16, 256]⟩
abbrev S1x64x256 : Shape := ⟨3, ![1, 64, 256]⟩
abbrev S1x1x256 : Shape := ⟨3, ![1, 1, 256]⟩
abbrev S1x1x256x256 : Shape := ⟨4, ![1, 1, 256, 256]⟩

abbrev nBuf : Space → Nat
  | .hbm => 11
  | .vmem => 20
  | .smem => 1
  | _ => 0

abbrev bufTy : (tb : Table) → Fin (tcTables nBuf tb) → BufTy
  | .hbm, ⟨0, _⟩ => ⟨S2x13x256x9216, .f32⟩
  | .hbm, ⟨1, _⟩ => ⟨S2x13x4x9216, .f32⟩
  | .hbm, ⟨2, _⟩ => ⟨S2x13x9216x256, .f32⟩
  | .hbm, ⟨3, _⟩ => ⟨S2x13x4x9216, .f32⟩
  | .hbm, ⟨4, _⟩ => ⟨S2x13x256x9216, .bf16⟩
  | .hbm, ⟨5, _⟩ => ⟨S2x13x9216x256, .f32⟩
  | .hbm, ⟨6, _⟩ => ⟨S256x256, .bf16⟩
  | .hbm, ⟨7, _⟩ => ⟨S2x13x256x9216, .fp8e4m3⟩
  | .hbm, ⟨8, _⟩ => ⟨S2x13x9216x256, .fp8e4m3⟩
  | .hbm, ⟨9, _⟩ => ⟨S2x13x9216x256, .bf16⟩
  | .hbm, ⟨10, _⟩ => ⟨S2x13x9216x256, .bf16⟩
  | .local _ .vmem, ⟨0, _⟩ => ⟨S1x1x256x1024, .fp8e4m3⟩
  | .local _ .vmem, ⟨1, _⟩ => ⟨S1x1x256x1024, .fp8e4m3⟩
  | .local _ .vmem, ⟨2, _⟩ => ⟨S1x1x4x1024, .f32⟩
  | .local _ .vmem, ⟨3, _⟩ => ⟨S1x1x4x1024, .f32⟩
  | .local _ .vmem, ⟨4, _⟩ => ⟨S1x1x9216x256, .fp8e4m3⟩
  | .local _ .vmem, ⟨5, _⟩ => ⟨S1x1x9216x256, .fp8e4m3⟩
  | .local _ .vmem, ⟨6, _⟩ => ⟨S1x1x4x9216, .f32⟩
  | .local _ .vmem, ⟨7, _⟩ => ⟨S1x1x4x9216, .f32⟩
  | .local _ .vmem, ⟨8, _⟩ => ⟨S1x1x256x9216, .bf16⟩
  | .local _ .vmem, ⟨9, _⟩ => ⟨S1x1x256x9216, .bf16⟩
  | .local _ .vmem, ⟨10, _⟩ => ⟨S1x1x1024x256, .f32⟩
  | .local _ .vmem, ⟨11, _⟩ => ⟨S1x1x1024x256, .f32⟩
  | .local _ .vmem, ⟨12, _⟩ => ⟨S256x256, .bf16⟩
  | .local _ .vmem, ⟨13, _⟩ => ⟨S1x1x1024x256, .bf16⟩
  | .local _ .vmem, ⟨14, _⟩ => ⟨S1x1x1024x256, .bf16⟩
  | .local _ .vmem, ⟨15, _⟩ => ⟨S1x1x1024x256, .bf16⟩
  | .local _ .vmem, ⟨16, _⟩ => ⟨S1x1x1024x256, .bf16⟩
  | .local _ .vmem, ⟨17, _⟩ => ⟨S4x9216x128, .f32⟩
  | .local _ .vmem, ⟨18, _⟩ => ⟨S4x80x1024, .f32⟩
  | .local _ .vmem, ⟨19, _⟩ => ⟨S4x1024, .f32⟩
  | .local _ .smem, ⟨0, _⟩ => ⟨S2, .i32⟩
  | _, _ => ⟨S2x13x256x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 13, 9], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg2 : BitVec 32 := BitVec.ofNat 32 (i 2).val
  let c0_i32_6 : BitVec 32 := 0#32
  let v21 : BitVec 1 := Scalar.cmpi .eq arg2 c0_i32_6
  let v22 : BitVec 32 := Scalar.extui v21
  let c0_i32_7 : BitVec 32 := 0#32
  let v23 : BitVec 1 := Scalar.cmpi .ne v22 c0_i32_7
  v23

@[reducible] def k0_t1_loop (v1 : BitVec 32) : Scf.Loop 32 :=
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_602 : BitVec 32 := 1#32
  ⟨c0_i32_600, v733, c1_i32_602⟩

def k0_mult1 (v1 : BitVec 32) (k0_t1 : Fin (k0_t1_loop v1).trips) : BitVec 32 :=
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  v734
def k0_off2 (v1 : BitVec 32) (k0_t1 : Fin (k0_t1_loop v1).trips) : Fin 4 → Nat :=
  let c0_604 : Index := 0#32
  let c0_605 : Index := 0#32
  let c0_606 : Index := 0#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v741 : Index := Scalar.indexCast v735
  ![0, 0, 0, v741.toNat]
def k0_off3 (v1 : BitVec 32) (k0_t1 : Fin (k0_t1_loop v1).trips) : Fin 3 → Nat :=
  let c0_608 : Index := 0#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v749 : Index := Scalar.indexCast v735
  let c0_609 : Index := 0#32
  ![0, v749.toNat, 0]
def k0_off4 (v1 : BitVec 32) (k0_t1 : Fin (k0_t1_loop v1).trips) : Fin 4 → Nat :=
  let c0_610 : Index := 0#32
  let c0_611 : Index := 0#32
  let c1_612 : Index := 1#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v753 : Index := Scalar.indexCast v735
  ![0, 0, 1, v753.toNat]
def k0_off5 (v1 : BitVec 32) (k0_t1 : Fin (k0_t1_loop v1).trips) : Fin 3 → Nat :=
  let c1_614 : Index := 1#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v761 : Index := Scalar.indexCast v735
  let c0_615 : Index := 0#32
  ![1, v761.toNat, 0]
def k0_off6 (v1 : BitVec 32) (k0_t1 : Fin (k0_t1_loop v1).trips) : Fin 4 → Nat :=
  let c0_616 : Index := 0#32
  let c0_617 : Index := 0#32
  let c2_618 : Index := 2#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v765 : Index := Scalar.indexCast v735
  ![0, 0, 2, v765.toNat]
def k0_off7 (v1 : BitVec 32) (k0_t1 : Fin (k0_t1_loop v1).trips) : Fin 3 → Nat :=
  let c2_620 : Index := 2#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v773 : Index := Scalar.indexCast v735
  let c0_621 : Index := 0#32
  ![2, v773.toNat, 0]
def k0_off8 (v1 : BitVec 32) (k0_t1 : Fin (k0_t1_loop v1).trips) : Fin 4 → Nat :=
  let c0_622 : Index := 0#32
  let c0_623 : Index := 0#32
  let c3_624 : Index := 3#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v777 : Index := Scalar.indexCast v735
  ![0, 0, 3, v777.toNat]
def k0_off9 (v1 : BitVec 32) (k0_t1 : Fin (k0_t1_loop v1).trips) : Fin 3 → Nat :=
  let c3_626 : Index := 3#32
  let c0_i32_600 : BitVec 32 := 0#32
  let c1_i32_602 : BitVec 32 := 1#32
  let arg16 : BitVec 32 := Scf.iv c0_i32_600 c1_i32_602 k0_t1
  let c128_i32 : BitVec 32 := 128#32
  let v734 : BitVec 32 := Scalar.muli arg16 c128_i32
  let v735 : BitVec 32 := v734
  let v785 : Index := Scalar.indexCast v735
  let c0_627 : Index := 0#32
  ![3, v785.toNat, 0]
@[reducible] def k0_t2_loop (v1 : BitVec 32) : Scf.Loop 32 :=
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let v730 : BitVec 32 := Scalar.addi c0_i32_600 v729
  let c1_i32_603 : BitVec 32 := 1#32
  ⟨v733, v730, c1_i32_603⟩
def k0_mult2 (v1 : BitVec 32) (k0_t2 : Fin (k0_t2_loop v1).trips) : BitVec 32 :=
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  v734
def k0_off10 (v1 : BitVec 32) (k0_t2 : Fin (k0_t2_loop v1).trips) : Fin 4 → Nat :=
  let c0_604 : Index := 0#32
  let c0_605 : Index := 0#32
  let c0_606 : Index := 0#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v741 : Index := Scalar.indexCast v735
  ![0, 0, 0, v741.toNat]
def k0_off11 (v1 : BitVec 32) (k0_t2 : Fin (k0_t2_loop v1).trips) : Fin 3 → Nat :=
  let c0_608 : Index := 0#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v749 : Index := Scalar.indexCast v735
  let c0_609 : Index := 0#32
  ![0, v749.toNat, 0]
def k0_off12 (v1 : BitVec 32) (k0_t2 : Fin (k0_t2_loop v1).trips) : Fin 4 → Nat :=
  let c0_610 : Index := 0#32
  let c0_611 : Index := 0#32
  let c1_612 : Index := 1#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v753 : Index := Scalar.indexCast v735
  ![0, 0, 1, v753.toNat]
def k0_off13 (v1 : BitVec 32) (k0_t2 : Fin (k0_t2_loop v1).trips) : Fin 3 → Nat :=
  let c1_614 : Index := 1#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v761 : Index := Scalar.indexCast v735
  let c0_615 : Index := 0#32
  ![1, v761.toNat, 0]
def k0_off14 (v1 : BitVec 32) (k0_t2 : Fin (k0_t2_loop v1).trips) : Fin 4 → Nat :=
  let c0_616 : Index := 0#32
  let c0_617 : Index := 0#32
  let c2_618 : Index := 2#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v765 : Index := Scalar.indexCast v735
  ![0, 0, 2, v765.toNat]
def k0_off15 (v1 : BitVec 32) (k0_t2 : Fin (k0_t2_loop v1).trips) : Fin 3 → Nat :=
  let c2_620 : Index := 2#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v773 : Index := Scalar.indexCast v735
  let c0_621 : Index := 0#32
  ![2, v773.toNat, 0]
def k0_off16 (v1 : BitVec 32) (k0_t2 : Fin (k0_t2_loop v1).trips) : Fin 4 → Nat :=
  let c0_622 : Index := 0#32
  let c0_623 : Index := 0#32
  let c3_624 : Index := 3#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v777 : Index := Scalar.indexCast v735
  ![0, 0, 3, v777.toNat]
def k0_off17 (v1 : BitVec 32) (k0_t2 : Fin (k0_t2_loop v1).trips) : Fin 3 → Nat :=
  let c3_626 : Index := 3#32
  let c0_i32_600 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c8_i32 : BitVec 32 := 8#32
  let v728 : BitVec 32 := Scalar.muli v20 c8_i32
  let v729 : BitVec 32 := Scalar.subi v728 c0_i32_600
  let c1_i32_601 : BitVec 32 := 1#32
  let v731 : BitVec 32 := Scalar.divsi v729 c1_i32_601
  let v732 : BitVec 32 := Scalar.muli v731 c1_i32_601
  let v733 : BitVec 32 := Scalar.addi c0_i32_600 v732
  let c1_i32_603 : BitVec 32 := 1#32
  let arg16 : BitVec 32 := Scf.iv v733 c1_i32_603 k0_t2
  let c128_i32 : BitVec 32 := 128#32
  let v734 : BitVec 32 := Scalar.muli arg16 c128_i32
  let v735 : BitVec 32 := v734
  let v785 : Index := Scalar.indexCast v735
  let c0_627 : Index := 0#32
  ![3, v785.toNat, 0]
@[reducible] def k0_t3_loop (v1 : BitVec 32) : Scf.Loop 32 :=
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_416 : BitVec 32 := 1#32
  ⟨c0_i32_414, v540, c1_i32_416⟩
def k0_mult3 (v1 : BitVec 32) (k0_t3 : Fin (k0_t3_loop v1).trips) : BitVec 32 :=
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  v728
def k0_off18 (v1 : BitVec 32) (k0_t3 : Fin (k0_t3_loop v1).trips) : Fin 4 → Nat :=
  let c0_605 : Index := 0#32
  let c0_606 : Index := 0#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v734 : Index := Scalar.indexCast v729
  let c0_607 : Index := 0#32
  ![0, 0, v734.toNat, 0]
def k0_off19 (v1 : BitVec 32) (k0_t3 : Fin (k0_t3_loop v1).trips) : Fin 3 → Nat :=
  let c0_614 : Index := 0#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v743 : Index := Scalar.indexCast v729
  let c0_615 : Index := 0#32
  ![0, v743.toNat, 0]
def k0_off20 (v1 : BitVec 32) (k0_t3 : Fin (k0_t3_loop v1).trips) : Fin 4 → Nat :=
  let c0_623 : Index := 0#32
  let c0_624 : Index := 0#32
  let c0_625 : Index := 0#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v765 : Index := Scalar.indexCast v729
  ![0, 0, 0, v765.toNat]
def k0_off21 (v1 : BitVec 32) (k0_t3 : Fin (k0_t3_loop v1).trips) : Fin 3 → Nat :=
  let c1_734 : Index := 1#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v923 : Index := Scalar.indexCast v729
  let c0_735 : Index := 0#32
  ![1, v923.toNat, 0]
def k0_off22 (v1 : BitVec 32) (k0_t3 : Fin (k0_t3_loop v1).trips) : Fin 4 → Nat :=
  let c0_743 : Index := 0#32
  let c0_744 : Index := 0#32
  let c64_745 : Index := 64#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v945 : Index := Scalar.indexCast v729
  ![0, 0, 64, v945.toNat]
def k0_off23 (v1 : BitVec 32) (k0_t3 : Fin (k0_t3_loop v1).trips) : Fin 4 → Nat :=
  let c0_845 : Index := 0#32
  let c0_846 : Index := 0#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v1094 : Index := Scalar.indexCast v729
  let c128_847 : Index := 128#32
  ![0, 0, v1094.toNat, 128]
def k0_off24 (v1 : BitVec 32) (k0_t3 : Fin (k0_t3_loop v1).trips) : Fin 3 → Nat :=
  let c2_854 : Index := 2#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v1103 : Index := Scalar.indexCast v729
  let c0_855 : Index := 0#32
  ![2, v1103.toNat, 0]
def k0_off25 (v1 : BitVec 32) (k0_t3 : Fin (k0_t3_loop v1).trips) : Fin 4 → Nat :=
  let c0_863 : Index := 0#32
  let c0_864 : Index := 0#32
  let c128_865 : Index := 128#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v1125 : Index := Scalar.indexCast v729
  ![0, 0, 128, v1125.toNat]
def k0_off26 (v1 : BitVec 32) (k0_t3 : Fin (k0_t3_loop v1).trips) : Fin 3 → Nat :=
  let c3_974 : Index := 3#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v1283 : Index := Scalar.indexCast v729
  let c0_975 : Index := 0#32
  ![3, v1283.toNat, 0]
def k0_off27 (v1 : BitVec 32) (k0_t3 : Fin (k0_t3_loop v1).trips) : Fin 4 → Nat :=
  let c0_983 : Index := 0#32
  let c0_984 : Index := 0#32
  let c192_985 : Index := 192#32
  let c0_i32_414 : BitVec 32 := 0#32
  let c1_i32_416 : BitVec 32 := 1#32
  let arg16 : BitVec 32 := Scf.iv c0_i32_414 c1_i32_416 k0_t3
  let c1024_i32_599 : BitVec 32 := 1024#32
  let v728 : BitVec 32 := Scalar.muli arg16 c1024_i32_599
  let v729 : BitVec 32 := v728
  let v1305 : Index := Scalar.indexCast v729
  ![0, 0, 192, v1305.toNat]
@[reducible] def k0_t4_loop (v1 : BitVec 32) : Scf.Loop 32 :=
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let v537 : BitVec 32 := Scalar.addi c0_i32_414 v536
  let c1_i32_417 : BitVec 32 := 1#32
  ⟨v540, v537, c1_i32_417⟩
def k0_mult4 (v1 : BitVec 32) (k0_t4 : Fin (k0_t4_loop v1).trips) : BitVec 32 :=
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  v728
def k0_off28 (v1 : BitVec 32) (k0_t4 : Fin (k0_t4_loop v1).trips) : Fin 4 → Nat :=
  let c0_605 : Index := 0#32
  let c0_606 : Index := 0#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v734 : Index := Scalar.indexCast v729
  let c0_607 : Index := 0#32
  ![0, 0, v734.toNat, 0]
def k0_off29 (v1 : BitVec 32) (k0_t4 : Fin (k0_t4_loop v1).trips) : Fin 3 → Nat :=
  let c0_614 : Index := 0#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v743 : Index := Scalar.indexCast v729
  let c0_615 : Index := 0#32
  ![0, v743.toNat, 0]
def k0_off30 (v1 : BitVec 32) (k0_t4 : Fin (k0_t4_loop v1).trips) : Fin 4 → Nat :=
  let c0_623 : Index := 0#32
  let c0_624 : Index := 0#32
  let c0_625 : Index := 0#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v765 : Index := Scalar.indexCast v729
  ![0, 0, 0, v765.toNat]
def k0_off31 (v1 : BitVec 32) (k0_t4 : Fin (k0_t4_loop v1).trips) : Fin 3 → Nat :=
  let c1_734 : Index := 1#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v923 : Index := Scalar.indexCast v729
  let c0_735 : Index := 0#32
  ![1, v923.toNat, 0]
def k0_off32 (v1 : BitVec 32) (k0_t4 : Fin (k0_t4_loop v1).trips) : Fin 4 → Nat :=
  let c0_743 : Index := 0#32
  let c0_744 : Index := 0#32
  let c64_745 : Index := 64#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v945 : Index := Scalar.indexCast v729
  ![0, 0, 64, v945.toNat]
def k0_off33 (v1 : BitVec 32) (k0_t4 : Fin (k0_t4_loop v1).trips) : Fin 4 → Nat :=
  let c0_845 : Index := 0#32
  let c0_846 : Index := 0#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v1094 : Index := Scalar.indexCast v729
  let c128_847 : Index := 128#32
  ![0, 0, v1094.toNat, 128]
def k0_off34 (v1 : BitVec 32) (k0_t4 : Fin (k0_t4_loop v1).trips) : Fin 3 → Nat :=
  let c2_854 : Index := 2#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v1103 : Index := Scalar.indexCast v729
  let c0_855 : Index := 0#32
  ![2, v1103.toNat, 0]
def k0_off35 (v1 : BitVec 32) (k0_t4 : Fin (k0_t4_loop v1).trips) : Fin 4 → Nat :=
  let c0_863 : Index := 0#32
  let c0_864 : Index := 0#32
  let c128_865 : Index := 128#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v1125 : Index := Scalar.indexCast v729
  ![0, 0, 128, v1125.toNat]
def k0_off36 (v1 : BitVec 32) (k0_t4 : Fin (k0_t4_loop v1).trips) : Fin 3 → Nat :=
  let c3_974 : Index := 3#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v1283 : Index := Scalar.indexCast v729
  let c0_975 : Index := 0#32
  ![3, v1283.toNat, 0]
def k0_off37 (v1 : BitVec 32) (k0_t4 : Fin (k0_t4_loop v1).trips) : Fin 4 → Nat :=
  let c0_983 : Index := 0#32
  let c0_984 : Index := 0#32
  let c192_985 : Index := 192#32
  let c0_i32_414 : BitVec 32 := 0#32
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v536 : BitVec 32 := Scalar.subi v20 c0_i32_414
  let c1_i32_415 : BitVec 32 := 1#32
  let v538 : BitVec 32 := Scalar.divsi v536 c1_i32_415
  let v539 : BitVec 32 := Scalar.muli v538 c1_i32_415
  let v540 : BitVec 32 := Scalar.addi c0_i32_414 v539
  let c1_i32_417 : BitVec 32 := 1#32
  let arg16 : BitVec 32 := Scf.iv v540 c1_i32_417 k0_t4
  let c1024_i32_599 : BitVec 32 := 1024#32
  let v728 : BitVec 32 := Scalar.muli arg16 c1024_i32_599
  let v729 : BitVec 32 := v728
  let v1305 : Index := Scalar.indexCast v729
  ![0, 0, 192, v1305.toNat]

def k0_chk1_0 (i : grid0.Coords) (v1 : BitVec 32) : Prop :=
  (∀ (k0_h1 : k0_cond1 i = 1#1), (k0_t1_loop v1).OK) ∧
  (∀ k0_t1 : Fin (k0_t1_loop v1).trips, ∀ (k0_h1 : k0_cond1 i = 1#1), 128 ∣ (k0_mult1 v1 k0_t1).toNat) ∧
  (∀ k0_t1 : Fin (k0_t1_loop v1).trips, ∀ (k0_h1 : k0_cond1 i = 1#1), ∀ a, (k0_off2 v1 k0_t1) a + S1x1x1x128.size a ≤ S1x1x4x9216.size a) ∧
  (∀ k0_t1 : Fin (k0_t1_loop v1).trips, ∀ (k0_h1 : k0_cond1 i = 1#1), ∀ a, (k0_off3 v1 k0_t1) a + S1x128x128.size a ≤ S4x9216x128.size a) ∧
  (∀ k0_t1 : Fin (k0_t1_loop v1).trips, ∀ (k0_h1 : k0_cond1 i = 1#1), ∀ a, (k0_off4 v1 k0_t1) a + S1x1x1x128.size a ≤ S1x1x4x9216.size a) ∧
  (∀ k0_t1 : Fin (k0_t1_loop v1).trips, ∀ (k0_h1 : k0_cond1 i = 1#1), ∀ a, (k0_off5 v1 k0_t1) a + S1x128x128.size a ≤ S4x9216x128.size a) ∧
  (∀ k0_t1 : Fin (k0_t1_loop v1).trips, ∀ (k0_h1 : k0_cond1 i = 1#1), ∀ a, (k0_off6 v1 k0_t1) a + S1x1x1x128.size a ≤ S1x1x4x9216.size a) ∧
  (∀ k0_t1 : Fin (k0_t1_loop v1).trips, ∀ (k0_h1 : k0_cond1 i = 1#1), ∀ a, (k0_off7 v1 k0_t1) a + S1x128x128.size a ≤ S4x9216x128.size a) ∧
  (∀ k0_t1 : Fin (k0_t1_loop v1).trips, ∀ (k0_h1 : k0_cond1 i = 1#1), ∀ a, (k0_off8 v1 k0_t1) a + S1x1x1x128.size a ≤ S1x1x4x9216.size a) ∧
  (∀ k0_t1 : Fin (k0_t1_loop v1).trips, ∀ (k0_h1 : k0_cond1 i = 1#1), ∀ a, (k0_off9 v1 k0_t1) a + S1x128x128.size a ≤ S4x9216x128.size a) ∧
  (∀ (k0_h1 : k0_cond1 i = 1#1), (k0_t2_loop v1).OK) ∧
  (∀ k0_t2 : Fin (k0_t2_loop v1).trips, ∀ (k0_h1 : k0_cond1 i = 1#1), 128 ∣ (k0_mult2 v1 k0_t2).toNat) ∧
  (∀ k0_t2 : Fin (k0_t2_loop v1).trips, ∀ (k0_h1 : k0_cond1 i = 1#1), ∀ a, (k0_off10 v1 k0_t2) a + S1x1x1x128.size a ≤ S1x1x4x9216.size a) ∧
  (∀ k0_t2 : Fin (k0_t2_loop v1).trips, ∀ (k0_h1 : k0_cond1 i = 1#1), ∀ a, (k0_off11 v1 k0_t2) a + S1x128x128.size a ≤ S4x9216x128.size a) ∧
  (∀ k0_t2 : Fin (k0_t2_loop v1).trips, ∀ (k0_h1 : k0_cond1 i = 1#1), ∀ a, (k0_off12 v1 k0_t2) a + S1x1x1x128.size a ≤ S1x1x4x9216.size a) ∧
  (∀ k0_t2 : Fin (k0_t2_loop v1).trips, ∀ (k0_h1 : k0_cond1 i = 1#1), ∀ a, (k0_off13 v1 k0_t2) a + S1x128x128.size a ≤ S4x9216x128.size a) ∧
  (∀ k0_t2 : Fin (k0_t2_loop v1).trips, ∀ (k0_h1 : k0_cond1 i = 1#1), ∀ a, (k0_off14 v1 k0_t2) a + S1x1x1x128.size a ≤ S1x1x4x9216.size a) ∧
  (∀ k0_t2 : Fin (k0_t2_loop v1).trips, ∀ (k0_h1 : k0_cond1 i = 1#1), ∀ a, (k0_off15 v1 k0_t2) a + S1x128x128.size a ≤ S4x9216x128.size a) ∧
  (∀ k0_t2 : Fin (k0_t2_loop v1).trips, ∀ (k0_h1 : k0_cond1 i = 1#1), ∀ a, (k0_off16 v1 k0_t2) a + S1x1x1x128.size a ≤ S1x1x4x9216.size a) ∧
  (∀ k0_t2 : Fin (k0_t2_loop v1).trips, ∀ (k0_h1 : k0_cond1 i = 1#1), ∀ a, (k0_off17 v1 k0_t2) a + S1x128x128.size a ≤ S4x9216x128.size a) ∧
  ((k0_t3_loop v1).OK) ∧
  (∀ k0_t3 : Fin (k0_t3_loop v1).trips, 1024 ∣ (k0_mult3 v1 k0_t3).toNat) ∧
  (∀ k0_t3 : Fin (k0_t3_loop v1).trips, ∀ a, (k0_off18 v1 k0_t3) a + S1x1x1024x128.size a ≤ S1x1x9216x256.size a) ∧
  (∀ k0_t3 : Fin (k0_t3_loop v1).trips, ∀ a, (k0_off19 v1 k0_t3) a + S1x1024x128.size a ≤ S4x9216x128.size a) ∧
  (∀ k0_t3 : Fin (k0_t3_loop v1).trips, ∀ a, (k0_off20 v1 k0_t3) a + S1x1x64x1024.size a ≤ S1x1x256x9216.size a) ∧
  (∀ k0_t3 : Fin (k0_t3_loop v1).trips, ∀ a, (k0_off21 v1 k0_t3) a + S1x1024x128.size a ≤ S4x9216x128.size a) ∧
  (∀ k0_t3 : Fin (k0_t3_loop v1).trips, ∀ a, (k0_off22 v1 k0_t3) a + S1x1x64x1024.size a ≤ S1x1x256x9216.size a) ∧
  (∀ k0_t3 : Fin (k0_t3_loop v1).trips, ∀ a, (k0_off23 v1 k0_t3) a + S1x1x1024x128.size a ≤ S1x1x9216x256.size a) ∧
  (∀ k0_t3 : Fin (k0_t3_loop v1).trips, ∀ a, (k0_off24 v1 k0_t3) a + S1x1024x128.size a ≤ S4x9216x128.size a) ∧
  (∀ k0_t3 : Fin (k0_t3_loop v1).trips, ∀ a, (k0_off25 v1 k0_t3) a + S1x1x64x1024.size a ≤ S1x1x256x9216.size a) ∧
  (∀ k0_t3 : Fin (k0_t3_loop v1).trips, ∀ a, (k0_off26 v1 k0_t3) a + S1x1024x128.size a ≤ S4x9216x128.size a) ∧
  (∀ k0_t3 : Fin (k0_t3_loop v1).trips, ∀ a, (k0_off27 v1 k0_t3) a + S1x1x64x1024.size a ≤ S1x1x256x9216.size a)
def k0_chk1_1 (i : grid0.Coords) (v1 : BitVec 32) : Prop :=
  ((k0_t4_loop v1).OK) ∧
  (∀ k0_t4 : Fin (k0_t4_loop v1).trips, 1024 ∣ (k0_mult4 v1 k0_t4).toNat) ∧
  (∀ k0_t4 : Fin (k0_t4_loop v1).trips, ∀ a, (k0_off28 v1 k0_t4) a + S1x1x1024x128.size a ≤ S1x1x9216x256.size a) ∧
  (∀ k0_t4 : Fin (k0_t4_loop v1).trips, ∀ a, (k0_off29 v1 k0_t4) a + S1x1024x128.size a ≤ S4x9216x128.size a) ∧
  (∀ k0_t4 : Fin (k0_t4_loop v1).trips, ∀ a, (k0_off30 v1 k0_t4) a + S1x1x64x1024.size a ≤ S1x1x256x9216.size a) ∧
  (∀ k0_t4 : Fin (k0_t4_loop v1).trips, ∀ a, (k0_off31 v1 k0_t4) a + S1x1024x128.size a ≤ S4x9216x128.size a) ∧
  (∀ k0_t4 : Fin (k0_t4_loop v1).trips, ∀ a, (k0_off32 v1 k0_t4) a + S1x1x64x1024.size a ≤ S1x1x256x9216.size a) ∧
  (∀ k0_t4 : Fin (k0_t4_loop v1).trips, ∀ a, (k0_off33 v1 k0_t4) a + S1x1x1024x128.size a ≤ S1x1x9216x256.size a) ∧
  (∀ k0_t4 : Fin (k0_t4_loop v1).trips, ∀ a, (k0_off34 v1 k0_t4) a + S1x1024x128.size a ≤ S4x9216x128.size a) ∧
  (∀ k0_t4 : Fin (k0_t4_loop v1).trips, ∀ a, (k0_off35 v1 k0_t4) a + S1x1x64x1024.size a ≤ S1x1x256x9216.size a) ∧
  (∀ k0_t4 : Fin (k0_t4_loop v1).trips, ∀ a, (k0_off36 v1 k0_t4) a + S1x1024x128.size a ≤ S4x9216x128.size a) ∧
  (∀ k0_t4 : Fin (k0_t4_loop v1).trips, ∀ a, (k0_off37 v1 k0_t4) a + S1x1x64x1024.size a ≤ S1x1x256x9216.size a)
def k0_chk1 (i : grid0.Coords) (v1 : BitVec 32) : Prop :=
  k0_chk1_0 i v1 ∧
  k0_chk1_1 i v1
theorem k0_t1_ok : ∀ (i : grid0.Coords) (v1 : BitVec 32) (k0_hw1 : k0_chk1 i v1), ∀ (k0_h1 : k0_cond1 i = 1#1), (k0_t1_loop v1).OK := fun i v1 k0_hw1 k0_h1 => k0_hw1.1.1 k0_h1
theorem k0_mult1_dvd : ∀ (i : grid0.Coords) (v1 : BitVec 32) (k0_hw1 : k0_chk1 i v1) (k0_t1 : Fin (k0_t1_loop v1).trips), ∀ (k0_h1 : k0_cond1 i = 1#1), 128 ∣ (k0_mult1 v1 k0_t1).toNat := fun i v1 k0_hw1 k0_t1 k0_h1 => k0_hw1.1.2.1 k0_t1 k0_h1
theorem k0_off2_inb : ∀ (i : grid0.Coords) (v1 : BitVec 32) (k0_hw1 : k0_chk1 i v1) (k0_t1 : Fin (k0_t1_loop v1).trips), ∀ (k0_h1 : k0_cond1 i = 1#1), ∀ a, (k0_off2 v1 k0_t1) a + S1x1x1x128.size a ≤ S1x1x4x9216.size a := fun i v1 k0_hw1 k0_t1 k0_h1 => k0_hw1.1.2.2.1 k0_t1 k0_h1
theorem k0_off3_inb : ∀ (i : grid0.Coords) (v1 : BitVec 32) (k0_hw1 : k0_chk1 i v1) (k0_t1 : Fin (k0_t1_loop v1).trips), ∀ (k0_h1 : k0_cond1 i = 1#1), ∀ a, (k0_off3 v1 k0_t1) a + S1x128x128.size a ≤ S4x9216x128.size a := fun i v1 k0_hw1 k0_t1 k0_h1 => k0_hw1.1.2.2.2.1 k0_t1 k0_h1
theorem k0_off4_inb : ∀ (i : grid0.Coords) (v1 : BitVec 32) (k0_hw1 : k0_chk1 i v1) (k0_t1 : Fin (k0_t1_loop v1).trips), ∀ (k0_h1 : k0_cond1 i = 1#1), ∀ a, (k0_off4 v1 k0_t1) a + S1x1x1x128.size a ≤ S1x1x4x9216.size a := fun i v1 k0_hw1 k0_t1 k0_h1 => k0_hw1.1.2.2.2.2.1 k0_t1 k0_h1
theorem k0_off5_inb : ∀ (i : grid0.Coords) (v1 : BitVec 32) (k0_hw1 : k0_chk1 i v1) (k0_t1 : Fin (k0_t1_loop v1).trips), ∀ (k0_h1 : k0_cond1 i = 1#1), ∀ a, (k0_off5 v1 k0_t1) a + S1x128x128.size a ≤ S4x9216x128.size a := fun i v1 k0_hw1 k0_t1 k0_h1 => k0_hw1.1.2.2.2.2.2.1 k0_t1 k0_h1
theorem k0_off6_inb : ∀ (i : grid0.Coords) (v1 : BitVec 32) (k0_hw1 : k0_chk1 i v1) (k0_t1 : Fin (k0_t1_loop v1).trips), ∀ (k0_h1 : k0_cond1 i = 1#1), ∀ a, (k0_off6 v1 k0_t1) a + S1x1x1x128.size a ≤ S1x1x4x9216.size a := fun i v1 k0_hw1 k0_t1 k0_h1 => k0_hw1.1.2.2.2.2.2.2.1 k0_t1 k0_h1
theorem k0_off7_inb : ∀ (i : grid0.Coords) (v1 : BitVec 32) (k0_hw1 : k0_chk1 i v1) (k0_t1 : Fin (k0_t1_loop v1).trips), ∀ (k0_h1 : k0_cond1 i = 1#1), ∀ a, (k0_off7 v1 k0_t1) a + S1x128x128.size a ≤ S4x9216x128.size a := fun i v1 k0_hw1 k0_t1 k0_h1 => k0_hw1.1.2.2.2.2.2.2.2.1 k0_t1 k0_h1
theorem k0_off8_inb : ∀ (i : grid0.Coords) (v1 : BitVec 32) (k0_hw1 : k0_chk1 i v1) (k0_t1 : Fin (k0_t1_loop v1).trips), ∀ (k0_h1 : k0_cond1 i = 1#1), ∀ a, (k0_off8 v1 k0_t1) a + S1x1x1x128.size a ≤ S1x1x4x9216.size a := fun i v1 k0_hw1 k0_t1 k0_h1 => k0_hw1.1.2.2.2.2.2.2.2.2.1 k0_t1 k0_h1
theorem k0_off9_inb : ∀ (i : grid0.Coords) (v1 : BitVec 32) (k0_hw1 : k0_chk1 i v1) (k0_t1 : Fin (k0_t1_loop v1).trips), ∀ (k0_h1 : k0_cond1 i = 1#1), ∀ a, (k0_off9 v1 k0_t1) a + S1x128x128.size a ≤ S4x9216x128.size a := fun i v1 k0_hw1 k0_t1 k0_h1 => k0_hw1.1.2.2.2.2.2.2.2.2.2.1 k0_t1 k0_h1
theorem k0_t2_ok : ∀ (i : grid0.Coords) (v1 : BitVec 32) (k0_hw1 : k0_chk1 i v1), ∀ (k0_h1 : k0_cond1 i = 1#1), (k0_t2_loop v1).OK := fun i v1 k0_hw1 k0_h1 => k0_hw1.1.2.2.2.2.2.2.2.2.2.2.1 k0_h1
theorem k0_mult2_dvd : ∀ (i : grid0.Coords) (v1 : BitVec 32) (k0_hw1 : k0_chk1 i v1) (k0_t2 : Fin (k0_t2_loop v1).trips), ∀ (k0_h1 : k0_cond1 i = 1#1), 128 ∣ (k0_mult2 v1 k0_t2).toNat := fun i v1 k0_hw1 k0_t2 k0_h1 => k0_hw1.1.2.2.2.2.2.2.2.2.2.2.2.1 k0_t2 k0_h1
theorem k0_off10_inb : ∀ (i : grid0.Coords) (v1 : BitVec 32) (k0_hw1 : k0_chk1 i v1) (k0_t2 : Fin (k0_t2_loop v1).trips), ∀ (k0_h1 : k0_cond1 i = 1#1), ∀ a, (k0_off10 v1 k0_t2) a + S1x1x1x128.size a ≤ S1x1x4x9216.size a := fun i v1 k0_hw1 k0_t2 k0_h1 => k0_hw1.1.2.2.2.2.2.2.2.2.2.2.2.2.1 k0_t2 k0_h1
theorem k0_off11_inb : ∀ (i : grid0.Coords) (v1 : BitVec 32) (k0_hw1 : k0_chk1 i v1) (k0_t2 : Fin (k0_t2_loop v1).trips), ∀ (k0_h1 : k0_cond1 i = 1#1), ∀ a, (k0_off11 v1 k0_t2) a + S1x128x128.size a ≤ S4x9216x128.size a := fun i v1 k0_hw1 k0_t2 k0_h1 => k0_hw1.1.2.2.2.2.2.2.2.2.2.2.2.2.2.1 k0_t2 k0_h1
theorem k0_off12_inb : ∀ (i : grid0.Coords) (v1 : BitVec 32) (k0_hw1 : k0_chk1 i v1) (k0_t2 : Fin (k0_t2_loop v1).trips), ∀ (k0_h1 : k0_cond1 i = 1#1), ∀ a, (k0_off12 v1 k0_t2) a + S1x1x1x128.size a ≤ S1x1x4x9216.size a := fun i v1 k0_hw1 k0_t2 k0_h1 => k0_hw1.1.2.2.2.2.2.2.2.2.2.2.2.2.2.2.1 k0_t2 k0_h1
theorem k0_off13_inb : ∀ (i : grid0.Coords) (v1 : BitVec 32) (k0_hw1 : k0_chk1 i v1) (k0_t2 : Fin (k0_t2_loop v1).trips), ∀ (k0_h1 : k0_cond1 i = 1#1), ∀ a, (k0_off13 v1 k0_t2) a + S1x128x128.size a ≤ S4x9216x128.size a := fun i v1 k0_hw1 k0_t2 k0_h1 => k0_hw1.1.2.2.2.2.2.2.2.2.2.2.2.2.2.2.2.1 k0_t2 k0_h1
theorem k0_off14_inb : ∀ (i : grid0.Coords) (v1 : BitVec 32) (k0_hw1 : k0_chk1 i v1) (k0_t2 : Fin (k0_t2_loop v1).trips), ∀ (k0_h1 : k0_cond1 i = 1#1), ∀ a, (k0_off14 v1 k0_t2) a + S1x1x1x128.size a ≤ S1x1x4x9216.size a := fun i v1 k0_hw1 k0_t2 k0_h1 => k0_hw1.1.2.2.2.2.2.2.2.2.2.2.2.2.2.2.2.2.1 k0_t2 k0_h1
theorem k0_off15_inb : ∀ (i : grid0.Coords) (v1 : BitVec 32) (k0_hw1 : k0_chk1 i v1) (k0_t2 : Fin (k0_t2_loop v1).trips), ∀ (k0_h1 : k0_cond1 i = 1#1), ∀ a, (k0_off15 v1 k0_t2) a + S1x128x128.size a ≤ S4x9216x128.size a := fun i v1 k0_hw1 k0_t2 k0_h1 => k0_hw1.1.2.2.2.2.2.2.2.2.2.2.2.2.2.2.2.2.2.1 k0_t2 k0_h1
theorem k0_off16_inb : ∀ (i : grid0.Coords) (v1 : BitVec 32) (k0_hw1 : k0_chk1 i v1) (k0_t2 : Fin (k0_t2_loop v1).trips), ∀ (k0_h1 : k0_cond1 i = 1#1), ∀ a, (k0_off16 v1 k0_t2) a + S1x1x1x128.size a ≤ S1x1x4x9216.size a := fun i v1 k0_hw1 k0_t2 k0_h1 => k0_hw1.1.2.2.2.2.2.2.2.2.2.2.2.2.2.2.2.2.2.2.1 k0_t2 k0_h1
theorem k0_off17_inb : ∀ (i : grid0.Coords) (v1 : BitVec 32) (k0_hw1 : k0_chk1 i v1) (k0_t2 : Fin (k0_t2_loop v1).trips), ∀ (k0_h1 : k0_cond1 i = 1#1), ∀ a, (k0_off17 v1 k0_t2) a + S1x128x128.size a ≤ S4x9216x128.size a := fun i v1 k0_hw1 k0_t2 k0_h1 => k0_hw1.1.2.2.2.2.2.2.2.2.2.2.2.2.2.2.2.2.2.2.2.1 k0_t2 k0_h1
theorem k0_t3_ok : ∀ (i : grid0.Coords) (v1 : BitVec 32) (k0_hw1 : k0_chk1 i v1), (k0_t3_loop v1).OK := fun i v1 k0_hw1 => k0_hw1.1.2.2.2.2.2.2.2.2.2.2.2.2.2.2.2.2.2.2.2.2.1
theorem k0_mult3_dvd : ∀ (i : grid0.Coords) (v1 : BitVec 32) (k0_hw1 : k0_chk1 i v1) (k0_t3 : Fin (k0_t3_loop v1).trips), 1024 ∣ (k0_mult3 v1 k0_t3).toNat := fun i v1 k0_hw1 k0_t3 => k0_hw1.1.2.2.2.2.2.2.2.2.2.2.2.2.2.2.2.2.2.2.2.2.2.1 k0_t3
theorem k0_off18_inb : ∀ (i : grid0.Coords) (v1 : BitVec 32) (k0_hw1 : k0_chk1 i v1) (k0_t3 : Fin (k0_t3_loop v1).trips), ∀ a, (k0_off18 v1 k0_t3) a + S1x1x1024x128.size a ≤ S1x1x9216x256.size a := fun i v1 k0_hw1 k0_t3 => k0_hw1.1.2.2.2.2.2.2.2.2.2.2.2.2.2.2.2.2.2.2.2.2.2.2.1 k0_t3
theorem k0_off19_inb : ∀ (i : grid0.Coords) (v1 : BitVec 32) (k0_hw1 : k0_chk1 i v1) (k0_t3 : Fin (k0_t3_loop v1).trips), ∀ a, (k0_off19 v1 k0_t3) a + S1x1024x128.size a ≤ S4x9216x128.size a := fun i v1 k0_hw1 k0_t3 => k0_hw1.1.2.2.2.2.2.2.2.2.2.2.2.2.2.2.2.2.2.2.2.2.2.2.2.1 k0_t3
theorem k0_off20_inb : ∀ (i : grid0.Coords) (v1 : BitVec 32) (k0_hw1 : k0_chk1 i v1) (k0_t3 : Fin (k0_t3_loop v1).trips), ∀ a, (k0_off20 v1 k0_t3) a + S1x1x64x1024.size a ≤ S1x1x256x9216.size a := fun i v1 k0_hw1 k0_t3 => k0_hw1.1.2.2.2.2.2.2.2.2.2.2.2.2.2.2.2.2.2.2.2.2.2.2.2.2.1 k0_t3
theorem k0_off21_inb : ∀ (i : grid0.Coords) (v1 : BitVec 32) (k0_hw1 : k0_chk1 i v1) (k0_t3 : Fin (k0_t3_loop v1).trips), ∀ a, (k0_off21 v1 k0_t3) a + S1x1024x128.size a ≤ S4x9216x128.size a := fun i v1 k0_hw1 k0_t3 => k0_hw1.1.2.2.2.2.2.2.2.2.2.2.2.2.2.2.2.2.2.2.2.2.2.2.2.2.2.1 k0_t3
theorem k0_off22_inb : ∀ (i : grid0.Coords) (v1 : BitVec 32) (k0_hw1 : k0_chk1 i v1) (k0_t3 : Fin (k0_t3_loop v1).trips), ∀ a, (k0_off22 v1 k0_t3) a + S1x1x64x1024.size a ≤ S1x1x256x9216.size a := fun i v1 k0_hw1 k0_t3 => k0_hw1.1.2.2.2.2.2.2.2.2.2.2.2.2.2.2.2.2.2.2.2.2.2.2.2.2.2.2.1 k0_t3
theorem k0_off23_inb : ∀ (i : grid0.Coords) (v1 : BitVec 32) (k0_hw1 : k0_chk1 i v1) (k0_t3 : Fin (k0_t3_loop v1).trips), ∀ a, (k0_off23 v1 k0_t3) a + S1x1x1024x128.size a ≤ S1x1x9216x256.size a := fun i v1 k0_hw1 k0_t3 => k0_hw1.1.2.2.2.2.2.2.2.2.2.2.2.2.2.2.2.2.2.2.2.2.2.2.2.2.2.2.2.1 k0_t3
theorem k0_off24_inb : ∀ (i : grid0.Coords) (v1 : BitVec 32) (k0_hw1 : k0_chk1 i v1) (k0_t3 : Fin (k0_t3_loop v1).trips), ∀ a, (k0_off24 v1 k0_t3) a + S1x1024x128.size a ≤ S4x9216x128.size a := fun i v1 k0_hw1 k0_t3 => k0_hw1.1.2.2.2.2.2.2.2.2.2.2.2.2.2.2.2.2.2.2.2.2.2.2.2.2.2.2.2.2.1 k0_t3
theorem k0_off25_inb : ∀ (i : grid0.Coords) (v1 : BitVec 32) (k0_hw1 : k0_chk1 i v1) (k0_t3 : Fin (k0_t3_loop v1).trips), ∀ a, (k0_off25 v1 k0_t3) a + S1x1x64x1024.size a ≤ S1x1x256x9216.size a := fun i v1 k0_hw1 k0_t3 => k0_hw1.1.2.2.2.2.2.2.2.2.2.2.2.2.2.2.2.2.2.2.2.2.2.2.2.2.2.2.2.2.2.1 k0_t3
theorem k0_off26_inb : ∀ (i : grid0.Coords) (v1 : BitVec 32) (k0_hw1 : k0_chk1 i v1) (k0_t3 : Fin (k0_t3_loop v1).trips), ∀ a, (k0_off26 v1 k0_t3) a + S1x1024x128.size a ≤ S4x9216x128.size a := fun i v1 k0_hw1 k0_t3 => k0_hw1.1.2.2.2.2.2.2.2.2.2.2.2.2.2.2.2.2.2.2.2.2.2.2.2.2.2.2.2.2.2.2.1 k0_t3
theorem k0_off27_inb : ∀ (i : grid0.Coords) (v1 : BitVec 32) (k0_hw1 : k0_chk1 i v1) (k0_t3 : Fin (k0_t3_loop v1).trips), ∀ a, (k0_off27 v1 k0_t3) a + S1x1x64x1024.size a ≤ S1x1x256x9216.size a := fun i v1 k0_hw1 k0_t3 => k0_hw1.1.2.2.2.2.2.2.2.2.2.2.2.2.2.2.2.2.2.2.2.2.2.2.2.2.2.2.2.2.2.2.2 k0_t3
theorem k0_t4_ok : ∀ (i : grid0.Coords) (v1 : BitVec 32) (k0_hw1 : k0_chk1 i v1), (k0_t4_loop v1).OK := fun i v1 k0_hw1 => k0_hw1.2.1
theorem k0_mult4_dvd : ∀ (i : grid0.Coords) (v1 : BitVec 32) (k0_hw1 : k0_chk1 i v1) (k0_t4 : Fin (k0_t4_loop v1).trips), 1024 ∣ (k0_mult4 v1 k0_t4).toNat := fun i v1 k0_hw1 k0_t4 => k0_hw1.2.2.1 k0_t4
theorem k0_off28_inb : ∀ (i : grid0.Coords) (v1 : BitVec 32) (k0_hw1 : k0_chk1 i v1) (k0_t4 : Fin (k0_t4_loop v1).trips), ∀ a, (k0_off28 v1 k0_t4) a + S1x1x1024x128.size a ≤ S1x1x9216x256.size a := fun i v1 k0_hw1 k0_t4 => k0_hw1.2.2.2.1 k0_t4
theorem k0_off29_inb : ∀ (i : grid0.Coords) (v1 : BitVec 32) (k0_hw1 : k0_chk1 i v1) (k0_t4 : Fin (k0_t4_loop v1).trips), ∀ a, (k0_off29 v1 k0_t4) a + S1x1024x128.size a ≤ S4x9216x128.size a := fun i v1 k0_hw1 k0_t4 => k0_hw1.2.2.2.2.1 k0_t4
theorem k0_off30_inb : ∀ (i : grid0.Coords) (v1 : BitVec 32) (k0_hw1 : k0_chk1 i v1) (k0_t4 : Fin (k0_t4_loop v1).trips), ∀ a, (k0_off30 v1 k0_t4) a + S1x1x64x1024.size a ≤ S1x1x256x9216.size a := fun i v1 k0_hw1 k0_t4 => k0_hw1.2.2.2.2.2.1 k0_t4
theorem k0_off31_inb : ∀ (i : grid0.Coords) (v1 : BitVec 32) (k0_hw1 : k0_chk1 i v1) (k0_t4 : Fin (k0_t4_loop v1).trips), ∀ a, (k0_off31 v1 k0_t4) a + S1x1024x128.size a ≤ S4x9216x128.size a := fun i v1 k0_hw1 k0_t4 => k0_hw1.2.2.2.2.2.2.1 k0_t4
theorem k0_off32_inb : ∀ (i : grid0.Coords) (v1 : BitVec 32) (k0_hw1 : k0_chk1 i v1) (k0_t4 : Fin (k0_t4_loop v1).trips), ∀ a, (k0_off32 v1 k0_t4) a + S1x1x64x1024.size a ≤ S1x1x256x9216.size a := fun i v1 k0_hw1 k0_t4 => k0_hw1.2.2.2.2.2.2.2.1 k0_t4
theorem k0_off33_inb : ∀ (i : grid0.Coords) (v1 : BitVec 32) (k0_hw1 : k0_chk1 i v1) (k0_t4 : Fin (k0_t4_loop v1).trips), ∀ a, (k0_off33 v1 k0_t4) a + S1x1x1024x128.size a ≤ S1x1x9216x256.size a := fun i v1 k0_hw1 k0_t4 => k0_hw1.2.2.2.2.2.2.2.2.1 k0_t4
theorem k0_off34_inb : ∀ (i : grid0.Coords) (v1 : BitVec 32) (k0_hw1 : k0_chk1 i v1) (k0_t4 : Fin (k0_t4_loop v1).trips), ∀ a, (k0_off34 v1 k0_t4) a + S1x1024x128.size a ≤ S4x9216x128.size a := fun i v1 k0_hw1 k0_t4 => k0_hw1.2.2.2.2.2.2.2.2.2.1 k0_t4
theorem k0_off35_inb : ∀ (i : grid0.Coords) (v1 : BitVec 32) (k0_hw1 : k0_chk1 i v1) (k0_t4 : Fin (k0_t4_loop v1).trips), ∀ a, (k0_off35 v1 k0_t4) a + S1x1x64x1024.size a ≤ S1x1x256x9216.size a := fun i v1 k0_hw1 k0_t4 => k0_hw1.2.2.2.2.2.2.2.2.2.2.1 k0_t4
theorem k0_off36_inb : ∀ (i : grid0.Coords) (v1 : BitVec 32) (k0_hw1 : k0_chk1 i v1) (k0_t4 : Fin (k0_t4_loop v1).trips), ∀ a, (k0_off36 v1 k0_t4) a + S1x1024x128.size a ≤ S4x9216x128.size a := fun i v1 k0_hw1 k0_t4 => k0_hw1.2.2.2.2.2.2.2.2.2.2.2.1 k0_t4
theorem k0_off37_inb : ∀ (i : grid0.Coords) (v1 : BitVec 32) (k0_hw1 : k0_chk1 i v1) (k0_t4 : Fin (k0_t4_loop v1).trips), ∀ a, (k0_off37 v1 k0_t4) a + S1x1x64x1024.size a ≤ S1x1x256x9216.size a := fun i v1 k0_hw1 k0_t4 => k0_hw1.2.2.2.2.2.2.2.2.2.2.2.2 k0_t4

@[reducible] def k0_t5_loop (v1 : BitVec 32) : Scf.Loop 32 :=
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_617 : BitVec 32 := 1#32
  ⟨c0_i32_615, v759, c1_i32_617⟩
def k0_cond2 (v569 : BitVec 1) : BitVec 1 :=
  let v570 : BitVec 32 := Scalar.extui v569
  let c0_i32_442 : BitVec 32 := 0#32
  let v571 : BitVec 1 := Scalar.cmpi .ne v570 c0_i32_442
  v571

def k0_mult5 (v1 : BitVec 32) (k0_t5 : Fin (k0_t5_loop v1).trips) : BitVec 32 :=
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  v760
def k0_off38 (v1 : BitVec 32) (k0_t5 : Fin (k0_t5_loop v1).trips) : Fin 4 → Nat :=
  let c0_625 : Index := 0#32
  let c0_626 : Index := 0#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v766 : Index := Scalar.indexCast v761
  let c0_627 : Index := 0#32
  ![0, 0, v766.toNat, 0]
def k0_off39 (v1 : BitVec 32) (k0_t5 : Fin (k0_t5_loop v1).trips) : Fin 3 → Nat :=
  let c0_634 : Index := 0#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v775 : Index := Scalar.indexCast v761
  let c0_635 : Index := 0#32
  ![0, v775.toNat, 0]
def k0_off40 (v1 : BitVec 32) (k0_t5 : Fin (k0_t5_loop v1).trips) : Fin 4 → Nat :=
  let c0_647 : Index := 0#32
  let c0_648 : Index := 0#32
  let c0_649 : Index := 0#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v814 : Index := Scalar.indexCast v761
  ![0, 0, 0, v814.toNat]
def k0_off41 (v1 : BitVec 32) (k0_t5 : Fin (k0_t5_loop v1).trips) : Fin 3 → Nat :=
  let c1_770 : Index := 1#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1023 : Index := Scalar.indexCast v761
  let c0_771 : Index := 0#32
  ![1, v1023.toNat, 0]
def k0_off42 (v1 : BitVec 32) (k0_t5 : Fin (k0_t5_loop v1).trips) : Fin 4 → Nat :=
  let c0_783 : Index := 0#32
  let c0_784 : Index := 0#32
  let c64_785 : Index := 64#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1062 : Index := Scalar.indexCast v761
  ![0, 0, 64, v1062.toNat]
def k0_off43 (v1 : BitVec 32) (k0_t5 : Fin (k0_t5_loop v1).trips) : Fin 4 → Nat :=
  let c0_897 : Index := 0#32
  let c0_898 : Index := 0#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1262 : Index := Scalar.indexCast v761
  let c128_899 : Index := 128#32
  ![0, 0, v1262.toNat, 128]
def k0_off44 (v1 : BitVec 32) (k0_t5 : Fin (k0_t5_loop v1).trips) : Fin 3 → Nat :=
  let c2_906 : Index := 2#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1271 : Index := Scalar.indexCast v761
  let c0_907 : Index := 0#32
  ![2, v1271.toNat, 0]
def k0_off45 (v1 : BitVec 32) (k0_t5 : Fin (k0_t5_loop v1).trips) : Fin 4 → Nat :=
  let c0_919 : Index := 0#32
  let c0_920 : Index := 0#32
  let c128_921 : Index := 128#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1310 : Index := Scalar.indexCast v761
  ![0, 0, 128, v1310.toNat]
def k0_off46 (v1 : BitVec 32) (k0_t5 : Fin (k0_t5_loop v1).trips) : Fin 3 → Nat :=
  let c3_1042 : Index := 3#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1519 : Index := Scalar.indexCast v761
  let c0_1043 : Index := 0#32
  ![3, v1519.toNat, 0]
def k0_off47 (v1 : BitVec 32) (k0_t5 : Fin (k0_t5_loop v1).trips) : Fin 4 → Nat :=
  let c0_1055 : Index := 0#32
  let c0_1056 : Index := 0#32
  let c192_1057 : Index := 192#32
  let c0_i32_615 : BitVec 32 := 0#32
  let c1_i32_617 : BitVec 32 := 1#32
  let arg16 : BitVec 32 := Scf.iv c0_i32_615 c1_i32_617 k0_t5
  let c256_i32_619 : BitVec 32 := 256#32
  let v760 : BitVec 32 := Scalar.muli arg16 c256_i32_619
  let v761 : BitVec 32 := v760
  let v1558 : Index := Scalar.indexCast v761
  ![0, 0, 192, v1558.toNat]
@[reducible] def k0_t6_loop (v1 : BitVec 32) : Scf.Loop 32 :=
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let v756 : BitVec 32 := Scalar.addi c0_i32_615 v755
  let c1_i32_618 : BitVec 32 := 1#32
  ⟨v759, v756, c1_i32_618⟩
def k0_mult6 (v1 : BitVec 32) (k0_t6 : Fin (k0_t6_loop v1).trips) : BitVec 32 :=
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  v760
def k0_off48 (v1 : BitVec 32) (k0_t6 : Fin (k0_t6_loop v1).trips) : Fin 4 → Nat :=
  let c0_625 : Index := 0#32
  let c0_626 : Index := 0#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v766 : Index := Scalar.indexCast v761
  let c0_627 : Index := 0#32
  ![0, 0, v766.toNat, 0]
def k0_off49 (v1 : BitVec 32) (k0_t6 : Fin (k0_t6_loop v1).trips) : Fin 3 → Nat :=
  let c0_634 : Index := 0#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v775 : Index := Scalar.indexCast v761
  let c0_635 : Index := 0#32
  ![0, v775.toNat, 0]
def k0_off50 (v1 : BitVec 32) (k0_t6 : Fin (k0_t6_loop v1).trips) : Fin 4 → Nat :=
  let c0_647 : Index := 0#32
  let c0_648 : Index := 0#32
  let c0_649 : Index := 0#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v814 : Index := Scalar.indexCast v761
  ![0, 0, 0, v814.toNat]
def k0_off51 (v1 : BitVec 32) (k0_t6 : Fin (k0_t6_loop v1).trips) : Fin 3 → Nat :=
  let c1_770 : Index := 1#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1023 : Index := Scalar.indexCast v761
  let c0_771 : Index := 0#32
  ![1, v1023.toNat, 0]
def k0_off52 (v1 : BitVec 32) (k0_t6 : Fin (k0_t6_loop v1).trips) : Fin 4 → Nat :=
  let c0_783 : Index := 0#32
  let c0_784 : Index := 0#32
  let c64_785 : Index := 64#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1062 : Index := Scalar.indexCast v761
  ![0, 0, 64, v1062.toNat]
def k0_off53 (v1 : BitVec 32) (k0_t6 : Fin (k0_t6_loop v1).trips) : Fin 4 → Nat :=
  let c0_897 : Index := 0#32
  let c0_898 : Index := 0#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1262 : Index := Scalar.indexCast v761
  let c128_899 : Index := 128#32
  ![0, 0, v1262.toNat, 128]
def k0_off54 (v1 : BitVec 32) (k0_t6 : Fin (k0_t6_loop v1).trips) : Fin 3 → Nat :=
  let c2_906 : Index := 2#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1271 : Index := Scalar.indexCast v761
  let c0_907 : Index := 0#32
  ![2, v1271.toNat, 0]
def k0_off55 (v1 : BitVec 32) (k0_t6 : Fin (k0_t6_loop v1).trips) : Fin 4 → Nat :=
  let c0_919 : Index := 0#32
  let c0_920 : Index := 0#32
  let c128_921 : Index := 128#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1310 : Index := Scalar.indexCast v761
  ![0, 0, 128, v1310.toNat]
def k0_off56 (v1 : BitVec 32) (k0_t6 : Fin (k0_t6_loop v1).trips) : Fin 3 → Nat :=
  let c3_1042 : Index := 3#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1519 : Index := Scalar.indexCast v761
  let c0_1043 : Index := 0#32
  ![3, v1519.toNat, 0]
def k0_off57 (v1 : BitVec 32) (k0_t6 : Fin (k0_t6_loop v1).trips) : Fin 4 → Nat :=
  let c0_1055 : Index := 0#32
  let c0_1056 : Index := 0#32
  let c192_1057 : Index := 192#32
  let c0_i32_615 : BitVec 32 := 0#32
  let c256_i32 : BitVec 32 := 256#32
  let v736 : BitVec 32 := Scalar.addi v1 c256_i32
  let c1_i32_606 : BitVec 32 := 1#32
  let v737 : BitVec 32 := Scalar.subi v736 c1_i32_606
  let c0_i32_608 : BitVec 32 := 0#32
  let v739 : BitVec 1 := Scalar.cmpi .sgt v737 c0_i32_608
  let v740 : BitVec 32 := Scalar.extui v739
  let c0_i32_609 : BitVec 32 := 0#32
  let v741 : BitVec 1 := Scalar.cmpi .slt v737 c0_i32_609
  let v742 : BitVec 32 := Scalar.extui v741
  let v743 : BitVec 32 := Scalar.subi v740 v742
  let c256_i32_607 : BitVec 32 := 256#32
  let c0_i32_610 : BitVec 32 := 0#32
  let v744 : BitVec 1 := Scalar.cmpi .sgt c256_i32_607 c0_i32_610
  let v745 : BitVec 32 := Scalar.extui v744
  let c0_i32_611 : BitVec 32 := 0#32
  let v746 : BitVec 1 := Scalar.cmpi .slt c256_i32_607 c0_i32_611
  let v747 : BitVec 32 := Scalar.extui v746
  let v748 : BitVec 32 := Scalar.subi v745 v747
  let v749 : BitVec 1 := Scalar.cmpi .ne v743 v748
  let v750 : BitVec 32 := Scalar.remsi v737 c256_i32_607
  let c0_i32_612 : BitVec 32 := 0#32
  let v751 : BitVec 1 := Scalar.cmpi .ne v750 c0_i32_612
  let v752 : BitVec 1 := Scalar.andi v749 v751
  let v738 : BitVec 32 := Scalar.divsi v737 c256_i32_607
  let c1_i32_613 : BitVec 32 := 1#32
  let v753 : BitVec 32 := Scalar.subi v738 c1_i32_613
  let v754 : BitVec 32 := Scalar.select v752 v753 v738
  let v755 : BitVec 32 := Scalar.subi v754 c0_i32_615
  let c1_i32_616 : BitVec 32 := 1#32
  let v757 : BitVec 32 := Scalar.divsi v755 c1_i32_616
  let v758 : BitVec 32 := Scalar.muli v757 c1_i32_616
  let v759 : BitVec 32 := Scalar.addi c0_i32_615 v758
  let c1_i32_618 : BitVec 32 := 1#32
  let arg16 : BitVec 32 := Scf.iv v759 c1_i32_618 k0_t6
  let c256_i32_619 : BitVec 32 := 256#32
  let v760 : BitVec 32 := Scalar.muli arg16 c256_i32_619
  let v761 : BitVec 32 := v760
  let v1558 : Index := Scalar.indexCast v761
  ![0, 0, 192, v1558.toNat]

def k0_chk2 (v1 : BitVec 32) (v569 : BitVec 1) : Prop :=
  (∀ (k0_h2 : k0_cond2 v569 = 1#1), (k0_t5_loop v1).OK) ∧
  (∀ k0_t5 : Fin (k0_t5_loop v1).trips, ∀ (k0_h2 : k0_cond2 v569 = 1#1), 256 ∣ (k0_mult5 v1 k0_t5).toNat) ∧
  (∀ k0_t5 : Fin (k0_t5_loop v1).trips, ∀ (k0_h2 : k0_cond2 v569 = 1#1), ∀ a, (k0_off38 v1 k0_t5) a + S1x1x256x128.size a ≤ S1x1x9216x256.size a) ∧
  (∀ k0_t5 : Fin (k0_t5_loop v1).trips, ∀ (k0_h2 : k0_cond2 v569 = 1#1), ∀ a, (k0_off39 v1 k0_t5) a + S1x256x128.size a ≤ S4x9216x128.size a) ∧
  (∀ k0_t5 : Fin (k0_t5_loop v1).trips, ∀ (k0_h2 : k0_cond2 v569 = 1#1), ∀ a, (k0_off40 v1 k0_t5) a + S1x1x64x256.size a ≤ S1x1x256x9216.size a) ∧
  (∀ k0_t5 : Fin (k0_t5_loop v1).trips, ∀ (k0_h2 : k0_cond2 v569 = 1#1), ∀ a, (k0_off41 v1 k0_t5) a + S1x256x128.size a ≤ S4x9216x128.size a) ∧
  (∀ k0_t5 : Fin (k0_t5_loop v1).trips, ∀ (k0_h2 : k0_cond2 v569 = 1#1), ∀ a, (k0_off42 v1 k0_t5) a + S1x1x64x256.size a ≤ S1x1x256x9216.size a) ∧
  (∀ k0_t5 : Fin (k0_t5_loop v1).trips, ∀ (k0_h2 : k0_cond2 v569 = 1#1), ∀ a, (k0_off43 v1 k0_t5) a + S1x1x256x128.size a ≤ S1x1x9216x256.size a) ∧
  (∀ k0_t5 : Fin (k0_t5_loop v1).trips, ∀ (k0_h2 : k0_cond2 v569 = 1#1), ∀ a, (k0_off44 v1 k0_t5) a + S1x256x128.size a ≤ S4x9216x128.size a) ∧
  (∀ k0_t5 : Fin (k0_t5_loop v1).trips, ∀ (k0_h2 : k0_cond2 v569 = 1#1), ∀ a, (k0_off45 v1 k0_t5) a + S1x1x64x256.size a ≤ S1x1x256x9216.size a) ∧
  (∀ k0_t5 : Fin (k0_t5_loop v1).trips, ∀ (k0_h2 : k0_cond2 v569 = 1#1), ∀ a, (k0_off46 v1 k0_t5) a + S1x256x128.size a ≤ S4x9216x128.size a) ∧
  (∀ k0_t5 : Fin (k0_t5_loop v1).trips, ∀ (k0_h2 : k0_cond2 v569 = 1#1), ∀ a, (k0_off47 v1 k0_t5) a + S1x1x64x256.size a ≤ S1x1x256x9216.size a) ∧
  (∀ (k0_h2 : k0_cond2 v569 = 1#1), (k0_t6_loop v1).OK) ∧
  (∀ k0_t6 : Fin (k0_t6_loop v1).trips, ∀ (k0_h2 : k0_cond2 v569 = 1#1), 256 ∣ (k0_mult6 v1 k0_t6).toNat) ∧
  (∀ k0_t6 : Fin (k0_t6_loop v1).trips, ∀ (k0_h2 : k0_cond2 v569 = 1#1), ∀ a, (k0_off48 v1 k0_t6) a + S1x1x256x128.size a ≤ S1x1x9216x256.size a) ∧
  (∀ k0_t6 : Fin (k0_t6_loop v1).trips, ∀ (k0_h2 : k0_cond2 v569 = 1#1), ∀ a, (k0_off49 v1 k0_t6) a + S1x256x128.size a ≤ S4x9216x128.size a) ∧
  (∀ k0_t6 : Fin (k0_t6_loop v1).trips, ∀ (k0_h2 : k0_cond2 v569 = 1#1), ∀ a, (k0_off50 v1 k0_t6) a + S1x1x64x256.size a ≤ S1x1x256x9216.size a) ∧
  (∀ k0_t6 : Fin (k0_t6_loop v1).trips, ∀ (k0_h2 : k0_cond2 v569 = 1#1), ∀ a, (k0_off51 v1 k0_t6) a + S1x256x128.size a ≤ S4x9216x128.size a) ∧
  (∀ k0_t6 : Fin (k0_t6_loop v1).trips, ∀ (k0_h2 : k0_cond2 v569 = 1#1), ∀ a, (k0_off52 v1 k0_t6) a + S1x1x64x256.size a ≤ S1x1x256x9216.size a) ∧
  (∀ k0_t6 : Fin (k0_t6_loop v1).trips, ∀ (k0_h2 : k0_cond2 v569 = 1#1), ∀ a, (k0_off53 v1 k0_t6) a + S1x1x256x128.size a ≤ S1x1x9216x256.size a) ∧
  (∀ k0_t6 : Fin (k0_t6_loop v1).trips, ∀ (k0_h2 : k0_cond2 v569 = 1#1), ∀ a, (k0_off54 v1 k0_t6) a + S1x256x128.size a ≤ S4x9216x128.size a) ∧
  (∀ k0_t6 : Fin (k0_t6_loop v1).trips, ∀ (k0_h2 : k0_cond2 v569 = 1#1), ∀ a, (k0_off55 v1 k0_t6) a + S1x1x64x256.size a ≤ S1x1x256x9216.size a) ∧
  (∀ k0_t6 : Fin (k0_t6_loop v1).trips, ∀ (k0_h2 : k0_cond2 v569 = 1#1), ∀ a, (k0_off56 v1 k0_t6) a + S1x256x128.size a ≤ S4x9216x128.size a) ∧
  (∀ k0_t6 : Fin (k0_t6_loop v1).trips, ∀ (k0_h2 : k0_cond2 v569 = 1#1), ∀ a, (k0_off57 v1 k0_t6) a + S1x1x64x256.size a ≤ S1x1x256x9216.size a)
theorem k0_t5_ok : ∀ (v1 : BitVec 32) (v569 : BitVec 1) (k0_hw2 : k0_chk2 v1 v569), ∀ (k0_h2 : k0_cond2 v569 = 1#1), (k0_t5_loop v1).OK := fun v1 v569 k0_hw2 k0_h2 => k0_hw2.1 k0_h2
theorem k0_mult5_dvd : ∀ (v1 : BitVec 32) (v569 : BitVec 1) (k0_hw2 : k0_chk2 v1 v569) (k0_t5 : Fin (k0_t5_loop v1).trips), ∀ (k0_h2 : k0_cond2 v569 = 1#1), 256 ∣ (k0_mult5 v1 k0_t5).toNat := fun v1 v569 k0_hw2 k0_t5 k0_h2 => k0_hw2.2.1 k0_t5 k0_h2
theorem k0_off38_inb : ∀ (v1 : BitVec 32) (v569 : BitVec 1) (k0_hw2 : k0_chk2 v1 v569) (k0_t5 : Fin (k0_t5_loop v1).trips), ∀ (k0_h2 : k0_cond2 v569 = 1#1), ∀ a, (k0_off38 v1 k0_t5) a + S1x1x256x128.size a ≤ S1x1x9216x256.size a := fun v1 v569 k0_hw2 k0_t5 k0_h2 => k0_hw2.2.2.1 k0_t5 k0_h2
theorem k0_off39_inb : ∀ (v1 : BitVec 32) (v569 : BitVec 1) (k0_hw2 : k0_chk2 v1 v569) (k0_t5 : Fin (k0_t5_loop v1).trips), ∀ (k0_h2 : k0_cond2 v569 = 1#1), ∀ a, (k0_off39 v1 k0_t5) a + S1x256x128.size a ≤ S4x9216x128.size a := fun v1 v569 k0_hw2 k0_t5 k0_h2 => k0_hw2.2.2.2.1 k0_t5 k0_h2
theorem k0_off40_inb : ∀ (v1 : BitVec 32) (v569 : BitVec 1) (k0_hw2 : k0_chk2 v1 v569) (k0_t5 : Fin (k0_t5_loop v1).trips), ∀ (k0_h2 : k0_cond2 v569 = 1#1), ∀ a, (k0_off40 v1 k0_t5) a + S1x1x64x256.size a ≤ S1x1x256x9216.size a := fun v1 v569 k0_hw2 k0_t5 k0_h2 => k0_hw2.2.2.2.2.1 k0_t5 k0_h2
theorem k0_off41_inb : ∀ (v1 : BitVec 32) (v569 : BitVec 1) (k0_hw2 : k0_chk2 v1 v569) (k0_t5 : Fin (k0_t5_loop v1).trips), ∀ (k0_h2 : k0_cond2 v569 = 1#1), ∀ a, (k0_off41 v1 k0_t5) a + S1x256x128.size a ≤ S4x9216x128.size a := fun v1 v569 k0_hw2 k0_t5 k0_h2 => k0_hw2.2.2.2.2.2.1 k0_t5 k0_h2
theorem k0_off42_inb : ∀ (v1 : BitVec 32) (v569 : BitVec 1) (k0_hw2 : k0_chk2 v1 v569) (k0_t5 : Fin (k0_t5_loop v1).trips), ∀ (k0_h2 : k0_cond2 v569 = 1#1), ∀ a, (k0_off42 v1 k0_t5) a + S1x1x64x256.size a ≤ S1x1x256x9216.size a := fun v1 v569 k0_hw2 k0_t5 k0_h2 => k0_hw2.2.2.2.2.2.2.1 k0_t5 k0_h2
theorem k0_off43_inb : ∀ (v1 : BitVec 32) (v569 : BitVec 1) (k0_hw2 : k0_chk2 v1 v569) (k0_t5 : Fin (k0_t5_loop v1).trips), ∀ (k0_h2 : k0_cond2 v569 = 1#1), ∀ a, (k0_off43 v1 k0_t5) a + S1x1x256x128.size a ≤ S1x1x9216x256.size a := fun v1 v569 k0_hw2 k0_t5 k0_h2 => k0_hw2.2.2.2.2.2.2.2.1 k0_t5 k0_h2
theorem k0_off44_inb : ∀ (v1 : BitVec 32) (v569 : BitVec 1) (k0_hw2 : k0_chk2 v1 v569) (k0_t5 : Fin (k0_t5_loop v1).trips), ∀ (k0_h2 : k0_cond2 v569 = 1#1), ∀ a, (k0_off44 v1 k0_t5) a + S1x256x128.size a ≤ S4x9216x128.size a := fun v1 v569 k0_hw2 k0_t5 k0_h2 => k0_hw2.2.2.2.2.2.2.2.2.1 k0_t5 k0_h2
theorem k0_off45_inb : ∀ (v1 : BitVec 32) (v569 : BitVec 1) (k0_hw2 : k0_chk2 v1 v569) (k0_t5 : Fin (k0_t5_loop v1).trips), ∀ (k0_h2 : k0_cond2 v569 = 1#1), ∀ a, (k0_off45 v1 k0_t5) a + S1x1x64x256.size a ≤ S1x1x256x9216.size a := fun v1 v569 k0_hw2 k0_t5 k0_h2 => k0_hw2.2.2.2.2.2.2.2.2.2.1 k0_t5 k0_h2
theorem k0_off46_inb : ∀ (v1 : BitVec 32) (v569 : BitVec 1) (k0_hw2 : k0_chk2 v1 v569) (k0_t5 : Fin (k0_t5_loop v1).trips), ∀ (k0_h2 : k0_cond2 v569 = 1#1), ∀ a, (k0_off46 v1 k0_t5) a + S1x256x128.size a ≤ S4x9216x128.size a := fun v1 v569 k0_hw2 k0_t5 k0_h2 => k0_hw2.2.2.2.2.2.2.2.2.2.2.1 k0_t5 k0_h2
theorem k0_off47_inb : ∀ (v1 : BitVec 32) (v569 : BitVec 1) (k0_hw2 : k0_chk2 v1 v569) (k0_t5 : Fin (k0_t5_loop v1).trips), ∀ (k0_h2 : k0_cond2 v569 = 1#1), ∀ a, (k0_off47 v1 k0_t5) a + S1x1x64x256.size a ≤ S1x1x256x9216.size a := fun v1 v569 k0_hw2 k0_t5 k0_h2 => k0_hw2.2.2.2.2.2.2.2.2.2.2.2.1 k0_t5 k0_h2
theorem k0_t6_ok : ∀ (v1 : BitVec 32) (v569 : BitVec 1) (k0_hw2 : k0_chk2 v1 v569), ∀ (k0_h2 : k0_cond2 v569 = 1#1), (k0_t6_loop v1).OK := fun v1 v569 k0_hw2 k0_h2 => k0_hw2.2.2.2.2.2.2.2.2.2.2.2.2.1 k0_h2
theorem k0_mult6_dvd : ∀ (v1 : BitVec 32) (v569 : BitVec 1) (k0_hw2 : k0_chk2 v1 v569) (k0_t6 : Fin (k0_t6_loop v1).trips), ∀ (k0_h2 : k0_cond2 v569 = 1#1), 256 ∣ (k0_mult6 v1 k0_t6).toNat := fun v1 v569 k0_hw2 k0_t6 k0_h2 => k0_hw2.2.2.2.2.2.2.2.2.2.2.2.2.2.1 k0_t6 k0_h2
theorem k0_off48_inb : ∀ (v1 : BitVec 32) (v569 : BitVec 1) (k0_hw2 : k0_chk2 v1 v569) (k0_t6 : Fin (k0_t6_loop v1).trips), ∀ (k0_h2 : k0_cond2 v569 = 1#1), ∀ a, (k0_off48 v1 k0_t6) a + S1x1x256x128.size a ≤ S1x1x9216x256.size a := fun v1 v569 k0_hw2 k0_t6 k0_h2 => k0_hw2.2.2.2.2.2.2.2.2.2.2.2.2.2.2.1 k0_t6 k0_h2
theorem k0_off49_inb : ∀ (v1 : BitVec 32) (v569 : BitVec 1) (k0_hw2 : k0_chk2 v1 v569) (k0_t6 : Fin (k0_t6_loop v1).trips), ∀ (k0_h2 : k0_cond2 v569 = 1#1), ∀ a, (k0_off49 v1 k0_t6) a + S1x256x128.size a ≤ S4x9216x128.size a := fun v1 v569 k0_hw2 k0_t6 k0_h2 => k0_hw2.2.2.2.2.2.2.2.2.2.2.2.2.2.2.2.1 k0_t6 k0_h2
theorem k0_off50_inb : ∀ (v1 : BitVec 32) (v569 : BitVec 1) (k0_hw2 : k0_chk2 v1 v569) (k0_t6 : Fin (k0_t6_loop v1).trips), ∀ (k0_h2 : k0_cond2 v569 = 1#1), ∀ a, (k0_off50 v1 k0_t6) a + S1x1x64x256.size a ≤ S1x1x256x9216.size a := fun v1 v569 k0_hw2 k0_t6 k0_h2 => k0_hw2.2.2.2.2.2.2.2.2.2.2.2.2.2.2.2.2.1 k0_t6 k0_h2
theorem k0_off51_inb : ∀ (v1 : BitVec 32) (v569 : BitVec 1) (k0_hw2 : k0_chk2 v1 v569) (k0_t6 : Fin (k0_t6_loop v1).trips), ∀ (k0_h2 : k0_cond2 v569 = 1#1), ∀ a, (k0_off51 v1 k0_t6) a + S1x256x128.size a ≤ S4x9216x128.size a := fun v1 v569 k0_hw2 k0_t6 k0_h2 => k0_hw2.2.2.2.2.2.2.2.2.2.2.2.2.2.2.2.2.2.1 k0_t6 k0_h2
theorem k0_off52_inb : ∀ (v1 : BitVec 32) (v569 : BitVec 1) (k0_hw2 : k0_chk2 v1 v569) (k0_t6 : Fin (k0_t6_loop v1).trips), ∀ (k0_h2 : k0_cond2 v569 = 1#1), ∀ a, (k0_off52 v1 k0_t6) a + S1x1x64x256.size a ≤ S1x1x256x9216.size a := fun v1 v569 k0_hw2 k0_t6 k0_h2 => k0_hw2.2.2.2.2.2.2.2.2.2.2.2.2.2.2.2.2.2.2.1 k0_t6 k0_h2
theorem k0_off53_inb : ∀ (v1 : BitVec 32) (v569 : BitVec 1) (k0_hw2 : k0_chk2 v1 v569) (k0_t6 : Fin (k0_t6_loop v1).trips), ∀ (k0_h2 : k0_cond2 v569 = 1#1), ∀ a, (k0_off53 v1 k0_t6) a + S1x1x256x128.size a ≤ S1x1x9216x256.size a := fun v1 v569 k0_hw2 k0_t6 k0_h2 => k0_hw2.2.2.2.2.2.2.2.2.2.2.2.2.2.2.2.2.2.2.2.1 k0_t6 k0_h2
theorem k0_off54_inb : ∀ (v1 : BitVec 32) (v569 : BitVec 1) (k0_hw2 : k0_chk2 v1 v569) (k0_t6 : Fin (k0_t6_loop v1).trips), ∀ (k0_h2 : k0_cond2 v569 = 1#1), ∀ a, (k0_off54 v1 k0_t6) a + S1x256x128.size a ≤ S4x9216x128.size a := fun v1 v569 k0_hw2 k0_t6 k0_h2 => k0_hw2.2.2.2.2.2.2.2.2.2.2.2.2.2.2.2.2.2.2.2.2.1 k0_t6 k0_h2
theorem k0_off55_inb : ∀ (v1 : BitVec 32) (v569 : BitVec 1) (k0_hw2 : k0_chk2 v1 v569) (k0_t6 : Fin (k0_t6_loop v1).trips), ∀ (k0_h2 : k0_cond2 v569 = 1#1), ∀ a, (k0_off55 v1 k0_t6) a + S1x1x64x256.size a ≤ S1x1x256x9216.size a := fun v1 v569 k0_hw2 k0_t6 k0_h2 => k0_hw2.2.2.2.2.2.2.2.2.2.2.2.2.2.2.2.2.2.2.2.2.2.1 k0_t6 k0_h2
theorem k0_off56_inb : ∀ (v1 : BitVec 32) (v569 : BitVec 1) (k0_hw2 : k0_chk2 v1 v569) (k0_t6 : Fin (k0_t6_loop v1).trips), ∀ (k0_h2 : k0_cond2 v569 = 1#1), ∀ a, (k0_off56 v1 k0_t6) a + S1x256x128.size a ≤ S4x9216x128.size a := fun v1 v569 k0_hw2 k0_t6 k0_h2 => k0_hw2.2.2.2.2.2.2.2.2.2.2.2.2.2.2.2.2.2.2.2.2.2.2.1 k0_t6 k0_h2
theorem k0_off57_inb : ∀ (v1 : BitVec 32) (v569 : BitVec 1) (k0_hw2 : k0_chk2 v1 v569) (k0_t6 : Fin (k0_t6_loop v1).trips), ∀ (k0_h2 : k0_cond2 v569 = 1#1), ∀ a, (k0_off57 v1 k0_t6) a + S1x1x64x256.size a ≤ S1x1x256x9216.size a := fun v1 v569 k0_hw2 k0_t6 k0_h2 => k0_hw2.2.2.2.2.2.2.2.2.2.2.2.2.2.2.2.2.2.2.2.2.2.2.2 k0_t6 k0_h2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x9216x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x9216 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e_over_8" => some (((1 / 8) * (Real.log 2)⁻¹ : ℝ) : EReal)
  | _ => none
-- ==== ReferenceIdeal.lean ====
abbrev S2 : Shape := ⟨1, ![2]⟩
abbrev S2x13x256x9216 : Shape := ⟨4, ![2, 13, 256, 9216]⟩
abbrev S2x13x4x9216 : Shape := ⟨4, ![2, 13, 4, 9216]⟩
abbrev S2x13x9216x256 : Shape := ⟨4, ![2, 13, 9216, 256]⟩
abbrev S256x256 : Shape := ⟨2, ![256, 256]⟩
abbrev S2x13x4x64x9216 : Shape := ⟨5, ![2, 13, 4, 64, 9216]⟩
abbrev S2x13x9216x4x64 : Shape := ⟨5, ![2, 13, 9216, 4, 64]⟩
abbrev S2x13x4x9216x9216 : Shape := ⟨5, ![2, 13, 4, 9216, 9216]⟩
abbrev S2x13x4x9216x1 : Shape := ⟨5, ![2, 13, 4, 9216, 1]⟩
abbrev S2x13x4x1x9216 : Shape := ⟨5, ![2, 13, 4, 1, 9216]⟩
abbrev S_ : Shape := ⟨0, ![]⟩
abbrev S9216 : Shape := ⟨1, ![9216]⟩
abbrev S1x9216 : Shape := ⟨2, ![1, 9216]⟩
abbrev S2x1 : Shape := ⟨2, ![2, 1]⟩
abbrev S2x9216 : Shape := ⟨2, ![2, 9216]⟩
abbrev S2x1x1x1x9216 : Shape := ⟨5, ![2, 1, 1, 1, 9216]⟩
abbrev S4x64x256 : Shape := ⟨3, ![4, 64, 256]⟩

abbrev nBuf : Space → Nat
  | .hbm => 58
  | .vmem => 4
  | .smem => 0
  | _ => 0

abbrev bufTy : (tb : Table) → Fin (tcTables nBuf tb) → BufTy
  | .hbm, ⟨0, _⟩ => ⟨S2, .i32⟩
  | .hbm, ⟨1, _⟩ => ⟨S2x13x256x9216, .f32⟩
  | .hbm, ⟨2, _⟩ => ⟨S2x13x4x9216, .f32⟩
  | .hbm, ⟨3, _⟩ => ⟨S2x13x9216x256, .f32⟩
  | .hbm, ⟨4, _⟩ => ⟨S2x13x4x9216, .f32⟩
  | .hbm, ⟨5, _⟩ => ⟨S2x13x256x9216, .bf16⟩
  | .hbm, ⟨6, _⟩ => ⟨S2x13x9216x256, .f32⟩
  | .hbm, ⟨7, _⟩ => ⟨S256x256, .bf16⟩
  | .hbm, ⟨8, _⟩ => ⟨S2x13x256x9216, .f32⟩
  | .hbm, ⟨9, _⟩ => ⟨S2x13x9216x256, .f32⟩
  | .hbm, ⟨10, _⟩ => ⟨S2x13x4x64x9216, .f32⟩
  | .hbm, ⟨11, _⟩ => ⟨S2x13x9216x4x64, .f32⟩
  | .hbm, ⟨12, _⟩ => ⟨S2x13x4x64x9216, .bf16⟩
  | .hbm, ⟨13, _⟩ => ⟨S2x13x4x9216x9216, .f32⟩
  | .hbm, ⟨14, _⟩ => ⟨S2x13x4x9216x1, .f32⟩
  | .hbm, ⟨15, _⟩ => ⟨S2x13x4x1x9216, .f32⟩
  | .hbm, ⟨16, _⟩ => ⟨S2x13x4x9216x9216, .f32⟩
  | .hbm, ⟨17, _⟩ => ⟨S2x13x4x9216x9216, .f32⟩
  | .hbm, ⟨18, _⟩ => ⟨S2x13x4x9216x9216, .f32⟩
  | .hbm, ⟨19, _⟩ => ⟨S_, .f32⟩
  | .hbm, ⟨20, _⟩ => ⟨S2x13x4x9216x9216, .f32⟩
  | .hbm, ⟨21, _⟩ => ⟨S2x13x4x9216x9216, .f32⟩
  | .hbm, ⟨22, _⟩ => ⟨S2x13x4x9216x9216, .f32⟩
  | .hbm, ⟨23, _⟩ => ⟨S9216, .i32⟩
  | .hbm, ⟨24, _⟩ => ⟨S1x9216, .i32⟩
  | .hbm, ⟨25, _⟩ => ⟨S2x1, .i32⟩
  | .hbm, ⟨26, _⟩ => ⟨S2x9216, .i32⟩
  | .hbm, ⟨27, _⟩ => ⟨S2x9216, .i32⟩
  | .hbm, ⟨28, _⟩ => ⟨S2x9216, .i1⟩
  | .hbm, ⟨29, _⟩ => ⟨S2x1x1x1x9216, .i1⟩
  | .hbm, ⟨30, _⟩ => ⟨S_, .f32⟩
  | .hbm, ⟨31, _⟩ => ⟨S_, .f32⟩
  | .hbm, ⟨32, _⟩ => ⟨S2x13x4x9216x9216, .i1⟩
  | .hbm, ⟨33, _⟩ => ⟨S2x13x4x9216x9216, .f32⟩
  | .hbm, ⟨34, _⟩ => ⟨S2x13x4x9216x9216, .f32⟩
  | .hbm, ⟨35, _⟩ => ⟨S_, .f32⟩
  | .hbm, ⟨36, _⟩ => ⟨S2x13x4x9216, .f32⟩
  | .hbm, ⟨37, _⟩ => ⟨S_, .f32⟩
  | .hbm, ⟨38, _⟩ => ⟨S2x13x4x9216, .f32⟩
  | .hbm, ⟨39, _⟩ => ⟨S2x13x4x9216, .f32⟩
  | .hbm, ⟨40, _⟩ => ⟨S2x13x4x9216x1, .f32⟩
  | .hbm, ⟨41, _⟩ => ⟨S2x13x4x9216x9216, .f32⟩
  | .hbm, ⟨42, _⟩ => ⟨S2x13x4x9216x9216, .f32⟩
  | .hbm, ⟨43, _⟩ => ⟨S2x13x4x9216x9216, .f32⟩
  | .hbm, ⟨44, _⟩ => ⟨S_, .f32⟩
  | .hbm, ⟨45, _⟩ => ⟨S2x13x4x9216, .f32⟩
  | .hbm, ⟨46, _⟩ => ⟨S2x13x4x9216x1, .f32⟩
  | .hbm, ⟨47, _⟩ => ⟨S2x13x4x9216x9216, .f32⟩
  | .hbm, ⟨48, _⟩ => ⟨S2x13x4x9216x9216, .f32⟩
  | .hbm, ⟨49, _⟩ => ⟨S2x13x4x9216x9216, .bf16⟩
  | .hbm, ⟨50, _⟩ => ⟨S2x13x4x64x9216, .f32⟩
  | .hbm, ⟨51, _⟩ => ⟨S2x13x9216x4x64, .f32⟩
  | .hbm, ⟨52, _⟩ => ⟨S2x13x9216x4x64, .bf16⟩
  | .hbm, ⟨53, _⟩ => ⟨S4x64x256, .bf16⟩
  | .hbm, ⟨54, _⟩ => ⟨S2x13x9216x256, .f32⟩
  | .hbm, ⟨55, _⟩ => ⟨S2x13x9216x256, .f32⟩
  | .hbm, ⟨56, _⟩ => ⟨S2x13x9216x256, .bf16⟩
  | .hbm, ⟨57, _⟩ => ⟨S2x13x9216x256, .bf16⟩
  | .local _ .vmem, ⟨0, _⟩ => ⟨S2x13x256x9216, .f32⟩
  | .local _ .vmem, ⟨1, _⟩ => ⟨S2x13x9216x256, .f32⟩
  | .local _ .vmem, ⟨2, _⟩ => ⟨S2x13x256x9216, .f32⟩
  | .local _ .vmem, ⟨3, _⟩ => ⟨S2x13x9216x256, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x13x256x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x13x9216x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x13x256x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x13x9216x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tiles.lean ====
/-
  The row kernel's body as tiles: the printed kernel repeats one short program for each of sixteen tiles (four heads by
  four blocks of 256 query columns), in three places (the first maximum, the main loop, the redo loop). Here each of
  these short programs is written once, over a tile index, its arithmetic as a function of what the tile loads.
-/
module

public import proofs.«01_k».proof.Proof.Gen.KernelIdeal.Skeleton
public import Idealize.ShloMosaic.Lib.Pipeline.Regions
public import Idealize.ShloMosaic.Lib.Tactic
public import Idealize.ShloMosaic.Lib.Pipeline.Kit

@[expose] public section

set_option maxRecDepth 16384

noncomputable section

namespace Cert.KernelIdeal.Row

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The twelve vector buffers the body is called with: query codes and scales, key codes and scales, values, residual
    input, output weights; the two results; and the three scratch buffers (spread key scales, accumulator, maxima). -/
structure Bufs where
  q : Memref sig .tc .vmem S1x1x256x1024 .fp8e4m3
  hq : q.IsWhole
  sq : Memref sig .tc .vmem S1x1x4x1024 .f32
  hsq : sq.IsWhole
  k : Memref sig .tc .vmem S1x1x9216x256 .fp8e4m3
  hk : k.IsWhole
  sk : Memref sig .tc .vmem S1x1x4x9216 .f32
  hsk : sk.IsWhole
  v : Memref sig .tc .vmem S1x1x256x9216 .bf16
  hv : v.IsWhole
  x : Memref sig .tc .vmem S1x1x1024x256 .f32
  hx : x.IsWhole
  w : Memref sig .tc .vmem S256x256 .bf16
  hw : w.IsWhole
  y : Memref sig .tc .vmem S1x1x1024x256 .bf16
  hy : y.IsWhole
  o : Memref sig .tc .vmem S1x1x1024x256 .bf16
  ho : o.IsWhole
  b : Memref sig .tc .vmem S4x9216x128 .f32
  hb : b.IsWhole
  acc : Memref sig .tc .vmem S4x80x1024 .f32
  hacc : acc.IsWhole
  m : Memref sig .tc .vmem S4x1024 .f32
  hm : m.IsWhole

/-- The programs of the body. -/
abbrev P (α : Type) : Type 1 := Prog (TpuEff nD τ sig (Elt F) Λ₀ .tc) α

/-! ## The rectangles -/

theorem inb_sq (h t : Fin 4) : ∀ a, (![0, 0, h.val, 256 * t.val] : Fin 4 → ℕ) a + S1x1x1x256.size a ≤ S1x1x4x1024.size a := by
  revert h t; decide +kernel
theorem inb_q (h t : Fin 4) : ∀ a, (![0, 0, 64 * h.val, 256 * t.val] : Fin 4 → ℕ) a + S1x1x64x256.size a ≤ S1x1x256x1024.size a := by
  revert h t; decide +kernel
theorem inb_m (h t : Fin 4) : ∀ a, (![h.val, 256 * t.val] : Fin 2 → ℕ) a + S1x256.size a ≤ S4x1024.size a := by
  revert h t; decide +kernel
theorem inb_acc (h t : Fin 4) : ∀ a, (![h.val, 0, 256 * t.val] : Fin 3 → ℕ) a + S1x80x256.size a ≤ S4x80x1024.size a := by
  revert h t; decide +kernel
theorem inb_num (h t : Fin 4) : ∀ a, (![h.val, 0, 256 * t.val] : Fin 3 → ℕ) a + S1x64x256.size a ≤ S4x80x1024.size a := by
  revert h t; decide +kernel
theorem inb_den (h t : Fin 4) : ∀ a, (![h.val, 64, 256 * t.val] : Fin 3 → ℕ) a + S1x1x256.size a ≤ S4x80x1024.size a := by
  revert h t; decide +kernel
theorem inb_out (t : Fin 4) : ∀ a, (![0, 0, 256 * t.val, 0] : Fin 4 → ℕ) a + S1x1x256x256.size a ≤ S1x1x1024x256.size a := by
  revert t; decide +kernel
theorem inb_k1024 (h : Fin 4) (s : ℕ) (hs : s + 1024 ≤ 9216) :
    ∀ a, (![0, 0, s, 128 * (h.val / 2)] : Fin 4 → ℕ) a + S1x1x1024x128.size a ≤ S1x1x9216x256.size a := by
  intro a; have := h.isLt; fin_cases a <;> simp [S1x1x1024x128, S1x1x9216x256] <;> omega
theorem inb_k256 (h : Fin 4) (s : ℕ) (hs : s + 256 ≤ 9216) :
    ∀ a, (![0, 0, s, 128 * (h.val / 2)] : Fin 4 → ℕ) a + S1x1x256x128.size a ≤ S1x1x9216x256.size a := by
  intro a; have := h.isLt; fin_cases a <;> simp [S1x1x256x128, S1x1x9216x256] <;> omega
theorem inb_b1024 (h : Fin 4) (s : ℕ) (hs : s + 1024 ≤ 9216) :
    ∀ a, (![h.val, s, 0] : Fin 3 → ℕ) a + S1x1024x128.size a ≤ S4x9216x128.size a := by
  intro a; have := h.isLt; fin_cases a <;> simp [S1x1024x128, S4x9216x128] <;> omega
theorem inb_b256 (h : Fin 4) (s : ℕ) (hs : s + 256 ≤ 9216) :
    ∀ a, (![h.val, s, 0] : Fin 3 → ℕ) a + S1x256x128.size a ≤ S4x9216x128.size a := by
  intro a; have := h.isLt; fin_cases a <;> simp [S1x256x128, S4x9216x128] <;> omega
theorem inb_b128 (h : Fin 4) (s : ℕ) (hs : s + 128 ≤ 9216) :
    ∀ a, (![h.val, s, 0] : Fin 3 → ℕ) a + S1x128x128.size a ≤ S4x9216x128.size a := by
  intro a; have := h.isLt; fin_cases a <;> simp [S1x128x128, S4x9216x128] <;> omega
theorem inb_v1024 (h : Fin 4) (s : ℕ) (hs : s + 1024 ≤ 9216) :
    ∀ a, (![0, 0, 64 * h.val, s] : Fin 4 → ℕ) a + S1x1x64x1024.size a ≤ S1x1x256x9216.size a := by
  intro a; have := h.isLt; fin_cases a <;> simp [S1x1x64x1024, S1x1x256x9216] <;> omega
theorem inb_v256 (h : Fin 4) (s : ℕ) (hs : s + 256 ≤ 9216) :
    ∀ a, (![0, 0, 64 * h.val, s] : Fin 4 → ℕ) a + S1x1x64x256.size a ≤ S1x1x256x9216.size a := by
  intro a; have := h.isLt; fin_cases a <;> simp [S1x1x64x256, S1x1x256x9216] <;> omega
theorem inb_sk (h : Fin 4) (s : ℕ) (hs : s + 128 ≤ 9216) :
    ∀ a, (![0, 0, h.val, s] : Fin 4 → ℕ) a + S1x1x1x128.size a ≤ S1x1x4x9216.size a := by
  intro a; have := h.isLt; fin_cases a <;> simp [S1x1x1x128, S1x1x4x9216] <;> omega

abbrev rSq (h t : Fin 4) : Rect S1x1x4x1024 := Rect.unit (s := S1x1x4x1024) ![0, 0, h.val, 256 * t.val] S1x1x1x256.size (inb_sq h t)
abbrev rQ (h t : Fin 4) : Rect S1x1x256x1024 := Rect.unit (s := S1x1x256x1024) ![0, 0, 64 * h.val, 256 * t.val] S1x1x64x256.size (inb_q h t)
abbrev rM (h t : Fin 4) : Rect S4x1024 := Rect.unit (s := S4x1024) ![h.val, 256 * t.val] S1x256.size (inb_m h t)
abbrev rAcc (h t : Fin 4) : Rect S4x80x1024 := Rect.unit (s := S4x80x1024) ![h.val, 0, 256 * t.val] S1x80x256.size (inb_acc h t)
abbrev rNum (h t : Fin 4) : Rect S4x80x1024 := Rect.unit (s := S4x80x1024) ![h.val, 0, 256 * t.val] S1x64x256.size (inb_num h t)
abbrev rDen (h t : Fin 4) : Rect S4x80x1024 := Rect.unit (s := S4x80x1024) ![h.val, 64, 256 * t.val] S1x1x256.size (inb_den h t)
abbrev rOut (t : Fin 4) : Rect S1x1x1024x256 := Rect.unit (s := S1x1x1024x256) ![0, 0, 256 * t.val, 0] S1x1x256x256.size (inb_out t)
abbrev rK1024 (h : Fin 4) (s : ℕ) (hs : s + 1024 ≤ 9216) : Rect S1x1x9216x256 := Rect.unit (s := S1x1x9216x256) ![0, 0, s, 128 * (h.val / 2)] S1x1x1024x128.size (inb_k1024 h s hs)
abbrev rK256 (h : Fin 4) (s : ℕ) (hs : s + 256 ≤ 9216) : Rect S1x1x9216x256 := Rect.unit (s := S1x1x9216x256) ![0, 0, s, 128 * (h.val / 2)] S1x1x256x128.size (inb_k256 h s hs)
abbrev rB1024 (h : Fin 4) (s : ℕ) (hs : s + 1024 ≤ 9216) : Rect S4x9216x128 := Rect.unit (s := S4x9216x128) ![h.val, s, 0] S1x1024x128.size (inb_b1024 h s hs)
abbrev rB256 (h : Fin 4) (s : ℕ) (hs : s + 256 ≤ 9216) : Rect S4x9216x128 := Rect.unit (s := S4x9216x128) ![h.val, s, 0] S1x256x128.size (inb_b256 h s hs)
abbrev rB128 (h : Fin 4) (s : ℕ) (hs : s + 128 ≤ 9216) : Rect S4x9216x128 := Rect.unit (s := S4x9216x128) ![h.val, s, 0] S1x128x128.size (inb_b128 h s hs)
abbrev rV1024 (h : Fin 4) (s : ℕ) (hs : s + 1024 ≤ 9216) : Rect S1x1x256x9216 := Rect.unit (s := S1x1x256x9216) ![0, 0, 64 * h.val, s] S1x1x64x1024.size (inb_v1024 h s hs)
abbrev rV256 (h : Fin 4) (s : ℕ) (hs : s + 256 ≤ 9216) : Rect S1x1x256x9216 := Rect.unit (s := S1x1x256x9216) ![0, 0, 64 * h.val, s] S1x1x64x256.size (inb_v256 h s hs)
abbrev rSk (h : Fin 4) (s : ℕ) (hs : s + 128 ≤ 9216) : Rect S1x1x4x9216 := Rect.unit (s := S1x1x4x9216) ![0, 0, h.val, s] S1x1x1x128.size (inb_sk h s hs)

/-! ## The arithmetic -/

/-- The constant log2(e)/8 that scales the scores. -/
def kap : F .f32 := Named.named κ "log2e_over_8" 0x3E38AA3B#32

/-- Head `h`'s 64 query rows in the half of 128 rows that the head's key columns occupy, zeros in the other half. -/
def qop (h : Fin 4) (qv : Vec F S1x1x64x256 .fp8e4m3) : FVec F S128x256 .fp8e4m3 :=
  match Nat.beq (h.val % 2) 0 with
  | true => concatenate S128x256 0 [⟨S64x256, shapeCast S64x256 qv shapeCasts_S1x1x64x256_S64x256⟩, ⟨S64x256, truncf .fp8e4m3 (broadcast S64x256 (Scalar.ofBits .f32 0x00000000#32 : F .f32)) bitsLt_fp8e4m3_f32⟩] concatenates_S64x256_S64x256_S128x256_d0
  | false => concatenate S128x256 0 [⟨S64x256, truncf .fp8e4m3 (broadcast S64x256 (Scalar.ofBits .f32 0x00000000#32 : F .f32)) bitsLt_fp8e4m3_f32⟩, ⟨S64x256, shapeCast S64x256 qv shapeCasts_S1x1x64x256_S64x256⟩] concatenates_S64x256_S64x256_S128x256_d0

/-- The 256 query columns' factors: scale times the constant. -/
def qs (sqv : Vec F S1x1x1x256 .f32) : FVec F S1x256 .f32 :=
  mulf (shapeCast S1x256 sqv shapeCasts_S1x1x1x256_S1x256) (broadcast S1x256 (kap : F .f32))

/-- The scores of 1024 keys against 256 queries. -/
def sc1024 (h : Fin 4) (sqv : Vec F S1x1x1x256 .f32) (kv : Vec F S1x1x1024x128 .fp8e4m3) (qv : Vec F S1x1x64x256 .fp8e4m3)
    (bv : Vec F S1x1024x128 .f32) : FVec F S1024x256 .f32 :=
  mulf (mulf (matmul dot_S1024x128_S128x256_S1024x256_1_0_0_1_n_n none (shapeCast S1024x128 kv shapeCasts_S1x1x1024x128_S1024x128) (qop h qv) (constant S1024x256 .f32 0x00000000#32))
      (concatenate S1024x256 1 [⟨S1024x128, shapeCast S1024x128 bv shapeCasts_S1x1024x128_S1024x128⟩, ⟨S1024x128, shapeCast S1024x128 bv shapeCasts_S1x1024x128_S1024x128⟩] concatenates_S1024x128_S1024x128_S1024x256_d1))
    (broadcastTo S1024x256 (qs sqv) broadcasts_S1x256_S1024x256)

/-- 256 keys' codes as a matrix. -/
def kc256 (kv : Vec F S1x1x256x128 .fp8e4m3) : FVec F S256x128 .fp8e4m3 := shapeCast S256x128 kv shapeCasts_S1x1x256x128_S256x128

/-- The scores of 256 keys against 256 queries. -/
def sc256 (h : Fin 4) (fq : FVec F S1x256 .f32) (kc : FVec F S256x128 .fp8e4m3) (qv : Vec F S1x1x64x256 .fp8e4m3)
    (bv : Vec F S1x256x128 .f32) : FVec F S256x256 .f32 :=
  mulf (mulf (matmul dot_S256x128_S128x256_S256x256_1_0_0_1_n_n none kc (qop h qv) (constant S256x256 .f32 0x00000000#32))
      (concatenate S256x256 1 [⟨S256x128, shapeCast S256x128 bv shapeCasts_S1x256x128_S256x128⟩, ⟨S256x128, shapeCast S256x128 bv shapeCasts_S1x256x128_S256x128⟩] concatenates_S256x128_S256x128_S256x256_d1))
    (broadcastTo S256x256 fq broadcasts_S1x256_S256x256)

/-- The main loop's new accumulator block. -/
def mainPay (n st : BitVec 32) (h : Fin 4) (sqv : Vec F S1x1x1x256 .f32) (kv : Vec F S1x1x1024x128 .fp8e4m3) (qv : Vec F S1x1x64x256 .fp8e4m3)
    (bv : Vec F S1x1024x128 .f32) (mv : Vec F S1x256 .f32) (av : Vec F S1x80x256 .f32) (vv : Vec F S1x1x64x1024 .bf16) : FVec F S1x80x256 .f32 :=
  shapeCast S1x80x256
    (addf (shapeCast S80x256 av shapeCasts_S1x80x256_S80x256)
      (matmul dot_S80x1024_S1024x256_S80x256_1_0_0_1_n_n none
        (concatenate S80x1024 0 [⟨S64x1024, shapeCast S64x1024 vv shapeCasts_S1x1x64x1024_S64x1024⟩,
          ⟨S16x1024, truncf .bf16 (select (cmpi .slt (addi (broadcast S16x1024 st) (iota .tc S16x1024 32 [1] iota_S16x1024_d1_w32)) (broadcast S16x1024 n))
            (broadcast S16x1024 (Scalar.ofBits .f32 0x3F800000#32 : F .f32)) (broadcast S16x1024 (Scalar.ofBits .f32 0x00000000#32 : F .f32))) bitsLt_bf16_f32⟩] concatenates_S64x1024_S16x1024_S80x1024_d0)
        (truncf .bf16 (exp2 (subf (sc1024 h sqv kv qv bv) (broadcastTo S1024x256 mv broadcasts_S1x256_S1024x256))) bitsLt_bf16_f32)
        (constant S80x256 .f32 0x00000000#32)))
    shapeCasts_S80x256_S1x80x256

/-- The first 256 keys' maximum, keys at or past `n` at minus infinity. -/
def firstPay (n : BitVec 32) (h : Fin 4) (fq : FVec F S1x256 .f32) (kc : FVec F S256x128 .fp8e4m3) (qv : Vec F S1x1x64x256 .fp8e4m3)
    (bv : Vec F S1x256x128 .f32) : FVec F S1x256 .f32 :=
  shapeCast S1x256 (shapeCast S1x256
    (multiReduction .maximumf [0] S256
      (select (cmpi .slt (iota .tc S256x256 32 [0] iota_S256x256_d0_w32) (broadcast S256x256 n)) (sc256 h fq kc qv bv) (broadcast S256x256 (Scalar.ofBits .f32 0xFF800000#32 : F .f32)))
      0xFF800000#32 reduces_S256x256_S256 (.inl rfl) rfl) shapeCasts_S256_S1x256) shapeCasts_S1x256_S1x256

/-- The redo loop's masked scores. -/
def safeSc (n st : BitVec 32) (h : Fin 4) (fq : FVec F S1x256 .f32) (kc : FVec F S256x128 .fp8e4m3) (qv : Vec F S1x1x64x256 .fp8e4m3)
    (bv : Vec F S1x256x128 .f32) : FVec F S256x256 .f32 :=
  select (cmpi .slt (addi (broadcast S256x256 st) (iota .tc S256x256 32 [0] iota_S256x256_d0_w32)) (broadcast S256x256 n)) (sc256 h fq kc qv bv) (broadcast S256x256 (Scalar.ofBits .f32 0xFF800000#32 : F .f32))

/-- The redo loop's new running maximum. -/
def safeMax (n st : BitVec 32) (h : Fin 4) (fq : FVec F S1x256 .f32) (kc : FVec F S256x128 .fp8e4m3) (qv : Vec F S1x1x64x256 .fp8e4m3)
    (bv : Vec F S1x256x128 .f32) (mv : Vec F S1x256 .f32) : FVec F S1x256 .f32 :=
  maximumf mv (shapeCast S1x256 (multiReduction .maximumf [0] S256 (safeSc n st h fq kc qv bv) 0xFF800000#32 reduces_S256x256_S256 (.inl rfl) rfl) shapeCasts_S256_S1x256)

/-- The redo loop's new accumulator block. -/
def safePay (n st : BitVec 32) (h : Fin 4) (fq : FVec F S1x256 .f32) (kc : FVec F S256x128 .fp8e4m3) (qv : Vec F S1x1x64x256 .fp8e4m3)
    (bv : Vec F S1x256x128 .f32) (mv : Vec F S1x256 .f32) (av : Vec F S1x80x256 .f32) (vv : Vec F S1x1x64x256 .bf16) : FVec F S1x80x256 .f32 :=
  shapeCast S1x80x256
    (addf (mulf (shapeCast S80x256 av shapeCasts_S1x80x256_S80x256) (broadcastTo S80x256 (exp2 (subf mv (safeMax n st h fq kc qv bv mv))) broadcasts_S1x256_S80x256))
      (matmul dot_S80x256_S256x256_S80x256_1_0_0_1_n_n none
        (concatenate S80x256 0 [⟨S64x256, shapeCast S64x256 vv shapeCasts_S1x1x64x256_S64x256⟩,
          ⟨S16x256, truncf .bf16 (select (cmpi .slt (addi (broadcast S16x256 st) (iota .tc S16x256 32 [1] iota_S16x256_d1_w32)) (broadcast S16x256 n))
            (broadcast S16x256 (Scalar.ofBits .f32 0x3F800000#32 : F .f32)) (broadcast S16x256 (Scalar.ofBits .f32 0x00000000#32 : F .f32))) bitsLt_bf16_f32⟩] concatenates_S64x256_S16x256_S80x256_d0)
        (truncf .bf16 (exp2 (subf (safeSc n st h fq kc qv bv) (broadcastTo S256x256 (safeMax n st h fq kc qv bv mv) broadcasts_S1x256_S256x256))) bitsLt_bf16_f32)
        (constant S80x256 .f32 0x00000000#32)))
    shapeCasts_S80x256_S1x80x256

/-- The spread key scales of 128 keys: the scale along the lanes' axis, keys at or past `n` at zero. -/
def spreadPay (n st : BitVec 32) (sv : Vec F S1x1x1x128 .f32) : FVec F S1x128x128 .f32 :=
  shapeCast S1x128x128
    (transpose S128x128 [1, 0]
      (broadcastTo S128x128
        (shapeCast S1x128
          (select (cmpi .slt (addi (broadcast S1x128 st) (iota .tc S1x128 32 [1] iota_S1x128_d1_w32)) (broadcast S1x128 n)) (shapeCast S1x128 sv shapeCasts_S1x1x1x128_S1x128) (broadcast S1x128 (Scalar.ofBits .f32 0x00000000#32 : F .f32)))
          shapeCasts_S1x128_S1x128)
        broadcasts_S1x128_S128x128)
      transposes_S128x128_p1_0_S128x128)
    shapeCasts_S128x128_S1x128x128

/-! ## The tiles' programs -/

/-- One tile of the main loop. -/
def mainTile (B : Bufs) (n st : BitVec 32) (hst : st.toNat + 1024 ≤ 9216) (p : Fin 4 × Fin 4) : P (F := F) PUnit := do
  let sqv ← Prog.lift (.load B.sq (rSq p.1 p.2).toLoadRect (View.loadsAt_vmem h_S1x1x1x256))
  let kv ← Prog.lift (.load B.k (rK1024 p.1 st.toNat hst).toLoadRect (View.loadsAt_vmem h_S1x1x1024x128))
  let qv ← Prog.lift (.load B.q (rQ p.1 p.2).toLoadRect (View.loadsAt_vmem h_S1x1x64x256))
  let bv ← Prog.lift (.load B.b (rB1024 p.1 st.toNat hst).toLoadRect (View.loadsAt_vmem h_S1x1024x128))
  let mv ← Prog.lift (.load B.m (rM p.1 p.2).toLoadRect (View.loadsAt_vmem h_S1x256))
  let av ← Prog.lift (.load B.acc (rAcc p.1 p.2).toLoadRect (View.loadsAt_vmem h_S1x80x256))
  let vv ← Prog.lift (.load B.v (rV1024 p.1 st.toNat hst).toLoadRect (View.loadsAt_vmem h_S1x1x64x1024))
  let _ ← Prog.lift (.load B.acc (rAcc p.1 p.2).toLoadRect (View.loadsAt_vmem h_S1x80x256))
  Prog.lift (.store B.acc (rAcc p.1 p.2) (mainPay n st p.1 sqv kv qv bv mv av vv) Finset.univ (View.stores_vmem_bits_univ h_S1x80x256 rfl) (.inl rfl))

/-- One tile of the first maximum, after its loads of queries and keys. -/
def firstTail (B : Bufs) (n : BitVec 32) (p : Fin 4 × Fin 4) (fq : FVec F S1x256 .f32) (kc : FVec F S256x128 .fp8e4m3) (qv : Vec F S1x1x64x256 .fp8e4m3) :
    P (F := F) PUnit := do
  let bv ← Prog.lift (.load B.b (rB256 p.1 0 (by decide)).toLoadRect (View.loadsAt_vmem h_S1x256x128))
  let _ ← Prog.lift (.load B.m (rM p.1 p.2).toLoadRect (View.loadsAt_vmem h_S1x256))
  let _ ← Prog.lift (.store B.m (rM p.1 p.2) (firstPay n p.1 fq kc qv bv) Finset.univ (View.stores_vmem_bits_univ h_S1x256 rfl) (.inl rfl))
  let _ ← Prog.lift (.load B.acc (rAcc p.1 p.2).toLoadRect (View.loadsAt_vmem h_S1x80x256))
  Prog.lift (.store B.acc (rAcc p.1 p.2) (shapeCast S1x80x256 (broadcast S80x256 (Scalar.ofBits .f32 0x00000000#32 : F .f32)) shapeCasts_S80x256_S1x80x256) Finset.univ (View.stores_vmem_bits_univ h_S1x80x256 rfl) (.inl rfl))

/-- One tile of the first maximum. -/
def firstTile (B : Bufs) (n : BitVec 32) (p : Fin 4 × Fin 4) : P (F := F) PUnit := do
  let sqv ← Prog.lift (.load B.sq (rSq p.1 p.2).toLoadRect (View.loadsAt_vmem h_S1x1x1x256))
  let kv ← Prog.lift (.load B.k (rK256 p.1 0 (by decide)).toLoadRect (View.loadsAt_vmem h_S1x1x256x128))
  let qv ← Prog.lift (.load B.q (rQ p.1 p.2).toLoadRect (View.loadsAt_vmem h_S1x1x64x256))
  firstTail B n p (qs sqv) (kc256 kv) qv

/-- One tile of the redo loop. -/
def safeTile (B : Bufs) (n st : BitVec 32) (hst : st.toNat + 256 ≤ 9216) (p : Fin 4 × Fin 4) : P (F := F) PUnit := do
  let sqv ← Prog.lift (.load B.sq (rSq p.1 p.2).toLoadRect (View.loadsAt_vmem h_S1x1x1x256))
  let kv ← Prog.lift (.load B.k (rK256 p.1 st.toNat hst).toLoadRect (View.loadsAt_vmem h_S1x1x256x128))
  let qv ← Prog.lift (.load B.q (rQ p.1 p.2).toLoadRect (View.loadsAt_vmem h_S1x1x64x256))
  let bv ← Prog.lift (.load B.b (rB256 p.1 st.toNat hst).toLoadRect (View.loadsAt_vmem h_S1x256x128))
  let mv ← Prog.lift (.load B.m (rM p.1 p.2).toLoadRect (View.loadsAt_vmem h_S1x256))
  let _ ← Prog.lift (.load B.m (rM p.1 p.2).toLoadRect (View.loadsAt_vmem h_S1x256))
  let _ ← Prog.lift (.store B.m (rM p.1 p.2) (shapeCast S1x256 (safeMax n st p.1 (qs sqv) (kc256 kv) qv bv mv) shapeCasts_S1x256_S1x256) Finset.univ (View.stores_vmem_bits_univ h_S1x256 rfl) (.inl rfl))
  let av ← Prog.lift (.load B.acc (rAcc p.1 p.2).toLoadRect (View.loadsAt_vmem h_S1x80x256))
  let vv ← Prog.lift (.load B.v (rV256 p.1 st.toNat hst).toLoadRect (View.loadsAt_vmem h_S1x1x64x256))
  let _ ← Prog.lift (.load B.acc (rAcc p.1 p.2).toLoadRect (View.loadsAt_vmem h_S1x80x256))
  Prog.lift (.store B.acc (rAcc p.1 p.2) (safePay n st p.1 (qs sqv) (kc256 kv) qv bv mv av vv) Finset.univ (View.stores_vmem_bits_univ h_S1x80x256 rfl) (.inl rfl))

/-- One head of the spreading of 128 key scales. -/
def spreadTile (B : Bufs) (n st : BitVec 32) (hst : st.toNat + 128 ≤ 9216) (h : Fin 4) : P (F := F) PUnit := do
  let sv ← Prog.lift (.load B.sk (rSk h st.toNat hst).toLoadRect (View.loadsAt_vmem h_S1x1x1x128))
  let _ ← Prog.lift (.load B.b (rB128 h st.toNat hst).toLoadRect (View.loadsAt_vmem h_S1x128x128))
  Prog.lift (.store B.b (rB128 h st.toNat hst) (spreadPay n st sv) Finset.univ (View.stores_vmem_bits_univ h_S1x128x128 rfl) (.inl rfl))

/-- A program run once for each member of a list, in order. -/
def seqL {ι : Type} (f : ι → P (F := F) PUnit) : List ι → P (F := F) PUnit
  | [] => pure ⟨⟩
  | p :: l => f p >>= fun _ => seqL f l

/-- The four heads. -/
def heads : List (Fin 4) := [⟨0, by decide⟩, ⟨1, by decide⟩, ⟨2, by decide⟩, ⟨3, by decide⟩]

/-- The sixteen tiles, in the kernel's order. -/
def tiles : List (Fin 4 × Fin 4) :=
  [(⟨0, by decide⟩, ⟨0, by decide⟩), (⟨0, by decide⟩, ⟨1, by decide⟩), (⟨0, by decide⟩, ⟨2, by decide⟩), (⟨0, by decide⟩, ⟨3, by decide⟩),
   (⟨1, by decide⟩, ⟨0, by decide⟩), (⟨1, by decide⟩, ⟨1, by decide⟩), (⟨1, by decide⟩, ⟨2, by decide⟩), (⟨1, by decide⟩, ⟨3, by decide⟩),
   (⟨2, by decide⟩, ⟨0, by decide⟩), (⟨2, by decide⟩, ⟨1, by decide⟩), (⟨2, by decide⟩, ⟨2, by decide⟩), (⟨2, by decide⟩, ⟨3, by decide⟩),
   (⟨3, by decide⟩, ⟨0, by decide⟩), (⟨3, by decide⟩, ⟨1, by decide⟩), (⟨3, by decide⟩, ⟨2, by decide⟩), (⟨3, by decide⟩, ⟨3, by decide⟩)]

/-! ## The rest of the body -/

theorem packed_out (t : Fin 4) : (rOut t).PackedRows (EltTy.packing .bf16) := by
  fin_cases t
  · exact packedbf16_S1x1x1024x256_S1x1x256x256_0_0_0_0
  · exact packedbf16_S1x1x1024x256_S1x1x256x256_0_0_256_0
  · exact packedbf16_S1x1x1024x256_S1x1x256x256_0_0_512_0
  · exact packedbf16_S1x1x1024x256_S1x1x256x256_0_0_768_0

/-- A head's 64 rows, and its total, as matrices; and the rows divided by the total. -/
def numC (nv : Vec F S1x64x256 .f32) : FVec F S64x256 .f32 := shapeCast S64x256 nv shapeCasts_S1x64x256_S64x256
def denC (dv : Vec F S1x1x256 .f32) : FVec F S1x256 .f32 := shapeCast S1x256 dv shapeCasts_S1x1x256_S1x256
def ratio (n : FVec F S64x256 .f32) (d : FVec F S1x256 .f32) : FVec F S64x256 .f32 :=
  divf n (broadcastTo S64x256 d broadcasts_S1x256_S64x256)

/-- The four heads' ratios times the output weights. -/
def projPay (r0 r1 r2 r3 : FVec F S64x256 .f32) (wv : Vec F S256x256 .bf16) : FVec F S256x256 .f32 :=
  matmul dot_S256x256_S256x256_S256x256_0_0_1_1_n_n none
    (truncf .bf16 (concatenate S256x256 0 [⟨S64x256, r0⟩, ⟨S64x256, r1⟩, ⟨S64x256, r2⟩, ⟨S64x256, r3⟩] concatenates_S64x256_S64x256_S64x256_S64x256_S256x256_d0) bitsLt_bf16_f32)
    wv (constant S256x256 .f32 0x00000000#32)

/-- What is stored into the second result. -/
def outPay (a : FVec F S256x256 .f32) : FVec F S1x1x256x256 .bf16 :=
  shapeCast S1x1x256x256 (truncf .bf16 a bitsLt_bf16_f32) shapeCasts_S256x256_S1x1x256x256

/-- What is stored into the first result. -/
def resPay (a : FVec F S256x256 .f32) (xv : Vec F S1x1x256x256 .f32) : FVec F S1x1x256x256 .bf16 :=
  shapeCast S1x1x256x256 (truncf .bf16 (addf (shapeCast S256x256 xv shapeCasts_S1x1x256x256_S256x256) a) bitsLt_bf16_f32) shapeCasts_S256x256_S1x1x256x256

abbrev h0 : Fin 4 := ⟨0, by decide⟩
abbrev h1 : Fin 4 := ⟨1, by decide⟩
abbrev h2 : Fin 4 := ⟨2, by decide⟩
abbrev h3 : Fin 4 := ⟨3, by decide⟩

/-- The output of one block of 256 query columns, after its loads of head 0. -/
def outTail (B : Bufs) (t : Fin 4) (n0 : FVec F S64x256 .f32) (d0 : FVec F S1x256 .f32) : P (F := F) PUnit := do
  let n1 ← Prog.lift (.load B.acc (rNum h1 t).toLoadRect (View.loadsAt_vmem h_S1x64x256))
  let d1 ← Prog.lift (.load B.acc (rDen h1 t).toLoadRect (View.loadsAt_vmem h_S1x1x256))
  let n2 ← Prog.lift (.load B.acc (rNum h2 t).toLoadRect (View.loadsAt_vmem h_S1x64x256))
  let d2 ← Prog.lift (.load B.acc (rDen h2 t).toLoadRect (View.loadsAt_vmem h_S1x1x256))
  let n3 ← Prog.lift (.load B.acc (rNum h3 t).toLoadRect (View.loadsAt_vmem h_S1x64x256))
  let d3 ← Prog.lift (.load B.acc (rDen h3 t).toLoadRect (View.loadsAt_vmem h_S1x1x256))
  let wv ← Prog.lift (.load B.w (Rect.unit (s := S256x256) ![0, 0] S256x256.size inb_S256x256_S256x256_0_0).toLoadRect (View.loadsAt_vmem h_S256x256))
  let _ ← Prog.lift (.load B.o (rOut t).toLoadRect (View.loadsAt_vmem h_S1x1x256x256))
  let _ ← Prog.lift (.store B.o (rOut t) (outPay (projPay (ratio n0 d0) (ratio (numC n1) (denC d1)) (ratio (numC n2) (denC d2)) (ratio (numC n3) (denC d3)) wv)) Finset.univ (View.stores_vmem h_S1x1x256x256 (B.ho.storeExact_slice rfl _ (packed_out t)) (fun _ => rfl)) (.inl rfl))
  let xv ← Prog.lift (.load B.x (rOut t).toLoadRect (View.loadsAt_vmem h_S1x1x256x256))
  let _ ← Prog.lift (.load B.y (rOut t).toLoadRect (View.loadsAt_vmem h_S1x1x256x256))
  Prog.lift (.store B.y (rOut t) (resPay (projPay (ratio n0 d0) (ratio (numC n1) (denC d1)) (ratio (numC n2) (denC d2)) (ratio (numC n3) (denC d3)) wv) xv) Finset.univ (View.stores_vmem h_S1x1x256x256 (B.hy.storeExact_slice rfl _ (packed_out t)) (fun _ => rfl)) (.inl rfl))

/-- The output of one block of 256 query columns. -/
def outTile (B : Bufs) (t : Fin 4) : P (F := F) PUnit := do
  let n0 ← Prog.lift (.load B.acc (rNum h0 t).toLoadRect (View.loadsAt_vmem h_S1x64x256))
  let d0 ← Prog.lift (.load B.acc (rDen h0 t).toLoadRect (View.loadsAt_vmem h_S1x1x256))
  outTail B t (numC n0) (denC d0)

/-- The kernel's test whether the totals left the range in which the first maximum serves. -/
def badOf (t0 : FVec F S1x1024 .f32) (t1 t2 t3 : Vec F S1x1x1024 .f32) (nv : Vec F S4x64x1024 .f32) : BitVec 1 :=
  Scalar.cmpf .ogt
    (extractAt ![0, 0, 0]
      (shapeCast S1x1x1
        (multiReduction .maximumf [1, 2] S1
          (shapeCast S1x4x1024
            (select
              (ori
                (xori (cmpf .olt (concatenate S4x1024 0 [⟨S1x1024, t0⟩, ⟨S1x1024, shapeCast S1x1024 t1 shapeCasts_S1x1x1024_S1x1024⟩, ⟨S1x1024, shapeCast S1x1024 t2 shapeCasts_S1x1x1024_S1x1024⟩, ⟨S1x1024, shapeCast S1x1024 t3 shapeCasts_S1x1x1024_S1x1024⟩] concatenates_S1x1024_S1x1024_S1x1024_S1x1024_S4x1024_d0)
                  (broadcast S4x1024 (Scalar.ofBits .f32 0x71800000#32 : F .f32))) (constantI S4x1024 1 1#1))
                (broadcastTo S4x1024 (shapeCast S1x1024
                  (xori (cmpf .olt (multiReduction .maximumf [0, 1] S1024 (absf nv) 0xFF800000#32 reduces_S4x64x1024_S1024 (.inl rfl) rfl)
                    (broadcast S1024 (Scalar.ofBits .f32 0x7E800000#32 : F .f32))) (constantI S1024 1 1#1))
                  shapeCasts_S1024_S1x1024) broadcasts_S1x1024_S4x1024))
              (broadcast S4x1024 (Scalar.ofBits .f32 0x3F800000#32 : F .f32)) (broadcast S4x1024 (Scalar.ofBits .f32 0x00000000#32 : F .f32)))
            shapeCasts_S4x1024_S1x4x1024)
          0xFF800000#32 reduces_S1x4x1024_S1 (.inl rfl) rfl)
        shapeCasts_S1_S1x1x1)
      inpos_S1x1x1_p0_0_0)
    (Scalar.ofBits .f32 0x00000000#32 : F .f32)

/-- Trip `k`'s offset, in a loop from `lb` over blocks of `w` keys. -/
abbrev stw (w lb : BitVec 32) (k : ℕ) : BitVec 32 := Scalar.muli (Scf.iv lb 1#32 k) w

/-- How many blocks of 1024 keys hold `v1` keys, as the kernel computes it. -/
def nblk (v1 : BitVec 32) : BitVec 32 :=
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  v20

/-- Where the main loop's remainder starts, as the kernel computes it. -/
def lbOf (v20 : BitVec 32) : BitVec 32 := Scalar.addi 0#32 (Scalar.muli (Scalar.divsi (Scalar.subi v20 0#32) 1#32) 1#32)

/-- The body's head: the word of the table, the spread key scales at the first block of columns, and the loads of the
    first tile. -/
def headP (i : grid0.Coords) (arg3 : Memref sig .tc .smem S2 .i32) (B : Bufs) :
    P (F := F) (Σ' (v1 : Elt F .i32) (_ : k0_chk1 i v1) (_ : BitVec 32) (_ : FVec F S1x256 .f32) (_ : FVec F S256x128 .fp8e4m3), Vec F S1x1x64x256 .fp8e4m3) := do
  let v1 : Elt F .i32 ← smemLoad arg3 (Rect.unit (s := S2) (k0_off1 i) S1.size (k0_off1_inb i)) numel1_S1 rfl
  have hw1 : k0_chk1 i v1 := (← Prog.lift (TpuEff.assume (k0_chk1 i v1) (k0_chk1.dec i v1))).down
  if hc : k0_cond1 i = 1#1 then do
    Scf.Loop.for (k0_t1_loop v1) (k0_t1_ok i v1 hw1 hc) ⟨⟩ fun t _ => seqL (spreadTile B v1 (stw 128#32 (k0_t1_loop v1).lb t) (k0_off3_inb i v1 hw1 t hc 1)) heads
    Scf.Loop.for (k0_t2_loop v1) (k0_t2_ok i v1 hw1 hc) ⟨⟩ fun t _ => seqL (spreadTile B v1 (stw 128#32 (k0_t2_loop v1).lb t) (k0_off11_inb i v1 hw1 t hc 1)) heads
    pure ⟨⟩
  else do
    pure ⟨⟩
  let sqv ← Prog.lift (.load B.sq (rSq h0 h0).toLoadRect (View.loadsAt_vmem h_S1x1x1x256))
  let kv ← Prog.lift (.load B.k (rK256 h0 0 (by decide)).toLoadRect (View.loadsAt_vmem h_S1x1x256x128))
  let qv ← Prog.lift (.load B.q (rQ h0 h0).toLoadRect (View.loadsAt_vmem h_S1x1x64x256))
  pure ⟨v1, hw1, nblk v1, qs sqv, kc256 kv, qv⟩

/-- The body's test and redo loop, and the loads of the first output. -/
def checkP (B : Bufs) (v1 : BitVec 32) (t0 : FVec F S1x1024 .f32) : P (F := F) (Σ' (_ : FVec F S64x256 .f32), FVec F S1x256 .f32) := do
  let t1 ← Prog.lift (.load B.acc (Rect.unit (s := S4x80x1024) ![1, 64, 0] S1x1x1024.size inb_S4x80x1024_S1x1x1024_1_64_0).toLoadRect (View.loadsAt_vmem h_S1x1x1024))
  let t2 ← Prog.lift (.load B.acc (Rect.unit (s := S4x80x1024) ![2, 64, 0] S1x1x1024.size inb_S4x80x1024_S1x1x1024_2_64_0).toLoadRect (View.loadsAt_vmem h_S1x1x1024))
  let t3 ← Prog.lift (.load B.acc (Rect.unit (s := S4x80x1024) ![3, 64, 0] S1x1x1024.size inb_S4x80x1024_S1x1x1024_3_64_0).toLoadRect (View.loadsAt_vmem h_S1x1x1024))
  let nv ← Prog.lift (.load B.acc (Rect.unit (s := S4x80x1024) ![0, 0, 0] S4x64x1024.size inb_S4x80x1024_S4x64x1024_0_0_0).toLoadRect (View.loadsAt_vmem h_S4x64x1024))
  have hw2 : k0_chk2 v1 (badOf t0 t1 t2 t3 nv) := (← Prog.lift (TpuEff.assume (k0_chk2 v1 (badOf t0 t1 t2 t3 nv)) (k0_chk2.dec v1 (badOf t0 t1 t2 t3 nv)))).down
  if hc2 : k0_cond2 (badOf t0 t1 t2 t3 nv) = 1#1 then do
    let _ ← Prog.lift (.load B.m (Rect.unit (s := S4x1024) ![0, 0] S4x1024.size inb_S4x1024_S4x1024_0_0).toLoadRect (View.loadsAt_vmem h_S4x1024))
    Prog.lift (.store B.m (Rect.unit (s := S4x1024) ![0, 0] S4x1024.size inb_S4x1024_S4x1024_0_0) (shapeCast S4x1024 (broadcast S4x1024 (Scalar.ofBits .f32 0xFF800000#32 : F .f32)) shapeCasts_S4x1024_S4x1024) Finset.univ (View.stores_vmem_bits_univ h_S4x1024 rfl) (.inl rfl))
    let _ ← Prog.lift (.load B.acc (Rect.unit (s := S4x80x1024) ![0, 0, 0] S4x80x1024.size inb_S4x80x1024_S4x80x1024_0_0_0).toLoadRect (View.loadsAt_vmem h_S4x80x1024))
    Prog.lift (.store B.acc (Rect.unit (s := S4x80x1024) ![0, 0, 0] S4x80x1024.size inb_S4x80x1024_S4x80x1024_0_0_0) (shapeCast S4x80x1024 (broadcast S4x80x1024 (Scalar.ofBits .f32 0x00000000#32 : F .f32)) shapeCasts_S4x80x1024_S4x80x1024) Finset.univ (View.stores_vmem_bits_univ h_S4x80x1024 rfl) (.inl rfl))
    Scf.Loop.for (k0_t5_loop v1) (k0_t5_ok v1 _ hw2 hc2) ⟨⟩ fun t _ => seqL (safeTile B v1 (stw 256#32 (k0_t5_loop v1).lb t) (k0_off38_inb v1 _ hw2 t hc2 2)) tiles
    Scf.Loop.for (k0_t6_loop v1) (k0_t6_ok v1 _ hw2 hc2) ⟨⟩ fun t _ => seqL (safeTile B v1 (stw 256#32 (k0_t6_loop v1).lb t) (k0_off48_inb v1 _ hw2 t hc2 2)) tiles
    pure ⟨⟩
  else do
    pure ⟨⟩
  let n0 ← Prog.lift (.load B.acc (rNum h0 h0).toLoadRect (View.loadsAt_vmem h_S1x64x256))
  let d0 ← Prog.lift (.load B.acc (rDen h0 h0).toLoadRect (View.loadsAt_vmem h_S1x1x256))
  pure ⟨numC n0, denC d0⟩

/-- The tiles strictly between the first and the last. -/
def midTiles : List (Fin 4 × Fin 4) :=
  [(⟨0, by decide⟩, ⟨1, by decide⟩), (⟨0, by decide⟩, ⟨2, by decide⟩), (⟨0, by decide⟩, ⟨3, by decide⟩),
   (⟨1, by decide⟩, ⟨0, by decide⟩), (⟨1, by decide⟩, ⟨1, by decide⟩), (⟨1, by decide⟩, ⟨2, by decide⟩), (⟨1, by decide⟩, ⟨3, by decide⟩),
   (⟨2, by decide⟩, ⟨0, by decide⟩), (⟨2, by decide⟩, ⟨1, by decide⟩), (⟨2, by decide⟩, ⟨2, by decide⟩), (⟨2, by decide⟩, ⟨3, by decide⟩),
   (⟨3, by decide⟩, ⟨0, by decide⟩), (⟨3, by decide⟩, ⟨1, by decide⟩), (⟨3, by decide⟩, ⟨2, by decide⟩)]

/-- The body's end: the outputs of the four blocks of query columns. -/
def outP (B : Bufs) (n0 : FVec F S64x256 .f32) (d0 : FVec F S1x256 .f32) : P (F := F) PUnit := do
  outTail B h0 n0 d0
  seqL (outTile B) heads.tail

/-- The body from the last first-maximum tile to the loads of the check: that tile, the main loop (its two regions as the
    printed kernel has them) and the first head's totals. -/
def loopP (i : grid0.Coords) (arg3 : Memref sig .tc .smem S2 .i32) (harg3 : arg3.IsWhole) (B : Bufs) (v1 : Elt F .i32) (hw1 : k0_chk1 i v1) (v20 : BitVec 32) (fq : FVec F S1x256 .f32) (kc : FVec F S256x128 .fp8e4m3) (qv : Vec F S1x1x64x256 .fp8e4m3) :
    P (F := F) (FVec F S1x1024 .f32) := do
  firstTail B v1 (h3, h3) fq kc qv
  Scf.Loop.for (k0_t3_loop v1) (k0_t3_ok i v1 hw1) ⟨⟩ fun t u => k0_t3_body (F := F) i arg3 harg3 B.q B.hq B.sq B.hsq B.k B.hk B.sk B.hsk B.v B.hv B.x B.hx B.w B.hw B.y B.hy B.o B.ho B.b B.hb B.acc B.hacc B.m B.hm v1 hw1 v20 fq kc qv t u
  Scf.Loop.for (k0_t4_loop v1) (k0_t4_ok i v1 hw1) ⟨⟩ fun t u => k0_t4_body (F := F) i arg3 harg3 B.q B.hq B.sq B.hsq B.k B.hk B.sk B.hsk B.v B.hv B.x B.hx B.w B.hw B.y B.hy B.o B.ho B.b B.hb B.acc B.hacc B.m B.hm v1 hw1 v20 fq kc qv (lbOf v20) t u
  let t0 ← Prog.lift (.load B.acc (Rect.unit (s := S4x80x1024) ![0, 64, 0] S1x1x1024.size inb_S4x80x1024_S1x1x1024_0_64_0).toLoadRect (View.loadsAt_vmem h_S1x1x1024))
  pure (shapeCast S1x1024 t0 shapeCasts_S1x1x1024_S1x1024)

/-- The body from the last first-maximum tile on. -/
def restP (i : grid0.Coords) (arg3 : Memref sig .tc .smem S2 .i32) (harg3 : arg3.IsWhole) (B : Bufs) (v1 : Elt F .i32) (hw1 : k0_chk1 i v1) (v20 : BitVec 32) (fq : FVec F S1x256 .f32) (kc : FVec F S256x128 .fp8e4m3) (qv : Vec F S1x1x64x256 .fp8e4m3) :
    P (F := F) PUnit := do
  let t0 ← loopP i arg3 harg3 B v1 hw1 v20 fq kc qv
  let x ← checkP B v1 t0
  outP B x.1 x.2

/-- The body between the head and the last first-maximum tile, and on. -/
def midP (B : Bufs) (v1 : Elt F .i32) (fq : FVec F S1x256 .f32) (kc : FVec F S256x128 .fp8e4m3) (qv : Vec F S1x1x64x256 .fp8e4m3)
    (K : FVec F S1x256 .f32 → FVec F S256x128 .fp8e4m3 → Vec F S1x1x64x256 .fp8e4m3 → P (F := F) PUnit) : P (F := F) PUnit := do
  firstTail B v1 (h0, h0) fq kc qv
  seqL (firstTile B v1) midTiles
  let sqv ← Prog.lift (.load B.sq (rSq h3 h3).toLoadRect (View.loadsAt_vmem h_S1x1x1x256))
  let kv ← Prog.lift (.load B.k (rK256 h3 0 (by decide)).toLoadRect (View.loadsAt_vmem h_S1x1x256x128))
  let qv3 ← Prog.lift (.load B.q (rQ h3 h3).toLoadRect (View.loadsAt_vmem h_S1x1x64x256))
  K (qs sqv) (kc256 kv) qv3

/-- The whole body, in the tiles' programs. -/
def bodyP (i : grid0.Coords) (arg3 : Memref sig .tc .smem S2 .i32) (harg3 : arg3.IsWhole) (B : Bufs) : P (F := F) PUnit := do
  let x ← headP i arg3 B
  midP B x.1 x.2.2.2.1 x.2.2.2.2.1 x.2.2.2.2.2 fun a b c => restP i arg3 harg3 B x.1 x.2.1 x.2.2.1 a b c

end Cert.KernelIdeal.Row

end
-- ==== Proof.Bounds.lean ====
/-
  The word of the table is between 1 and 9216: the loops' trip counts, and the side conditions the kernel checks.
-/
module

public import proofs.«01_k».proof.Proof.Tiles

@[expose] public section

set_option maxRecDepth 16384

noncomputable section

namespace Cert.KernelIdeal.Row

open Cert.KernelIdeal Cert.KernelIdeal.Gen
open Idealize.ShloMosaic Idealize.ShloMosaic.TcCoe Idealize.ShloMosaic.Tactic

/-- A number of keys the caches hold. -/
structure InRange (v : BitVec 32) : Prop where
  one : 1 ≤ v.toNat
  top : v.toNat ≤ 9216

/-- The number of blocks of 1024 keys, and of 256 keys, that hold `v` keys. -/
def nb (v : BitVec 32) : ℕ := (v.toNat + 1023) / 1024
def nc (v : BitVec 32) : ℕ := (v.toNat + 255) / 256

theorem InRange.nb_le {v : BitVec 32} (h : InRange v) : nb v ≤ 9 := by have := h.top; unfold nb; omega
theorem InRange.nb_pos {v : BitVec 32} (h : InRange v) : 1 ≤ nb v := by have := h.one; unfold nb; omega
theorem InRange.nc_le {v : BitVec 32} (h : InRange v) : nc v ≤ 36 := by have := h.top; unfold nc; omega

/-- What the loops' bounds come to, at each number of keys. -/
def Facts (v : BitVec 32) : Prop :=
  ((k0_t1_loop v).trips = 8 * nb v ∧ (k0_t2_loop v).trips = 0 ∧ (k0_t3_loop v).trips = nb v ∧ (k0_t4_loop v).trips = 0
    ∧ (k0_t5_loop v).trips = nc v ∧ (k0_t6_loop v).trips = 0)
  ∧ ((k0_t1_loop v).OK ∧ (k0_t2_loop v).OK ∧ (k0_t3_loop v).OK ∧ (k0_t4_loop v).OK ∧ (k0_t5_loop v).OK ∧ (k0_t6_loop v).OK)

instance (v : BitVec 32) : Decidable (Facts v) := by unfold Facts Scf.Loop.OK Scf.OK; infer_instance

theorem facts_all : ∀ n : Fin 9216, Facts (BitVec.ofNat 32 (n.val + 1)) := by decide +kernel

theorem facts {v : BitVec 32} (h : InRange v) : Facts v := by
  have := facts_all ⟨v.toNat - 1, by have := h.one; have := h.top; omega⟩
  have e : BitVec.ofNat 32 (v.toNat - 1 + 1) = v := by
    rw [Nat.sub_add_cancel h.one]; simp
  simpa only [e] using this

end Cert.KernelIdeal.Row
end
-- ==== Proof.Checks.lean ====
/-
  At a word of the table between 1 and 9216 the side conditions the kernel checks hold.
-/
module

public import proofs.«01_k».proof.Proof.Bounds

@[expose] public section

set_option maxRecDepth 16384

noncomputable section

namespace Cert.KernelIdeal.Row

open Cert.KernelIdeal Cert.KernelIdeal.Gen
open Idealize.ShloMosaic Idealize.ShloMosaic.TcCoe Idealize.ShloMosaic.Tactic

theorem InRange.t1 {v : BitVec 32} (h : InRange v) : (k0_t1_loop v).trips = 8 * nb v := (facts h).1.1
theorem InRange.t2 {v : BitVec 32} (h : InRange v) : (k0_t2_loop v).trips = 0 := (facts h).1.2.1
theorem InRange.t3 {v : BitVec 32} (h : InRange v) : (k0_t3_loop v).trips = nb v := (facts h).1.2.2.1
theorem InRange.t4 {v : BitVec 32} (h : InRange v) : (k0_t4_loop v).trips = 0 := (facts h).1.2.2.2.1
theorem InRange.t5 {v : BitVec 32} (h : InRange v) : (k0_t5_loop v).trips = nc v := (facts h).1.2.2.2.2.1
theorem InRange.t6 {v : BitVec 32} (h : InRange v) : (k0_t6_loop v).trips = 0 := (facts h).1.2.2.2.2.2
theorem InRange.lt1 {v : BitVec 32} (h : InRange v) (t : Fin (k0_t1_loop v).trips) : t.val < 72 := by
  have := t.isLt; have := h.t1; have := h.nb_le; omega
theorem InRange.lt3 {v : BitVec 32} (h : InRange v) (t : Fin (k0_t3_loop v).trips) : t.val < 9 := by
  have := t.isLt; have := h.t3; have := h.nb_le; omega
theorem InRange.lt5 {v : BitVec 32} (h : InRange v) (t : Fin (k0_t5_loop v).trips) : t.val < 36 := by
  have := t.isLt; have := h.t5; have := h.nc_le; omega

/-- Trip `k`'s offset in a loop from 0 is `w · k`. -/
theorem stw_toNat (w : BitVec 32) (k : ℕ) (h : k * w.toNat < 2 ^ 32) : (stw w 0#32 k).toNat = k * w.toNat := by
  have hk : w.toNat = 0 ∨ k < 2 ^ 32 := by
    rcases Nat.eq_zero_or_pos w.toNat with h0 | h0
    · exact .inl h0
    · exact .inr (lt_of_le_of_lt (Nat.le_mul_of_pos_right k h0) h)
  show ((0#32 + BitVec.ofNat 32 k * 1#32) * w).toNat = _
  rcases hk with h0 | h0
  · have : w = 0#32 := by apply BitVec.eq_of_toNat_eq; simpa using h0
    subst this; simp
  · simp only [BitVec.zero_add, BitVec.mul_one, BitVec.toNat_mul, BitVec.toNat_ofNat]
    rw [Nat.mod_eq_of_lt h0, Nat.mod_eq_of_lt h]

theorem stw1 {v : BitVec 32} (k : ℕ) (h : k < 72) : (stw 128#32 (k0_t1_loop v).lb k).toNat = k * 128 :=
  stw_toNat 128#32 k (by show k * 128 < 2 ^ 32; omega)
theorem stw3 {v : BitVec 32} (k : ℕ) (h : k < 9) : (stw 1024#32 (k0_t3_loop v).lb k).toNat = k * 1024 :=
  stw_toNat 1024#32 k (by show k * 1024 < 2 ^ 32; omega)
theorem stw5 {v : BitVec 32} (k : ℕ) (h : k < 36) : (stw 256#32 (k0_t5_loop v).lb k).toNat = k * 256 :=
  stw_toNat 256#32 k (by show k * 256 < 2 ^ 32; omega)

/-- A vacuous choice: the loop has no trip. -/
theorem no_trip {n : ℕ} (h : n = 0) (t : Fin n) : False := absurd t.isLt (by omega)

/-- The conditions on the word the spreading and the main loop check. -/
theorem chk1 (i : grid0.Coords) {v : BitVec 32} (h : InRange v) : k0_chk1 i v := by
  have g1 : ∀ t : Fin (k0_t1_loop v).trips, (stw 128#32 (k0_t1_loop v).lb t).toNat + 128 ≤ 9216 := fun t => by
    have := h.lt1 t; rw [stw1 _ this]; omega
  have g3 : ∀ t : Fin (k0_t3_loop v).trips, (stw 1024#32 (k0_t3_loop v).lb t).toNat + 1024 ≤ 9216 := fun t => by
    have := h.lt3 t; rw [stw3 _ this]; omega
  have n2 := h.t2
  have n4 := h.t4
  have ok := (facts h).2
  refine ⟨⟨fun _ => ok.1, fun t _ => ?_, fun t _ => ?_, fun t _ => ?_, fun t _ => ?_, fun t _ => ?_, fun t _ => ?_, fun t _ => ?_, fun t _ => ?_, fun t _ => ?_,
      fun _ => ok.2.1, fun t => (no_trip n2 t).elim, fun t => (no_trip n2 t).elim, fun t => (no_trip n2 t).elim, fun t => (no_trip n2 t).elim, fun t => (no_trip n2 t).elim, fun t => (no_trip n2 t).elim, fun t => (no_trip n2 t).elim, fun t => (no_trip n2 t).elim, fun t => (no_trip n2 t).elim,
      ok.2.2.1, fun t => ?_, fun t => ?_, fun t => ?_, fun t => ?_, fun t => ?_, fun t => ?_, fun t => ?_, fun t => ?_, fun t => ?_, fun t => ?_, fun t => ?_⟩,
    ok.2.2.2.1, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim⟩
  · exact ⟨t.val, (stw1 (v := v) _ (h.lt1 t)).trans (Nat.mul_comm _ _)⟩
  · exact inb_sk h0 _ (g1 t)
  · exact inb_b128 h0 _ (g1 t)
  · exact inb_sk h1 _ (g1 t)
  · exact inb_b128 h1 _ (g1 t)
  · exact inb_sk h2 _ (g1 t)
  · exact inb_b128 h2 _ (g1 t)
  · exact inb_sk h3 _ (g1 t)
  · exact inb_b128 h3 _ (g1 t)
  · exact ⟨t.val, (stw3 (v := v) _ (h.lt3 t)).trans (Nat.mul_comm _ _)⟩
  · exact inb_k1024 h0 _ (g3 t)
  · exact inb_b1024 h0 _ (g3 t)
  · exact inb_v1024 h0 _ (g3 t)
  · exact inb_b1024 h1 _ (g3 t)
  · exact inb_v1024 h1 _ (g3 t)
  · exact inb_k1024 h2 _ (g3 t)
  · exact inb_b1024 h2 _ (g3 t)
  · exact inb_v1024 h2 _ (g3 t)
  · exact inb_b1024 h3 _ (g3 t)
  · exact inb_v1024 h3 _ (g3 t)

/-- The conditions on the word the redo loop checks. -/
theorem chk2 (b : BitVec 1) {v : BitVec 32} (h : InRange v) : k0_chk2 v b := by
  have g5 : ∀ t : Fin (k0_t5_loop v).trips, (stw 256#32 (k0_t5_loop v).lb t).toNat + 256 ≤ 9216 := fun t => by
    have := h.lt5 t; rw [stw5 _ this]; omega
  have n6 := h.t6
  have ok := (facts h).2
  refine ⟨fun _ => ok.2.2.2.2.1, fun t _ => ?_, fun t _ => ?_, fun t _ => ?_, fun t _ => ?_, fun t _ => ?_, fun t _ => ?_, fun t _ => ?_, fun t _ => ?_, fun t _ => ?_, fun t _ => ?_, fun t _ => ?_,
      fun _ => ok.2.2.2.2.2, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim⟩
  · exact ⟨t.val, (stw5 (v := v) _ (h.lt5 t)).trans (Nat.mul_comm _ _)⟩
  · exact inb_k256 h0 _ (g5 t)
  · exact inb_b256 h0 _ (g5 t)
  · exact inb_v256 h0 _ (g5 t)
  · exact inb_b256 h1 _ (g5 t)
  · exact inb_v256 h1 _ (g5 t)
  · exact inb_k256 h2 _ (g5 t)
  · exact inb_b256 h2 _ (g5 t)
  · exact inb_v256 h2 _ (g5 t)
  · exact inb_b256 h3 _ (g5 t)
  · exact inb_v256 h3 _ (g5 t)

end Cert.KernelIdeal.Row
end
-- ==== Proof.Runs.lean ====
/-
  How a program of the body runs: from the buffers at one state to the buffers at another, returning a value. The state
  is what the two results', the accumulator's and the maxima's buffers read, and what is known of the spread scales.
-/
module

public import proofs.«01_k».proof.Proof.Checks
public import Idealize.ShloMosaic.Lib.Writes
public import Idealize.ShloMosaic.Lib.Pipeline.FrameBody

@[expose] public section

set_option maxRecDepth 16384

noncomputable section

namespace Cert.KernelIdeal.Row

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra. -/
local notation "𝕄" => MT nD τ sig Unit (Elt F) ℕ (UR sig nD τ) ℕ

/-! ## Reading after a store -/

/-- An array with a rectangle of it replaced. -/
def put {s : Shape} {e : EltTy} (X : s.Idx → Elt F e) (r : Rect s) (w : r.shape.Idx → Elt F e) : s.Idx → Elt F e :=
  open Classical in fun i => if h : ∃ x, r.emb x = i then w h.choose else X i

theorem put_emb {s : Shape} {e : EltTy} (X : s.Idx → Elt F e) (r : Rect s) (w : r.shape.Idx → Elt F e) (x : r.shape.Idx) :
    put X r w (r.emb x) = w x := by
  have h : ∃ y, r.emb y = r.emb x := ⟨x, rfl⟩
  unfold put
  rw [dif_pos h, r.emb.injective h.choose_spec]

theorem put_miss {s : Shape} {e : EltTy} (X : s.Idx → Elt F e) (r : Rect s) (w : r.shape.Idx → Elt F e) (i : s.Idx)
    (h : ∀ x, r.emb x ≠ i) : put X r w i = X i := by
  unfold put
  rw [dif_neg (fun ⟨x, hx⟩ => h x hx)]

/-- What a memref reads after a store through a rectangle of it. -/
theorem read_store {sp : Space} {s : Shape} {e : EltTy} (m : Memref sig .tc sp s e) (r : Rect s) (f : m.view.ty.Contents (Elt F))
    (w : r.shape.Idx → Elt F e) :
    m.view.read (Elt F) ((m.access r).write (Elt F) f w Finset.univ) = put (m.view.read (Elt F) f) r w := by
  funext i
  by_cases h : ∃ x, r.emb x = i
  · obtain ⟨x, rfl⟩ := h
    rw [put_emb]
    exact View.read_writes_cons_emb m.view f r w [] x
  · have h' : ∀ x, r.emb x ≠ i := fun x hx => h ⟨x, hx⟩
    rw [put_miss _ _ _ _ h']
    exact View.read_writes_cons_miss m.view f ⟨r, w⟩ [] i (fun hm => by
      obtain ⟨x, hx⟩ := r.exists_idx_of_mem hm
      exact h' x hx)

/-! ## The state -/

/-- What the operands hold, and at which share the table of the numbers of keys is held. -/
structure In (F : FTy → Type) where
  qn : PosShare TreeShare
  n : Vec F S2 .i32
  q : Vec F S1x1x256x1024 .fp8e4m3
  sq : Vec F S1x1x4x1024 .f32
  k : Vec F S1x1x9216x256 .fp8e4m3
  sk : Vec F S1x1x4x9216 .f32
  v : Vec F S1x1x256x9216 .bf16
  x : Vec F S1x1x1024x256 .f32
  w : Vec F S256x256 .bf16

/-- What the two results', the accumulator's and the maxima's buffers read, and what is known of the spread scales. -/
structure St (F : FTy → Type) where
  y : Vec F S1x1x1024x256 .bf16
  o : Vec F S1x1x1024x256 .bf16
  ag : Vec F S4x9216x128 .f32 → Prop
  acc : Vec F S4x80x1024 .f32
  m : Vec F S4x1024 .f32

variable (c : Dev nD) (a3 : Memref sig .tc .smem S2 .i32) (B : Bufs) (I : In F)

/-- A buffer of the body held whole, reading `X`. -/
abbrev own {sp : Space} {s : Shape} {e : EltTy} (m : Memref sig .tc sp s e) (X : s.Idx → Elt F e) : sProp 𝕄 :=
  owns (c : Thread nD τ) m fullShare X

/-- The body's buffers at a state. -/
def H (s : St F) : sProp 𝕄 :=
  iprop(owns (c : Thread nD τ) a3 I.qn I.n ∗ own c B.q I.q ∗ own c B.sq I.sq ∗ own c B.k I.k ∗ own c B.sk I.sk ∗ own c B.v I.v ∗ own c B.x I.x ∗ own c B.w I.w
    ∗ own c B.y s.y ∗ own c B.o s.o ∗ (∃ b, ⌜s.ag b⌝ ∗ own c B.b b) ∗ own c B.acc s.acc ∗ own c B.m s.m)

/-- The weakest precondition of a program of the body. -/
abbrev WP {α : Type} (p : P (F := F) α) (Q : α → sProp 𝕄) : sProp 𝕄 :=
  wp frame (wpE (defs₀ (F := F)) Variants.none (c : Thread nD τ) none) Set.univ p Q

/-- The program runs from one state to another, returning a value. -/
def Runs {α : Type} (p : P (F := F) α) (s : St F) (a : α) (s' : St F) : Prop :=
  ∀ (R : sProp 𝕄) (Q : α → sProp 𝕄), (iprop(H c a3 B I s' ∗ R) ⊢ Q a) → (iprop(H c a3 B I s ∗ R) ⊢ WP c p Q)

variable {c a3 B I}

theorem Runs.ret {α : Type} (a : α) (s : St F) : Runs c a3 B I (pure a) s a s := fun R Q h => by
  show _ ⊢ wp _ _ _ (.ret a) Q
  rw [wp_ret]
  refine h.trans ?_
  iintro H; imodintro; iexact H

theorem Runs.bind {α β : Type} {p : P (F := F) α} {f : α → P (F := F) β} {s s' s'' : St F} {a : α} {b : β}
    (h : Runs c a3 B I p s a s') (h' : Runs c a3 B I (f a) s' b s'') : Runs c a3 B I (p >>= f) s b s'' := fun R Q hQ => by
  unfold WP
  rw [wp_bind]
  exact h R _ (h' R Q hQ)

/-- A load of a buffer the state holds at `X`. -/
theorem Runs.load_of {cs : CoreSpace} {S : Shape} {e : EltTy} {m : Memref sig .tc cs S e} {r : Rect S} {hl : m.view.LoadsAt r.toLoadRect}
    {s : St F} {q : PosShare TreeShare} {X : S.Idx → Elt F e} {Y : r.shape.Idx → Elt F e}
    (hX : H c a3 B I s ⊢ iprop(owns (c : Thread nD τ) m q X ∗ (owns (c : Thread nD τ) m q X -∗ H c a3 B I s))) (hY : View.ld X r = Y) :
    Runs c a3 B I (Prog.lift (.load m r.toLoadRect hl)) s Y s := fun R Q h => by
  subst hY
  unfold owns at hX
  refine (sep_mono_left hX).trans ?_
  iintro ⟨⟨⟨%f, %hf, Hf⟩, Hk⟩, HR⟩
  iapply (wp_load Variants.none (c : Thread nD τ) none Set.univ (Q := Q) (m := m) (r := r.toLoadRect) (hl := hl) (q := q) (f := f) (S := m.view.set) (k := .ret) (m.view.setOn_subset_set _)) $$ Hf
  iintro Hf
  rw [wp_ret]
  imodintro
  subst hf
  ihave G := h $$ [Hf Hk HR]
  rotate_left
  · rw [View.readAt_eq_ld]; iexact G
  isplitl [Hf Hk]
  · iapply Hk
    iexists f
    isplitr; · ipureintro; rfl
    iexact Hf
  iexact HR

/-- A store into a buffer the state holds. -/
theorem Runs.store_of {cs : CoreSpace} {S : Shape} {e : EltTy} {m : Memref sig .tc cs S e} {r : Rect S} {w : r.shape.Idx → Elt F e}
    {hx : (m.access r).Stores Finset.univ} {hm : Finset.univ = Finset.univ ∨ ∀ a, r.stride a = 1}
    {s s' : St F} {X : S.Idx → Elt F e}
    (hX : H c a3 B I s ⊢ iprop(own c m X ∗ (own c m (put X r w) -∗ H c a3 B I s'))) :
    Runs c a3 B I (Prog.lift (.store m r w Finset.univ hx hm)) s ⟨⟩ s' := fun R Q h => by
  unfold own owns at hX
  refine (sep_mono_left hX).trans ?_
  iintro ⟨⟨⟨%f, %hf, Hf⟩, Hk⟩, HR⟩
  iapply (wp_store Variants.none (c : Thread nD τ) none Set.univ (Q := Q) (m := m) (r := r) (hx := hx) (hm := hm) (w := w) (Mk := Finset.univ) (f := f) (S := m.view.set) (k := .ret) (((m.access r).setOn_subset_set _).trans (by show (m.view.slice r).set ⊆ _; rw [View.set_slice]; exact m.view.setOn_subset_set _))) $$ Hf
  iintro Hf
  rw [wp_ret]
  imodintro
  subst hf
  iapply h
  isplitl [Hf Hk]
  · iapply Hk
    iexists _
    isplitr; · ipureintro; exact read_store m r f w
    iexact Hf
  iexact HR

theorem H_n (s : St F) : H c a3 B I s ⊢ iprop(owns (c : Thread nD τ) a3 I.qn I.n ∗ (owns (c : Thread nD τ) a3 I.qn I.n -∗ H c a3 B I s)) := by
  unfold H
  iintro ⟨Hn, Hq, Hsq, Hk, Hsk, Hv, Hx, Hw, Hy, Ho, Hb, Hacc, Hm⟩
  isplitl [Hn]; · iexact Hn
  iintro Hn
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem H_q (s : St F) : H c a3 B I s ⊢ iprop(owns (c : Thread nD τ) B.q fullShare I.q ∗ (owns (c : Thread nD τ) B.q fullShare I.q -∗ H c a3 B I s)) := by
  unfold H
  iintro ⟨Hn, Hq, Hsq, Hk, Hsk, Hv, Hx, Hw, Hy, Ho, Hb, Hacc, Hm⟩
  isplitl [Hq]; · iexact Hq
  iintro Hq
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_q {r : Rect S1x1x256x1024} {hl : B.q.view.LoadsAt r.toLoadRect} (s : St F) :
    Runs c a3 B I (Prog.lift (.load B.q r.toLoadRect hl)) s (View.ld I.q r) s :=
  Runs.load_of (H_q s) rfl

theorem H_sq (s : St F) : H c a3 B I s ⊢ iprop(owns (c : Thread nD τ) B.sq fullShare I.sq ∗ (owns (c : Thread nD τ) B.sq fullShare I.sq -∗ H c a3 B I s)) := by
  unfold H
  iintro ⟨Hn, Hq, Hsq, Hk, Hsk, Hv, Hx, Hw, Hy, Ho, Hb, Hacc, Hm⟩
  isplitl [Hsq]; · iexact Hsq
  iintro Hsq
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_sq {r : Rect S1x1x4x1024} {hl : B.sq.view.LoadsAt r.toLoadRect} (s : St F) :
    Runs c a3 B I (Prog.lift (.load B.sq r.toLoadRect hl)) s (View.ld I.sq r) s :=
  Runs.load_of (H_sq s) rfl

theorem H_k (s : St F) : H c a3 B I s ⊢ iprop(owns (c : Thread nD τ) B.k fullShare I.k ∗ (owns (c : Thread nD τ) B.k fullShare I.k -∗ H c a3 B I s)) := by
  unfold H
  iintro ⟨Hn, Hq, Hsq, Hk, Hsk, Hv, Hx, Hw, Hy, Ho, Hb, Hacc, Hm⟩
  isplitl [Hk]; · iexact Hk
  iintro Hk
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_k {r : Rect S1x1x9216x256} {hl : B.k.view.LoadsAt r.toLoadRect} (s : St F) :
    Runs c a3 B I (Prog.lift (.load B.k r.toLoadRect hl)) s (View.ld I.k r) s :=
  Runs.load_of (H_k s) rfl

theorem H_sk (s : St F) : H c a3 B I s ⊢ iprop(owns (c : Thread nD τ) B.sk fullShare I.sk ∗ (owns (c : Thread nD τ) B.sk fullShare I.sk -∗ H c a3 B I s)) := by
  unfold H
  iintro ⟨Hn, Hq, Hsq, Hk, Hsk, Hv, Hx, Hw, Hy, Ho, Hb, Hacc, Hm⟩
  isplitl [Hsk]; · iexact Hsk
  iintro Hsk
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_sk {r : Rect S1x1x4x9216} {hl : B.sk.view.LoadsAt r.toLoadRect} (s : St F) :
    Runs c a3 B I (Prog.lift (.load B.sk r.toLoadRect hl)) s (View.ld I.sk r) s :=
  Runs.load_of (H_sk s) rfl

theorem H_v (s : St F) : H c a3 B I s ⊢ iprop(owns (c : Thread nD τ) B.v fullShare I.v ∗ (owns (c : Thread nD τ) B.v fullShare I.v -∗ H c a3 B I s)) := by
  unfold H
  iintro ⟨Hn, Hq, Hsq, Hk, Hsk, Hv, Hx, Hw, Hy, Ho, Hb, Hacc, Hm⟩
  isplitl [Hv]; · iexact Hv
  iintro Hv
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_v {r : Rect S1x1x256x9216} {hl : B.v.view.LoadsAt r.toLoadRect} (s : St F) :
    Runs c a3 B I (Prog.lift (.load B.v r.toLoadRect hl)) s (View.ld I.v r) s :=
  Runs.load_of (H_v s) rfl

theorem H_x (s : St F) : H c a3 B I s ⊢ iprop(owns (c : Thread nD τ) B.x fullShare I.x ∗ (owns (c : Thread nD τ) B.x fullShare I.x -∗ H c a3 B I s)) := by
  unfold H
  iintro ⟨Hn, Hq, Hsq, Hk, Hsk, Hv, Hx, Hw, Hy, Ho, Hb, Hacc, Hm⟩
  isplitl [Hx]; · iexact Hx
  iintro Hx
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_x {r : Rect S1x1x1024x256} {hl : B.x.view.LoadsAt r.toLoadRect} (s : St F) :
    Runs c a3 B I (Prog.lift (.load B.x r.toLoadRect hl)) s (View.ld I.x r) s :=
  Runs.load_of (H_x s) rfl

theorem H_w (s : St F) : H c a3 B I s ⊢ iprop(owns (c : Thread nD τ) B.w fullShare I.w ∗ (owns (c : Thread nD τ) B.w fullShare I.w -∗ H c a3 B I s)) := by
  unfold H
  iintro ⟨Hn, Hq, Hsq, Hk, Hsk, Hv, Hx, Hw, Hy, Ho, Hb, Hacc, Hm⟩
  isplitl [Hw]; · iexact Hw
  iintro Hw
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_w {r : Rect S256x256} {hl : B.w.view.LoadsAt r.toLoadRect} (s : St F) :
    Runs c a3 B I (Prog.lift (.load B.w r.toLoadRect hl)) s (View.ld I.w r) s :=
  Runs.load_of (H_w s) rfl

theorem H_y (s : St F) : H c a3 B I s ⊢ iprop(owns (c : Thread nD τ) B.y fullShare s.y ∗ (owns (c : Thread nD τ) B.y fullShare s.y -∗ H c a3 B I s)) := by
  unfold H
  iintro ⟨Hn, Hq, Hsq, Hk, Hsk, Hv, Hx, Hw, Hy, Ho, Hb, Hacc, Hm⟩
  isplitl [Hy]; · iexact Hy
  iintro Hy
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_y {r : Rect S1x1x1024x256} {hl : B.y.view.LoadsAt r.toLoadRect} (s : St F) :
    Runs c a3 B I (Prog.lift (.load B.y r.toLoadRect hl)) s (View.ld s.y r) s :=
  Runs.load_of (H_y s) rfl

theorem H_o (s : St F) : H c a3 B I s ⊢ iprop(owns (c : Thread nD τ) B.o fullShare s.o ∗ (owns (c : Thread nD τ) B.o fullShare s.o -∗ H c a3 B I s)) := by
  unfold H
  iintro ⟨Hn, Hq, Hsq, Hk, Hsk, Hv, Hx, Hw, Hy, Ho, Hb, Hacc, Hm⟩
  isplitl [Ho]; · iexact Ho
  iintro Ho
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_o {r : Rect S1x1x1024x256} {hl : B.o.view.LoadsAt r.toLoadRect} (s : St F) :
    Runs c a3 B I (Prog.lift (.load B.o r.toLoadRect hl)) s (View.ld s.o r) s :=
  Runs.load_of (H_o s) rfl

theorem H_acc (s : St F) : H c a3 B I s ⊢ iprop(owns (c : Thread nD τ) B.acc fullShare s.acc ∗ (owns (c : Thread nD τ) B.acc fullShare s.acc -∗ H c a3 B I s)) := by
  unfold H
  iintro ⟨Hn, Hq, Hsq, Hk, Hsk, Hv, Hx, Hw, Hy, Ho, Hb, Hacc, Hm⟩
  isplitl [Hacc]; · iexact Hacc
  iintro Hacc
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_acc {r : Rect S4x80x1024} {hl : B.acc.view.LoadsAt r.toLoadRect} (s : St F) :
    Runs c a3 B I (Prog.lift (.load B.acc r.toLoadRect hl)) s (View.ld s.acc r) s :=
  Runs.load_of (H_acc s) rfl

theorem H_m (s : St F) : H c a3 B I s ⊢ iprop(owns (c : Thread nD τ) B.m fullShare s.m ∗ (owns (c : Thread nD τ) B.m fullShare s.m -∗ H c a3 B I s)) := by
  unfold H
  iintro ⟨Hn, Hq, Hsq, Hk, Hsk, Hv, Hx, Hw, Hy, Ho, Hb, Hacc, Hm⟩
  isplitl [Hm]; · iexact Hm
  iintro Hm
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_m {r : Rect S4x1024} {hl : B.m.view.LoadsAt r.toLoadRect} (s : St F) :
    Runs c a3 B I (Prog.lift (.load B.m r.toLoadRect hl)) s (View.ld s.m r) s :=
  Runs.load_of (H_m s) rfl

theorem Runs.store_y {r : Rect S1x1x1024x256} {w : r.shape.Idx → Elt F .bf16} {hx : (B.y.access r).Stores Finset.univ} {hm : Finset.univ = Finset.univ ∨ ∀ a, r.stride a = 1} (s : St F) :
    Runs c a3 B I (Prog.lift (.store B.y r w Finset.univ hx hm)) s ⟨⟩ { s with y := put s.y r w } := by
  refine Runs.store_of (X := s.y) ?_
  unfold H
  iintro ⟨Hn, Hq, Hsq, Hk, Hsk, Hv, Hx, Hw, Hy, Ho, Hb, Hacc, Hm⟩
  isplitl [Hy]; · iexact Hy
  iintro Hy
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.store_o {r : Rect S1x1x1024x256} {w : r.shape.Idx → Elt F .bf16} {hx : (B.o.access r).Stores Finset.univ} {hm : Finset.univ = Finset.univ ∨ ∀ a, r.stride a = 1} (s : St F) :
    Runs c a3 B I (Prog.lift (.store B.o r w Finset.univ hx hm)) s ⟨⟩ { s with o := put s.o r w } := by
  refine Runs.store_of (X := s.o) ?_
  unfold H
  iintro ⟨Hn, Hq, Hsq, Hk, Hsk, Hv, Hx, Hw, Hy, Ho, Hb, Hacc, Hm⟩
  isplitl [Ho]; · iexact Ho
  iintro Ho
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.store_acc {r : Rect S4x80x1024} {w : r.shape.Idx → Elt F .f32} {hx : (B.acc.access r).Stores Finset.univ} {hm : Finset.univ = Finset.univ ∨ ∀ a, r.stride a = 1} (s : St F) :
    Runs c a3 B I (Prog.lift (.store B.acc r w Finset.univ hx hm)) s ⟨⟩ { s with acc := put s.acc r w } := by
  refine Runs.store_of (X := s.acc) ?_
  unfold H
  iintro ⟨Hn, Hq, Hsq, Hk, Hsk, Hv, Hx, Hw, Hy, Ho, Hb, Hacc, Hm⟩
  isplitl [Hacc]; · iexact Hacc
  iintro Hacc
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.store_m {r : Rect S4x1024} {w : r.shape.Idx → Elt F .f32} {hx : (B.m.access r).Stores Finset.univ} {hm : Finset.univ = Finset.univ ∨ ∀ a, r.stride a = 1} (s : St F) :
    Runs c a3 B I (Prog.lift (.store B.m r w Finset.univ hx hm)) s ⟨⟩ { s with m := put s.m r w } := by
  refine Runs.store_of (X := s.m) ?_
  unfold H
  iintro ⟨Hn, Hq, Hsq, Hk, Hsk, Hv, Hx, Hw, Hy, Ho, Hb, Hacc, Hm⟩
  isplitl [Hm]; · iexact Hm
  iintro Hm
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

/-- A load of the spread scales, at a rectangle whose contents are known. -/
theorem Runs.load_b {r : Rect S4x9216x128} {hl : B.b.view.LoadsAt r.toLoadRect} (s : St F) {Y : r.shape.Idx → Elt F .f32}
    (hY : ∀ b, s.ag b → View.ld b r = Y) :
    Runs c a3 B I (Prog.lift (.load B.b r.toLoadRect hl)) s Y s := fun R Q h => by
  have key : ∀ b, s.ag b → Runs c a3 B I (Prog.lift (.load B.b r.toLoadRect hl)) { s with ag := fun b' => b' = b } Y { s with ag := fun b' => b' = b } := fun b hb => by
      refine Runs.load_of (q := fullShare) (X := b) ?_ (hY b hb)
      unfold H
      iintro ⟨Hn, Hq, Hsq, Hk, Hsk, Hv, Hx, Hw, Hy, Ho, Hb, Hacc, Hm⟩
      icases Hb with ⟨%b', %hb', Hb⟩
      subst hb'
      isplitl [Hb]; · iexact Hb
      iintro Hb
      isplitl [Hn]; · iexact Hn
      isplitl [Hq]; · iexact Hq
      isplitl [Hsq]; · iexact Hsq
      isplitl [Hk]; · iexact Hk
      isplitl [Hsk]; · iexact Hsk
      isplitl [Hv]; · iexact Hv
      isplitl [Hx]; · iexact Hx
      isplitl [Hw]; · iexact Hw
      isplitl [Hy]; · iexact Hy
      isplitl [Ho]; · iexact Ho
      isplitl [Hb]; · iexists _; isplitr; (· ipureintro; rfl); iexact Hb
      isplitl [Hacc]; · iexact Hacc
      iexact Hm
  have fwd : ∀ b, s.ag b → (H c a3 B I { s with ag := fun b' => b' = b } ⊢ H c a3 B I s) := fun b hb => by
    unfold H
    iintro ⟨Hn, Hq, Hsq, Hk, Hsk, Hv, Hx, Hw, Hy, Ho, Hb, Hacc, Hm⟩
    icases Hb with ⟨%b', %hb', Hb⟩
    subst hb'
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; exact hb); iexact Hb
    isplitl [Hacc]; · iexact Hacc
    iexact Hm

  have open_ : H c a3 B I s ⊢ iprop(∃ b, ⌜s.ag b⌝ ∗ H c a3 B I { s with ag := fun b' => b' = b }) := by
    unfold H
    iintro ⟨Hn, Hq, Hsq, Hk, Hsk, Hv, Hx, Hw, Hy, Ho, Hb, Hacc, Hm⟩
    icases Hb with ⟨%b, %hb, Hb⟩
    iexists b
    isplitr; · ipureintro; exact hb
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; rfl); iexact Hb
    isplitl [Hacc]; · iexact Hacc
    iexact Hm

  refine (sep_mono_left open_).trans ?_
  iintro ⟨⟨%b, %hb, HH⟩, HR⟩
  iapply (key b hb R Q ((sep_mono_left (fwd b hb)).trans h))
  isplitl [HH] <;> iassumption

/-- A store into the spread scales. -/
theorem Runs.store_b {r : Rect S4x9216x128} {w : r.shape.Idx → Elt F .f32} {hx : (B.b.access r).Stores Finset.univ} {hm : Finset.univ = Finset.univ ∨ ∀ a, r.stride a = 1}
    (s : St F) (ag' : Vec F S4x9216x128 .f32 → Prop) (hag : ∀ b, s.ag b → ag' (put b r w)) :
    Runs c a3 B I (Prog.lift (.store B.b r w Finset.univ hx hm)) s ⟨⟩ { s with ag := ag' } := fun R Q h => by
  have key : ∀ b, s.ag b → Runs c a3 B I (Prog.lift (.store B.b r w Finset.univ hx hm)) { s with ag := fun b' => b' = b } ⟨⟩ { s with ag := ag' } := fun b hb => by
      refine Runs.store_of (X := b) ?_
      unfold H
      iintro ⟨Hn, Hq, Hsq, Hk, Hsk, Hv, Hx, Hw, Hy, Ho, Hb, Hacc, Hm⟩
      icases Hb with ⟨%b', %hb', Hb⟩
      subst hb'
      isplitl [Hb]; · iexact Hb
      iintro Hb
      isplitl [Hn]; · iexact Hn
      isplitl [Hq]; · iexact Hq
      isplitl [Hsq]; · iexact Hsq
      isplitl [Hk]; · iexact Hk
      isplitl [Hsk]; · iexact Hsk
      isplitl [Hv]; · iexact Hv
      isplitl [Hx]; · iexact Hx
      isplitl [Hw]; · iexact Hw
      isplitl [Hy]; · iexact Hy
      isplitl [Ho]; · iexact Ho
      isplitl [Hb]; · iexists _; isplitr; (· ipureintro; exact hag _ hb); iexact Hb
      isplitl [Hacc]; · iexact Hacc
      iexact Hm
  have open_ : H c a3 B I s ⊢ iprop(∃ b, ⌜s.ag b⌝ ∗ H c a3 B I { s with ag := fun b' => b' = b }) := by
    unfold H
    iintro ⟨Hn, Hq, Hsq, Hk, Hsk, Hv, Hx, Hw, Hy, Ho, Hb, Hacc, Hm⟩
    icases Hb with ⟨%b, %hb, Hb⟩
    iexists b
    isplitr; · ipureintro; exact hb
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; rfl); iexact Hb
    isplitl [Hacc]; · iexact Hacc
    iexact Hm

  refine (sep_mono_left open_).trans ?_
  iintro ⟨⟨%b, %hb, HH⟩, HR⟩
  iapply (key b hb R Q h)
  isplitl [HH] <;> iassumption

/-- The word of the table. -/
theorem Runs.word {r : Rect S2} {h1 : r.shape.numel = 1} {hp : (EltTy.i32).packing = 1} (s : St F) :
    Runs c a3 B I (smemLoad a3 r h1 hp) s (View.ld I.n r (Shape.Idx.first (h1.symm ▸ Nat.one_pos))) s := fun R Q h => by
  have hX := H_n (c := c) (a3 := a3) (B := B) (I := I) s
  unfold owns at hX
  refine (sep_mono_left hX).trans ?_
  iintro ⟨⟨⟨%f, %hf, Hf⟩, Hk⟩, HR⟩
  unfold WP smemLoad
  iapply (wp_smemLoadElt Variants.none (c : Thread nD τ) none Set.univ (Q := Q) (m := a3) (r := r) (q := I.qn) (f := f) (S := a3.view.set) (k := .ret)
    (by show (a3.view.slice r).set ⊆ _; rw [View.set_slice]; exact a3.view.setOn_subset_set _)) $$ Hf
  iintro Hf
  rw [wp_ret]
  imodintro
  ihave G := h $$ [Hf Hk HR]
  rotate_left
  · rw [show View.read (Elt F) (a3.access r) f = View.ld I.n r from by rw [← hf]; rfl]; iexact G
  isplitl [Hf Hk]
  · iapply Hk
    iexists f
    isplitr; · ipureintro; exact hf
    iexact Hf
  iexact HR

/-- A side condition that holds. -/
theorem Runs.assume {p : Prop} {d : Decidable p} (h : p) (s : St F) : Runs c a3 B I (Prog.lift (TpuEff.assume p d)) s ⟨h⟩ s := fun R Q hQ => by
  refine BIBase.Entails.trans ?_ (wp_assume Variants.none (c : Thread nD τ) none Set.univ h)
  exact Runs.ret (c := c) (a3 := a3) (B := B) (I := I) (⟨h⟩ : PLift p) s R Q hQ

/-- A counted loop, from a state at each trip. -/
theorem Runs.loop {l : Scf.Loop 32} {hok : l.OK} {body : Fin l.trips → Unit → P (F := F) Unit} (S : ℕ → St F)
    (hb : ∀ t : Fin l.trips, Runs c a3 B I (body t ⟨⟩) (S t.val) ⟨⟩ (S (t.val + 1))) :
    Runs c a3 B I (Scf.Loop.for l hok ⟨⟩ body) (S 0) ⟨⟩ (S l.trips) := fun R Q h => by
  refine BIBase.Entails.trans ?_ (Scf.wp_for frame (wpE (defs₀ (F := F)) Variants.none (c : Thread nD τ) none) Set.univ l.lb l.ub l.st hok ⟨⟩ body (fun k _ => iprop(H c a3 B I (S k) ∗ R))
    (fun k _ => hb k R _ .rfl))
  iintro HH
  isplitl [HH]; · iexact HH
  iintro %_ HH
  iapply h
  iexact HH

/-- A program run over a list, from a state at each of its ends, the states named by a smaller one. -/
theorem Runs.seqL {ι σ : Type} (g : σ → St F) (f : ι → P (F := F) PUnit) (step : σ → ι → σ) (hf : ∀ p x, Runs c a3 B I (f p) (g x) ⟨⟩ (g (step x p))) :
    ∀ (l : List ι) (x : σ), Runs c a3 B I (seqL f l) (g x) ⟨⟩ (g (l.foldl step x))
  | [], x => Runs.ret _ _
  | p :: l, x => (hf p x).bind (Runs.seqL g f step hf l (step x p))

/-- Less may be known of the spread scales at the end, -/
theorem Runs.weaken {α : Type} {p : P (F := F) α} {s s' : St F} {a : α} (h : Runs c a3 B I p s a s') (ag' : Vec F S4x9216x128 .f32 → Prop)
    (hag : ∀ b, s'.ag b → ag' b) : Runs c a3 B I p s a { s' with ag := ag' } := fun R Q hQ => by
  refine h R Q (BIBase.Entails.trans (sep_mono_left ?_) hQ)
  unfold H
  iintro ⟨Hn, Hq, Hsq, Hk, Hsk, Hv, Hx, Hw, Hy, Ho, Hb, Hacc, Hm⟩
  icases Hb with ⟨%b, %hb, Hb⟩
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexists _; isplitr; (· ipureintro; exact hag b hb); iexact Hb
  isplitl [Hacc]; · iexact Hacc
  iexact Hm

/-- A loop of no trips. -/
theorem Runs.loop0 {l : Scf.Loop 32} {hok : l.OK} {body : Fin l.trips → Unit → P (F := F) Unit} (h0 : l.trips = 0) (s : St F) :
    Runs c a3 B I (Scf.Loop.for l hok ⟨⟩ body) s ⟨⟩ s :=
  Runs.loop (fun _ => s) fun t => (no_trip h0 t).elim

/-- A load of the spread scales whose value what follows does not use. -/
theorem Runs.bind_b {r : Rect S4x9216x128} {hl : B.b.view.LoadsAt r.toLoadRect} {α : Type} {f : (r.shape.Idx → Elt F .f32) → P (F := F) α}
    {s s' : St F} {a : α} (h : ∀ bv, Runs c a3 B I (f bv) s a s') :
    Runs c a3 B I (Prog.lift (.load B.b r.toLoadRect hl) >>= f) s a s' := fun R Q hQ => by
  have key : ∀ b, s.ag b → Runs c a3 B I (Prog.lift (.load B.b r.toLoadRect hl) >>= f) { s with ag := fun b' => b' = b } a s' := fun b hb => by
    refine Runs.bind (Runs.load_b _ (Y := View.ld b r) fun b' hb' => by rw [show b' = b from hb']) ?_
    refine fun R Q hQ => BIBase.Entails.trans (sep_mono_left ?_) (h _ R Q hQ)
    unfold H
    iintro ⟨Hn, Hq, Hsq, Hk, Hsk, Hv, Hx, Hw, Hy, Ho, Hb, Hacc, Hm⟩
    icases Hb with ⟨%b', %hb', Hb⟩
    subst hb'
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; exact hb); iexact Hb
    isplitl [Hacc]; · iexact Hacc
    iexact Hm
  have open_ : H c a3 B I s ⊢ iprop(∃ b, ⌜s.ag b⌝ ∗ H c a3 B I { s with ag := fun b' => b' = b }) := by
    unfold H
    iintro ⟨Hn, Hq, Hsq, Hk, Hsk, Hv, Hx, Hw, Hy, Ho, Hb, Hacc, Hm⟩
    icases Hb with ⟨%b, %hb, Hb⟩
    iexists b
    isplitr; · ipureintro; exact hb
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; rfl); iexact Hb
    isplitl [Hacc]; · iexact Hacc
    iexact Hm
  refine BIBase.Entails.trans (sep_mono_left open_) ?_
  iintro ⟨⟨%b, %hb, HH⟩, HR⟩
  iapply (key b hb R Q hQ)
  isplitl [HH] <;> iassumption

end Cert.KernelIdeal.Row
end
-- ==== Proof.TilesEq.lean ====
/-
  The printed kernel is the tiles' program: the two are one term up to unfolding.
-/
module

public import proofs.«01_k».proof.Proof.Tiles

@[expose] public section

set_option maxRecDepth 16384

noncomputable section

namespace Cert.KernelIdeal.Row

open Cert.KernelIdeal Cert.KernelIdeal.Gen
open Idealize.SL.Sem
open Idealize.ShloMosaic Idealize.ShloMosaic.TcCoe Idealize.ShloMosaic.Tactic

variable {F : FTy → Type} [FloatOps F] [Named F]

/-- One trip of the main loop runs its sixteen tiles. -/
theorem main_eq (i : grid0.Coords) (arg3 : Memref sig .tc .smem S2 .i32) (harg3 : arg3.IsWhole) (B : Bufs) (v1 hw1 v20 a b c) (t) :
    k0_t3_body (F := F) i arg3 harg3 B.q B.hq B.sq B.hsq B.k B.hk B.sk B.hsk B.v B.hv B.x B.hx B.w B.hw B.y B.hy B.o B.ho B.b B.hb B.acc B.hacc B.m B.hm v1 hw1 v20 a b c t ⟨⟩
      = seqL (mainTile B v1 (stw 1024#32 (k0_t3_loop v1).lb t) (k0_off18_inb i v1 hw1 t 2)) tiles := by
  chain_rfl

/-- The printed end, from the loads of the first output. -/
def outK (i : grid0.Coords) (arg3 : Memref sig .tc .smem S2 .i32) (harg3 : arg3.IsWhole) (B : Bufs) (v573 : FVec F S64x256 .f32) (v575 : FVec F S1x256 .f32) : P (F := F) PUnit := do
  let ⟨v599, v605⟩ : Σ' (v599 : FVec F S256x256 .f32), FVec F S256x256 .f32 ← k0_part113 (F:=F) i arg3 harg3 B.q B.hq B.sq B.hsq B.k B.hk B.sk B.hsk B.v B.hv B.x B.hx B.w B.hw B.y B.hy B.o B.ho B.b B.hb B.acc B.hacc B.m B.hm v573 v575
  let v636 : FVec F S256x256 .bf16 ← k0_part114 (F:=F) i arg3 harg3 B.q B.hq B.sq B.hsq B.k B.hk B.sk B.hsk B.v B.hv B.x B.hx B.w B.hw B.y B.hy B.o B.ho B.b B.hb B.acc B.hacc B.m B.hm v599 v605
  let ⟨v655, v661, v663⟩ : Σ' (v655 : FVec F S64x256 .f32) (v661 : FVec F S64x256 .f32), FVec F S64x256 .f32 ← k0_part115 (F:=F) i arg3 harg3 B.q B.hq B.sq B.hsq B.k B.hk B.sk B.hsk B.v B.hv B.x B.hx B.w B.hw B.y B.hy B.o B.ho B.b B.hb B.acc B.hacc B.m B.hm v636
  let ⟨v690, v692⟩ : Σ' (v690 : FVec F S64x256 .f32), FVec F S1x256 .f32 ← k0_part116 (F:=F) i arg3 harg3 B.q B.hq B.sq B.hsq B.k B.hk B.sk B.hsk B.v B.hv B.x B.hx B.w B.hw B.y B.hy B.o B.ho B.b B.hb B.acc B.hacc B.m B.hm v655 v661 v663
  let ⟨v716, v722⟩ : Σ' (v716 : FVec F S256x256 .f32), FVec F S256x256 .f32 ← k0_part117 (F:=F) i arg3 harg3 B.q B.hq B.sq B.hsq B.k B.hk B.sk B.hsk B.v B.hv B.x B.hx B.w B.hw B.y B.hy B.o B.ho B.b B.hb B.acc B.hacc B.m B.hm v690 v692
  have v723 : FVec F S256x256 .f32 := addf v722 v716
  have v724 : FVec F S256x256 .bf16 := truncf .bf16 v723 bitsLt_bf16_f32
  let c0_595 : Index := 0#32
  let c0_596 : Index := 0#32
  let c768_597 : Index := 768#32
  let c0_598 : Index := 0#32
  let v725 : Vec F S1x1x256x256 .bf16 ← Prog.lift (.load B.y (Rect.unit (s := S1x1x1024x256) ![0, 0, 768, 0] S1x1x256x256.size inb_S1x1x1024x256_S1x1x256x256_0_0_768_0).toLoadRect (View.loadsAt_vmem h_S1x1x256x256))
  have v726 : FVec F S256x256 .bf16 := shapeCast S256x256 v725 shapeCasts_S1x1x256x256_S256x256
  have v727 : FVec F S1x1x256x256 .bf16 := shapeCast S1x1x256x256 v724 shapeCasts_S256x256_S1x1x256x256
  Prog.lift (.store B.y (Rect.unit (s := S1x1x1024x256) ![0, 0, 768, 0] S1x1x256x256.size inb_S1x1x1024x256_S1x1x256x256_0_0_768_0) v727 Finset.univ (View.stores_vmem h_S1x1x256x256 (B.hy.storeExact_slice rfl _ packedbf16_S1x1x1024x256_S1x1x256x256_0_0_768_0) (fun _ => rfl)) (.inl rfl))

  pure ⟨⟩

/-- The printed rest, from the last tile of the first maximum. -/
def restK (i : grid0.Coords) (arg3 : Memref sig .tc .smem S2 .i32) (harg3 : arg3.IsWhole) (B : Bufs) (v1 : Elt F .i32) (hw1 : k0_chk1 i v1) (v20 : BitVec 32) (v507 : FVec F S1x256 .f32) (v509 : FVec F S256x128 .fp8e4m3) (v510 : Vec F S1x1x64x256 .fp8e4m3) :
    P (F := F) PUnit := do
  let v542 ← k0_part111 (F := F) i arg3 harg3 B.q B.hq B.sq B.hsq B.k B.hk B.sk B.hsk B.v B.hv B.x B.hx B.w B.hw B.y B.hy B.o B.ho B.b B.hb B.acc B.hacc B.m B.hm v1 hw1 v20 v507 v509 v510
  let x ← k0_part112 (F := F) i arg3 harg3 B.q B.hq B.sq B.hsq B.k B.hk B.sk B.hsk B.v B.hv B.x B.hx B.w B.hw B.y B.hy B.o B.ho B.b B.hb B.acc B.hacc B.m B.hm v1 v542
  outK i arg3 harg3 B x.1 x.2

/-- The printed middle, the tiles of the first maximum but the last. -/
def midK (i : grid0.Coords) (arg3 : Memref sig .tc .smem S2 .i32) (harg3 : arg3.IsWhole) (B : Bufs) (v1 : Elt F .i32) (v27 : FVec F S1x256 .f32) (v29 : FVec F S256x128 .fp8e4m3) (v30 : Vec F S1x1x64x256 .fp8e4m3)
    (K : FVec F S1x256 .f32 → FVec F S256x128 .fp8e4m3 → Vec F S1x1x64x256 .fp8e4m3 → P (F := F) PUnit) : P (F := F) PUnit := do
  let ⟨v59, v61, v62⟩ : Σ' (v59 : FVec F S1x256 .f32) (v61 : FVec F S256x128 .fp8e4m3), Vec F S1x1x64x256 .fp8e4m3 ← k0_part96 (F:=F) i arg3 harg3 B.q B.hq B.sq B.hsq B.k B.hk B.sk B.hsk B.v B.hv B.x B.hx B.w B.hw B.y B.hy B.o B.ho B.b B.hb B.acc B.hacc B.m B.hm v1 v27 v29 v30
  let ⟨v91, v93, v94⟩ : Σ' (v91 : FVec F S1x256 .f32) (v93 : FVec F S256x128 .fp8e4m3), Vec F S1x1x64x256 .fp8e4m3 ← k0_part97 (F:=F) i arg3 harg3 B.q B.hq B.sq B.hsq B.k B.hk B.sk B.hsk B.v B.hv B.x B.hx B.w B.hw B.y B.hy B.o B.ho B.b B.hb B.acc B.hacc B.m B.hm v1 v59 v61 v62
  let ⟨v123, v125, v126⟩ : Σ' (v123 : FVec F S1x256 .f32) (v125 : FVec F S256x128 .fp8e4m3), Vec F S1x1x64x256 .fp8e4m3 ← k0_part98 (F:=F) i arg3 harg3 B.q B.hq B.sq B.hsq B.k B.hk B.sk B.hsk B.v B.hv B.x B.hx B.w B.hw B.y B.hy B.o B.ho B.b B.hb B.acc B.hacc B.m B.hm v1 v91 v93 v94
  let ⟨v155, v157, v158⟩ : Σ' (v155 : FVec F S1x256 .f32) (v157 : FVec F S256x128 .fp8e4m3), Vec F S1x1x64x256 .fp8e4m3 ← k0_part99 (F:=F) i arg3 harg3 B.q B.hq B.sq B.hsq B.k B.hk B.sk B.hsk B.v B.hv B.x B.hx B.w B.hw B.y B.hy B.o B.ho B.b B.hb B.acc B.hacc B.m B.hm v1 v123 v125 v126
  let ⟨v187, v189, v190⟩ : Σ' (v187 : FVec F S1x256 .f32) (v189 : FVec F S256x128 .fp8e4m3), Vec F S1x1x64x256 .fp8e4m3 ← k0_part100 (F:=F) i arg3 harg3 B.q B.hq B.sq B.hsq B.k B.hk B.sk B.hsk B.v B.hv B.x B.hx B.w B.hw B.y B.hy B.o B.ho B.b B.hb B.acc B.hacc B.m B.hm v1 v155 v157 v158
  let ⟨v219, v221, v222⟩ : Σ' (v219 : FVec F S1x256 .f32) (v221 : FVec F S256x128 .fp8e4m3), Vec F S1x1x64x256 .fp8e4m3 ← k0_part101 (F:=F) i arg3 harg3 B.q B.hq B.sq B.hsq B.k B.hk B.sk B.hsk B.v B.hv B.x B.hx B.w B.hw B.y B.hy B.o B.ho B.b B.hb B.acc B.hacc B.m B.hm v1 v187 v189 v190
  let ⟨v251, v253, v254⟩ : Σ' (v251 : FVec F S1x256 .f32) (v253 : FVec F S256x128 .fp8e4m3), Vec F S1x1x64x256 .fp8e4m3 ← k0_part102 (F:=F) i arg3 harg3 B.q B.hq B.sq B.hsq B.k B.hk B.sk B.hsk B.v B.hv B.x B.hx B.w B.hw B.y B.hy B.o B.ho B.b B.hb B.acc B.hacc B.m B.hm v1 v219 v221 v222
  let ⟨v283, v285, v286⟩ : Σ' (v283 : FVec F S1x256 .f32) (v285 : FVec F S256x128 .fp8e4m3), Vec F S1x1x64x256 .fp8e4m3 ← k0_part103 (F:=F) i arg3 harg3 B.q B.hq B.sq B.hsq B.k B.hk B.sk B.hsk B.v B.hv B.x B.hx B.w B.hw B.y B.hy B.o B.ho B.b B.hb B.acc B.hacc B.m B.hm v1 v251 v253 v254
  let ⟨v315, v317, v318⟩ : Σ' (v315 : FVec F S1x256 .f32) (v317 : FVec F S256x128 .fp8e4m3), Vec F S1x1x64x256 .fp8e4m3 ← k0_part104 (F:=F) i arg3 harg3 B.q B.hq B.sq B.hsq B.k B.hk B.sk B.hsk B.v B.hv B.x B.hx B.w B.hw B.y B.hy B.o B.ho B.b B.hb B.acc B.hacc B.m B.hm v1 v283 v285 v286
  let ⟨v347, v349, v350⟩ : Σ' (v347 : FVec F S1x256 .f32) (v349 : FVec F S256x128 .fp8e4m3), Vec F S1x1x64x256 .fp8e4m3 ← k0_part105 (F:=F) i arg3 harg3 B.q B.hq B.sq B.hsq B.k B.hk B.sk B.hsk B.v B.hv B.x B.hx B.w B.hw B.y B.hy B.o B.ho B.b B.hb B.acc B.hacc B.m B.hm v1 v315 v317 v318
  let ⟨v379, v381, v382⟩ : Σ' (v379 : FVec F S1x256 .f32) (v381 : FVec F S256x128 .fp8e4m3), Vec F S1x1x64x256 .fp8e4m3 ← k0_part106 (F:=F) i arg3 harg3 B.q B.hq B.sq B.hsq B.k B.hk B.sk B.hsk B.v B.hv B.x B.hx B.w B.hw B.y B.hy B.o B.ho B.b B.hb B.acc B.hacc B.m B.hm v1 v347 v349 v350
  let ⟨v411, v413, v414⟩ : Σ' (v411 : FVec F S1x256 .f32) (v413 : FVec F S256x128 .fp8e4m3), Vec F S1x1x64x256 .fp8e4m3 ← k0_part107 (F:=F) i arg3 harg3 B.q B.hq B.sq B.hsq B.k B.hk B.sk B.hsk B.v B.hv B.x B.hx B.w B.hw B.y B.hy B.o B.ho B.b B.hb B.acc B.hacc B.m B.hm v1 v379 v381 v382
  let ⟨v443, v445, v446⟩ : Σ' (v443 : FVec F S1x256 .f32) (v445 : FVec F S256x128 .fp8e4m3), Vec F S1x1x64x256 .fp8e4m3 ← k0_part108 (F:=F) i arg3 harg3 B.q B.hq B.sq B.hsq B.k B.hk B.sk B.hsk B.v B.hv B.x B.hx B.w B.hw B.y B.hy B.o B.ho B.b B.hb B.acc B.hacc B.m B.hm v1 v411 v413 v414
  let ⟨v475, v477, v478⟩ : Σ' (v475 : FVec F S1x256 .f32) (v477 : FVec F S256x128 .fp8e4m3), Vec F S1x1x64x256 .fp8e4m3 ← k0_part109 (F:=F) i arg3 harg3 B.q B.hq B.sq B.hsq B.k B.hk B.sk B.hsk B.v B.hv B.x B.hx B.w B.hw B.y B.hy B.o B.ho B.b B.hb B.acc B.hacc B.m B.hm v1 v443 v445 v446
  let ⟨v507, v509, v510⟩ : Σ' (v507 : FVec F S1x256 .f32) (v509 : FVec F S256x128 .fp8e4m3), Vec F S1x1x64x256 .fp8e4m3 ← k0_part110 (F:=F) i arg3 harg3 B.q B.hq B.sq B.hsq B.k B.hk B.sk B.hsk B.v B.hv B.x B.hx B.w B.hw B.y B.hy B.o B.ho B.b B.hb B.acc B.hacc B.m B.hm v1 v475 v477 v478
  K v507 v509 v510

/-- The printed kernel is its head, middle and rest. -/
theorem kernel_parts (i : grid0.Coords) (arg3 : Memref sig .tc .smem S2 .i32) (harg3 : arg3.IsWhole) (B : Bufs) :
    cc0_row_kernel (F := F) i arg3 harg3 B.q B.hq B.sq B.hsq B.k B.hk B.sk B.hsk B.v B.hv B.x B.hx B.w B.hw B.y B.hy B.o B.ho B.b B.hb B.acc B.hacc B.m B.hm = (do
      let x ← k0_part95 (F := F) i arg3 harg3 B.q B.hq B.sq B.hsq B.k B.hk B.sk B.hsk B.v B.hv B.x B.hx B.w B.hw B.y B.hy B.o B.ho B.b B.hb B.acc B.hacc B.m B.hm
      midK i arg3 harg3 B x.1 x.2.2.2.1 x.2.2.2.2.1 x.2.2.2.2.2 fun a b c => restK i arg3 harg3 B x.1 x.2.1 x.2.2.1 a b c) := by
  chain_rfl

theorem head_eq (i : grid0.Coords) (arg3 : Memref sig .tc .smem S2 .i32) (harg3 : arg3.IsWhole) (B : Bufs) : k0_part95 (F := F) i arg3 harg3 B.q B.hq B.sq B.hsq B.k B.hk B.sk B.hsk B.v B.hv B.x B.hx B.w B.hw B.y B.hy B.o B.ho B.b B.hb B.acc B.hacc B.m B.hm = headP i arg3 B := by
  chain_rfl

theorem mid_eq (i : grid0.Coords) (arg3 : Memref sig .tc .smem S2 .i32) (harg3 : arg3.IsWhole) (B : Bufs) (v1 : Elt F .i32) (fq : FVec F S1x256 .f32) (kc : FVec F S256x128 .fp8e4m3) (qv : Vec F S1x1x64x256 .fp8e4m3)
    (K : FVec F S1x256 .f32 → FVec F S256x128 .fp8e4m3 → Vec F S1x1x64x256 .fp8e4m3 → P (F := F) PUnit) :
    midK i arg3 harg3 B v1 fq kc qv K = midP B v1 fq kc qv K := by
  chain_rfl

theorem loop_eq (i : grid0.Coords) (arg3 : Memref sig .tc .smem S2 .i32) (harg3 : arg3.IsWhole) (B : Bufs) (v1 hw1 v20 a b c) : k0_part111 (F := F) i arg3 harg3 B.q B.hq B.sq B.hsq B.k B.hk B.sk B.hsk B.v B.hv B.x B.hx B.w B.hw B.y B.hy B.o B.ho B.b B.hb B.acc B.hacc B.m B.hm v1 hw1 v20 a b c = loopP i arg3 harg3 B v1 hw1 v20 a b c := by
  chain_rfl

theorem check_eq (i : grid0.Coords) (arg3 : Memref sig .tc .smem S2 .i32) (harg3 : arg3.IsWhole) (B : Bufs) (v1 : Elt F .i32) (t0 : FVec F S1x1024 .f32) : k0_part112 (F := F) i arg3 harg3 B.q B.hq B.sq B.hsq B.k B.hk B.sk B.hsk B.v B.hv B.x B.hx B.w B.hw B.y B.hy B.o B.ho B.b B.hb B.acc B.hacc B.m B.hm v1 t0 = checkP B v1 t0 := by
  chain_rfl

theorem out_eq (i : grid0.Coords) (arg3 : Memref sig .tc .smem S2 .i32) (harg3 : arg3.IsWhole) (B : Bufs) (n0 : FVec F S64x256 .f32) (d0 : FVec F S1x256 .f32) : outK i arg3 harg3 B n0 d0 = outP B n0 d0 := by
  chain_rfl

/-- The printed row kernel runs the tiles' program. -/
theorem kernel_eq (i : grid0.Coords) (arg3 : Memref sig .tc .smem S2 .i32) (harg3 : arg3.IsWhole) (B : Bufs) :
    cc0_row_kernel (F := F) i arg3 harg3 B.q B.hq B.sq B.hsq B.k B.hk B.sk B.hsk B.v B.hv B.x B.hx B.w B.hw B.y B.hy B.o B.ho B.b B.hb B.acc B.hacc B.m B.hm
      = bodyP i arg3 harg3 B := by
  have hr : ∀ v1 hw1 v20 a b c, restK i arg3 harg3 B v1 hw1 v20 a b c = restP (F := F) i arg3 harg3 B v1 hw1 v20 a b c := by
    intro v1 hw1 v20 a b c
    simp only [restK, restP, loop_eq, check_eq, out_eq]
  rw [kernel_parts, head_eq]
  simp only [mid_eq, hr, bodyP]

end Cert.KernelIdeal.Row

end
-- ==== Proof.Body.lean ====
/-
  The body's run: each tile's program as a step on the state, the loops as iterated steps, and the whole body.
-/
module

public import proofs.«01_k».proof.Proof.Runs
public import proofs.«01_k».proof.Proof.TilesEq
public import Idealize.ShloMosaic.Lib.ValueIdxCore

@[expose] public section

set_option maxRecDepth 16384

noncomputable section

namespace Cert.KernelIdeal.Row

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F] [Named F]

/-! ## The spread scales -/

theorem spread_key (j : ℕ) (hj : j < 9216) : 128 * (j / 128) + 128 ≤ 9216 := by omega

/-- Every key's scale along 128 lanes, keys at or past `n` at zero. -/
def bFull (n : BitVec 32) (sk : Vec F S1x1x4x9216 .f32) : Vec F S4x9216x128 .f32 := fun i =>
  spreadPay n (BitVec.ofNat 32 (128 * ((i 1).val / 128)))
    (View.ld sk (rSk (i 0) (128 * ((i 1).val / 128)) (spread_key _ (i 1).isLt)))
    (ix3 0 ⟨(i 1).val % 128, Nat.mod_lt _ (by decide)⟩ (i 2))

/-- The spread scales of the first `j` keys are in place. -/
def Spread (n : BitVec 32) (sk : Vec F S1x1x4x9216 .f32) (j : ℕ) (b : Vec F S4x9216x128 .f32) : Prop :=
  ∀ i, (i 1).val < j → b i = bFull n sk i

theorem sk_congr (sk : Vec F S1x1x4x9216 .f32) (h : Fin 4) {a b : ℕ} (e : a = b) (ha : a + 128 ≤ 9216) (hb : b + 128 ≤ 9216) :
    (View.ld sk (rSk h a ha) : Vec F S1x1x1x128 .f32) = View.ld sk (rSk h b hb) := by subst e; rfl

theorem bFull_at (n : BitVec 32) (sk : Vec F S1x1x4x9216 .f32) (h : Fin 4) (st : BitVec 32) (hst : st.toNat + 128 ≤ 9216) (hd : 128 ∣ st.toNat)
    (x : S1x128x128.Idx) (i : S4x9216x128.Idx) (h0 : (i 0).val = h.val) (h1 : (i 1).val = st.toNat + (x 1).val) (h2 : (i 2).val = (x 2).val) :
    bFull n sk i = spreadPay n st (View.ld sk (rSk h st.toNat hst)) x := by
  have x1 : (x 1).val < 128 := (x 1).isLt
  have x0 : (x 0).val < 1 := (x 0).isLt
  have e : 128 * ((i 1).val / 128) = st.toNat := by omega
  have e0 : i 0 = h := Fin.ext h0
  have ex : x = ix3 0 ⟨(i 1).val % 128, Nat.mod_lt _ (by decide)⟩ (i 2) := by
    funext a
    match a with
    | ⟨0, _⟩ => exact Fin.ext (by show (x 0).val = 0; omega)
    | ⟨1, _⟩ => exact Fin.ext (by show (x 1).val = (i 1).val % 128; omega)
    | ⟨2, _⟩ => exact Fin.ext h2.symm
  unfold bFull
  rw [ex, sk_congr sk (i 0) e (spread_key _ (i 1).isLt) hst, e0, show BitVec.ofNat 32 (128 * ((i 1).val / 128)) = st by rw [e]; simp]
  rfl

/-- One head's spreading of 128 keys, as a step on the buffer. -/
def spreadStep (n : BitVec 32) (sk : Vec F S1x1x4x9216 .f32) (st : BitVec 32) (hst : st.toNat + 128 ≤ 9216)
    (ag : Vec F S4x9216x128 .f32 → Prop) (h : Fin 4) : Vec F S4x9216x128 .f32 → Prop :=
  fun b' => ∃ b, ag b ∧ b' = put b (rB128 h st.toNat hst) (spreadPay n st (View.ld sk (rSk h st.toNat hst)))

/-- Where an element of a head's 128 keys lies. -/
theorem rB128_emb (h : Fin 4) (j : ℕ) (hj : j + 128 ≤ 9216) (x : S1x128x128.Idx) :
    (((rB128 h j hj).emb x) 0).val = h.val ∧ (((rB128 h j hj).emb x) 1).val = j + (x 1).val ∧ (((rB128 h j hj).emb x) 2).val = (x 2).val := by
  have x0 : (x 0).val < 1 := (x 0).isLt
  refine ⟨(Rect.emb_apply (rB128 h j hj) x 0).trans ?_, (Rect.emb_apply (rB128 h j hj) x 1).trans ?_, (Rect.emb_apply (rB128 h j hj) x 2).trans ?_⟩
  · show h.val + 1 * (x 0).val = h.val; omega
  · show j + 1 * (x 1).val = j + (x 1).val; omega
  · show 0 + 1 * (x 2).val = (x 2).val; omega

/-- One head's store of 128 keys: what the buffer reads after it. -/
theorem put_spread (n : BitVec 32) (sk : Vec F S1x1x4x9216 .f32) (st : BitVec 32) (j : ℕ) (hj : st.toNat = j) (hst : st.toNat + 128 ≤ 9216) (hd : 128 ∣ st.toNat)
    (b : Vec F S4x9216x128 .f32) (h : Fin 4) (i : S4x9216x128.Idx) (hi : (i 1).val < j + 128) :
    put b (rB128 h st.toNat hst) (spreadPay n st (View.ld sk (rSk h st.toNat hst))) i = if (i 0).val = h.val ∧ j ≤ (i 1).val then bFull n sk i else b i := by
  subst hj
  split
  · rename_i hc
    have hx : ∃ x, (rB128 h st.toNat hst).emb x = i := by
      refine ⟨ix3 (⟨0, Nat.one_pos⟩ : Fin 1) (⟨(i 1).val - st.toNat, by omega⟩ : Fin 128) (i 2), ?_⟩
      obtain ⟨e0, e1, e2⟩ := rB128_emb h st.toNat hst (ix3 (⟨0, Nat.one_pos⟩ : Fin 1) (⟨(i 1).val - st.toNat, by omega⟩ : Fin 128) (i 2))
      have e1' : (((rB128 h st.toNat hst).emb (ix3 (⟨0, Nat.one_pos⟩ : Fin 1) (⟨(i 1).val - st.toNat, by omega⟩ : Fin 128) (i 2))) 1).val = st.toNat + ((i 1).val - st.toNat) := e1
      funext a
      match a with
      | ⟨0, _⟩ => exact Fin.ext (e0.trans hc.1.symm)
      | ⟨1, _⟩ => exact Fin.ext (e1'.trans (show st.toNat + ((i 1).val - st.toNat) = (i 1).val by omega))
      | ⟨2, _⟩ => exact Fin.ext e2
    obtain ⟨x, hx⟩ := hx
    obtain ⟨e0, e1, e2⟩ := rB128_emb h st.toNat hst x
    rw [hx] at e0 e1 e2
    rw [bFull_at n sk h st hst hd x i e0 e1 e2, ← hx]
    exact put_emb _ _ _ x
  · rename_i hc
    refine put_miss _ _ _ _ fun x hx => hc ?_
    obtain ⟨e0, e1, e2⟩ := rB128_emb h st.toNat hst x
    rw [hx] at e0 e1
    exact ⟨e0, by omega⟩

/-- After one trip of the spreading 128 more keys are in place. -/
theorem spread_step (n : BitVec 32) (sk : Vec F S1x1x4x9216 .f32) (st : BitVec 32) (j : ℕ) (hj : st.toNat = j) (hst : st.toNat + 128 ≤ 9216) (hd : 128 ∣ st.toNat)
    (b : Vec F S4x9216x128 .f32) (h : heads.foldl (spreadStep n sk st hst) (Spread n sk j) b) : Spread n sk (j + 128) b := by
  obtain ⟨b3, ⟨b2, ⟨b1, ⟨b0, hb0, rfl⟩, rfl⟩, rfl⟩, rfl⟩ := h
  intro i hi
  have i0 : (i 0).val < 4 := (i 0).isLt
  have key := fun b h => put_spread n sk st j hj hst hd b h i hi
  rw [key, key, key, key]
  have hb := hb0 i
  split
  · rfl
  rename_i c3
  split
  · rfl
  rename_i c2
  split
  · rfl
  rename_i c1
  split
  · rfl
  rename_i c0
  refine hb ?_
  dsimp only at c0 c1 c2 c3
  omega

/-! ## The tiles' steps -/

variable {c : Dev nD} {a3 : Memref sig .tc .smem S2 .i32} {B : Bufs}

/-- One tile of the first maximum, as a step on the accumulator and the maxima. -/
def firstStep (n : BitVec 32) (I : In F) (s : Vec F S4x80x1024 .f32 × Vec F S4x1024 .f32) (p : Fin 4 × Fin 4) : Vec F S4x80x1024 .f32 × Vec F S4x1024 .f32 :=
  (put s.1 (rAcc p.1 p.2) (shapeCast S1x80x256 (broadcast S80x256 (Scalar.ofBits .f32 0x00000000#32 : F .f32)) shapeCasts_S80x256_S1x80x256),
   put s.2 (rM p.1 p.2) (firstPay n p.1 (qs (View.ld I.sq (rSq p.1 p.2))) (kc256 (View.ld I.k (rK256 p.1 0 (by decide)))) (View.ld I.q (rQ p.1 p.2))
     (View.ld (bFull n I.sk) (rB256 p.1 0 (by decide)))))

/-- One tile of the main loop, as a step on the accumulator. -/
def mainStep (n st : BitVec 32) (hst : st.toNat + 1024 ≤ 9216) (I : In F) (m : Vec F S4x1024 .f32) (a : Vec F S4x80x1024 .f32) (p : Fin 4 × Fin 4) : Vec F S4x80x1024 .f32 :=
  put a (rAcc p.1 p.2) (mainPay n st p.1 (View.ld I.sq (rSq p.1 p.2)) (View.ld I.k (rK1024 p.1 st.toNat hst)) (View.ld I.q (rQ p.1 p.2))
    (View.ld (bFull n I.sk) (rB1024 p.1 st.toNat hst)) (View.ld m (rM p.1 p.2)) (View.ld a (rAcc p.1 p.2)) (View.ld I.v (rV1024 p.1 st.toNat hst)))

/-- One tile of the redo loop, as a step on the accumulator and the maxima. -/
def safeStep (n st : BitVec 32) (hst : st.toNat + 256 ≤ 9216) (I : In F) (s : Vec F S4x80x1024 .f32 × Vec F S4x1024 .f32) (p : Fin 4 × Fin 4) :
    Vec F S4x80x1024 .f32 × Vec F S4x1024 .f32 :=
  (put s.1 (rAcc p.1 p.2) (safePay n st p.1 (qs (View.ld I.sq (rSq p.1 p.2))) (kc256 (View.ld I.k (rK256 p.1 st.toNat hst))) (View.ld I.q (rQ p.1 p.2))
     (View.ld (bFull n I.sk) (rB256 p.1 st.toNat hst)) (View.ld s.2 (rM p.1 p.2)) (View.ld s.1 (rAcc p.1 p.2)) (View.ld I.v (rV256 p.1 st.toNat hst))),
   put s.2 (rM p.1 p.2) (shapeCast S1x256 (safeMax n st p.1 (qs (View.ld I.sq (rSq p.1 p.2))) (kc256 (View.ld I.k (rK256 p.1 st.toNat hst))) (View.ld I.q (rQ p.1 p.2))
     (View.ld (bFull n I.sk) (rB256 p.1 st.toNat hst)) (View.ld s.2 (rM p.1 p.2))) shapeCasts_S1x256_S1x256))

/-- The whole output-weights rectangle. -/
abbrev rW : Rect S256x256 := Rect.unit (s := S256x256) ![0, 0] S256x256.size inb_S256x256_S256x256_0_0

/-- A block of 256 query columns' projected attention. -/
def proj (I : In F) (a : Vec F S4x80x1024 .f32) (t : Fin 4) : FVec F S256x256 .f32 :=
  projPay (ratio (numC (View.ld a (rNum h0 t))) (denC (View.ld a (rDen h0 t)))) (ratio (numC (View.ld a (rNum h1 t))) (denC (View.ld a (rDen h1 t))))
    (ratio (numC (View.ld a (rNum h2 t))) (denC (View.ld a (rDen h2 t)))) (ratio (numC (View.ld a (rNum h3 t))) (denC (View.ld a (rDen h3 t)))) (View.ld I.w rW)

/-- One block's output, as a step on the two results. -/
def outStep (I : In F) (a : Vec F S4x80x1024 .f32) (s : Vec F S1x1x1024x256 .bf16 × Vec F S1x1x1024x256 .bf16) (t : Fin 4) :
    Vec F S1x1x1024x256 .bf16 × Vec F S1x1x1024x256 .bf16 :=
  (put s.1 (rOut t) (resPay (proj I a t) (View.ld I.x (rOut t))), put s.2 (rOut t) (outPay (proj I a t)))

variable {I : In F}

theorem spread_tile (n st : BitVec 32) (hst : st.toNat + 128 ≤ 9216) (s : St F) (h : Fin 4) (ag : Vec F S4x9216x128 .f32 → Prop) :
    Runs c a3 B I (spreadTile B n st hst h) { s with ag := ag } ⟨⟩ { s with ag := spreadStep n I.sk st hst ag h } := by
  unfold spreadTile
  refine Runs.bind (Runs.load_sk _) ?_
  refine Runs.bind_b fun bv => ?_
  exact Runs.store_b _ _ fun b hb => ⟨b, hb, rfl⟩

/-- The spread scales of a rectangle of keys all in place. -/
theorem ld_spread {n : BitVec 32} {sk : Vec F S1x1x4x9216 .f32} {j : ℕ} {b : Vec F S4x9216x128 .f32} (h : Spread n sk j b) (r : Rect S4x9216x128)
    (hr : r.off 1 + r.stride 1 * (r.shape.size 1 - 1) < j) : (View.ld b r : r.shape.Idx → Elt F .f32) = View.ld (bFull n sk) r := by
  funext x
  refine h _ ?_
  rw [show ((r.idx x) 1).val = r.off 1 + r.stride 1 * (x 1).val from rfl]
  have hx : (x 1).val < r.shape.size 1 := (x 1).isLt
  have := Nat.mul_le_mul_left (r.stride 1) (show (x 1).val ≤ r.shape.size 1 - 1 by omega)
  omega

abbrev AM (F : FTy → Type) : Type := Vec F S4x80x1024 .f32 × Vec F S4x1024 .f32
abbrev YO (F : FTy → Type) : Type := Vec F S1x1x1024x256 .bf16 × Vec F S1x1x1024x256 .bf16

theorem first_tail (n : BitVec 32) (p : Fin 4 × Fin 4) (s : St F) {j : ℕ} (hj : 256 ≤ j) (hs : s.ag = Spread n I.sk j) :
    Runs c a3 B I (firstTail B n p (qs (View.ld I.sq (rSq p.1 p.2))) (kc256 (View.ld I.k (rK256 p.1 0 (by decide)))) (View.ld I.q (rQ p.1 p.2)))
      s ⟨⟩ { s with acc := (firstStep n I (s.acc, s.m) p).1, m := (firstStep n I (s.acc, s.m) p).2 } := by
  unfold firstTail
  dsimp only [firstStep]
  refine Runs.bind (Runs.load_b _ fun b hb => ld_spread (by rw [hs] at hb; exact hb) _ (by show 0 + 1 * 255 < j; omega)) ?_
  refine Runs.bind (Runs.load_m _) ?_
  refine Runs.bind (Runs.store_m _) ?_
  refine Runs.bind (Runs.load_acc _) ?_
  exact Runs.store_acc _

theorem first_tile (n : BitVec 32) (p : Fin 4 × Fin 4) (s : St F) {j : ℕ} (hj : 256 ≤ j) (hs : s.ag = Spread n I.sk j) :
    Runs c a3 B I (firstTile B n p) s ⟨⟩ { s with acc := (firstStep n I (s.acc, s.m) p).1, m := (firstStep n I (s.acc, s.m) p).2 } := by
  unfold firstTile
  refine Runs.bind (Runs.load_sq _) ?_
  refine Runs.bind (Runs.load_k _) ?_
  refine Runs.bind (Runs.load_q _) ?_
  exact first_tail n p s hj hs

theorem main_tile (n st : BitVec 32) (hst : st.toNat + 1024 ≤ 9216) (p : Fin 4 × Fin 4) (s : St F) {j : ℕ} (hj : st.toNat + 1024 ≤ j) (hs : s.ag = Spread n I.sk j) :
    Runs c a3 B I (mainTile B n st hst p) s ⟨⟩ { s with acc := mainStep n st hst I s.m s.acc p } := by
  unfold mainTile
  refine Runs.bind (Runs.load_sq _) ?_
  refine Runs.bind (Runs.load_k _) ?_
  refine Runs.bind (Runs.load_q _) ?_
  refine Runs.bind (Runs.load_b _ fun b hb => ld_spread (by rw [hs] at hb; exact hb) _ (by show st.toNat + 1 * 1023 < j; omega)) ?_
  refine Runs.bind (Runs.load_m _) ?_
  refine Runs.bind (Runs.load_acc _) ?_
  refine Runs.bind (Runs.load_v _) ?_
  refine Runs.bind (Runs.load_acc _) ?_
  exact Runs.store_acc _

theorem safe_tile (n st : BitVec 32) (hst : st.toNat + 256 ≤ 9216) (p : Fin 4 × Fin 4) (s : St F) {j : ℕ} (hj : st.toNat + 256 ≤ j) (hs : s.ag = Spread n I.sk j) :
    Runs c a3 B I (safeTile B n st hst p) s ⟨⟩ { s with acc := (safeStep n st hst I (s.acc, s.m) p).1, m := (safeStep n st hst I (s.acc, s.m) p).2 } := by
  unfold safeTile
  dsimp only [safeStep]
  refine Runs.bind (Runs.load_sq _) ?_
  refine Runs.bind (Runs.load_k _) ?_
  refine Runs.bind (Runs.load_q _) ?_
  refine Runs.bind (Runs.load_b _ fun b hb => ld_spread (by rw [hs] at hb; exact hb) _ (by show st.toNat + 1 * 255 < j; omega)) ?_
  refine Runs.bind (Runs.load_m _) ?_
  refine Runs.bind (Runs.load_m _) ?_
  refine Runs.bind (Runs.store_m _) ?_
  refine Runs.bind (Runs.load_acc _) ?_
  refine Runs.bind (Runs.load_v _) ?_
  refine Runs.bind (Runs.load_acc _) ?_
  exact Runs.store_acc _

set_option maxHeartbeats 2000000 in
theorem out_tail (t : Fin 4) (s : St F) :
    Runs c a3 B I (outTail B t (numC (View.ld s.acc (rNum h0 t))) (denC (View.ld s.acc (rDen h0 t)))) s ⟨⟩
      { s with y := (outStep I s.acc (s.y, s.o) t).1, o := (outStep I s.acc (s.y, s.o) t).2 } := by
  unfold outTail
  dsimp only [outStep, proj]
  refine Runs.bind (Runs.load_acc _) ?_
  refine Runs.bind (Runs.load_acc _) ?_
  refine Runs.bind (Runs.load_acc _) ?_
  refine Runs.bind (Runs.load_acc _) ?_
  refine Runs.bind (Runs.load_acc _) ?_
  refine Runs.bind (Runs.load_acc _) ?_
  refine Runs.bind (Runs.load_w _) ?_
  generalize projPay (F := F) _ _ _ _ _ = A
  refine Runs.bind (Runs.load_o _) ?_
  refine Runs.bind (Runs.store_o _) ?_
  refine Runs.bind (Runs.load_x _) ?_
  refine Runs.bind (Runs.load_y _) ?_
  exact Runs.store_y _

theorem out_tile (t : Fin 4) (s : St F) :
    Runs c a3 B I (outTile B t) s ⟨⟩ { s with y := (outStep I s.acc (s.y, s.o) t).1, o := (outStep I s.acc (s.y, s.o) t).2 } := by
  unfold outTile
  refine Runs.bind (Runs.load_acc _) ?_
  refine Runs.bind (Runs.load_acc _) ?_
  exact out_tail t s

end Cert.KernelIdeal.Row
end
-- ==== Proof.Whole.lean ====
/-
  The body whole: the loops as iterated steps, the branches, and what the two results' buffers read after the body.
-/
module

public import proofs.«01_k».proof.Proof.Body

@[expose] public section

set_option maxRecDepth 16384

noncomputable section

namespace Cert.KernelIdeal.Row

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F] [Named F]

/-! ## The steps of whole trips -/

/-- An accumulator and maxima of zeros; two results of zeros. -/
def am0 : AM F := (fun _ => Scalar.ofBits .f32 0x00000000#32, fun _ => Scalar.ofBits .f32 0x00000000#32)
def yo0 : YO F := (fun _ => Scalar.ofBits .bf16 0x0000#16, fun _ => Scalar.ofBits .bf16 0x0000#16)

/-- The first maximum: the accumulator at zero, the maxima at the first 256 keys'. -/
def firstAM (n : BitVec 32) (I : In F) : AM F := tiles.foldl (firstStep n I) am0

/-- Trip `k` of the main loop. -/
def mainTrip (n : BitVec 32) (I : In F) (m : Vec F S4x1024 .f32) (k : ℕ) (a : Vec F S4x80x1024 .f32) : Vec F S4x80x1024 .f32 :=
  if h : (stw 1024#32 0#32 k).toNat + 1024 ≤ 9216 then tiles.foldl (mainStep n (stw 1024#32 0#32 k) h I m) a else a

/-- The accumulator after `k` trips of the main loop. -/
def mainA (n : BitVec 32) (I : In F) (m : Vec F S4x1024 .f32) (a : Vec F S4x80x1024 .f32) : ℕ → Vec F S4x80x1024 .f32
  | 0 => a
  | k + 1 => mainTrip n I m k (mainA n I m a k)

/-- Trip `k` of the redo loop. -/
def safeTrip (n : BitVec 32) (I : In F) (k : ℕ) (s : AM F) : AM F :=
  if h : (stw 256#32 0#32 k).toNat + 256 ≤ 9216 then tiles.foldl (safeStep n (stw 256#32 0#32 k) h I) s else s

/-- The accumulator and the maxima after `k` trips of the redo loop. -/
def safeA (n : BitVec 32) (I : In F) (s : AM F) : ℕ → AM F
  | 0 => s
  | k + 1 => safeTrip n I k (safeA n I s k)

/-- The rectangles of the check: a head's totals, all heads' rows, and everything. -/
abbrev rT0 : Rect S4x80x1024 := Rect.unit (s := S4x80x1024) ![0, 64, 0] S1x1x1024.size inb_S4x80x1024_S1x1x1024_0_64_0
abbrev rT1 : Rect S4x80x1024 := Rect.unit (s := S4x80x1024) ![1, 64, 0] S1x1x1024.size inb_S4x80x1024_S1x1x1024_1_64_0
abbrev rT2 : Rect S4x80x1024 := Rect.unit (s := S4x80x1024) ![2, 64, 0] S1x1x1024.size inb_S4x80x1024_S1x1x1024_2_64_0
abbrev rT3 : Rect S4x80x1024 := Rect.unit (s := S4x80x1024) ![3, 64, 0] S1x1x1024.size inb_S4x80x1024_S1x1x1024_3_64_0
abbrev rNs : Rect S4x80x1024 := Rect.unit (s := S4x80x1024) ![0, 0, 0] S4x64x1024.size inb_S4x80x1024_S4x64x1024_0_0_0
abbrev rA : Rect S4x80x1024 := Rect.unit (s := S4x80x1024) ![0, 0, 0] S4x80x1024.size inb_S4x80x1024_S4x80x1024_0_0_0
abbrev rMA : Rect S4x1024 := Rect.unit (s := S4x1024) ![0, 0] S4x1024.size inb_S4x1024_S4x1024_0_0

/-- The kernel's test of an accumulator. -/
def bad (a : Vec F S4x80x1024 .f32) : BitVec 1 :=
  badOf (shapeCast S1x1024 (View.ld a rT0) shapeCasts_S1x1x1024_S1x1024) (View.ld a rT1) (View.ld a rT2) (View.ld a rT3) (View.ld a rNs)

/-- Where the redo loop starts: everything at zero, the maxima at minus infinity. -/
def resetAM (s : AM F) : AM F :=
  (put s.1 rA (shapeCast S4x80x1024 (broadcast S4x80x1024 (Scalar.ofBits .f32 0x00000000#32 : F .f32)) shapeCasts_S4x80x1024_S4x80x1024),
   put s.2 rMA (shapeCast S4x1024 (broadcast S4x1024 (Scalar.ofBits .f32 0xFF800000#32 : F .f32)) shapeCasts_S4x1024_S4x1024))

/-- The check and the redo loop, as a step. -/
def checkAM (n : BitVec 32) (I : In F) (s : AM F) : AM F :=
  if k0_cond2 (bad s.1) = 1#1 then safeA n I (resetAM s) (nc n) else s

/-- The accumulator and the maxima the body ends with. -/
def lastAM (n : BitVec 32) (I : In F) : AM F :=
  checkAM n I (mainA n I (firstAM n I).2 (firstAM n I).1 (nb n), (firstAM n I).2)

/-- The two results of the body. -/
def results (n : BitVec 32) (I : In F) : YO F := heads.foldl (outStep I (lastAM n I).1) yo0

/-! ## What covering steps forget -/

theorem put_congr {s : Shape} {e : EltTy} {X Y : s.Idx → Elt F e} (r : Rect s) (w : r.shape.Idx → Elt F e) (i : s.Idx) (h : X i = Y i ∨ ∃ x, r.emb x = i) :
    put X r w i = put Y r w i := by
  by_cases hx : ∃ x, r.emb x = i
  · obtain ⟨x, rfl⟩ := hx; rw [put_emb, put_emb]
  · rw [put_miss _ _ _ _ fun x hx' => hx ⟨x, hx'⟩, put_miss _ _ _ _ fun x hx' => hx ⟨x, hx'⟩]
    exact h.resolve_right hx

/-- Stores that do not read what they overwrite, over rectangles that cover, leave nothing of what was there. -/
theorem foldl_put {ι : Type} {s : Shape} {e : EltTy} (r : ι → Rect s) (w : (p : ι) → (r p).shape.Idx → Elt F e) (l : List ι) (i : s.Idx) :
    ∀ (X Y : s.Idx → Elt F e), (X i = Y i ∨ ∃ p ∈ l, ∃ x, (r p).emb x = i) →
      l.foldl (fun X p => put X (r p) (w p)) X i = l.foldl (fun X p => put X (r p) (w p)) Y i := by
  induction l with
  | nil => intro X Y h; exact h.resolve_right (by simp)
  | cons p l ih =>
    intro X Y h
    refine ih _ _ ?_
    by_cases hx : ∃ x, (r p).emb x = i
    · exact .inl (put_congr _ _ _ (.inr hx))
    · rcases h with h | ⟨p', hp', x, hx'⟩
      · exact .inl (put_congr _ _ _ (.inl h))
      · rcases List.mem_cons.1 hp' with rfl | hp'
        · exact absurd ⟨x, hx'⟩ hx
        · exact .inr ⟨p', hp', x, hx'⟩

theorem foldl_fst {ι α β : Type} (f : ι → α → α) (g : ι → β → β) (l : List ι) : ∀ (s : α × β),
    l.foldl (fun s p => (f p s.1, g p s.2)) s = (l.foldl (fun a p => f p a) s.1, l.foldl (fun b p => g p b) s.2) := by
  induction l with
  | nil => intro s; rfl
  | cons p l ih => intro s; exact ih _

theorem mem_tiles (h t : Fin 4) : (h, t) ∈ tiles := by revert h t; decide
theorem mem_heads (t : Fin 4) : t ∈ heads := by revert t; decide

theorem cover_acc (i : S4x80x1024.Idx) : ∃ p ∈ tiles, ∃ x, (rAcc p.1 p.2).emb x = i := by
  have i0 : (i 0).val < 4 := (i 0).isLt
  have i1 : (i 1).val < 80 := (i 1).isLt
  have i2 : (i 2).val < 1024 := (i 2).isLt
  refine ⟨(⟨(i 0).val, i0⟩, ⟨(i 2).val / 256, by omega⟩), mem_tiles _ _, ix3 (⟨0, Nat.one_pos⟩ : Fin 1) (⟨(i 1).val, i1⟩ : Fin 80) (⟨(i 2).val % 256, by omega⟩ : Fin 256), ?_⟩
  funext a
  match a with
  | ⟨0, _⟩ => exact Fin.ext (show (i 0).val + 1 * 0 = (i 0).val by omega)
  | ⟨1, _⟩ => exact Fin.ext (show 0 + 1 * (i 1).val = (i 1).val by omega)
  | ⟨2, _⟩ => exact Fin.ext (show 256 * ((i 2).val / 256) + 1 * ((i 2).val % 256) = (i 2).val by omega)

theorem cover_m (i : S4x1024.Idx) : ∃ p ∈ tiles, ∃ x, (rM p.1 p.2).emb x = i := by
  have i0 : (i 0).val < 4 := (i 0).isLt
  have i1 : (i 1).val < 1024 := (i 1).isLt
  refine ⟨(⟨(i 0).val, i0⟩, ⟨(i 1).val / 256, by omega⟩), mem_tiles _ _, ix2 (⟨0, Nat.one_pos⟩ : Fin 1) (⟨(i 1).val % 256, by omega⟩ : Fin 256), ?_⟩
  funext a
  match a with
  | ⟨0, _⟩ => exact Fin.ext (show (i 0).val + 1 * 0 = (i 0).val by omega)
  | ⟨1, _⟩ => exact Fin.ext (show 256 * ((i 1).val / 256) + 1 * ((i 1).val % 256) = (i 1).val by omega)

theorem cover_out (i : S1x1x1024x256.Idx) : ∃ t ∈ heads, ∃ x, (rOut t).emb x = i := by
  have i0 : (i 0).val < 1 := (i 0).isLt
  have i1 : (i 1).val < 1 := (i 1).isLt
  have i2 : (i 2).val < 1024 := (i 2).isLt
  have i3 : (i 3).val < 256 := (i 3).isLt
  refine ⟨⟨(i 2).val / 256, by omega⟩, mem_heads _, ix4 (⟨0, Nat.one_pos⟩ : Fin 1) (⟨0, Nat.one_pos⟩ : Fin 1) (⟨(i 2).val % 256, by omega⟩ : Fin 256) (⟨(i 3).val, i3⟩ : Fin 256), ?_⟩
  funext a
  match a with
  | ⟨0, _⟩ => exact Fin.ext (show 0 + 1 * 0 = (i 0).val by omega)
  | ⟨1, _⟩ => exact Fin.ext (show 0 + 1 * 0 = (i 1).val by omega)
  | ⟨2, _⟩ => exact Fin.ext (show 256 * ((i 2).val / 256) + 1 * ((i 2).val % 256) = (i 2).val by omega)
  | ⟨3, _⟩ => exact Fin.ext (show 0 + 1 * (i 3).val = (i 3).val by omega)

/-- The first maximum leaves nothing of what the buffers held. -/
theorem first_forget (n : BitVec 32) (I : In F) (s : AM F) : tiles.foldl (firstStep n I) s = firstAM n I := by
  have e := fun s : AM F => foldl_fst (ι := Fin 4 × Fin 4) (α := Vec F S4x80x1024 .f32) (β := Vec F S4x1024 .f32)
    (fun p a => put a (rAcc p.1 p.2) (shapeCast S1x80x256 (broadcast S80x256 (Scalar.ofBits .f32 0x00000000#32 : F .f32)) shapeCasts_S80x256_S1x80x256))
    (fun p m => put m (rM p.1 p.2) (firstPay n p.1 (qs (View.ld I.sq (rSq p.1 p.2))) (kc256 (View.ld I.k (rK256 p.1 0 (by decide)))) (View.ld I.q (rQ p.1 p.2))
     (View.ld (bFull n I.sk) (rB256 p.1 0 (by decide))))) tiles s
  refine (e s).trans (Eq.trans ?_ (e am0).symm)
  refine Prod.ext ?_ ?_
  · funext i; exact foldl_put _ _ _ i _ _ (.inr (cover_acc i))
  · funext i; exact foldl_put _ _ _ i _ _ (.inr (cover_m i))

/-- The outputs leave nothing of what the buffers held. -/
theorem out_forget (I : In F) (a : Vec F S4x80x1024 .f32) (s : YO F) : heads.foldl (outStep I a) s = heads.foldl (outStep I a) yo0 := by
  have e := fun s : YO F => foldl_fst (ι := Fin 4) (α := Vec F S1x1x1024x256 .bf16) (β := Vec F S1x1x1024x256 .bf16)
    (fun t y => put y (rOut t) (resPay (proj I a t) (View.ld I.x (rOut t)))) (fun t o => put o (rOut t) (outPay (proj I a t))) heads s
  refine (e s).trans (Eq.trans ?_ (e yo0).symm)
  refine Prod.ext ?_ ?_
  · funext i; exact foldl_put _ _ _ i _ _ (.inr (cover_out i))
  · funext i; exact foldl_put _ _ _ i _ _ (.inr (cover_out i))

/-! ## The body's parts -/

variable {c : Dev nD} {a3 : Memref sig .tc .smem S2 .i32} {B : Bufs} {I : In F}

/-- The word of the table at a grid point. -/
def wd (i : grid0.Coords) (n : Vec F S2 .i32) : BitVec 32 := View.ld n (Rect.unit (s := S2) (k0_off1 i) S1.size (k0_off1_inb i)) (Shape.Idx.first (numel1_S1.symm ▸ Nat.one_pos))

/-- The spread scales the body leaves. -/
abbrev G (n : BitVec 32) (sk : Vec F S1x1x4x9216 .f32) : Vec F S4x9216x128 .f32 → Prop := Spread n sk (1024 * nb n)

theorem spread_tiles (n st : BitVec 32) (hst : st.toNat + 128 ≤ 9216) (s : St F) (ag : Vec F S4x9216x128 .f32 → Prop) :
    Runs c a3 B I (seqL (spreadTile B n st hst) heads) { s with ag := ag } ⟨⟩ { s with ag := heads.foldl (spreadStep n I.sk st hst) ag } :=
  Runs.seqL (fun ag => { s with ag := ag }) _ (spreadStep n I.sk st hst) (fun h ag => spread_tile n st hst s h ag) heads ag

theorem spread_trip {n : BitVec 32} (st : BitVec 32) (j : ℕ) (hj : st.toNat = j) (hst : st.toNat + 128 ≤ 9216) (hd : 128 ∣ st.toNat) (s : St F) :
    Runs c a3 B I (seqL (spreadTile B n st hst) heads) { s with ag := Spread n I.sk j } ⟨⟩ { s with ag := Spread n I.sk (j + 128) } :=
  Runs.weaken (spread_tiles n st hst s _) _ fun b hb => spread_step n I.sk st j hj hst hd b hb

end Cert.KernelIdeal.Row
end
-- ==== Proof.BodyRun.lean ====
/-
  The body's run, from any contents of the results, the accumulator and the maxima.
-/
module

public import proofs.«01_k».proof.Proof.Whole

@[expose] public section

set_option maxRecDepth 16384

noncomputable section

namespace Cert.KernelIdeal.Row

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F] [Named F]
variable {c : Dev nD} {a3 : Memref sig .tc .smem S2 .i32} {B : Bufs} {I : In F}

/-- A counted loop of `m` trips, from a state at each trip. -/
theorem Runs.loopN {l : Scf.Loop 32} {hok : l.OK} {body : Fin l.trips → Unit → P (F := F) Unit} (S : ℕ → St F) (m : ℕ) (hm : l.trips = m)
    (hb : ∀ t : Fin l.trips, Runs c a3 B I (body t ⟨⟩) (S t.val) ⟨⟩ (S (t.val + 1))) :
    Runs c a3 B I (Scf.Loop.for l hok ⟨⟩ body) (S 0) ⟨⟩ (S m) := by subst hm; exact Runs.loop S hb

/-- Less may be known of the spread scales at the start, too. -/
theorem Runs.pre {α : Type} {p : P (F := F) α} {s s' : St F} {a : α} (ag' : Vec F S4x9216x128 .f32 → Prop) (hag : ∀ b, s.ag b → ag' b)
    (h : Runs c a3 B I p { s with ag := ag' } a s') : Runs c a3 B I p s a s' :=
  Runs.bind (p := pure ()) (f := fun _ => p) (Runs.weaken (Runs.ret () s) ag' hag) h

theorem stw_dvd (k : ℕ) (h : k < 72) : 128 ∣ (stw 128#32 0#32 k).toNat := ⟨k, by rw [stw_toNat _ _ (by show k * 128 < 2 ^ 32; omega)]; show k * 128 = 128 * k; omega⟩

theorem head_run (i : grid0.Coords) {n : BitVec 32} (hN : InRange n) (hn : wd i I.n = n) (s : St F) (hag : k0_cond1 i ≠ 1#1 → ∀ b, s.ag b → G n I.sk b) :
    Runs c a3 B I (headP i a3 B) s ⟨n, chk1 i hN, nblk n, qs (View.ld I.sq (rSq h0 h0)), kc256 (View.ld I.k (rK256 h0 0 (by decide))), View.ld I.q (rQ h0 h0)⟩
      { s with ag := G n I.sk } := by
  subst hn
  unfold headP
  refine Runs.bind (Runs.word _) ?_
  change Runs c a3 B I (bind _ _) _ _ _
  refine Runs.bind (Runs.assume (chk1 i hN) _) ?_
  dsimp only
  have tail : Runs c a3 B I (do
      let sqv ← Prog.lift (.load B.sq (rSq h0 h0).toLoadRect (View.loadsAt_vmem h_S1x1x1x256))
      let kv ← Prog.lift (.load B.k (rK256 h0 0 (by decide)).toLoadRect (View.loadsAt_vmem h_S1x1x256x128))
      let qv ← Prog.lift (.load B.q (rQ h0 h0).toLoadRect (View.loadsAt_vmem h_S1x1x64x256))
      (pure ⟨wd i I.n, chk1 i hN, nblk (wd i I.n), qs sqv, kc256 kv, qv⟩ :
        P (F := F) (Σ' (v1 : Elt F .i32) (_ : k0_chk1 i v1) (_ : BitVec 32) (_ : FVec F S1x256 .f32) (_ : FVec F S256x128 .fp8e4m3), Vec F S1x1x64x256 .fp8e4m3)))
      { s with ag := G (wd i I.n) I.sk } ⟨wd i I.n, chk1 i hN, nblk (wd i I.n), qs (View.ld I.sq (rSq h0 h0)), kc256 (View.ld I.k (rK256 h0 0 (by decide))), View.ld I.q (rQ h0 h0)⟩
      { s with ag := G (wd i I.n) I.sk } := by
    refine Runs.bind (Runs.load_sq _) ?_
    refine Runs.bind (Runs.load_k _) ?_
    refine Runs.bind (Runs.load_q _) ?_
    exact Runs.ret _ _
  split
  · rename_i hc
    refine Runs.pre (Spread (wd i I.n) I.sk (0 * 128)) (fun b _ i hi => absurd hi (by omega)) ?_
    refine Runs.bind (Runs.loopN (fun k => { s with ag := Spread (wd i I.n) I.sk (k * 128) }) _ hN.t1 fun t => ?_) ?_
    · have ht := hN.lt1 t
      have := spread_trip (c := c) (a3 := a3) (B := B) (I := I) (n := wd i I.n) (stw 128#32 (k0_t1_loop (wd i I.n)).lb t) (t.val * 128) (stw1 _ ht)
        (by rw [stw1 _ ht]; omega) (by rw [stw1 _ ht]; omega) s
      rw [show (t.val + 1) * 128 = t.val * 128 + 128 by omega]
      exact this
    refine Runs.bind (Runs.loop0 hN.t2 _) ?_
    rw [show 8 * nb (wd i I.n) * 128 = 1024 * nb (wd i I.n) by omega]
    exact tail
  · rename_i hc
    exact Runs.pre _ (hag hc) tail

theorem stw3_lt {n : BitVec 32} (hN : InRange n) (t : Fin (k0_t3_loop n).trips) : (stw 1024#32 (k0_t3_loop n).lb t).toNat + 1024 ≤ 1024 * nb n := by
  rw [stw3 _ (hN.lt3 t)]; have := t.isLt; have := hN.t3; omega
theorem stw5_lt {n : BitVec 32} (hN : InRange n) (t : Fin (k0_t5_loop n).trips) : (stw 256#32 (k0_t5_loop n).lb t).toNat + 256 ≤ 1024 * nb n := by
  rw [stw5 _ (hN.lt5 t)]; have := t.isLt; have := hN.t5; unfold nc nb at *; omega
theorem nb256 {n : BitVec 32} (hN : InRange n) : 256 ≤ 1024 * nb n := by have := hN.nb_pos; omega

theorem main_tiles {n : BitVec 32} (st : BitVec 32) (hst : st.toNat + 1024 ≤ 9216) (hle : st.toNat + 1024 ≤ 1024 * nb n) (s : St F) (hs : s.ag = G n I.sk)
    (a : Vec F S4x80x1024 .f32) :
    Runs c a3 B I (seqL (mainTile B n st hst) tiles) { s with acc := a } ⟨⟩ { s with acc := tiles.foldl (mainStep n st hst I s.m) a } :=
  Runs.seqL (fun a => { s with acc := a }) _ (mainStep n st hst I s.m) (fun p a => main_tile n st hst p { s with acc := a } hle hs) tiles a

theorem safe_tiles {n : BitVec 32} (st : BitVec 32) (hst : st.toNat + 256 ≤ 9216) (hle : st.toNat + 256 ≤ 1024 * nb n) (s : St F) (hs : s.ag = G n I.sk) (x : AM F) :
    Runs c a3 B I (seqL (safeTile B n st hst) tiles) { s with acc := x.1, m := x.2 } ⟨⟩
      { s with acc := (tiles.foldl (safeStep n st hst I) x).1, m := (tiles.foldl (safeStep n st hst I) x).2 } :=
  Runs.seqL (fun x : AM F => { s with acc := x.1, m := x.2 }) _ (safeStep n st hst I) (fun p x => safe_tile n st hst p { s with acc := x.1, m := x.2 } hle hs) tiles x

theorem first_tiles {n : BitVec 32} (hN : InRange n) (s : St F) (hs : s.ag = G n I.sk) (l : List (Fin 4 × Fin 4)) (x : AM F) :
    Runs c a3 B I (seqL (firstTile B n) l) { s with acc := x.1, m := x.2 } ⟨⟩
      { s with acc := (l.foldl (firstStep n I) x).1, m := (l.foldl (firstStep n I) x).2 } :=
  Runs.seqL (fun x : AM F => { s with acc := x.1, m := x.2 }) _ (firstStep n I) (fun p x => first_tile n p { s with acc := x.1, m := x.2 } (nb256 hN) hs) l x

theorem out_tiles (s : St F) (l : List (Fin 4)) (x : YO F) :
    Runs c a3 B I (seqL (outTile B) l) { s with y := x.1, o := x.2 } ⟨⟩
      { s with y := (l.foldl (outStep I s.acc) x).1, o := (l.foldl (outStep I s.acc) x).2 } :=
  Runs.seqL (fun x : YO F => { s with y := x.1, o := x.2 }) _ (outStep I s.acc) (fun t x => out_tile t { s with y := x.1, o := x.2 }) l x

theorem loop_run (i : grid0.Coords) (ha3 : a3.IsWhole) {n : BitVec 32} (hN : InRange n) (s : St F) (hs : s.ag = G n I.sk) (x : AM F) (hx : x = (s.acc, s.m)) :
    Runs c a3 B I (loopP i a3 ha3 B n (chk1 i hN) (nblk n) (qs (View.ld I.sq (rSq h3 h3))) (kc256 (View.ld I.k (rK256 h3 0 (by decide)))) (View.ld I.q (rQ h3 h3)))
      s (shapeCast S1x1024 (View.ld (mainA n I (firstStep n I x (h3, h3)).2 (firstStep n I x (h3, h3)).1 (nb n)) rT0) shapeCasts_S1x1x1024_S1x1024)
      { s with acc := mainA n I (firstStep n I x (h3, h3)).2 (firstStep n I x (h3, h3)).1 (nb n), m := (firstStep n I x (h3, h3)).2 } := by
  subst hx
  unfold loopP
  refine Runs.bind (first_tail n (h3, h3) s (nb256 hN) hs) ?_
  generalize firstStep n I (s.acc, s.m) (h3, h3) = f
  refine Runs.bind (Runs.loopN (fun k => { s with acc := mainA n I f.2 f.1 k, m := f.2 }) _ hN.t3 fun t => ?_) ?_
  · rw [main_eq]
    have hst : (stw 1024#32 (k0_t3_loop n).lb t).toNat + 1024 ≤ 9216 := by have := stw3_lt hN t; have := hN.nb_le; omega
    have := main_tiles (c := c) (a3 := a3) (B := B) (I := I) (stw 1024#32 (k0_t3_loop n).lb t) hst (stw3_lt hN t) { s with m := f.2 } hs (mainA n I f.2 f.1 t.val)
    have e : mainA n I f.2 f.1 (t.val + 1) = tiles.foldl (mainStep n (stw 1024#32 (k0_t3_loop n).lb t) hst I f.2) (mainA n I f.2 f.1 t.val) := dif_pos hst
    rw [e]
    exact this
  refine Runs.bind (Runs.loop0 hN.t4 _) ?_
  refine Runs.bind (Runs.load_acc _) ?_
  exact Runs.ret _ _

theorem check_run {n : BitVec 32} (hN : InRange n) (s : St F) (hs : s.ag = G n I.sk) (x : AM F) (hx : x = (s.acc, s.m)) :
    Runs c a3 B I (checkP B n (shapeCast S1x1024 (View.ld s.acc rT0) shapeCasts_S1x1x1024_S1x1024)) s
      ⟨numC (View.ld (checkAM n I x).1 (rNum h0 h0)), denC (View.ld (checkAM n I x).1 (rDen h0 h0))⟩
      { s with acc := (checkAM n I x).1, m := (checkAM n I x).2 } := by
  subst hx
  unfold checkP
  refine Runs.bind (Runs.load_acc _) ?_
  refine Runs.bind (Runs.load_acc _) ?_
  refine Runs.bind (Runs.load_acc _) ?_
  refine Runs.bind (Runs.load_acc _) ?_
  refine Runs.bind (Runs.assume (chk2 _ hN) _) ?_
  have tail : ∀ x : AM F, Runs c a3 B I (do
      let n0 ← Prog.lift (.load B.acc (rNum h0 h0).toLoadRect (View.loadsAt_vmem h_S1x64x256))
      let d0 ← Prog.lift (.load B.acc (rDen h0 h0).toLoadRect (View.loadsAt_vmem h_S1x1x256))
      (pure ⟨numC n0, denC d0⟩ : P (F := F) (Σ' (_ : FVec F S64x256 .f32), FVec F S1x256 .f32)))
      { s with acc := x.1, m := x.2 } ⟨numC (View.ld x.1 (rNum h0 h0)), denC (View.ld x.1 (rDen h0 h0))⟩ { s with acc := x.1, m := x.2 } := fun x => by
    refine Runs.bind (Runs.load_acc _) ?_
    refine Runs.bind (Runs.load_acc _) ?_
    exact Runs.ret _ _
  dsimp only
  split
  · rename_i hc
    have e : checkAM n I (s.acc, s.m) = safeA n I (resetAM (s.acc, s.m)) (nc n) := if_pos hc
    rw [e]
    refine Runs.bind (Runs.load_m _) ?_
    refine Runs.bind (Runs.store_m _) ?_
    refine Runs.bind (Runs.load_acc _) ?_
    refine Runs.bind (Runs.store_acc _) ?_
    change Runs c a3 B I _ { s with acc := (resetAM (s.acc, s.m)).1, m := (resetAM (s.acc, s.m)).2 } _ _
    generalize resetAM (s.acc, s.m) = f
    refine Runs.bind (Runs.loopN (fun k => { s with acc := (safeA n I f k).1, m := (safeA n I f k).2 }) _ hN.t5 fun t => ?_) ?_
    · have hst : (stw 256#32 (k0_t5_loop n).lb t).toNat + 256 ≤ 9216 := by have := stw5_lt hN t; have := hN.nb_le; omega
      have := safe_tiles (c := c) (a3 := a3) (B := B) (I := I) (stw 256#32 (k0_t5_loop n).lb t) hst (stw5_lt hN t) s hs (safeA n I f t.val)
      have e : safeA n I f (t.val + 1) = tiles.foldl (safeStep n (stw 256#32 (k0_t5_loop n).lb t) hst I) (safeA n I f t.val) := dif_pos hst
      rw [e]
      exact this
    refine Runs.bind (Runs.loop0 hN.t6 _) ?_
    exact tail (safeA n I f (nc n))
  · rename_i hc
    have e : checkAM n I (s.acc, s.m) = (s.acc, s.m) := if_neg hc
    rw [e]
    exact tail (s.acc, s.m)

theorem out_run (s : St F) :
    Runs c a3 B I (outP B (numC (View.ld s.acc (rNum h0 h0))) (denC (View.ld s.acc (rDen h0 h0)))) s ⟨⟩
      { s with y := (heads.foldl (outStep I s.acc) (s.y, s.o)).1, o := (heads.foldl (outStep I s.acc) (s.y, s.o)).2 } := by
  unfold outP
  refine Runs.bind (out_tail h0 s) ?_
  exact out_tiles s heads.tail (outStep I s.acc (s.y, s.o) h0)

theorem tiles_eq : tiles = (h0, h0) :: (midTiles ++ [(h3, h3)]) := rfl

/-- **The body runs**: from any results, accumulator and maxima, and either the spread scales in place or the grid point
    one that spreads them, to the results the steps give. -/
theorem body_run (i : grid0.Coords) (ha3 : a3.IsWhole) {n : BitVec 32} (hN : InRange n) (hn : wd i I.n = n) (s : St F)
    (hag : k0_cond1 i ≠ 1#1 → ∀ b, s.ag b → G n I.sk b) :
    Runs c a3 B I (bodyP i a3 ha3 B) s ⟨⟩ ⟨(results n I).1, (results n I).2, G n I.sk, (lastAM n I).1, (lastAM n I).2⟩ := by
  unfold bodyP
  refine Runs.bind (head_run i hN hn s hag) ?_
  dsimp only
  unfold midP
  refine Runs.bind (first_tail n (h0, h0) { s with ag := G n I.sk } (nb256 hN) rfl) ?_
  dsimp only
  generalize e0 : firstStep n I (s.acc, s.m) (h0, h0) = f0
  refine Runs.bind (first_tiles hN ({ s with ag := G n I.sk }) rfl midTiles f0) ?_
  generalize e1 : midTiles.foldl (firstStep n I) f0 = f1
  refine Runs.bind (Runs.load_sq _) ?_
  refine Runs.bind (Runs.load_k _) ?_
  refine Runs.bind (Runs.load_q _) ?_
  unfold restP
  refine Runs.bind (loop_run i ha3 hN _ rfl f1 rfl) ?_
  have e2 : firstStep n I f1 (h3, h3) = firstAM n I := by
    rw [← first_forget n I (s.acc, s.m), tiles_eq, List.foldl_cons, List.foldl_append, e0, e1]; rfl
  rw [e2]
  have ck := check_run (c := c) (a3 := a3) (B := B) (I := I) hN
    { s with ag := G n I.sk, acc := mainA n I (firstAM n I).2 (firstAM n I).1 (nb n), m := (firstAM n I).2 } rfl
    (mainA n I (firstAM n I).2 (firstAM n I).1 (nb n), (firstAM n I).2) rfl
  refine Runs.bind ck ?_
  have e3 : checkAM n I (mainA n I (firstAM n I).2 (firstAM n I).1 (nb n), (firstAM n I).2) = lastAM n I := rfl
  rw [e3]
  have := out_run (c := c) (a3 := a3) (B := B) (I := I) { s with ag := G n I.sk, acc := (lastAM n I).1, m := (lastAM n I).2 }
  dsimp only at this
  rw [out_forget] at this
  exact this

end Cert.KernelIdeal.Row
end
-- ==== Proof.RowRun.lean ====
/-
  The launch: the pipeline's proof data, the body at each grid point, and what every final state holds.
-/
module

public import proofs.«01_k».proof.Proof.BodyRun
public import proofs.«01_k».proof.Proof.Gen.KernelIdeal.Launch
public import Idealize.ShloMosaic.Lib.Pipeline.Frame

@[expose] public section

set_option maxRecDepth 16384

noncomputable section

namespace Cert.KernelIdeal.Row

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose heldIn)

variable {F : FTy → Type} [FloatOps F] [Named F]

/-- The resource algebra. -/
local notation "𝕄" => MT nD τ sig Unit (Elt F) ℕ (UR sig nD τ) ℕ

variable (m : (ℓ : Loc nD τ sig) → Buf (Elt F) ℓ)

/-- The table's contents at launch. -/
def pf0 : pre0.Contents (Elt F) := fun k => m (((0 : Dev nD) : Thread nD τ).loc (pre0.ref k))

/-- The table as the body reads it. -/
abbrev tab : Vec F S2 .i32 := pf0 m 0

/-- The admissible contents the pipeline runs at. -/
def adm : (pcfg0 (F := F)).Adm := ⟨pf0 m, trivial⟩

/-- The pipeline at the launch's table. -/
abbrev cfgA : Cfg sig Λ₀ := cfg0 (adm m)

/-- A core's buffers when the pipeline starts: the two casts have run. -/
abbrev V (c : Dev nD) (b : Ref sig .tc) : Buf (Elt F) ((c : Thread nD τ).loc b) :=
  StableHlo.after hostOps0 (fun b => m (c, b)) b

/-- The windowed arrays when the pipeline starts. -/
abbrev arrs (c : Dev nD) (w : Fin (cfgA m).W) : Buf (Elt F) (((cfgA m).win w).arr.view.loc (c : Thread nD τ)) :=
  V m c (Pipeline.arrRef spec0 w)

/-- What an input window holds at a grid point. -/
def held (c : Dev nD) (w : Fin (cfgA m).W) (n : ℕ) (h : n < (cfgA m).N) : ((cfgA m).win w).block.Idx → Elt F ((cfgA m).win w).elt :=
  heldIn (Val := Elt F) (cfgA m) (arrs m c) w n h

/-- The operands at a grid point. -/
def inAt (c : Dev nD) (n : ℕ) (h : n < (cfgA m).N) : In F :=
  ⟨fullShare.right, tab m, held m c 0 n h, held m c 1 n h, held m c 2 n h, held m c 3 n h, held m c 4 n h, held m c 5 n h, held m c 6 n h⟩

/-- The row length at a grid point. -/
def nAt (n : ℕ) (h : n < (cfgA m).N) : BitVec 32 := wd (grid0.coords ⟨n, h⟩) (tab m)

/-- What is known of the spread scales before a grid point. -/
def tr (c : Dev nD) : (n : ℕ) → n ≤ (cfgA m).N → Vec F S4x9216x128 .f32 → Prop
  | 0, _ => fun _ => True
  | n + 1, h => G (nAt m n h) (inAt m c n h).sk

/-- The invariant before a grid point. -/
def PhiS (c : Dev nD) (n : ℕ) (h : n ≤ (cfgA m).N) : sProp 𝕄 :=
  iprop((∃ b, ⌜tr m c n h b⌝ ∗ own c (Memref.whole cc0_scratch0) b) ∗ (∃ a, own c (Memref.whole cc0_scratch1) a)
    ∗ (∃ a, own c (Memref.whole cc0_scratch2) a) ∗ (∃ r, prngReg c r) ∗ owns (c : Thread nD τ) (Memref.whole main_arg0) fullShare.right (tab m))

/-- The pipeline's proof data. -/
def dats (_ : Fin 1) (c : Dev nD) : Dat τ (Elt F) Unit ℕ (UR sig nD τ) ℕ (cfgA m) c where
  A w := V m c (Pipeline.arrRef spec0 w)
  after w t := match w with
    | ⟨0, _⟩ => held m c 0 t.val t.isLt
    | ⟨1, _⟩ => held m c 1 t.val t.isLt
    | ⟨2, _⟩ => held m c 2 t.val t.isLt
    | ⟨3, _⟩ => held m c 3 t.val t.isLt
    | ⟨4, _⟩ => held m c 4 t.val t.isLt
    | ⟨5, _⟩ => held m c 5 t.val t.isLt
    | ⟨6, _⟩ => held m c 6 t.val t.isLt
    | ⟨7, _⟩ => (results (nAt m t.val t.isLt) (inAt m c t.val t.isLt)).1
    | ⟨8, _⟩ => (results (nAt m t.val t.isLt) (inAt m c t.val t.isLt)).2
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin (cfgA m).W) : (dats m 0 c).A w = V m c (Pipeline.arrRef spec0 w) := by
  dsimp only [dats]

theorem Phi_castSucc (c : Dev nD) (t : Fin (cfgA m).N) : (dats m 0 c).Φ t.castSucc = PhiS m c t.val (Nat.le_of_lt t.isLt) := by
  dsimp only [dats]; exact Pipeline.Dat.Φ_castSucc (PhiS m c) t

theorem Phi_succ (c : Dev nD) (t : Fin (cfgA m).N) : (dats m 0 c).Φ t.succ = PhiS m c (t.val + 1) t.isLt := by
  dsimp only [dats]; rfl

/-- What an input window's buffer holds when the body runs. -/
theorem before_in (c : Dev nD) (w : Fin (cfgA m).W) (hw : ((cfgA m).win w).isOut = false)
    (ha : ∀ t, (dats m 0 c).after w t = held m c w t.val t.isLt) (t : Fin (cfgA m).N) (d) :
    (dats m 0 c).before w t d = held m c w t.val t.isLt :=
  (dats m 0 c).before_eq_heldIn w hw (fun _ => rfl) (fun _ _ => rfl) ha t d

/-- Within a row, the first two coordinates stay. -/
theorem coords_stay : ∀ (n : Fin 233), k0_cond1 (grid0.coords ⟨n.val + 1, by have := n.isLt; rw [N_0]; omega⟩) ≠ 1#1 →
    grid0.coords ⟨n.val + 1, by have := n.isLt; rw [N_0]; omega⟩ 0 = grid0.coords ⟨n.val, by have := n.isLt; rw [N_0]; omega⟩ 0
    ∧ grid0.coords ⟨n.val + 1, by have := n.isLt; rw [N_0]; omega⟩ 1 = grid0.coords ⟨n.val, by have := n.isLt; rw [N_0]; omega⟩ 1 := by
  decide +kernel

theorem cond1_zero : k0_cond1 (grid0.coords ⟨0, by rw [N_0]; omega⟩) = 1#1 := by decide +kernel

theorem wd_congr (i i' : grid0.Coords) (n : Vec F S2 .i32) (h0 : i 0 = i' 0) (h1 : i 1 = i' 1) : wd i n = wd i' n := by
  have e : k0_off1 i = k0_off1 i' := by unfold k0_off1; simp only [h0, h1]
  unfold wd
  congr 1
  simp only [e]

theorem fetch_stay (n : ℕ) (h : n + 1 < (cfgA m).N) (hi : k0_cond1 (grid0.coords ⟨n + 1, h⟩) ≠ 1#1) :
    ((cfgA m).win 3).fetch ⟨n + 1, h⟩ = false := by
  have hN : n + 1 < 234 := N_0 ▸ h
  obtain ⟨h0, h1⟩ := coords_stay ⟨n, by omega⟩ hi
  rw [Bool.eq_false_iff]
  intro hf
  rcases (((cfgA m).win 3).fetch_in rfl ⟨n + 1, h⟩).mp hf with h' | ⟨_, h'⟩
  · exact absurd h' (Nat.succ_ne_zero n)
  · refine h' ?_
    show cc0_transform_3 (grid0.coords ⟨n + 1, h⟩) = cc0_transform_3 (grid0.coords ⟨n, Nat.lt_of_succ_lt h⟩)
    unfold cc0_transform_3
    rw [h0, h1]

/-- Within a row, what is known of the spread scales is what the next point needs. -/
theorem tr_stay (c : Dev nD) (n : ℕ) (h : n < (cfgA m).N) (hi : k0_cond1 (grid0.coords ⟨n, h⟩) ≠ 1#1) (b : Vec F S4x9216x128 .f32)
    (hb : tr m c n (Nat.le_of_lt h) b) : G (nAt m n h) (inAt m c n h).sk b := by
  cases n with
  | zero => exact absurd cond1_zero hi
  | succ n =>
    have hN : n + 1 < 234 := N_0 ▸ h
    obtain ⟨h0, h1⟩ := coords_stay ⟨n, by omega⟩ hi
    have e1 : nAt m (n + 1) h = nAt m n (Nat.lt_of_succ_lt h) := wd_congr _ _ _ h0 h1
    have e2 : (inAt m c (n + 1) h).sk = (inAt m c n (Nat.lt_of_succ_lt h)).sk :=
      Pipeline.heldIn_of_not_fetch (cfg := cfgA m) (arrs m c) 3 n h (fetch_stay m n h hi)
    rw [e1, e2]
    exact hb

/-- The body's buffers at a grid point. -/
def bufs (s : (w : Fin 9) → Fin (spec0 w).nbuf) : Bufs :=
  ⟨spec0_0.stage (s 0), hstage0_0 ((s 0).cast nbuf0_0), spec0_1.stage (s 1), hstage0_1 ((s 1).cast nbuf0_1), spec0_2.stage (s 2), hstage0_2 ((s 2).cast nbuf0_2),
   spec0_3.stage (s 3), hstage0_3 ((s 3).cast nbuf0_3), spec0_4.stage (s 4), hstage0_4 ((s 4).cast nbuf0_4), spec0_5.stage (s 5), hstage0_5 ((s 5).cast nbuf0_5),
   spec0_6.stage (s 6), hstage0_6 ((s 6).cast nbuf0_6), spec0_7.stage (s 7), hstage0_7 ((s 7).cast nbuf0_7), spec0_8.stage (s 8), hstage0_8 ((s 8).cast nbuf0_8),
   Memref.whole cc0_scratch0, Memref.isWhole_whole _, Memref.whole cc0_scratch1, Memref.isWhole_whole _, Memref.whole cc0_scratch2, Memref.isWhole_whole _⟩

/-- The body the pipeline calls. -/
theorem body_prog (t : Fin grid0.N) (s : (w : Fin 9) → Fin (spec0 w).nbuf) :
    defs₀ (F := F) .tc 0 (t, s) = bodyP (grid0.coords t) (Memref.whole main_arg0) (Memref.isWhole_whole _) (bufs s) :=
  kernel_eq (grid0.coords t) (Memref.whole main_arg0) (Memref.isWhole_whole _) (bufs s)

set_option backward.isDefEq.respectTransparency.types false in
/-- The body at every grid point. -/
theorem body_obligation (hN : ∀ n h, InRange (nAt m n h)) (c : Dev nD) : BodyObligation (dats m 0 c) (defs₀ (F := F)) Variants.none () Set.univ := fun t => by
  rw [bigSep_W0, bigSep_W0]
  dsimp only
  simp only [before_in m c 0 rfl (fun _ => rfl), before_in m c 1 rfl (fun _ => rfl), before_in m c 2 rfl (fun _ => rfl), before_in m c 3 rfl (fun _ => rfl),
    before_in m c 4 rfl (fun _ => rfl), before_in m c 5 rfl (fun _ => rfl), before_in m c 6 rfl (fun _ => rfl)]
  rw [Phi_castSucc, Phi_succ]
  have ho : (dats m 0 c).owesAt () t.castSucc = (dats m 0 c).owesAt () t.succ := rfl
  rw [ho]
  generalize (dats m 0 c).owesAt () t.succ = O
  unfold PhiS
  iintro ⟨⟨⟨%b, %hb, Hb⟩, ⟨%a1, Ha1⟩, ⟨%a2, Ha2⟩, Hp, Ht⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have run := body_run (c := c) (a3 := Memref.whole main_arg0) (B := bufs ((cfgA m).slots t)) (I := inAt m c t.val t.isLt) (grid0.coords t)
    (Memref.isWhole_whole _) (hN t.val t.isLt) rfl
    ⟨(dats m 0 c).before 7 t d7, (dats m 0 c).before 8 t d8, tr m c t.val (Nat.le_of_lt t.isLt), a1, a2⟩
    (fun hi b hb => tr_stay m c t.val t.isLt hi b hb)
  have prog := body_prog (F := F) t ((cfgA m).slots t)
  iapply (show iprop(H c (Memref.whole main_arg0) (bufs ((cfgA m).slots t)) (inAt m c t.val t.isLt)
      ⟨(dats m 0 c).before 7 t d7, (dats m 0 c).before 8 t d8, tr m c t.val (Nat.le_of_lt t.isLt), a1, a2⟩ ∗ ((∃ r, prngReg c r) ∗ O)) ⊢ _ from by
    rw [prog]
    refine run _ _ ?_
    unfold H
    iintro ⟨⟨Ht, H0, H1, H2, H3, H4, H5, H6, H7, H8, ⟨%b, %hb, Hb⟩, Ha1, Ha2⟩, Hp, HO⟩
    isplitl [Hb Ha1 Ha2 Hp Ht]
    · isplitl [Hb]
      · iexists b; isplitr; · ipureintro; exact hb
        iexact Hb
      isplitl [Ha1]; · iexists _; iexact Ha1
      isplitl [Ha2]; · iexists _; iexact Ha2
      isplitl [Hp]; · iexact Hp
      iexact Ht
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8)
  unfold H
  isplitl [Ht H0 H1 H2 H3 H4 H5 H6 H7 H8 Hb Ha1 Ha2]
  · isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hb]
    · iexists b; isplitr; · ipureintro; exact hb
      iexact Hb
    isplitl [Ha1]; · iexact Ha1
    iexact Ha2
  isplitl [Hp]; · iexact Hp
  iexact HO

/-- No host operation writes these buffers: each reaches the pipeline, and the end, as launched. -/
theorem not_written (b : Ref sig .tc) (h0 : b ≠ main_v0) (h1 : b ≠ main_v1) : ∀ op ∈ (hostOps0 (F := F)), Proc.devRef .tc b ∉ op.writes := by
  intro op hop
  simp only [List.mem_cons, List.mem_nil_iff, or_false] at hop
  rcases hop with rfl | rfl <;> simp only [StableHlo.unary_writes, Finset.mem_singleton] <;> exact StableHlo.devRef_ne_of_ne ‹_›

theorem V_arg (c : Dev nD) (b : Ref sig .tc) (h0 : b ≠ main_v0) (h1 : b ≠ main_v1) : V m c b = m ((c : Thread nD τ).loc b) :=
  StableHlo.after_of_forall_not_mem (b := Proc.devRef .tc b) hostOps0 (fun b => m (c, b)) (not_written b h0 h1)

/-- The table's half the launch hands the body. -/
theorem prefHeld_one (c : Dev nD) (q : PosShare TreeShare) (v : pre0.Contents (Elt F)) :
    (Pipeline.prefHeld pre0 c (fun _ => q) v : sProp 𝕄) = (((c : Thread nD τ).loc main_arg0) ↦{q} (show Buf (Elt F) ((c : Thread nD τ).loc main_arg0) from v 0)) := by
  unfold Pipeline.prefHeld
  rw [show (Finset.univ : Finset (Fin 1)) = {0} from by decide, bigSep_singleton]
  rfl

set_option backward.isDefEq.respectTransparency.types false in
/-- From any memory with zero counters whose row lengths are in range, every weakly fair execution ends with every
    windowed array at what the write-backs make it and every other array as it was when the pipeline started. -/
theorem run_main (g : Dev nD → PrngReg) (hN : ∀ n h, InRange (nAt m n h)) :
    θ_run defs (onTc (τ := τ) (main (F := F))) (s₀ m g)
      (fun r => Pipeline.FramePost (Pipeline.pin (pcfgs (F := F)) (fun _ => adm m)) (dats m) 0 (V m) r ∧ r.2.sem = fun _ => 0) :=
  Pipeline.θ_run_frameP_track (pcfgs (F := F)) (fun _ => adm m) (dats m) 0 launch0 defs₀ Variants.none m g main
    (fun c => (body_obligation m hN c).loose) (fun c => (dats m 0 c).share_full fun _ => rfl) (fun _ _ => rfl)
    (V m)
    (Pipeline.hmainP_prefix (pcfgs (F := F)) 0 defs₀ Variants.none m main hostOps0 hostOps0_sub ⟨rfl, rfl⟩ main_chain)
    (A_eq m)
    (fun c k => by
      obtain rfl : c = 0 := Subsingleton.elim _ _
      obtain rfl : k = 0 := Subsingleton.elim _ _
      exact V_arg m 0 main_arg0 (by decide) (by decide))
    (fun c => by
      rw [show (dats m 0 c).Φ 0 = PhiS m c 0 (Nat.zero_le _) from rfl]
      unfold Pipeline.ΦA PhiS
      rw [scopedRest0_eq, show (Pipeline.ΦT (pcfgs (F := F) 0).pre (adm m).1 c : sProp 𝕄) = _ from prefHeld_one c fullShare.right (pf0 m)]
      simp only [own, owns_whole]
      iintro ⟨⟨⟨⟨%f0, H0⟩, ⟨%f1, H1⟩, ⟨%f2, H2⟩⟩, Hp⟩, Ht⟩
      isplitl [H0]
      · iexists f0; isplitr; · ipureintro; trivial
        iexact H0
      isplitl [H1]; · iexists f1; iexact H1
      isplitl [H2]; · iexists f2; iexact H2
      isplitl [Hp]; · iexact Hp
      iexact Ht)
    (fun c => by
      rw [show (dats m 0 c).Φ (Fin.last _) = PhiS m c (cfgA m).N (le_refl _) from rfl]
      unfold Pipeline.ΦA PhiS
      rw [scopedRest0_eq]
      simp only [own, owns_whole]
      iintro ⟨⟨%f0, -, H0⟩, ⟨%f1, H1⟩, ⟨%f2, H2⟩, Hp, -⟩
      isplitl [H0 H1 H2]
      · isplitl [H0]; · iexists f0; iexact H0
        isplitl [H1]; · iexists f1; iexact H1
        iexists f2; iexact H2
      iexact Hp)
    _ (fun _ h => h)

end Cert.KernelIdeal.Row
end
-- ==== Proof.Frames.lean ====
/-
  The frames of the kernel at the extended reals.
-/
module

public import proofs.«01_k».proof.Defs
public import proofs.«01_k».proof.Proof.RowRun
public import proofs.«01_k».proof.Proof.Gen.Pre_rows_in_range
public import Idealize.ShloMosaic.Lib.ReduceAll

@[expose] public section

set_option maxRecDepth 16384

noncomputable section

namespace Cert.KernelIdeal.Row

open Cert.KernelIdeal Cert.KernelIdeal.Gen
open Idealize.ShloMosaic Idealize.ShloMosaic.TcCoe Idealize.ShloMosaic.Tactic
open Idealize.SL.Sem

variable {F : FTy → Type} [FloatOps F] [Named F]
variable (m : (ℓ : Loc nD τ sig) → Buf (Elt F) ℓ)

/-- The predicate's bounds, at every word of the table. -/
theorem range_of_and {s : Shape} (x : s.Idx → BitVec 32) (lo hi : s.Idx → BitVec 32) (hlo : ∀ j, lo j = 1#32) (hhi : ∀ j, hi j = 9216#32)
    (h : ∀ j, andi (cmpi .sge x lo) (cmpi .sle x hi) j = 1#1) (j : s.Idx) : InRange (x j) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := h j
  simp only [andi, cmpi, IntOp.cmpi, andi_ofBool, ofBool_eq_one, Bool.and_eq_true, hlo, hhi] at e
  obtain ⟨h1, h2⟩ := e
  simp only [BitVec.sle, decide_eq_true_eq, BitVec.toInt, BitVec.toNat_ofNat] at h1 h2
  constructor <;> omega

theorem nAt_range (h : ∀ j, InRange (tab m j)) : ∀ n hn, InRange (nAt m n hn) := fun n hn => h _

/-- What a final state of the launch says of the arguments. -/
theorem args_kept (r : PUnit × MemSt nD τ sig (Elt F))
    (h : Pipeline.FramePost (Pipeline.pin (pcfgs (F := F)) (fun _ => adm m)) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  obtain ⟨hw, hr⟩ := h c
  have rest (b : Ref sig .tc) (hb : b ∈ Pipeline.restRefs sig spec0) (h0 : b ≠ main_v0) (h1 : b ≠ main_v1) :
      r.2.mem ((c.tc : Thread nD τ).loc b) = m ((c.tc : Thread nD τ).loc b) := (hr b hb).trans (V_arg m c b h0 h1)
  have win (w : Fin 9) (hi : ((cfgA m).win w).isOut = false) (h0 : Pipeline.arrRef spec0 w ≠ main_v0) (h1 : Pipeline.arrRef spec0 w ≠ main_v1) :
      r.2.mem ((c.tc : Thread nD τ).loc (Pipeline.arrRef spec0 w)) = m ((c.tc : Thread nD τ).loc (Pipeline.arrRef spec0 w)) :=
    ((hw w).trans ((dats m 0 c).arrAt_in w hi _)).trans ((A_eq m c w).trans (V_arg m c _ h0 h1))
  exact ⟨rest main_arg0 (by decide) (by decide) (by decide), rest main_arg1 (by decide) (by decide) (by decide), win 1 rfl (by decide) (by decide),
    rest main_arg3 (by decide) (by decide) (by decide), win 3 rfl (by decide) (by decide), win 4 rfl (by decide) (by decide),
    win 5 rfl (by decide) (by decide), win 6 rfl (by decide) (by decide)⟩

/-- The launch ends with its arguments as they were and every counter at zero. -/
theorem frame_of_range (g : Dev nD → PrngReg) (h : ∀ j, InRange (tab m j)) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨args_kept m r hr.1, hr.2⟩) (run_main m g (nAt_range m h))

/-- The precondition bounds every word of the table. -/
theorem range_of_pre [FloatOps F] (x0 : IVec S2 32) (x1 x2 x3 x4 x5 x6 x7)
    (h : Cert.Pre_rows_in_range.fn (F := F) x0 x1 x2 x3 x4 x5 x6 x7 = fun _ => 1#1) (j : S2.Idx) : InRange (x0 j) := by
  refine range_of_and x0 _ _ (fun _ => rfl) (fun _ => rfl) (fun i => ?_) j
  exact Host.reduce_andi_all _ _ _ _ _ (congrFun h (Shape.Idx.first Cert.Pre_rows_in_range.Facts.h_S_)) i

theorem frame_pi : Cert.quiescent_KernelIdeal := fun m g h =>
  frame_of_range m g fun j => range_of_pre _ _ _ _ _ _ _ _ (h 0) j

end Cert.KernelIdeal.Row
end
-- ==== Proof.KTiles.lean ====
/-
  The row kernel's body as tiles: the printed kernel repeats one short program for each of sixteen tiles (four heads by
  four blocks of 256 query columns), in three places (the first maximum, the main loop, the redo loop). Here each of
  these short programs is written once, over a tile index, its arithmetic as a function of what the tile loads.
-/
module

public import proofs.«01_k».proof.Proof.Gen.Kernel.Skeleton
public import Idealize.ShloMosaic.Lib.Pipeline.Regions
public import Idealize.ShloMosaic.Lib.Tactic
public import Idealize.ShloMosaic.Lib.Pipeline.Kit

@[expose] public section

set_option maxRecDepth 16384

noncomputable section

namespace Cert.Kernel.Row

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The twelve vector buffers the body is called with: query codes and scales, key codes and scales, values, residual
    input, output weights; the two results; and the three scratch buffers (spread key scales, accumulator, maxima). -/
structure Bufs where
  q : Memref sig .tc .vmem S1x1x256x1024 .fp8e4m3
  hq : q.IsWhole
  sq : Memref sig .tc .vmem S1x1x4x1024 .f32
  hsq : sq.IsWhole
  k : Memref sig .tc .vmem S1x1x9216x256 .fp8e4m3
  hk : k.IsWhole
  sk : Memref sig .tc .vmem S1x1x4x9216 .f32
  hsk : sk.IsWhole
  v : Memref sig .tc .vmem S1x1x256x9216 .bf16
  hv : v.IsWhole
  x : Memref sig .tc .vmem S1x1x1024x256 .f32
  hx : x.IsWhole
  w : Memref sig .tc .vmem S256x256 .bf16
  hw : w.IsWhole
  y : Memref sig .tc .vmem S1x1x1024x256 .bf16
  hy : y.IsWhole
  o : Memref sig .tc .vmem S1x1x1024x256 .bf16
  ho : o.IsWhole
  b : Memref sig .tc .vmem S4x9216x128 .f32
  hb : b.IsWhole
  acc : Memref sig .tc .vmem S4x80x1024 .f32
  hacc : acc.IsWhole
  m : Memref sig .tc .vmem S4x1024 .f32
  hm : m.IsWhole

/-- The programs of the body. -/
abbrev P (α : Type) : Type 1 := Prog (TpuEff nD τ sig (Elt F) Λ₀ .tc) α

/-! ## The rectangles -/

theorem inb_sq (h t : Fin 4) : ∀ a, (![0, 0, h.val, 256 * t.val] : Fin 4 → ℕ) a + S1x1x1x256.size a ≤ S1x1x4x1024.size a := by
  revert h t; decide +kernel
theorem inb_q (h t : Fin 4) : ∀ a, (![0, 0, 64 * h.val, 256 * t.val] : Fin 4 → ℕ) a + S1x1x64x256.size a ≤ S1x1x256x1024.size a := by
  revert h t; decide +kernel
theorem inb_m (h t : Fin 4) : ∀ a, (![h.val, 256 * t.val] : Fin 2 → ℕ) a + S1x256.size a ≤ S4x1024.size a := by
  revert h t; decide +kernel
theorem inb_acc (h t : Fin 4) : ∀ a, (![h.val, 0, 256 * t.val] : Fin 3 → ℕ) a + S1x80x256.size a ≤ S4x80x1024.size a := by
  revert h t; decide +kernel
theorem inb_num (h t : Fin 4) : ∀ a, (![h.val, 0, 256 * t.val] : Fin 3 → ℕ) a + S1x64x256.size a ≤ S4x80x1024.size a := by
  revert h t; decide +kernel
theorem inb_den (h t : Fin 4) : ∀ a, (![h.val, 64, 256 * t.val] : Fin 3 → ℕ) a + S1x1x256.size a ≤ S4x80x1024.size a := by
  revert h t; decide +kernel
theorem inb_out (t : Fin 4) : ∀ a, (![0, 0, 256 * t.val, 0] : Fin 4 → ℕ) a + S1x1x256x256.size a ≤ S1x1x1024x256.size a := by
  revert t; decide +kernel
theorem inb_k1024 (h : Fin 4) (s : ℕ) (hs : s + 1024 ≤ 9216) :
    ∀ a, (![0, 0, s, 128 * (h.val / 2)] : Fin 4 → ℕ) a + S1x1x1024x128.size a ≤ S1x1x9216x256.size a := by
  intro a; have := h.isLt; fin_cases a <;> simp [S1x1x1024x128, S1x1x9216x256] <;> omega
theorem inb_k256 (h : Fin 4) (s : ℕ) (hs : s + 256 ≤ 9216) :
    ∀ a, (![0, 0, s, 128 * (h.val / 2)] : Fin 4 → ℕ) a + S1x1x256x128.size a ≤ S1x1x9216x256.size a := by
  intro a; have := h.isLt; fin_cases a <;> simp [S1x1x256x128, S1x1x9216x256] <;> omega
theorem inb_b1024 (h : Fin 4) (s : ℕ) (hs : s + 1024 ≤ 9216) :
    ∀ a, (![h.val, s, 0] : Fin 3 → ℕ) a + S1x1024x128.size a ≤ S4x9216x128.size a := by
  intro a; have := h.isLt; fin_cases a <;> simp [S1x1024x128, S4x9216x128] <;> omega
theorem inb_b256 (h : Fin 4) (s : ℕ) (hs : s + 256 ≤ 9216) :
    ∀ a, (![h.val, s, 0] : Fin 3 → ℕ) a + S1x256x128.size a ≤ S4x9216x128.size a := by
  intro a; have := h.isLt; fin_cases a <;> simp [S1x256x128, S4x9216x128] <;> omega
theorem inb_b128 (h : Fin 4) (s : ℕ) (hs : s + 128 ≤ 9216) :
    ∀ a, (![h.val, s, 0] : Fin 3 → ℕ) a + S1x128x128.size a ≤ S4x9216x128.size a := by
  intro a; have := h.isLt; fin_cases a <;> simp [S1x128x128, S4x9216x128] <;> omega
theorem inb_v1024 (h : Fin 4) (s : ℕ) (hs : s + 1024 ≤ 9216) :
    ∀ a, (![0, 0, 64 * h.val, s] : Fin 4 → ℕ) a + S1x1x64x1024.size a ≤ S1x1x256x9216.size a := by
  intro a; have := h.isLt; fin_cases a <;> simp [S1x1x64x1024, S1x1x256x9216] <;> omega
theorem inb_v256 (h : Fin 4) (s : ℕ) (hs : s + 256 ≤ 9216) :
    ∀ a, (![0, 0, 64 * h.val, s] : Fin 4 → ℕ) a + S1x1x64x256.size a ≤ S1x1x256x9216.size a := by
  intro a; have := h.isLt; fin_cases a <;> simp [S1x1x64x256, S1x1x256x9216] <;> omega
theorem inb_sk (h : Fin 4) (s : ℕ) (hs : s + 128 ≤ 9216) :
    ∀ a, (![0, 0, h.val, s] : Fin 4 → ℕ) a + S1x1x1x128.size a ≤ S1x1x4x9216.size a := by
  intro a; have := h.isLt; fin_cases a <;> simp [S1x1x1x128, S1x1x4x9216] <;> omega

abbrev rSq (h t : Fin 4) : Rect S1x1x4x1024 := Rect.unit (s := S1x1x4x1024) ![0, 0, h.val, 256 * t.val] S1x1x1x256.size (inb_sq h t)
abbrev rQ (h t : Fin 4) : Rect S1x1x256x1024 := Rect.unit (s := S1x1x256x1024) ![0, 0, 64 * h.val, 256 * t.val] S1x1x64x256.size (inb_q h t)
abbrev rM (h t : Fin 4) : Rect S4x1024 := Rect.unit (s := S4x1024) ![h.val, 256 * t.val] S1x256.size (inb_m h t)
abbrev rAcc (h t : Fin 4) : Rect S4x80x1024 := Rect.unit (s := S4x80x1024) ![h.val, 0, 256 * t.val] S1x80x256.size (inb_acc h t)
abbrev rNum (h t : Fin 4) : Rect S4x80x1024 := Rect.unit (s := S4x80x1024) ![h.val, 0, 256 * t.val] S1x64x256.size (inb_num h t)
abbrev rDen (h t : Fin 4) : Rect S4x80x1024 := Rect.unit (s := S4x80x1024) ![h.val, 64, 256 * t.val] S1x1x256.size (inb_den h t)
abbrev rOut (t : Fin 4) : Rect S1x1x1024x256 := Rect.unit (s := S1x1x1024x256) ![0, 0, 256 * t.val, 0] S1x1x256x256.size (inb_out t)
abbrev rK1024 (h : Fin 4) (s : ℕ) (hs : s + 1024 ≤ 9216) : Rect S1x1x9216x256 := Rect.unit (s := S1x1x9216x256) ![0, 0, s, 128 * (h.val / 2)] S1x1x1024x128.size (inb_k1024 h s hs)
abbrev rK256 (h : Fin 4) (s : ℕ) (hs : s + 256 ≤ 9216) : Rect S1x1x9216x256 := Rect.unit (s := S1x1x9216x256) ![0, 0, s, 128 * (h.val / 2)] S1x1x256x128.size (inb_k256 h s hs)
abbrev rB1024 (h : Fin 4) (s : ℕ) (hs : s + 1024 ≤ 9216) : Rect S4x9216x128 := Rect.unit (s := S4x9216x128) ![h.val, s, 0] S1x1024x128.size (inb_b1024 h s hs)
abbrev rB256 (h : Fin 4) (s : ℕ) (hs : s + 256 ≤ 9216) : Rect S4x9216x128 := Rect.unit (s := S4x9216x128) ![h.val, s, 0] S1x256x128.size (inb_b256 h s hs)
abbrev rB128 (h : Fin 4) (s : ℕ) (hs : s + 128 ≤ 9216) : Rect S4x9216x128 := Rect.unit (s := S4x9216x128) ![h.val, s, 0] S1x128x128.size (inb_b128 h s hs)
abbrev rV1024 (h : Fin 4) (s : ℕ) (hs : s + 1024 ≤ 9216) : Rect S1x1x256x9216 := Rect.unit (s := S1x1x256x9216) ![0, 0, 64 * h.val, s] S1x1x64x1024.size (inb_v1024 h s hs)
abbrev rV256 (h : Fin 4) (s : ℕ) (hs : s + 256 ≤ 9216) : Rect S1x1x256x9216 := Rect.unit (s := S1x1x256x9216) ![0, 0, 64 * h.val, s] S1x1x64x256.size (inb_v256 h s hs)
abbrev rSk (h : Fin 4) (s : ℕ) (hs : s + 128 ≤ 9216) : Rect S1x1x4x9216 := Rect.unit (s := S1x1x4x9216) ![0, 0, h.val, s] S1x1x1x128.size (inb_sk h s hs)

/-! ## The arithmetic -/

/-- The constant log2(e)/8 that scales the scores. -/
def kap : F .f32 := Scalar.ofBits .f32 0x3E38AA3B#32

/-- Head `h`'s 64 query rows in the half of 128 rows that the head's key columns occupy, zeros in the other half. -/
def qop (h : Fin 4) (qv : Vec F S1x1x64x256 .fp8e4m3) : FVec F S128x256 .fp8e4m3 :=
  match Nat.beq (h.val % 2) 0 with
  | true => concatenate S128x256 0 [⟨S64x256, shapeCast S64x256 qv shapeCasts_S1x1x64x256_S64x256⟩, ⟨S64x256, truncf .fp8e4m3 (broadcast S64x256 (Scalar.ofBits .f32 0x00000000#32 : F .f32)) bitsLt_fp8e4m3_f32⟩] concatenates_S64x256_S64x256_S128x256_d0
  | false => concatenate S128x256 0 [⟨S64x256, truncf .fp8e4m3 (broadcast S64x256 (Scalar.ofBits .f32 0x00000000#32 : F .f32)) bitsLt_fp8e4m3_f32⟩, ⟨S64x256, shapeCast S64x256 qv shapeCasts_S1x1x64x256_S64x256⟩] concatenates_S64x256_S64x256_S128x256_d0

/-- The 256 query columns' factors: scale times the constant. -/
def qs (sqv : Vec F S1x1x1x256 .f32) : FVec F S1x256 .f32 :=
  mulf (shapeCast S1x256 sqv shapeCasts_S1x1x1x256_S1x256) (broadcast S1x256 (kap : F .f32))

/-- The scores of 1024 keys against 256 queries. -/
def sc1024 (h : Fin 4) (sqv : Vec F S1x1x1x256 .f32) (kv : Vec F S1x1x1024x128 .fp8e4m3) (qv : Vec F S1x1x64x256 .fp8e4m3)
    (bv : Vec F S1x1024x128 .f32) : FVec F S1024x256 .f32 :=
  mulf (mulf (matmul dot_S1024x128_S128x256_S1024x256_1_0_0_1_n_n none (shapeCast S1024x128 kv shapeCasts_S1x1x1024x128_S1024x128) (qop h qv) (constant S1024x256 .f32 0x00000000#32))
      (concatenate S1024x256 1 [⟨S1024x128, shapeCast S1024x128 bv shapeCasts_S1x1024x128_S1024x128⟩, ⟨S1024x128, shapeCast S1024x128 bv shapeCasts_S1x1024x128_S1024x128⟩] concatenates_S1024x128_S1024x128_S1024x256_d1))
    (broadcastTo S1024x256 (qs sqv) broadcasts_S1x256_S1024x256)

/-- 256 keys' codes as a matrix. -/
def kc256 (kv : Vec F S1x1x256x128 .fp8e4m3) : FVec F S256x128 .fp8e4m3 := shapeCast S256x128 kv shapeCasts_S1x1x256x128_S256x128

/-- The scores of 256 keys against 256 queries. -/
def sc256 (h : Fin 4) (fq : FVec F S1x256 .f32) (kc : FVec F S256x128 .fp8e4m3) (qv : Vec F S1x1x64x256 .fp8e4m3)
    (bv : Vec F S1x256x128 .f32) : FVec F S256x256 .f32 :=
  mulf (mulf (matmul dot_S256x128_S128x256_S256x256_1_0_0_1_n_n none kc (qop h qv) (constant S256x256 .f32 0x00000000#32))
      (concatenate S256x256 1 [⟨S256x128, shapeCast S256x128 bv shapeCasts_S1x256x128_S256x128⟩, ⟨S256x128, shapeCast S256x128 bv shapeCasts_S1x256x128_S256x128⟩] concatenates_S256x128_S256x128_S256x256_d1))
    (broadcastTo S256x256 fq broadcasts_S1x256_S256x256)

/-- The main loop's new accumulator block. -/
def mainPay (n st : BitVec 32) (h : Fin 4) (sqv : Vec F S1x1x1x256 .f32) (kv : Vec F S1x1x1024x128 .fp8e4m3) (qv : Vec F S1x1x64x256 .fp8e4m3)
    (bv : Vec F S1x1024x128 .f32) (mv : Vec F S1x256 .f32) (av : Vec F S1x80x256 .f32) (vv : Vec F S1x1x64x1024 .bf16) : FVec F S1x80x256 .f32 :=
  shapeCast S1x80x256
    (addf (shapeCast S80x256 av shapeCasts_S1x80x256_S80x256)
      (matmul dot_S80x1024_S1024x256_S80x256_1_0_0_1_n_n none
        (concatenate S80x1024 0 [⟨S64x1024, shapeCast S64x1024 vv shapeCasts_S1x1x64x1024_S64x1024⟩,
          ⟨S16x1024, truncf .bf16 (select (cmpi .slt (addi (broadcast S16x1024 st) (iota .tc S16x1024 32 [1] iota_S16x1024_d1_w32)) (broadcast S16x1024 n))
            (broadcast S16x1024 (Scalar.ofBits .f32 0x3F800000#32 : F .f32)) (broadcast S16x1024 (Scalar.ofBits .f32 0x00000000#32 : F .f32))) bitsLt_bf16_f32⟩] concatenates_S64x1024_S16x1024_S80x1024_d0)
        (truncf .bf16 (exp2 (subf (sc1024 h sqv kv qv bv) (broadcastTo S1024x256 mv broadcasts_S1x256_S1024x256))) bitsLt_bf16_f32)
        (constant S80x256 .f32 0x00000000#32)))
    shapeCasts_S80x256_S1x80x256

/-- The first 256 keys' maximum, keys at or past `n` at minus infinity. -/
def firstPay (n : BitVec 32) (h : Fin 4) (fq : FVec F S1x256 .f32) (kc : FVec F S256x128 .fp8e4m3) (qv : Vec F S1x1x64x256 .fp8e4m3)
    (bv : Vec F S1x256x128 .f32) : FVec F S1x256 .f32 :=
  shapeCast S1x256 (shapeCast S1x256
    (multiReduction .maximumf [0] S256
      (select (cmpi .slt (iota .tc S256x256 32 [0] iota_S256x256_d0_w32) (broadcast S256x256 n)) (sc256 h fq kc qv bv) (broadcast S256x256 (Scalar.ofBits .f32 0xFF800000#32 : F .f32)))
      0xFF800000#32 reduces_S256x256_S256 (.inl rfl) rfl) shapeCasts_S256_S1x256) shapeCasts_S1x256_S1x256

/-- The redo loop's masked scores. -/
def safeSc (n st : BitVec 32) (h : Fin 4) (fq : FVec F S1x256 .f32) (kc : FVec F S256x128 .fp8e4m3) (qv : Vec F S1x1x64x256 .fp8e4m3)
    (bv : Vec F S1x256x128 .f32) : FVec F S256x256 .f32 :=
  select (cmpi .slt (addi (broadcast S256x256 st) (iota .tc S256x256 32 [0] iota_S256x256_d0_w32)) (broadcast S256x256 n)) (sc256 h fq kc qv bv) (broadcast S256x256 (Scalar.ofBits .f32 0xFF800000#32 : F .f32))

/-- The redo loop's new running maximum. -/
def safeMax (n st : BitVec 32) (h : Fin 4) (fq : FVec F S1x256 .f32) (kc : FVec F S256x128 .fp8e4m3) (qv : Vec F S1x1x64x256 .fp8e4m3)
    (bv : Vec F S1x256x128 .f32) (mv : Vec F S1x256 .f32) : FVec F S1x256 .f32 :=
  maximumf mv (shapeCast S1x256 (multiReduction .maximumf [0] S256 (safeSc n st h fq kc qv bv) 0xFF800000#32 reduces_S256x256_S256 (.inl rfl) rfl) shapeCasts_S256_S1x256)

/-- The redo loop's new accumulator block. -/
def safePay (n st : BitVec 32) (h : Fin 4) (fq : FVec F S1x256 .f32) (kc : FVec F S256x128 .fp8e4m3) (qv : Vec F S1x1x64x256 .fp8e4m3)
    (bv : Vec F S1x256x128 .f32) (mv : Vec F S1x256 .f32) (av : Vec F S1x80x256 .f32) (vv : Vec F S1x1x64x256 .bf16) : FVec F S1x80x256 .f32 :=
  shapeCast S1x80x256
    (addf (mulf (shapeCast S80x256 av shapeCasts_S1x80x256_S80x256) (broadcastTo S80x256 (exp2 (subf mv (safeMax n st h fq kc qv bv mv))) broadcasts_S1x256_S80x256))
      (matmul dot_S80x256_S256x256_S80x256_1_0_0_1_n_n none
        (concatenate S80x256 0 [⟨S64x256, shapeCast S64x256 vv shapeCasts_S1x1x64x256_S64x256⟩,
          ⟨S16x256, truncf .bf16 (select (cmpi .slt (addi (broadcast S16x256 st) (iota .tc S16x256 32 [1] iota_S16x256_d1_w32)) (broadcast S16x256 n))
            (broadcast S16x256 (Scalar.ofBits .f32 0x3F800000#32 : F .f32)) (broadcast S16x256 (Scalar.ofBits .f32 0x00000000#32 : F .f32))) bitsLt_bf16_f32⟩] concatenates_S64x256_S16x256_S80x256_d0)
        (truncf .bf16 (exp2 (subf (safeSc n st h fq kc qv bv) (broadcastTo S256x256 (safeMax n st h fq kc qv bv mv) broadcasts_S1x256_S256x256))) bitsLt_bf16_f32)
        (constant S80x256 .f32 0x00000000#32)))
    shapeCasts_S80x256_S1x80x256

/-- The spread key scales of 128 keys: the scale along the lanes' axis, keys at or past `n` at zero. -/
def spreadPay (n st : BitVec 32) (sv : Vec F S1x1x1x128 .f32) : FVec F S1x128x128 .f32 :=
  shapeCast S1x128x128
    (transpose S128x128 [1, 0]
      (broadcastTo S128x128
        (shapeCast S1x128
          (select (cmpi .slt (addi (broadcast S1x128 st) (iota .tc S1x128 32 [1] iota_S1x128_d1_w32)) (broadcast S1x128 n)) (shapeCast S1x128 sv shapeCasts_S1x1x1x128_S1x128) (broadcast S1x128 (Scalar.ofBits .f32 0x00000000#32 : F .f32)))
          shapeCasts_S1x128_S1x128)
        broadcasts_S1x128_S128x128)
      transposes_S128x128_p1_0_S128x128)
    shapeCasts_S128x128_S1x128x128

/-! ## The tiles' programs -/

/-- One tile of the main loop. -/
def mainTile (B : Bufs) (n st : BitVec 32) (hst : st.toNat + 1024 ≤ 9216) (p : Fin 4 × Fin 4) : P (F := F) PUnit := do
  let sqv ← Prog.lift (.load B.sq (rSq p.1 p.2).toLoadRect (View.loadsAt_vmem h_S1x1x1x256))
  let kv ← Prog.lift (.load B.k (rK1024 p.1 st.toNat hst).toLoadRect (View.loadsAt_vmem h_S1x1x1024x128))
  let qv ← Prog.lift (.load B.q (rQ p.1 p.2).toLoadRect (View.loadsAt_vmem h_S1x1x64x256))
  let bv ← Prog.lift (.load B.b (rB1024 p.1 st.toNat hst).toLoadRect (View.loadsAt_vmem h_S1x1024x128))
  let mv ← Prog.lift (.load B.m (rM p.1 p.2).toLoadRect (View.loadsAt_vmem h_S1x256))
  let av ← Prog.lift (.load B.acc (rAcc p.1 p.2).toLoadRect (View.loadsAt_vmem h_S1x80x256))
  let vv ← Prog.lift (.load B.v (rV1024 p.1 st.toNat hst).toLoadRect (View.loadsAt_vmem h_S1x1x64x1024))
  let _ ← Prog.lift (.load B.acc (rAcc p.1 p.2).toLoadRect (View.loadsAt_vmem h_S1x80x256))
  Prog.lift (.store B.acc (rAcc p.1 p.2) (mainPay n st p.1 sqv kv qv bv mv av vv) Finset.univ (View.stores_vmem_bits_univ h_S1x80x256 rfl) (.inl rfl))

/-- One tile of the first maximum, after its loads of queries and keys. -/
def firstTail (B : Bufs) (n : BitVec 32) (p : Fin 4 × Fin 4) (fq : FVec F S1x256 .f32) (kc : FVec F S256x128 .fp8e4m3) (qv : Vec F S1x1x64x256 .fp8e4m3) :
    P (F := F) PUnit := do
  let bv ← Prog.lift (.load B.b (rB256 p.1 0 (by decide)).toLoadRect (View.loadsAt_vmem h_S1x256x128))
  let _ ← Prog.lift (.load B.m (rM p.1 p.2).toLoadRect (View.loadsAt_vmem h_S1x256))
  let _ ← Prog.lift (.store B.m (rM p.1 p.2) (firstPay n p.1 fq kc qv bv) Finset.univ (View.stores_vmem_bits_univ h_S1x256 rfl) (.inl rfl))
  let _ ← Prog.lift (.load B.acc (rAcc p.1 p.2).toLoadRect (View.loadsAt_vmem h_S1x80x256))
  Prog.lift (.store B.acc (rAcc p.1 p.2) (shapeCast S1x80x256 (broadcast S80x256 (Scalar.ofBits .f32 0x00000000#32 : F .f32)) shapeCasts_S80x256_S1x80x256) Finset.univ (View.stores_vmem_bits_univ h_S1x80x256 rfl) (.inl rfl))

/-- One tile of the first maximum. -/
def firstTile (B : Bufs) (n : BitVec 32) (p : Fin 4 × Fin 4) : P (F := F) PUnit := do
  let sqv ← Prog.lift (.load B.sq (rSq p.1 p.2).toLoadRect (View.loadsAt_vmem h_S1x1x1x256))
  let kv ← Prog.lift (.load B.k (rK256 p.1 0 (by decide)).toLoadRect (View.loadsAt_vmem h_S1x1x256x128))
  let qv ← Prog.lift (.load B.q (rQ p.1 p.2).toLoadRect (View.loadsAt_vmem h_S1x1x64x256))
  firstTail B n p (qs sqv) (kc256 kv) qv

/-- One tile of the redo loop. -/
def safeTile (B : Bufs) (n st : BitVec 32) (hst : st.toNat + 256 ≤ 9216) (p : Fin 4 × Fin 4) : P (F := F) PUnit := do
  let sqv ← Prog.lift (.load B.sq (rSq p.1 p.2).toLoadRect (View.loadsAt_vmem h_S1x1x1x256))
  let kv ← Prog.lift (.load B.k (rK256 p.1 st.toNat hst).toLoadRect (View.loadsAt_vmem h_S1x1x256x128))
  let qv ← Prog.lift (.load B.q (rQ p.1 p.2).toLoadRect (View.loadsAt_vmem h_S1x1x64x256))
  let bv ← Prog.lift (.load B.b (rB256 p.1 st.toNat hst).toLoadRect (View.loadsAt_vmem h_S1x256x128))
  let mv ← Prog.lift (.load B.m (rM p.1 p.2).toLoadRect (View.loadsAt_vmem h_S1x256))
  let _ ← Prog.lift (.load B.m (rM p.1 p.2).toLoadRect (View.loadsAt_vmem h_S1x256))
  let _ ← Prog.lift (.store B.m (rM p.1 p.2) (shapeCast S1x256 (safeMax n st p.1 (qs sqv) (kc256 kv) qv bv mv) shapeCasts_S1x256_S1x256) Finset.univ (View.stores_vmem_bits_univ h_S1x256 rfl) (.inl rfl))
  let av ← Prog.lift (.load B.acc (rAcc p.1 p.2).toLoadRect (View.loadsAt_vmem h_S1x80x256))
  let vv ← Prog.lift (.load B.v (rV256 p.1 st.toNat hst).toLoadRect (View.loadsAt_vmem h_S1x1x64x256))
  let _ ← Prog.lift (.load B.acc (rAcc p.1 p.2).toLoadRect (View.loadsAt_vmem h_S1x80x256))
  Prog.lift (.store B.acc (rAcc p.1 p.2) (safePay n st p.1 (qs sqv) (kc256 kv) qv bv mv av vv) Finset.univ (View.stores_vmem_bits_univ h_S1x80x256 rfl) (.inl rfl))

/-- One head of the spreading of 128 key scales. -/
def spreadTile (B : Bufs) (n st : BitVec 32) (hst : st.toNat + 128 ≤ 9216) (h : Fin 4) : P (F := F) PUnit := do
  let sv ← Prog.lift (.load B.sk (rSk h st.toNat hst).toLoadRect (View.loadsAt_vmem h_S1x1x1x128))
  let _ ← Prog.lift (.load B.b (rB128 h st.toNat hst).toLoadRect (View.loadsAt_vmem h_S1x128x128))
  Prog.lift (.store B.b (rB128 h st.toNat hst) (spreadPay n st sv) Finset.univ (View.stores_vmem_bits_univ h_S1x128x128 rfl) (.inl rfl))

/-- A program run once for each member of a list, in order. -/
def seqL {ι : Type} (f : ι → P (F := F) PUnit) : List ι → P (F := F) PUnit
  | [] => pure ⟨⟩
  | p :: l => f p >>= fun _ => seqL f l

/-- The four heads. -/
def heads : List (Fin 4) := [⟨0, by decide⟩, ⟨1, by decide⟩, ⟨2, by decide⟩, ⟨3, by decide⟩]

/-- The sixteen tiles, in the kernel's order. -/
def tiles : List (Fin 4 × Fin 4) :=
  [(⟨0, by decide⟩, ⟨0, by decide⟩), (⟨0, by decide⟩, ⟨1, by decide⟩), (⟨0, by decide⟩, ⟨2, by decide⟩), (⟨0, by decide⟩, ⟨3, by decide⟩),
   (⟨1, by decide⟩, ⟨0, by decide⟩), (⟨1, by decide⟩, ⟨1, by decide⟩), (⟨1, by decide⟩, ⟨2, by decide⟩), (⟨1, by decide⟩, ⟨3, by decide⟩),
   (⟨2, by decide⟩, ⟨0, by decide⟩), (⟨2, by decide⟩, ⟨1, by decide⟩), (⟨2, by decide⟩, ⟨2, by decide⟩), (⟨2, by decide⟩, ⟨3, by decide⟩),
   (⟨3, by decide⟩, ⟨0, by decide⟩), (⟨3, by decide⟩, ⟨1, by decide⟩), (⟨3, by decide⟩, ⟨2, by decide⟩), (⟨3, by decide⟩, ⟨3, by decide⟩)]

/-! ## The rest of the body -/

theorem packed_out (t : Fin 4) : (rOut t).PackedRows (EltTy.packing .bf16) := by
  fin_cases t
  · exact packedbf16_S1x1x1024x256_S1x1x256x256_0_0_0_0
  · exact packedbf16_S1x1x1024x256_S1x1x256x256_0_0_256_0
  · exact packedbf16_S1x1x1024x256_S1x1x256x256_0_0_512_0
  · exact packedbf16_S1x1x1024x256_S1x1x256x256_0_0_768_0

/-- A head's 64 rows, and its total, as matrices; and the rows divided by the total. -/
def numC (nv : Vec F S1x64x256 .f32) : FVec F S64x256 .f32 := shapeCast S64x256 nv shapeCasts_S1x64x256_S64x256
def denC (dv : Vec F S1x1x256 .f32) : FVec F S1x256 .f32 := shapeCast S1x256 dv shapeCasts_S1x1x256_S1x256
def ratio (n : FVec F S64x256 .f32) (d : FVec F S1x256 .f32) : FVec F S64x256 .f32 :=
  divf n (broadcastTo S64x256 d broadcasts_S1x256_S64x256)

/-- The four heads' ratios times the output weights. -/
def projPay (r0 r1 r2 r3 : FVec F S64x256 .f32) (wv : Vec F S256x256 .bf16) : FVec F S256x256 .f32 :=
  matmul dot_S256x256_S256x256_S256x256_0_0_1_1_n_n none
    (truncf .bf16 (concatenate S256x256 0 [⟨S64x256, r0⟩, ⟨S64x256, r1⟩, ⟨S64x256, r2⟩, ⟨S64x256, r3⟩] concatenates_S64x256_S64x256_S64x256_S64x256_S256x256_d0) bitsLt_bf16_f32)
    wv (constant S256x256 .f32 0x00000000#32)

/-- What is stored into the second result. -/
def outPay (a : FVec F S256x256 .f32) : FVec F S1x1x256x256 .bf16 :=
  shapeCast S1x1x256x256 (truncf .bf16 a bitsLt_bf16_f32) shapeCasts_S256x256_S1x1x256x256

/-- What is stored into the first result. -/
def resPay (a : FVec F S256x256 .f32) (xv : Vec F S1x1x256x256 .f32) : FVec F S1x1x256x256 .bf16 :=
  shapeCast S1x1x256x256 (truncf .bf16 (addf (shapeCast S256x256 xv shapeCasts_S1x1x256x256_S256x256) a) bitsLt_bf16_f32) shapeCasts_S256x256_S1x1x256x256

abbrev h0 : Fin 4 := ⟨0, by decide⟩
abbrev h1 : Fin 4 := ⟨1, by decide⟩
abbrev h2 : Fin 4 := ⟨2, by decide⟩
abbrev h3 : Fin 4 := ⟨3, by decide⟩

/-- The output of one block of 256 query columns, after its loads of head 0. -/
def outTail (B : Bufs) (t : Fin 4) (n0 : FVec F S64x256 .f32) (d0 : FVec F S1x256 .f32) : P (F := F) PUnit := do
  let n1 ← Prog.lift (.load B.acc (rNum h1 t).toLoadRect (View.loadsAt_vmem h_S1x64x256))
  let d1 ← Prog.lift (.load B.acc (rDen h1 t).toLoadRect (View.loadsAt_vmem h_S1x1x256))
  let n2 ← Prog.lift (.load B.acc (rNum h2 t).toLoadRect (View.loadsAt_vmem h_S1x64x256))
  let d2 ← Prog.lift (.load B.acc (rDen h2 t).toLoadRect (View.loadsAt_vmem h_S1x1x256))
  let n3 ← Prog.lift (.load B.acc (rNum h3 t).toLoadRect (View.loadsAt_vmem h_S1x64x256))
  let d3 ← Prog.lift (.load B.acc (rDen h3 t).toLoadRect (View.loadsAt_vmem h_S1x1x256))
  let wv ← Prog.lift (.load B.w (Rect.unit (s := S256x256) ![0, 0] S256x256.size inb_S256x256_S256x256_0_0).toLoadRect (View.loadsAt_vmem h_S256x256))
  let _ ← Prog.lift (.load B.o (rOut t).toLoadRect (View.loadsAt_vmem h_S1x1x256x256))
  let _ ← Prog.lift (.store B.o (rOut t) (outPay (projPay (ratio n0 d0) (ratio (numC n1) (denC d1)) (ratio (numC n2) (denC d2)) (ratio (numC n3) (denC d3)) wv)) Finset.univ (View.stores_vmem h_S1x1x256x256 (B.ho.storeExact_slice rfl _ (packed_out t)) (fun _ => rfl)) (.inl rfl))
  let xv ← Prog.lift (.load B.x (rOut t).toLoadRect (View.loadsAt_vmem h_S1x1x256x256))
  let _ ← Prog.lift (.load B.y (rOut t).toLoadRect (View.loadsAt_vmem h_S1x1x256x256))
  Prog.lift (.store B.y (rOut t) (resPay (projPay (ratio n0 d0) (ratio (numC n1) (denC d1)) (ratio (numC n2) (denC d2)) (ratio (numC n3) (denC d3)) wv) xv) Finset.univ (View.stores_vmem h_S1x1x256x256 (B.hy.storeExact_slice rfl _ (packed_out t)) (fun _ => rfl)) (.inl rfl))

/-- The output of one block of 256 query columns. -/
def outTile (B : Bufs) (t : Fin 4) : P (F := F) PUnit := do
  let n0 ← Prog.lift (.load B.acc (rNum h0 t).toLoadRect (View.loadsAt_vmem h_S1x64x256))
  let d0 ← Prog.lift (.load B.acc (rDen h0 t).toLoadRect (View.loadsAt_vmem h_S1x1x256))
  outTail B t (numC n0) (denC d0)

/-- The kernel's test whether the totals left the range in which the first maximum serves. -/
def badOf (t0 : FVec F S1x1024 .f32) (t1 t2 t3 : Vec F S1x1x1024 .f32) (nv : Vec F S4x64x1024 .f32) : BitVec 1 :=
  Scalar.cmpf .ogt
    (extractAt ![0, 0, 0]
      (shapeCast S1x1x1
        (multiReduction .maximumf [1, 2] S1
          (shapeCast S1x4x1024
            (select
              (ori
                (xori (cmpf .olt (concatenate S4x1024 0 [⟨S1x1024, t0⟩, ⟨S1x1024, shapeCast S1x1024 t1 shapeCasts_S1x1x1024_S1x1024⟩, ⟨S1x1024, shapeCast S1x1024 t2 shapeCasts_S1x1x1024_S1x1024⟩, ⟨S1x1024, shapeCast S1x1024 t3 shapeCasts_S1x1x1024_S1x1024⟩] concatenates_S1x1024_S1x1024_S1x1024_S1x1024_S4x1024_d0)
                  (broadcast S4x1024 (Scalar.ofBits .f32 0x71800000#32 : F .f32))) (constantI S4x1024 1 1#1))
                (broadcastTo S4x1024 (shapeCast S1x1024
                  (xori (cmpf .olt (multiReduction .maximumf [0, 1] S1024 (absf nv) 0xFF800000#32 reduces_S4x64x1024_S1024 (.inl rfl) rfl)
                    (broadcast S1024 (Scalar.ofBits .f32 0x7E800000#32 : F .f32))) (constantI S1024 1 1#1))
                  shapeCasts_S1024_S1x1024) broadcasts_S1x1024_S4x1024))
              (broadcast S4x1024 (Scalar.ofBits .f32 0x3F800000#32 : F .f32)) (broadcast S4x1024 (Scalar.ofBits .f32 0x00000000#32 : F .f32)))
            shapeCasts_S4x1024_S1x4x1024)
          0xFF800000#32 reduces_S1x4x1024_S1 (.inl rfl) rfl)
        shapeCasts_S1_S1x1x1)
      inpos_S1x1x1_p0_0_0)
    (Scalar.ofBits .f32 0x00000000#32 : F .f32)

/-- Trip `k`'s offset, in a loop from `lb` over blocks of `w` keys. -/
abbrev stw (w lb : BitVec 32) (k : ℕ) : BitVec 32 := Scalar.muli (Scf.iv lb 1#32 k) w

/-- How many blocks of 1024 keys hold `v1` keys, as the kernel computes it. -/
def nblk (v1 : BitVec 32) : BitVec 32 :=
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  v20

/-- Where the main loop's remainder starts, as the kernel computes it. -/
def lbOf (v20 : BitVec 32) : BitVec 32 := Scalar.addi 0#32 (Scalar.muli (Scalar.divsi (Scalar.subi v20 0#32) 1#32) 1#32)

/-- The body's head: the word of the table, the spread key scales at the first block of columns, and the loads of the
    first tile. -/
def headP (i : grid0.Coords) (arg3 : Memref sig .tc .smem S2 .i32) (B : Bufs) :
    P (F := F) (Σ' (v1 : Elt F .i32) (_ : k0_chk1 i v1) (_ : BitVec 32) (_ : FVec F S1x256 .f32) (_ : FVec F S256x128 .fp8e4m3), Vec F S1x1x64x256 .fp8e4m3) := do
  let v1 : Elt F .i32 ← smemLoad arg3 (Rect.unit (s := S2) (k0_off1 i) S1.size (k0_off1_inb i)) numel1_S1 rfl
  have hw1 : k0_chk1 i v1 := (← Prog.lift (TpuEff.assume (k0_chk1 i v1) (k0_chk1.dec i v1))).down
  if hc : k0_cond1 i = 1#1 then do
    Scf.Loop.for (k0_t1_loop v1) (k0_t1_ok i v1 hw1 hc) ⟨⟩ fun t _ => seqL (spreadTile B v1 (stw 128#32 (k0_t1_loop v1).lb t) (k0_off3_inb i v1 hw1 t hc 1)) heads
    Scf.Loop.for (k0_t2_loop v1) (k0_t2_ok i v1 hw1 hc) ⟨⟩ fun t _ => seqL (spreadTile B v1 (stw 128#32 (k0_t2_loop v1).lb t) (k0_off11_inb i v1 hw1 t hc 1)) heads
    pure ⟨⟩
  else do
    pure ⟨⟩
  let sqv ← Prog.lift (.load B.sq (rSq h0 h0).toLoadRect (View.loadsAt_vmem h_S1x1x1x256))
  let kv ← Prog.lift (.load B.k (rK256 h0 0 (by decide)).toLoadRect (View.loadsAt_vmem h_S1x1x256x128))
  let qv ← Prog.lift (.load B.q (rQ h0 h0).toLoadRect (View.loadsAt_vmem h_S1x1x64x256))
  pure ⟨v1, hw1, nblk v1, qs sqv, kc256 kv, qv⟩

/-- The body's test and redo loop, and the loads of the first output. -/
def checkP (B : Bufs) (v1 : BitVec 32) (t0 : FVec F S1x1024 .f32) : P (F := F) (Σ' (_ : FVec F S64x256 .f32), FVec F S1x256 .f32) := do
  let t1 ← Prog.lift (.load B.acc (Rect.unit (s := S4x80x1024) ![1, 64, 0] S1x1x1024.size inb_S4x80x1024_S1x1x1024_1_64_0).toLoadRect (View.loadsAt_vmem h_S1x1x1024))
  let t2 ← Prog.lift (.load B.acc (Rect.unit (s := S4x80x1024) ![2, 64, 0] S1x1x1024.size inb_S4x80x1024_S1x1x1024_2_64_0).toLoadRect (View.loadsAt_vmem h_S1x1x1024))
  let t3 ← Prog.lift (.load B.acc (Rect.unit (s := S4x80x1024) ![3, 64, 0] S1x1x1024.size inb_S4x80x1024_S1x1x1024_3_64_0).toLoadRect (View.loadsAt_vmem h_S1x1x1024))
  let nv ← Prog.lift (.load B.acc (Rect.unit (s := S4x80x1024) ![0, 0, 0] S4x64x1024.size inb_S4x80x1024_S4x64x1024_0_0_0).toLoadRect (View.loadsAt_vmem h_S4x64x1024))
  have hw2 : k0_chk2 v1 (badOf t0 t1 t2 t3 nv) := (← Prog.lift (TpuEff.assume (k0_chk2 v1 (badOf t0 t1 t2 t3 nv)) (k0_chk2.dec v1 (badOf t0 t1 t2 t3 nv)))).down
  if hc2 : k0_cond2 (badOf t0 t1 t2 t3 nv) = 1#1 then do
    let _ ← Prog.lift (.load B.m (Rect.unit (s := S4x1024) ![0, 0] S4x1024.size inb_S4x1024_S4x1024_0_0).toLoadRect (View.loadsAt_vmem h_S4x1024))
    Prog.lift (.store B.m (Rect.unit (s := S4x1024) ![0, 0] S4x1024.size inb_S4x1024_S4x1024_0_0) (shapeCast S4x1024 (broadcast S4x1024 (Scalar.ofBits .f32 0xFF800000#32 : F .f32)) shapeCasts_S4x1024_S4x1024) Finset.univ (View.stores_vmem_bits_univ h_S4x1024 rfl) (.inl rfl))
    let _ ← Prog.lift (.load B.acc (Rect.unit (s := S4x80x1024) ![0, 0, 0] S4x80x1024.size inb_S4x80x1024_S4x80x1024_0_0_0).toLoadRect (View.loadsAt_vmem h_S4x80x1024))
    Prog.lift (.store B.acc (Rect.unit (s := S4x80x1024) ![0, 0, 0] S4x80x1024.size inb_S4x80x1024_S4x80x1024_0_0_0) (shapeCast S4x80x1024 (broadcast S4x80x1024 (Scalar.ofBits .f32 0x00000000#32 : F .f32)) shapeCasts_S4x80x1024_S4x80x1024) Finset.univ (View.stores_vmem_bits_univ h_S4x80x1024 rfl) (.inl rfl))
    Scf.Loop.for (k0_t5_loop v1) (k0_t5_ok v1 _ hw2 hc2) ⟨⟩ fun t _ => seqL (safeTile B v1 (stw 256#32 (k0_t5_loop v1).lb t) (k0_off38_inb v1 _ hw2 t hc2 2)) tiles
    Scf.Loop.for (k0_t6_loop v1) (k0_t6_ok v1 _ hw2 hc2) ⟨⟩ fun t _ => seqL (safeTile B v1 (stw 256#32 (k0_t6_loop v1).lb t) (k0_off48_inb v1 _ hw2 t hc2 2)) tiles
    pure ⟨⟩
  else do
    pure ⟨⟩
  let n0 ← Prog.lift (.load B.acc (rNum h0 h0).toLoadRect (View.loadsAt_vmem h_S1x64x256))
  let d0 ← Prog.lift (.load B.acc (rDen h0 h0).toLoadRect (View.loadsAt_vmem h_S1x1x256))
  pure ⟨numC n0, denC d0⟩

/-- The tiles strictly between the first and the last. -/
def midTiles : List (Fin 4 × Fin 4) :=
  [(⟨0, by decide⟩, ⟨1, by decide⟩), (⟨0, by decide⟩, ⟨2, by decide⟩), (⟨0, by decide⟩, ⟨3, by decide⟩),
   (⟨1, by decide⟩, ⟨0, by decide⟩), (⟨1, by decide⟩, ⟨1, by decide⟩), (⟨1, by decide⟩, ⟨2, by decide⟩), (⟨1, by decide⟩, ⟨3, by decide⟩),
   (⟨2, by decide⟩, ⟨0, by decide⟩), (⟨2, by decide⟩, ⟨1, by decide⟩), (⟨2, by decide⟩, ⟨2, by decide⟩), (⟨2, by decide⟩, ⟨3, by decide⟩),
   (⟨3, by decide⟩, ⟨0, by decide⟩), (⟨3, by decide⟩, ⟨1, by decide⟩), (⟨3, by decide⟩, ⟨2, by decide⟩)]

/-- The body's end: the outputs of the four blocks of query columns. -/
def outP (B : Bufs) (n0 : FVec F S64x256 .f32) (d0 : FVec F S1x256 .f32) : P (F := F) PUnit := do
  outTail B h0 n0 d0
  seqL (outTile B) heads.tail

/-- The body from the last first-maximum tile to the loads of the check: that tile, the main loop (its two regions as the
    printed kernel has them) and the first head's totals. -/
def loopP (i : grid0.Coords) (arg3 : Memref sig .tc .smem S2 .i32) (harg3 : arg3.IsWhole) (B : Bufs) (v1 : Elt F .i32) (hw1 : k0_chk1 i v1) (v20 : BitVec 32) (fq : FVec F S1x256 .f32) (kc : FVec F S256x128 .fp8e4m3) (qv : Vec F S1x1x64x256 .fp8e4m3) :
    P (F := F) (FVec F S1x1024 .f32) := do
  firstTail B v1 (h3, h3) fq kc qv
  Scf.Loop.for (k0_t3_loop v1) (k0_t3_ok i v1 hw1) ⟨⟩ fun t u => k0_t3_body (F := F) i arg3 harg3 B.q B.hq B.sq B.hsq B.k B.hk B.sk B.hsk B.v B.hv B.x B.hx B.w B.hw B.y B.hy B.o B.ho B.b B.hb B.acc B.hacc B.m B.hm v1 hw1 v20 fq kc qv t u
  Scf.Loop.for (k0_t4_loop v1) (k0_t4_ok i v1 hw1) ⟨⟩ fun t u => k0_t4_body (F := F) i arg3 harg3 B.q B.hq B.sq B.hsq B.k B.hk B.sk B.hsk B.v B.hv B.x B.hx B.w B.hw B.y B.hy B.o B.ho B.b B.hb B.acc B.hacc B.m B.hm v1 hw1 v20 fq kc qv (lbOf v20) t u
  let t0 ← Prog.lift (.load B.acc (Rect.unit (s := S4x80x1024) ![0, 64, 0] S1x1x1024.size inb_S4x80x1024_S1x1x1024_0_64_0).toLoadRect (View.loadsAt_vmem h_S1x1x1024))
  pure (shapeCast S1x1024 t0 shapeCasts_S1x1x1024_S1x1024)

/-- The body from the last first-maximum tile on. -/
def restP (i : grid0.Coords) (arg3 : Memref sig .tc .smem S2 .i32) (harg3 : arg3.IsWhole) (B : Bufs) (v1 : Elt F .i32) (hw1 : k0_chk1 i v1) (v20 : BitVec 32) (fq : FVec F S1x256 .f32) (kc : FVec F S256x128 .fp8e4m3) (qv : Vec F S1x1x64x256 .fp8e4m3) :
    P (F := F) PUnit := do
  let t0 ← loopP i arg3 harg3 B v1 hw1 v20 fq kc qv
  let x ← checkP B v1 t0
  outP B x.1 x.2

/-- The body between the head and the last first-maximum tile, and on. -/
def midP (B : Bufs) (v1 : Elt F .i32) (fq : FVec F S1x256 .f32) (kc : FVec F S256x128 .fp8e4m3) (qv : Vec F S1x1x64x256 .fp8e4m3)
    (K : FVec F S1x256 .f32 → FVec F S256x128 .fp8e4m3 → Vec F S1x1x64x256 .fp8e4m3 → P (F := F) PUnit) : P (F := F) PUnit := do
  firstTail B v1 (h0, h0) fq kc qv
  seqL (firstTile B v1) midTiles
  let sqv ← Prog.lift (.load B.sq (rSq h3 h3).toLoadRect (View.loadsAt_vmem h_S1x1x1x256))
  let kv ← Prog.lift (.load B.k (rK256 h3 0 (by decide)).toLoadRect (View.loadsAt_vmem h_S1x1x256x128))
  let qv3 ← Prog.lift (.load B.q (rQ h3 h3).toLoadRect (View.loadsAt_vmem h_S1x1x64x256))
  K (qs sqv) (kc256 kv) qv3

/-- The whole body, in the tiles' programs. -/
def bodyP (i : grid0.Coords) (arg3 : Memref sig .tc .smem S2 .i32) (harg3 : arg3.IsWhole) (B : Bufs) : P (F := F) PUnit := do
  let x ← headP i arg3 B
  midP B x.1 x.2.2.2.1 x.2.2.2.2.1 x.2.2.2.2.2 fun a b c => restP i arg3 harg3 B x.1 x.2.1 x.2.2.1 a b c

end Cert.Kernel.Row

end
-- ==== Proof.KBounds.lean ====
/-
  The word of the table is between 1 and 9216: the loops' trip counts, and the side conditions the kernel checks.
-/
module

public import proofs.«01_k».proof.Proof.KTiles
public import proofs.«01_k».proof.Proof.Bounds

@[expose] public section

set_option maxRecDepth 16384

noncomputable section

namespace Cert.Kernel.Row

open Cert.Kernel Cert.Kernel.Gen
open Idealize.ShloMosaic Idealize.ShloMosaic.TcCoe Idealize.ShloMosaic.Tactic

/-- A number of keys the caches hold. -/
structure InRange (v : BitVec 32) : Prop where
  one : 1 ≤ v.toNat
  top : v.toNat ≤ 9216

/-- The number of blocks of 1024 keys, and of 256 keys, that hold `v` keys. -/
def nb (v : BitVec 32) : ℕ := (v.toNat + 1023) / 1024
def nc (v : BitVec 32) : ℕ := (v.toNat + 255) / 256

theorem InRange.nb_le {v : BitVec 32} (h : InRange v) : nb v ≤ 9 := by have := h.top; unfold nb; omega
theorem InRange.nb_pos {v : BitVec 32} (h : InRange v) : 1 ≤ nb v := by have := h.one; unfold nb; omega
theorem InRange.nc_le {v : BitVec 32} (h : InRange v) : nc v ≤ 36 := by have := h.top; unfold nc; omega

/-- What the loops' bounds come to, at each number of keys. -/
def Facts (v : BitVec 32) : Prop :=
  ((k0_t1_loop v).trips = 8 * nb v ∧ (k0_t2_loop v).trips = 0 ∧ (k0_t3_loop v).trips = nb v ∧ (k0_t4_loop v).trips = 0
    ∧ (k0_t5_loop v).trips = nc v ∧ (k0_t6_loop v).trips = 0)
  ∧ ((k0_t1_loop v).OK ∧ (k0_t2_loop v).OK ∧ (k0_t3_loop v).OK ∧ (k0_t4_loop v).OK ∧ (k0_t5_loop v).OK ∧ (k0_t6_loop v).OK)

instance (v : BitVec 32) : Decidable (Facts v) := by unfold Facts Scf.Loop.OK Scf.OK; infer_instance

theorem facts_all : ∀ n : Fin 9216, Facts (BitVec.ofNat 32 (n.val + 1)) := fun n => Cert.KernelIdeal.Row.facts_all n

theorem facts {v : BitVec 32} (h : InRange v) : Facts v := by
  have := facts_all ⟨v.toNat - 1, by have := h.one; have := h.top; omega⟩
  have e : BitVec.ofNat 32 (v.toNat - 1 + 1) = v := by
    rw [Nat.sub_add_cancel h.one]; simp
  simpa only [e] using this

end Cert.Kernel.Row
end
-- ==== Proof.KChecks.lean ====
/-
  At a word of the table between 1 and 9216 the side conditions the kernel checks hold.
-/
module

public import proofs.«01_k».proof.Proof.KBounds

@[expose] public section

set_option maxRecDepth 16384

noncomputable section

namespace Cert.Kernel.Row

open Cert.Kernel Cert.Kernel.Gen
open Idealize.ShloMosaic Idealize.ShloMosaic.TcCoe Idealize.ShloMosaic.Tactic

theorem InRange.t1 {v : BitVec 32} (h : InRange v) : (k0_t1_loop v).trips = 8 * nb v := (facts h).1.1
theorem InRange.t2 {v : BitVec 32} (h : InRange v) : (k0_t2_loop v).trips = 0 := (facts h).1.2.1
theorem InRange.t3 {v : BitVec 32} (h : InRange v) : (k0_t3_loop v).trips = nb v := (facts h).1.2.2.1
theorem InRange.t4 {v : BitVec 32} (h : InRange v) : (k0_t4_loop v).trips = 0 := (facts h).1.2.2.2.1
theorem InRange.t5 {v : BitVec 32} (h : InRange v) : (k0_t5_loop v).trips = nc v := (facts h).1.2.2.2.2.1
theorem InRange.t6 {v : BitVec 32} (h : InRange v) : (k0_t6_loop v).trips = 0 := (facts h).1.2.2.2.2.2
theorem InRange.lt1 {v : BitVec 32} (h : InRange v) (t : Fin (k0_t1_loop v).trips) : t.val < 72 := by
  have := t.isLt; have := h.t1; have := h.nb_le; omega
theorem InRange.lt3 {v : BitVec 32} (h : InRange v) (t : Fin (k0_t3_loop v).trips) : t.val < 9 := by
  have := t.isLt; have := h.t3; have := h.nb_le; omega
theorem InRange.lt5 {v : BitVec 32} (h : InRange v) (t : Fin (k0_t5_loop v).trips) : t.val < 36 := by
  have := t.isLt; have := h.t5; have := h.nc_le; omega

/-- Trip `k`'s offset in a loop from 0 is `w · k`. -/
theorem stw_toNat (w : BitVec 32) (k : ℕ) (h : k * w.toNat < 2 ^ 32) : (stw w 0#32 k).toNat = k * w.toNat := by
  have hk : w.toNat = 0 ∨ k < 2 ^ 32 := by
    rcases Nat.eq_zero_or_pos w.toNat with h0 | h0
    · exact .inl h0
    · exact .inr (lt_of_le_of_lt (Nat.le_mul_of_pos_right k h0) h)
  show ((0#32 + BitVec.ofNat 32 k * 1#32) * w).toNat = _
  rcases hk with h0 | h0
  · have : w = 0#32 := by apply BitVec.eq_of_toNat_eq; simpa using h0
    subst this; simp
  · simp only [BitVec.zero_add, BitVec.mul_one, BitVec.toNat_mul, BitVec.toNat_ofNat]
    rw [Nat.mod_eq_of_lt h0, Nat.mod_eq_of_lt h]

theorem stw1 {v : BitVec 32} (k : ℕ) (h : k < 72) : (stw 128#32 (k0_t1_loop v).lb k).toNat = k * 128 :=
  stw_toNat 128#32 k (by show k * 128 < 2 ^ 32; omega)
theorem stw3 {v : BitVec 32} (k : ℕ) (h : k < 9) : (stw 1024#32 (k0_t3_loop v).lb k).toNat = k * 1024 :=
  stw_toNat 1024#32 k (by show k * 1024 < 2 ^ 32; omega)
theorem stw5 {v : BitVec 32} (k : ℕ) (h : k < 36) : (stw 256#32 (k0_t5_loop v).lb k).toNat = k * 256 :=
  stw_toNat 256#32 k (by show k * 256 < 2 ^ 32; omega)

/-- A vacuous choice: the loop has no trip. -/
theorem no_trip {n : ℕ} (h : n = 0) (t : Fin n) : False := absurd t.isLt (by omega)

/-- The conditions on the word the spreading and the main loop check. -/
theorem chk1 (i : grid0.Coords) {v : BitVec 32} (h : InRange v) : k0_chk1 i v := by
  have g1 : ∀ t : Fin (k0_t1_loop v).trips, (stw 128#32 (k0_t1_loop v).lb t).toNat + 128 ≤ 9216 := fun t => by
    have := h.lt1 t; rw [stw1 _ this]; omega
  have g3 : ∀ t : Fin (k0_t3_loop v).trips, (stw 1024#32 (k0_t3_loop v).lb t).toNat + 1024 ≤ 9216 := fun t => by
    have := h.lt3 t; rw [stw3 _ this]; omega
  have n2 := h.t2
  have n4 := h.t4
  have ok := (facts h).2
  refine ⟨⟨fun _ => ok.1, fun t _ => ?_, fun t _ => ?_, fun t _ => ?_, fun t _ => ?_, fun t _ => ?_, fun t _ => ?_, fun t _ => ?_, fun t _ => ?_, fun t _ => ?_,
      fun _ => ok.2.1, fun t => (no_trip n2 t).elim, fun t => (no_trip n2 t).elim, fun t => (no_trip n2 t).elim, fun t => (no_trip n2 t).elim, fun t => (no_trip n2 t).elim, fun t => (no_trip n2 t).elim, fun t => (no_trip n2 t).elim, fun t => (no_trip n2 t).elim, fun t => (no_trip n2 t).elim,
      ok.2.2.1, fun t => ?_, fun t => ?_, fun t => ?_, fun t => ?_, fun t => ?_, fun t => ?_, fun t => ?_, fun t => ?_, fun t => ?_, fun t => ?_, fun t => ?_⟩,
    ok.2.2.2.1, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim, fun t => (no_trip n4 t).elim⟩
  · exact ⟨t.val, (stw1 (v := v) _ (h.lt1 t)).trans (Nat.mul_comm _ _)⟩
  · exact inb_sk h0 _ (g1 t)
  · exact inb_b128 h0 _ (g1 t)
  · exact inb_sk h1 _ (g1 t)
  · exact inb_b128 h1 _ (g1 t)
  · exact inb_sk h2 _ (g1 t)
  · exact inb_b128 h2 _ (g1 t)
  · exact inb_sk h3 _ (g1 t)
  · exact inb_b128 h3 _ (g1 t)
  · exact ⟨t.val, (stw3 (v := v) _ (h.lt3 t)).trans (Nat.mul_comm _ _)⟩
  · exact inb_k1024 h0 _ (g3 t)
  · exact inb_b1024 h0 _ (g3 t)
  · exact inb_v1024 h0 _ (g3 t)
  · exact inb_b1024 h1 _ (g3 t)
  · exact inb_v1024 h1 _ (g3 t)
  · exact inb_k1024 h2 _ (g3 t)
  · exact inb_b1024 h2 _ (g3 t)
  · exact inb_v1024 h2 _ (g3 t)
  · exact inb_b1024 h3 _ (g3 t)
  · exact inb_v1024 h3 _ (g3 t)

/-- The conditions on the word the redo loop checks. -/
theorem chk2 (b : BitVec 1) {v : BitVec 32} (h : InRange v) : k0_chk2 v b := by
  have g5 : ∀ t : Fin (k0_t5_loop v).trips, (stw 256#32 (k0_t5_loop v).lb t).toNat + 256 ≤ 9216 := fun t => by
    have := h.lt5 t; rw [stw5 _ this]; omega
  have n6 := h.t6
  have ok := (facts h).2
  refine ⟨fun _ => ok.2.2.2.2.1, fun t _ => ?_, fun t _ => ?_, fun t _ => ?_, fun t _ => ?_, fun t _ => ?_, fun t _ => ?_, fun t _ => ?_, fun t _ => ?_, fun t _ => ?_, fun t _ => ?_, fun t _ => ?_,
      fun _ => ok.2.2.2.2.2, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim, fun t => (no_trip n6 t).elim⟩
  · exact ⟨t.val, (stw5 (v := v) _ (h.lt5 t)).trans (Nat.mul_comm _ _)⟩
  · exact inb_k256 h0 _ (g5 t)
  · exact inb_b256 h0 _ (g5 t)
  · exact inb_v256 h0 _ (g5 t)
  · exact inb_b256 h1 _ (g5 t)
  · exact inb_v256 h1 _ (g5 t)
  · exact inb_k256 h2 _ (g5 t)
  · exact inb_b256 h2 _ (g5 t)
  · exact inb_v256 h2 _ (g5 t)
  · exact inb_b256 h3 _ (g5 t)
  · exact inb_v256 h3 _ (g5 t)

end Cert.Kernel.Row
end
-- ==== Proof.KRuns.lean ====
/-
  How a program of the body runs: from the buffers at one state to the buffers at another, returning a value. The state
  is what the two results', the accumulator's and the maxima's buffers read, and what is known of the spread scales.
-/
module

public import proofs.«01_k».proof.Proof.KChecks
public import Idealize.ShloMosaic.Lib.Writes
public import Idealize.ShloMosaic.Lib.Pipeline.FrameBody

@[expose] public section

set_option maxRecDepth 16384

noncomputable section

namespace Cert.Kernel.Row

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra. -/
local notation "𝕄" => MT nD τ sig Unit (Elt F) ℕ (UR sig nD τ) ℕ

/-! ## Reading after a store -/

/-- An array with a rectangle of it replaced. -/
def put {s : Shape} {e : EltTy} (X : s.Idx → Elt F e) (r : Rect s) (w : r.shape.Idx → Elt F e) : s.Idx → Elt F e :=
  open Classical in fun i => if h : ∃ x, r.emb x = i then w h.choose else X i

theorem put_emb {s : Shape} {e : EltTy} (X : s.Idx → Elt F e) (r : Rect s) (w : r.shape.Idx → Elt F e) (x : r.shape.Idx) :
    put X r w (r.emb x) = w x := by
  have h : ∃ y, r.emb y = r.emb x := ⟨x, rfl⟩
  unfold put
  rw [dif_pos h, r.emb.injective h.choose_spec]

theorem put_miss {s : Shape} {e : EltTy} (X : s.Idx → Elt F e) (r : Rect s) (w : r.shape.Idx → Elt F e) (i : s.Idx)
    (h : ∀ x, r.emb x ≠ i) : put X r w i = X i := by
  unfold put
  rw [dif_neg (fun ⟨x, hx⟩ => h x hx)]

/-- What a memref reads after a store through a rectangle of it. -/
theorem read_store {sp : Space} {s : Shape} {e : EltTy} (m : Memref sig .tc sp s e) (r : Rect s) (f : m.view.ty.Contents (Elt F))
    (w : r.shape.Idx → Elt F e) :
    m.view.read (Elt F) ((m.access r).write (Elt F) f w Finset.univ) = put (m.view.read (Elt F) f) r w := by
  funext i
  by_cases h : ∃ x, r.emb x = i
  · obtain ⟨x, rfl⟩ := h
    rw [put_emb]
    exact View.read_writes_cons_emb m.view f r w [] x
  · have h' : ∀ x, r.emb x ≠ i := fun x hx => h ⟨x, hx⟩
    rw [put_miss _ _ _ _ h']
    exact View.read_writes_cons_miss m.view f ⟨r, w⟩ [] i (fun hm => by
      obtain ⟨x, hx⟩ := r.exists_idx_of_mem hm
      exact h' x hx)

/-! ## The state -/

/-- What the operands hold, and at which share the table of the numbers of keys is held. -/
structure In (F : FTy → Type) where
  qn : PosShare TreeShare
  n : Vec F S2 .i32
  q : Vec F S1x1x256x1024 .fp8e4m3
  sq : Vec F S1x1x4x1024 .f32
  k : Vec F S1x1x9216x256 .fp8e4m3
  sk : Vec F S1x1x4x9216 .f32
  v : Vec F S1x1x256x9216 .bf16
  x : Vec F S1x1x1024x256 .f32
  w : Vec F S256x256 .bf16

/-- What the two results', the accumulator's and the maxima's buffers read, and what is known of the spread scales. -/
structure St (F : FTy → Type) where
  y : Vec F S1x1x1024x256 .bf16
  o : Vec F S1x1x1024x256 .bf16
  ag : Vec F S4x9216x128 .f32 → Prop
  acc : Vec F S4x80x1024 .f32
  m : Vec F S4x1024 .f32

variable (c : Dev nD) (a3 : Memref sig .tc .smem S2 .i32) (B : Bufs) (I : In F)

/-- A buffer of the body held whole, reading `X`. -/
abbrev own {sp : Space} {s : Shape} {e : EltTy} (m : Memref sig .tc sp s e) (X : s.Idx → Elt F e) : sProp 𝕄 :=
  owns (c : Thread nD τ) m fullShare X

/-- The body's buffers at a state. -/
def H (s : St F) : sProp 𝕄 :=
  iprop(owns (c : Thread nD τ) a3 I.qn I.n ∗ own c B.q I.q ∗ own c B.sq I.sq ∗ own c B.k I.k ∗ own c B.sk I.sk ∗ own c B.v I.v ∗ own c B.x I.x ∗ own c B.w I.w
    ∗ own c B.y s.y ∗ own c B.o s.o ∗ (∃ b, ⌜s.ag b⌝ ∗ own c B.b b) ∗ own c B.acc s.acc ∗ own c B.m s.m)

/-- The weakest precondition of a program of the body. -/
abbrev WP {α : Type} (p : P (F := F) α) (Q : α → sProp 𝕄) : sProp 𝕄 :=
  wp frame (wpE (defs₀ (F := F)) Variants.none (c : Thread nD τ) none) Set.univ p Q

/-- The program runs from one state to another, returning a value. -/
def Runs {α : Type} (p : P (F := F) α) (s : St F) (a : α) (s' : St F) : Prop :=
  ∀ (R : sProp 𝕄) (Q : α → sProp 𝕄), (iprop(H c a3 B I s' ∗ R) ⊢ Q a) → (iprop(H c a3 B I s ∗ R) ⊢ WP c p Q)

variable {c a3 B I}

theorem Runs.ret {α : Type} (a : α) (s : St F) : Runs c a3 B I (pure a) s a s := fun R Q h => by
  show _ ⊢ wp _ _ _ (.ret a) Q
  rw [wp_ret]
  refine h.trans ?_
  iintro H; imodintro; iexact H

theorem Runs.bind {α β : Type} {p : P (F := F) α} {f : α → P (F := F) β} {s s' s'' : St F} {a : α} {b : β}
    (h : Runs c a3 B I p s a s') (h' : Runs c a3 B I (f a) s' b s'') : Runs c a3 B I (p >>= f) s b s'' := fun R Q hQ => by
  unfold WP
  rw [wp_bind]
  exact h R _ (h' R Q hQ)

/-- A load of a buffer the state holds at `X`. -/
theorem Runs.load_of {cs : CoreSpace} {S : Shape} {e : EltTy} {m : Memref sig .tc cs S e} {r : Rect S} {hl : m.view.LoadsAt r.toLoadRect}
    {s : St F} {q : PosShare TreeShare} {X : S.Idx → Elt F e} {Y : r.shape.Idx → Elt F e}
    (hX : H c a3 B I s ⊢ iprop(owns (c : Thread nD τ) m q X ∗ (owns (c : Thread nD τ) m q X -∗ H c a3 B I s))) (hY : View.ld X r = Y) :
    Runs c a3 B I (Prog.lift (.load m r.toLoadRect hl)) s Y s := fun R Q h => by
  subst hY
  unfold owns at hX
  refine (sep_mono_left hX).trans ?_
  iintro ⟨⟨⟨%f, %hf, Hf⟩, Hk⟩, HR⟩
  iapply (wp_load Variants.none (c : Thread nD τ) none Set.univ (Q := Q) (m := m) (r := r.toLoadRect) (hl := hl) (q := q) (f := f) (S := m.view.set) (k := .ret) (m.view.setOn_subset_set _)) $$ Hf
  iintro Hf
  rw [wp_ret]
  imodintro
  subst hf
  ihave G := h $$ [Hf Hk HR]
  rotate_left
  · rw [View.readAt_eq_ld]; iexact G
  isplitl [Hf Hk]
  · iapply Hk
    iexists f
    isplitr; · ipureintro; rfl
    iexact Hf
  iexact HR

/-- A store into a buffer the state holds. -/
theorem Runs.store_of {cs : CoreSpace} {S : Shape} {e : EltTy} {m : Memref sig .tc cs S e} {r : Rect S} {w : r.shape.Idx → Elt F e}
    {hx : (m.access r).Stores Finset.univ} {hm : Finset.univ = Finset.univ ∨ ∀ a, r.stride a = 1}
    {s s' : St F} {X : S.Idx → Elt F e}
    (hX : H c a3 B I s ⊢ iprop(own c m X ∗ (own c m (put X r w) -∗ H c a3 B I s'))) :
    Runs c a3 B I (Prog.lift (.store m r w Finset.univ hx hm)) s ⟨⟩ s' := fun R Q h => by
  unfold own owns at hX
  refine (sep_mono_left hX).trans ?_
  iintro ⟨⟨⟨%f, %hf, Hf⟩, Hk⟩, HR⟩
  iapply (wp_store Variants.none (c : Thread nD τ) none Set.univ (Q := Q) (m := m) (r := r) (hx := hx) (hm := hm) (w := w) (Mk := Finset.univ) (f := f) (S := m.view.set) (k := .ret) (((m.access r).setOn_subset_set _).trans (by show (m.view.slice r).set ⊆ _; rw [View.set_slice]; exact m.view.setOn_subset_set _))) $$ Hf
  iintro Hf
  rw [wp_ret]
  imodintro
  subst hf
  iapply h
  isplitl [Hf Hk]
  · iapply Hk
    iexists _
    isplitr; · ipureintro; exact read_store m r f w
    iexact Hf
  iexact HR

theorem H_n (s : St F) : H c a3 B I s ⊢ iprop(owns (c : Thread nD τ) a3 I.qn I.n ∗ (owns (c : Thread nD τ) a3 I.qn I.n -∗ H c a3 B I s)) := by
  unfold H
  iintro ⟨Hn, Hq, Hsq, Hk, Hsk, Hv, Hx, Hw, Hy, Ho, Hb, Hacc, Hm⟩
  isplitl [Hn]; · iexact Hn
  iintro Hn
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem H_q (s : St F) : H c a3 B I s ⊢ iprop(owns (c : Thread nD τ) B.q fullShare I.q ∗ (owns (c : Thread nD τ) B.q fullShare I.q -∗ H c a3 B I s)) := by
  unfold H
  iintro ⟨Hn, Hq, Hsq, Hk, Hsk, Hv, Hx, Hw, Hy, Ho, Hb, Hacc, Hm⟩
  isplitl [Hq]; · iexact Hq
  iintro Hq
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_q {r : Rect S1x1x256x1024} {hl : B.q.view.LoadsAt r.toLoadRect} (s : St F) :
    Runs c a3 B I (Prog.lift (.load B.q r.toLoadRect hl)) s (View.ld I.q r) s :=
  Runs.load_of (H_q s) rfl

theorem H_sq (s : St F) : H c a3 B I s ⊢ iprop(owns (c : Thread nD τ) B.sq fullShare I.sq ∗ (owns (c : Thread nD τ) B.sq fullShare I.sq -∗ H c a3 B I s)) := by
  unfold H
  iintro ⟨Hn, Hq, Hsq, Hk, Hsk, Hv, Hx, Hw, Hy, Ho, Hb, Hacc, Hm⟩
  isplitl [Hsq]; · iexact Hsq
  iintro Hsq
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_sq {r : Rect S1x1x4x1024} {hl : B.sq.view.LoadsAt r.toLoadRect} (s : St F) :
    Runs c a3 B I (Prog.lift (.load B.sq r.toLoadRect hl)) s (View.ld I.sq r) s :=
  Runs.load_of (H_sq s) rfl

theorem H_k (s : St F) : H c a3 B I s ⊢ iprop(owns (c : Thread nD τ) B.k fullShare I.k ∗ (owns (c : Thread nD τ) B.k fullShare I.k -∗ H c a3 B I s)) := by
  unfold H
  iintro ⟨Hn, Hq, Hsq, Hk, Hsk, Hv, Hx, Hw, Hy, Ho, Hb, Hacc, Hm⟩
  isplitl [Hk]; · iexact Hk
  iintro Hk
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_k {r : Rect S1x1x9216x256} {hl : B.k.view.LoadsAt r.toLoadRect} (s : St F) :
    Runs c a3 B I (Prog.lift (.load B.k r.toLoadRect hl)) s (View.ld I.k r) s :=
  Runs.load_of (H_k s) rfl

theorem H_sk (s : St F) : H c a3 B I s ⊢ iprop(owns (c : Thread nD τ) B.sk fullShare I.sk ∗ (owns (c : Thread nD τ) B.sk fullShare I.sk -∗ H c a3 B I s)) := by
  unfold H
  iintro ⟨Hn, Hq, Hsq, Hk, Hsk, Hv, Hx, Hw, Hy, Ho, Hb, Hacc, Hm⟩
  isplitl [Hsk]; · iexact Hsk
  iintro Hsk
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_sk {r : Rect S1x1x4x9216} {hl : B.sk.view.LoadsAt r.toLoadRect} (s : St F) :
    Runs c a3 B I (Prog.lift (.load B.sk r.toLoadRect hl)) s (View.ld I.sk r) s :=
  Runs.load_of (H_sk s) rfl

theorem H_v (s : St F) : H c a3 B I s ⊢ iprop(owns (c : Thread nD τ) B.v fullShare I.v ∗ (owns (c : Thread nD τ) B.v fullShare I.v -∗ H c a3 B I s)) := by
  unfold H
  iintro ⟨Hn, Hq, Hsq, Hk, Hsk, Hv, Hx, Hw, Hy, Ho, Hb, Hacc, Hm⟩
  isplitl [Hv]; · iexact Hv
  iintro Hv
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_v {r : Rect S1x1x256x9216} {hl : B.v.view.LoadsAt r.toLoadRect} (s : St F) :
    Runs c a3 B I (Prog.lift (.load B.v r.toLoadRect hl)) s (View.ld I.v r) s :=
  Runs.load_of (H_v s) rfl

theorem H_x (s : St F) : H c a3 B I s ⊢ iprop(owns (c : Thread nD τ) B.x fullShare I.x ∗ (owns (c : Thread nD τ) B.x fullShare I.x -∗ H c a3 B I s)) := by
  unfold H
  iintro ⟨Hn, Hq, Hsq, Hk, Hsk, Hv, Hx, Hw, Hy, Ho, Hb, Hacc, Hm⟩
  isplitl [Hx]; · iexact Hx
  iintro Hx
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_x {r : Rect S1x1x1024x256} {hl : B.x.view.LoadsAt r.toLoadRect} (s : St F) :
    Runs c a3 B I (Prog.lift (.load B.x r.toLoadRect hl)) s (View.ld I.x r) s :=
  Runs.load_of (H_x s) rfl

theorem H_w (s : St F) : H c a3 B I s ⊢ iprop(owns (c : Thread nD τ) B.w fullShare I.w ∗ (owns (c : Thread nD τ) B.w fullShare I.w -∗ H c a3 B I s)) := by
  unfold H
  iintro ⟨Hn, Hq, Hsq, Hk, Hsk, Hv, Hx, Hw, Hy, Ho, Hb, Hacc, Hm⟩
  isplitl [Hw]; · iexact Hw
  iintro Hw
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_w {r : Rect S256x256} {hl : B.w.view.LoadsAt r.toLoadRect} (s : St F) :
    Runs c a3 B I (Prog.lift (.load B.w r.toLoadRect hl)) s (View.ld I.w r) s :=
  Runs.load_of (H_w s) rfl

theorem H_y (s : St F) : H c a3 B I s ⊢ iprop(owns (c : Thread nD τ) B.y fullShare s.y ∗ (owns (c : Thread nD τ) B.y fullShare s.y -∗ H c a3 B I s)) := by
  unfold H
  iintro ⟨Hn, Hq, Hsq, Hk, Hsk, Hv, Hx, Hw, Hy, Ho, Hb, Hacc, Hm⟩
  isplitl [Hy]; · iexact Hy
  iintro Hy
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_y {r : Rect S1x1x1024x256} {hl : B.y.view.LoadsAt r.toLoadRect} (s : St F) :
    Runs c a3 B I (Prog.lift (.load B.y r.toLoadRect hl)) s (View.ld s.y r) s :=
  Runs.load_of (H_y s) rfl

theorem H_o (s : St F) : H c a3 B I s ⊢ iprop(owns (c : Thread nD τ) B.o fullShare s.o ∗ (owns (c : Thread nD τ) B.o fullShare s.o -∗ H c a3 B I s)) := by
  unfold H
  iintro ⟨Hn, Hq, Hsq, Hk, Hsk, Hv, Hx, Hw, Hy, Ho, Hb, Hacc, Hm⟩
  isplitl [Ho]; · iexact Ho
  iintro Ho
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_o {r : Rect S1x1x1024x256} {hl : B.o.view.LoadsAt r.toLoadRect} (s : St F) :
    Runs c a3 B I (Prog.lift (.load B.o r.toLoadRect hl)) s (View.ld s.o r) s :=
  Runs.load_of (H_o s) rfl

theorem H_acc (s : St F) : H c a3 B I s ⊢ iprop(owns (c : Thread nD τ) B.acc fullShare s.acc ∗ (owns (c : Thread nD τ) B.acc fullShare s.acc -∗ H c a3 B I s)) := by
  unfold H
  iintro ⟨Hn, Hq, Hsq, Hk, Hsk, Hv, Hx, Hw, Hy, Ho, Hb, Hacc, Hm⟩
  isplitl [Hacc]; · iexact Hacc
  iintro Hacc
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_acc {r : Rect S4x80x1024} {hl : B.acc.view.LoadsAt r.toLoadRect} (s : St F) :
    Runs c a3 B I (Prog.lift (.load B.acc r.toLoadRect hl)) s (View.ld s.acc r) s :=
  Runs.load_of (H_acc s) rfl

theorem H_m (s : St F) : H c a3 B I s ⊢ iprop(owns (c : Thread nD τ) B.m fullShare s.m ∗ (owns (c : Thread nD τ) B.m fullShare s.m -∗ H c a3 B I s)) := by
  unfold H
  iintro ⟨Hn, Hq, Hsq, Hk, Hsk, Hv, Hx, Hw, Hy, Ho, Hb, Hacc, Hm⟩
  isplitl [Hm]; · iexact Hm
  iintro Hm
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.load_m {r : Rect S4x1024} {hl : B.m.view.LoadsAt r.toLoadRect} (s : St F) :
    Runs c a3 B I (Prog.lift (.load B.m r.toLoadRect hl)) s (View.ld s.m r) s :=
  Runs.load_of (H_m s) rfl

theorem Runs.store_y {r : Rect S1x1x1024x256} {w : r.shape.Idx → Elt F .bf16} {hx : (B.y.access r).Stores Finset.univ} {hm : Finset.univ = Finset.univ ∨ ∀ a, r.stride a = 1} (s : St F) :
    Runs c a3 B I (Prog.lift (.store B.y r w Finset.univ hx hm)) s ⟨⟩ { s with y := put s.y r w } := by
  refine Runs.store_of (X := s.y) ?_
  unfold H
  iintro ⟨Hn, Hq, Hsq, Hk, Hsk, Hv, Hx, Hw, Hy, Ho, Hb, Hacc, Hm⟩
  isplitl [Hy]; · iexact Hy
  iintro Hy
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.store_o {r : Rect S1x1x1024x256} {w : r.shape.Idx → Elt F .bf16} {hx : (B.o.access r).Stores Finset.univ} {hm : Finset.univ = Finset.univ ∨ ∀ a, r.stride a = 1} (s : St F) :
    Runs c a3 B I (Prog.lift (.store B.o r w Finset.univ hx hm)) s ⟨⟩ { s with o := put s.o r w } := by
  refine Runs.store_of (X := s.o) ?_
  unfold H
  iintro ⟨Hn, Hq, Hsq, Hk, Hsk, Hv, Hx, Hw, Hy, Ho, Hb, Hacc, Hm⟩
  isplitl [Ho]; · iexact Ho
  iintro Ho
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.store_acc {r : Rect S4x80x1024} {w : r.shape.Idx → Elt F .f32} {hx : (B.acc.access r).Stores Finset.univ} {hm : Finset.univ = Finset.univ ∨ ∀ a, r.stride a = 1} (s : St F) :
    Runs c a3 B I (Prog.lift (.store B.acc r w Finset.univ hx hm)) s ⟨⟩ { s with acc := put s.acc r w } := by
  refine Runs.store_of (X := s.acc) ?_
  unfold H
  iintro ⟨Hn, Hq, Hsq, Hk, Hsk, Hv, Hx, Hw, Hy, Ho, Hb, Hacc, Hm⟩
  isplitl [Hacc]; · iexact Hacc
  iintro Hacc
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

theorem Runs.store_m {r : Rect S4x1024} {w : r.shape.Idx → Elt F .f32} {hx : (B.m.access r).Stores Finset.univ} {hm : Finset.univ = Finset.univ ∨ ∀ a, r.stride a = 1} (s : St F) :
    Runs c a3 B I (Prog.lift (.store B.m r w Finset.univ hx hm)) s ⟨⟩ { s with m := put s.m r w } := by
  refine Runs.store_of (X := s.m) ?_
  unfold H
  iintro ⟨Hn, Hq, Hsq, Hk, Hsk, Hv, Hx, Hw, Hy, Ho, Hb, Hacc, Hm⟩
  isplitl [Hm]; · iexact Hm
  iintro Hm
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexact Hb
  isplitl [Hacc]; · iexact Hacc
  iexact Hm

/-- A load of the spread scales, at a rectangle whose contents are known. -/
theorem Runs.load_b {r : Rect S4x9216x128} {hl : B.b.view.LoadsAt r.toLoadRect} (s : St F) {Y : r.shape.Idx → Elt F .f32}
    (hY : ∀ b, s.ag b → View.ld b r = Y) :
    Runs c a3 B I (Prog.lift (.load B.b r.toLoadRect hl)) s Y s := fun R Q h => by
  have key : ∀ b, s.ag b → Runs c a3 B I (Prog.lift (.load B.b r.toLoadRect hl)) { s with ag := fun b' => b' = b } Y { s with ag := fun b' => b' = b } := fun b hb => by
      refine Runs.load_of (q := fullShare) (X := b) ?_ (hY b hb)
      unfold H
      iintro ⟨Hn, Hq, Hsq, Hk, Hsk, Hv, Hx, Hw, Hy, Ho, Hb, Hacc, Hm⟩
      icases Hb with ⟨%b', %hb', Hb⟩
      subst hb'
      isplitl [Hb]; · iexact Hb
      iintro Hb
      isplitl [Hn]; · iexact Hn
      isplitl [Hq]; · iexact Hq
      isplitl [Hsq]; · iexact Hsq
      isplitl [Hk]; · iexact Hk
      isplitl [Hsk]; · iexact Hsk
      isplitl [Hv]; · iexact Hv
      isplitl [Hx]; · iexact Hx
      isplitl [Hw]; · iexact Hw
      isplitl [Hy]; · iexact Hy
      isplitl [Ho]; · iexact Ho
      isplitl [Hb]; · iexists _; isplitr; (· ipureintro; rfl); iexact Hb
      isplitl [Hacc]; · iexact Hacc
      iexact Hm
  have fwd : ∀ b, s.ag b → (H c a3 B I { s with ag := fun b' => b' = b } ⊢ H c a3 B I s) := fun b hb => by
    unfold H
    iintro ⟨Hn, Hq, Hsq, Hk, Hsk, Hv, Hx, Hw, Hy, Ho, Hb, Hacc, Hm⟩
    icases Hb with ⟨%b', %hb', Hb⟩
    subst hb'
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; exact hb); iexact Hb
    isplitl [Hacc]; · iexact Hacc
    iexact Hm

  have open_ : H c a3 B I s ⊢ iprop(∃ b, ⌜s.ag b⌝ ∗ H c a3 B I { s with ag := fun b' => b' = b }) := by
    unfold H
    iintro ⟨Hn, Hq, Hsq, Hk, Hsk, Hv, Hx, Hw, Hy, Ho, Hb, Hacc, Hm⟩
    icases Hb with ⟨%b, %hb, Hb⟩
    iexists b
    isplitr; · ipureintro; exact hb
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; rfl); iexact Hb
    isplitl [Hacc]; · iexact Hacc
    iexact Hm

  refine (sep_mono_left open_).trans ?_
  iintro ⟨⟨%b, %hb, HH⟩, HR⟩
  iapply (key b hb R Q ((sep_mono_left (fwd b hb)).trans h))
  isplitl [HH] <;> iassumption

/-- A store into the spread scales. -/
theorem Runs.store_b {r : Rect S4x9216x128} {w : r.shape.Idx → Elt F .f32} {hx : (B.b.access r).Stores Finset.univ} {hm : Finset.univ = Finset.univ ∨ ∀ a, r.stride a = 1}
    (s : St F) (ag' : Vec F S4x9216x128 .f32 → Prop) (hag : ∀ b, s.ag b → ag' (put b r w)) :
    Runs c a3 B I (Prog.lift (.store B.b r w Finset.univ hx hm)) s ⟨⟩ { s with ag := ag' } := fun R Q h => by
  have key : ∀ b, s.ag b → Runs c a3 B I (Prog.lift (.store B.b r w Finset.univ hx hm)) { s with ag := fun b' => b' = b } ⟨⟩ { s with ag := ag' } := fun b hb => by
      refine Runs.store_of (X := b) ?_
      unfold H
      iintro ⟨Hn, Hq, Hsq, Hk, Hsk, Hv, Hx, Hw, Hy, Ho, Hb, Hacc, Hm⟩
      icases Hb with ⟨%b', %hb', Hb⟩
      subst hb'
      isplitl [Hb]; · iexact Hb
      iintro Hb
      isplitl [Hn]; · iexact Hn
      isplitl [Hq]; · iexact Hq
      isplitl [Hsq]; · iexact Hsq
      isplitl [Hk]; · iexact Hk
      isplitl [Hsk]; · iexact Hsk
      isplitl [Hv]; · iexact Hv
      isplitl [Hx]; · iexact Hx
      isplitl [Hw]; · iexact Hw
      isplitl [Hy]; · iexact Hy
      isplitl [Ho]; · iexact Ho
      isplitl [Hb]; · iexists _; isplitr; (· ipureintro; exact hag _ hb); iexact Hb
      isplitl [Hacc]; · iexact Hacc
      iexact Hm
  have open_ : H c a3 B I s ⊢ iprop(∃ b, ⌜s.ag b⌝ ∗ H c a3 B I { s with ag := fun b' => b' = b }) := by
    unfold H
    iintro ⟨Hn, Hq, Hsq, Hk, Hsk, Hv, Hx, Hw, Hy, Ho, Hb, Hacc, Hm⟩
    icases Hb with ⟨%b, %hb, Hb⟩
    iexists b
    isplitr; · ipureintro; exact hb
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; rfl); iexact Hb
    isplitl [Hacc]; · iexact Hacc
    iexact Hm

  refine (sep_mono_left open_).trans ?_
  iintro ⟨⟨%b, %hb, HH⟩, HR⟩
  iapply (key b hb R Q h)
  isplitl [HH] <;> iassumption

/-- The word of the table. -/
theorem Runs.word {r : Rect S2} {h1 : r.shape.numel = 1} {hp : (EltTy.i32).packing = 1} (s : St F) :
    Runs c a3 B I (smemLoad a3 r h1 hp) s (View.ld I.n r (Shape.Idx.first (h1.symm ▸ Nat.one_pos))) s := fun R Q h => by
  have hX := H_n (c := c) (a3 := a3) (B := B) (I := I) s
  unfold owns at hX
  refine (sep_mono_left hX).trans ?_
  iintro ⟨⟨⟨%f, %hf, Hf⟩, Hk⟩, HR⟩
  unfold WP smemLoad
  iapply (wp_smemLoadElt Variants.none (c : Thread nD τ) none Set.univ (Q := Q) (m := a3) (r := r) (q := I.qn) (f := f) (S := a3.view.set) (k := .ret)
    (by show (a3.view.slice r).set ⊆ _; rw [View.set_slice]; exact a3.view.setOn_subset_set _)) $$ Hf
  iintro Hf
  rw [wp_ret]
  imodintro
  ihave G := h $$ [Hf Hk HR]
  rotate_left
  · rw [show View.read (Elt F) (a3.access r) f = View.ld I.n r from by rw [← hf]; rfl]; iexact G
  isplitl [Hf Hk]
  · iapply Hk
    iexists f
    isplitr; · ipureintro; exact hf
    iexact Hf
  iexact HR

/-- A side condition that holds. -/
theorem Runs.assume {p : Prop} {d : Decidable p} (h : p) (s : St F) : Runs c a3 B I (Prog.lift (TpuEff.assume p d)) s ⟨h⟩ s := fun R Q hQ => by
  refine BIBase.Entails.trans ?_ (wp_assume Variants.none (c : Thread nD τ) none Set.univ h)
  exact Runs.ret (c := c) (a3 := a3) (B := B) (I := I) (⟨h⟩ : PLift p) s R Q hQ

/-- A counted loop, from a state at each trip. -/
theorem Runs.loop {l : Scf.Loop 32} {hok : l.OK} {body : Fin l.trips → Unit → P (F := F) Unit} (S : ℕ → St F)
    (hb : ∀ t : Fin l.trips, Runs c a3 B I (body t ⟨⟩) (S t.val) ⟨⟩ (S (t.val + 1))) :
    Runs c a3 B I (Scf.Loop.for l hok ⟨⟩ body) (S 0) ⟨⟩ (S l.trips) := fun R Q h => by
  refine BIBase.Entails.trans ?_ (Scf.wp_for frame (wpE (defs₀ (F := F)) Variants.none (c : Thread nD τ) none) Set.univ l.lb l.ub l.st hok ⟨⟩ body (fun k _ => iprop(H c a3 B I (S k) ∗ R))
    (fun k _ => hb k R _ .rfl))
  iintro HH
  isplitl [HH]; · iexact HH
  iintro %_ HH
  iapply h
  iexact HH

/-- A program run over a list, from a state at each of its ends, the states named by a smaller one. -/
theorem Runs.seqL {ι σ : Type} (g : σ → St F) (f : ι → P (F := F) PUnit) (step : σ → ι → σ) (hf : ∀ p x, Runs c a3 B I (f p) (g x) ⟨⟩ (g (step x p))) :
    ∀ (l : List ι) (x : σ), Runs c a3 B I (seqL f l) (g x) ⟨⟩ (g (l.foldl step x))
  | [], x => Runs.ret _ _
  | p :: l, x => (hf p x).bind (Runs.seqL g f step hf l (step x p))

/-- Less may be known of the spread scales at the end, -/
theorem Runs.weaken {α : Type} {p : P (F := F) α} {s s' : St F} {a : α} (h : Runs c a3 B I p s a s') (ag' : Vec F S4x9216x128 .f32 → Prop)
    (hag : ∀ b, s'.ag b → ag' b) : Runs c a3 B I p s a { s' with ag := ag' } := fun R Q hQ => by
  refine h R Q (BIBase.Entails.trans (sep_mono_left ?_) hQ)
  unfold H
  iintro ⟨Hn, Hq, Hsq, Hk, Hsk, Hv, Hx, Hw, Hy, Ho, Hb, Hacc, Hm⟩
  icases Hb with ⟨%b, %hb, Hb⟩
  isplitl [Hn]; · iexact Hn
  isplitl [Hq]; · iexact Hq
  isplitl [Hsq]; · iexact Hsq
  isplitl [Hk]; · iexact Hk
  isplitl [Hsk]; · iexact Hsk
  isplitl [Hv]; · iexact Hv
  isplitl [Hx]; · iexact Hx
  isplitl [Hw]; · iexact Hw
  isplitl [Hy]; · iexact Hy
  isplitl [Ho]; · iexact Ho
  isplitl [Hb]; · iexists _; isplitr; (· ipureintro; exact hag b hb); iexact Hb
  isplitl [Hacc]; · iexact Hacc
  iexact Hm

/-- A loop of no trips. -/
theorem Runs.loop0 {l : Scf.Loop 32} {hok : l.OK} {body : Fin l.trips → Unit → P (F := F) Unit} (h0 : l.trips = 0) (s : St F) :
    Runs c a3 B I (Scf.Loop.for l hok ⟨⟩ body) s ⟨⟩ s :=
  Runs.loop (fun _ => s) fun t => (no_trip h0 t).elim

/-- A load of the spread scales whose value what follows does not use. -/
theorem Runs.bind_b {r : Rect S4x9216x128} {hl : B.b.view.LoadsAt r.toLoadRect} {α : Type} {f : (r.shape.Idx → Elt F .f32) → P (F := F) α}
    {s s' : St F} {a : α} (h : ∀ bv, Runs c a3 B I (f bv) s a s') :
    Runs c a3 B I (Prog.lift (.load B.b r.toLoadRect hl) >>= f) s a s' := fun R Q hQ => by
  have key : ∀ b, s.ag b → Runs c a3 B I (Prog.lift (.load B.b r.toLoadRect hl) >>= f) { s with ag := fun b' => b' = b } a s' := fun b hb => by
    refine Runs.bind (Runs.load_b _ (Y := View.ld b r) fun b' hb' => by rw [show b' = b from hb']) ?_
    refine fun R Q hQ => BIBase.Entails.trans (sep_mono_left ?_) (h _ R Q hQ)
    unfold H
    iintro ⟨Hn, Hq, Hsq, Hk, Hsk, Hv, Hx, Hw, Hy, Ho, Hb, Hacc, Hm⟩
    icases Hb with ⟨%b', %hb', Hb⟩
    subst hb'
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; exact hb); iexact Hb
    isplitl [Hacc]; · iexact Hacc
    iexact Hm
  have open_ : H c a3 B I s ⊢ iprop(∃ b, ⌜s.ag b⌝ ∗ H c a3 B I { s with ag := fun b' => b' = b }) := by
    unfold H
    iintro ⟨Hn, Hq, Hsq, Hk, Hsk, Hv, Hx, Hw, Hy, Ho, Hb, Hacc, Hm⟩
    icases Hb with ⟨%b, %hb, Hb⟩
    iexists b
    isplitr; · ipureintro; exact hb
    isplitl [Hn]; · iexact Hn
    isplitl [Hq]; · iexact Hq
    isplitl [Hsq]; · iexact Hsq
    isplitl [Hk]; · iexact Hk
    isplitl [Hsk]; · iexact Hsk
    isplitl [Hv]; · iexact Hv
    isplitl [Hx]; · iexact Hx
    isplitl [Hw]; · iexact Hw
    isplitl [Hy]; · iexact Hy
    isplitl [Ho]; · iexact Ho
    isplitl [Hb]; · iexists _; isplitr; (· ipureintro; rfl); iexact Hb
    isplitl [Hacc]; · iexact Hacc
    iexact Hm
  refine BIBase.Entails.trans (sep_mono_left open_) ?_
  iintro ⟨⟨%b, %hb, HH⟩, HR⟩
  iapply (key b hb R Q hQ)
  isplitl [HH] <;> iassumption

end Cert.Kernel.Row
end
-- ==== Proof.KTilesEq.lean ====
/-
  The printed kernel is the tiles' program: the two are one term up to unfolding.
-/
module

public import proofs.«01_k».proof.Proof.KTiles

@[expose] public section

set_option maxRecDepth 16384

noncomputable section

namespace Cert.Kernel.Row

open Cert.Kernel Cert.Kernel.Gen
open Idealize.SL.Sem
open Idealize.ShloMosaic Idealize.ShloMosaic.TcCoe Idealize.ShloMosaic.Tactic

variable {F : FTy → Type} [FloatOps F]

/-- One trip of the main loop runs its sixteen tiles. -/
theorem main_eq (i : grid0.Coords) (arg3 : Memref sig .tc .smem S2 .i32) (harg3 : arg3.IsWhole) (B : Bufs) (v1 hw1 v20 a b c) (t) :
    k0_t3_body (F := F) i arg3 harg3 B.q B.hq B.sq B.hsq B.k B.hk B.sk B.hsk B.v B.hv B.x B.hx B.w B.hw B.y B.hy B.o B.ho B.b B.hb B.acc B.hacc B.m B.hm v1 hw1 v20 a b c t ⟨⟩
      = seqL (mainTile B v1 (stw 1024#32 (k0_t3_loop v1).lb t) (k0_off18_inb i v1 hw1 t 2)) tiles := by
  chain_rfl

/-- The printed end, from the loads of the first output. -/
def outK (i : grid0.Coords) (arg3 : Memref sig .tc .smem S2 .i32) (harg3 : arg3.IsWhole) (B : Bufs) (v573 : FVec F S64x256 .f32) (v575 : FVec F S1x256 .f32) : P (F := F) PUnit := do
  let ⟨v599, v605⟩ : Σ' (v599 : FVec F S256x256 .f32), FVec F S256x256 .f32 ← k0_part113 (F:=F) i arg3 harg3 B.q B.hq B.sq B.hsq B.k B.hk B.sk B.hsk B.v B.hv B.x B.hx B.w B.hw B.y B.hy B.o B.ho B.b B.hb B.acc B.hacc B.m B.hm v573 v575
  let v636 : FVec F S256x256 .bf16 ← k0_part114 (F:=F) i arg3 harg3 B.q B.hq B.sq B.hsq B.k B.hk B.sk B.hsk B.v B.hv B.x B.hx B.w B.hw B.y B.hy B.o B.ho B.b B.hb B.acc B.hacc B.m B.hm v599 v605
  let ⟨v655, v661, v663⟩ : Σ' (v655 : FVec F S64x256 .f32) (v661 : FVec F S64x256 .f32), FVec F S64x256 .f32 ← k0_part115 (F:=F) i arg3 harg3 B.q B.hq B.sq B.hsq B.k B.hk B.sk B.hsk B.v B.hv B.x B.hx B.w B.hw B.y B.hy B.o B.ho B.b B.hb B.acc B.hacc B.m B.hm v636
  let ⟨v690, v692⟩ : Σ' (v690 : FVec F S64x256 .f32), FVec F S1x256 .f32 ← k0_part116 (F:=F) i arg3 harg3 B.q B.hq B.sq B.hsq B.k B.hk B.sk B.hsk B.v B.hv B.x B.hx B.w B.hw B.y B.hy B.o B.ho B.b B.hb B.acc B.hacc B.m B.hm v655 v661 v663
  let ⟨v716, v722⟩ : Σ' (v716 : FVec F S256x256 .f32), FVec F S256x256 .f32 ← k0_part117 (F:=F) i arg3 harg3 B.q B.hq B.sq B.hsq B.k B.hk B.sk B.hsk B.v B.hv B.x B.hx B.w B.hw B.y B.hy B.o B.ho B.b B.hb B.acc B.hacc B.m B.hm v690 v692
  have v723 : FVec F S256x256 .f32 := addf v722 v716
  have v724 : FVec F S256x256 .bf16 := truncf .bf16 v723 bitsLt_bf16_f32
  let c0_595 : Index := 0#32
  let c0_596 : Index := 0#32
  let c768_597 : Index := 768#32
  let c0_598 : Index := 0#32
  let v725 : Vec F S1x1x256x256 .bf16 ← Prog.lift (.load B.y (Rect.unit (s := S1x1x1024x256) ![0, 0, 768, 0] S1x1x256x256.size inb_S1x1x1024x256_S1x1x256x256_0_0_768_0).toLoadRect (View.loadsAt_vmem h_S1x1x256x256))
  have v726 : FVec F S256x256 .bf16 := shapeCast S256x256 v725 shapeCasts_S1x1x256x256_S256x256
  have v727 : FVec F S1x1x256x256 .bf16 := shapeCast S1x1x256x256 v724 shapeCasts_S256x256_S1x1x256x256
  Prog.lift (.store B.y (Rect.unit (s := S1x1x1024x256) ![0, 0, 768, 0] S1x1x256x256.size inb_S1x1x1024x256_S1x1x256x256_0_0_768_0) v727 Finset.univ (View.stores_vmem h_S1x1x256x256 (B.hy.storeExact_slice rfl _ packedbf16_S1x1x1024x256_S1x1x256x256_0_0_768_0) (fun _ => rfl)) (.inl rfl))

  pure ⟨⟩

/-- The printed rest, from the last tile of the first maximum. -/
def restK (i : grid0.Coords) (arg3 : Memref sig .tc .smem S2 .i32) (harg3 : arg3.IsWhole) (B : Bufs) (v1 : Elt F .i32) (hw1 : k0_chk1 i v1) (v20 : BitVec 32) (v507 : FVec F S1x256 .f32) (v509 : FVec F S256x128 .fp8e4m3) (v510 : Vec F S1x1x64x256 .fp8e4m3) :
    P (F := F) PUnit := do
  let v542 ← k0_part111 (F := F) i arg3 harg3 B.q B.hq B.sq B.hsq B.k B.hk B.sk B.hsk B.v B.hv B.x B.hx B.w B.hw B.y B.hy B.o B.ho B.b B.hb B.acc B.hacc B.m B.hm v1 hw1 v20 v507 v509 v510
  let x ← k0_part112 (F := F) i arg3 harg3 B.q B.hq B.sq B.hsq B.k B.hk B.sk B.hsk B.v B.hv B.x B.hx B.w B.hw B.y B.hy B.o B.ho B.b B.hb B.acc B.hacc B.m B.hm v1 v542
  outK i arg3 harg3 B x.1 x.2

/-- The printed middle, the tiles of the first maximum but the last. -/
def midK (i : grid0.Coords) (arg3 : Memref sig .tc .smem S2 .i32) (harg3 : arg3.IsWhole) (B : Bufs) (v1 : Elt F .i32) (v27 : FVec F S1x256 .f32) (v29 : FVec F S256x128 .fp8e4m3) (v30 : Vec F S1x1x64x256 .fp8e4m3)
    (K : FVec F S1x256 .f32 → FVec F S256x128 .fp8e4m3 → Vec F S1x1x64x256 .fp8e4m3 → P (F := F) PUnit) : P (F := F) PUnit := do
  let ⟨v59, v61, v62⟩ : Σ' (v59 : FVec F S1x256 .f32) (v61 : FVec F S256x128 .fp8e4m3), Vec F S1x1x64x256 .fp8e4m3 ← k0_part96 (F:=F) i arg3 harg3 B.q B.hq B.sq B.hsq B.k B.hk B.sk B.hsk B.v B.hv B.x B.hx B.w B.hw B.y B.hy B.o B.ho B.b B.hb B.acc B.hacc B.m B.hm v1 v27 v29 v30
  let ⟨v91, v93, v94⟩ : Σ' (v91 : FVec F S1x256 .f32) (v93 : FVec F S256x128 .fp8e4m3), Vec F S1x1x64x256 .fp8e4m3 ← k0_part97 (F:=F) i arg3 harg3 B.q B.hq B.sq B.hsq B.k B.hk B.sk B.hsk B.v B.hv B.x B.hx B.w B.hw B.y B.hy B.o B.ho B.b B.hb B.acc B.hacc B.m B.hm v1 v59 v61 v62
  let ⟨v123, v125, v126⟩ : Σ' (v123 : FVec F S1x256 .f32) (v125 : FVec F S256x128 .fp8e4m3), Vec F S1x1x64x256 .fp8e4m3 ← k0_part98 (F:=F) i arg3 harg3 B.q B.hq B.sq B.hsq B.k B.hk B.sk B.hsk B.v B.hv B.x B.hx B.w B.hw B.y B.hy B.o B.ho B.b B.hb B.acc B.hacc B.m B.hm v1 v91 v93 v94
  let ⟨v155, v157, v158⟩ : Σ' (v155 : FVec F S1x256 .f32) (v157 : FVec F S256x128 .fp8e4m3), Vec F S1x1x64x256 .fp8e4m3 ← k0_part99 (F:=F) i arg3 harg3 B.q B.hq B.sq B.hsq B.k B.hk B.sk B.hsk B.v B.hv B.x B.hx B.w B.hw B.y B.hy B.o B.ho B.b B.hb B.acc B.hacc B.m B.hm v1 v123 v125 v126
  let ⟨v187, v189, v190⟩ : Σ' (v187 : FVec F S1x256 .f32) (v189 : FVec F S256x128 .fp8e4m3), Vec F S1x1x64x256 .fp8e4m3 ← k0_part100 (F:=F) i arg3 harg3 B.q B.hq B.sq B.hsq B.k B.hk B.sk B.hsk B.v B.hv B.x B.hx B.w B.hw B.y B.hy B.o B.ho B.b B.hb B.acc B.hacc B.m B.hm v1 v155 v157 v158
  let ⟨v219, v221, v222⟩ : Σ' (v219 : FVec F S1x256 .f32) (v221 : FVec F S256x128 .fp8e4m3), Vec F S1x1x64x256 .fp8e4m3 ← k0_part101 (F:=F) i arg3 harg3 B.q B.hq B.sq B.hsq B.k B.hk B.sk B.hsk B.v B.hv B.x B.hx B.w B.hw B.y B.hy B.o B.ho B.b B.hb B.acc B.hacc B.m B.hm v1 v187 v189 v190
  let ⟨v251, v253, v254⟩ : Σ' (v251 : FVec F S1x256 .f32) (v253 : FVec F S256x128 .fp8e4m3), Vec F S1x1x64x256 .fp8e4m3 ← k0_part102 (F:=F) i arg3 harg3 B.q B.hq B.sq B.hsq B.k B.hk B.sk B.hsk B.v B.hv B.x B.hx B.w B.hw B.y B.hy B.o B.ho B.b B.hb B.acc B.hacc B.m B.hm v1 v219 v221 v222
  let ⟨v283, v285, v286⟩ : Σ' (v283 : FVec F S1x256 .f32) (v285 : FVec F S256x128 .fp8e4m3), Vec F S1x1x64x256 .fp8e4m3 ← k0_part103 (F:=F) i arg3 harg3 B.q B.hq B.sq B.hsq B.k B.hk B.sk B.hsk B.v B.hv B.x B.hx B.w B.hw B.y B.hy B.o B.ho B.b B.hb B.acc B.hacc B.m B.hm v1 v251 v253 v254
  let ⟨v315, v317, v318⟩ : Σ' (v315 : FVec F S1x256 .f32) (v317 : FVec F S256x128 .fp8e4m3), Vec F S1x1x64x256 .fp8e4m3 ← k0_part104 (F:=F) i arg3 harg3 B.q B.hq B.sq B.hsq B.k B.hk B.sk B.hsk B.v B.hv B.x B.hx B.w B.hw B.y B.hy B.o B.ho B.b B.hb B.acc B.hacc B.m B.hm v1 v283 v285 v286
  let ⟨v347, v349, v350⟩ : Σ' (v347 : FVec F S1x256 .f32) (v349 : FVec F S256x128 .fp8e4m3), Vec F S1x1x64x256 .fp8e4m3 ← k0_part105 (F:=F) i arg3 harg3 B.q B.hq B.sq B.hsq B.k B.hk B.sk B.hsk B.v B.hv B.x B.hx B.w B.hw B.y B.hy B.o B.ho B.b B.hb B.acc B.hacc B.m B.hm v1 v315 v317 v318
  let ⟨v379, v381, v382⟩ : Σ' (v379 : FVec F S1x256 .f32) (v381 : FVec F S256x128 .fp8e4m3), Vec F S1x1x64x256 .fp8e4m3 ← k0_part106 (F:=F) i arg3 harg3 B.q B.hq B.sq B.hsq B.k B.hk B.sk B.hsk B.v B.hv B.x B.hx B.w B.hw B.y B.hy B.o B.ho B.b B.hb B.acc B.hacc B.m B.hm v1 v347 v349 v350
  let ⟨v411, v413, v414⟩ : Σ' (v411 : FVec F S1x256 .f32) (v413 : FVec F S256x128 .fp8e4m3), Vec F S1x1x64x256 .fp8e4m3 ← k0_part107 (F:=F) i arg3 harg3 B.q B.hq B.sq B.hsq B.k B.hk B.sk B.hsk B.v B.hv B.x B.hx B.w B.hw B.y B.hy B.o B.ho B.b B.hb B.acc B.hacc B.m B.hm v1 v379 v381 v382
  let ⟨v443, v445, v446⟩ : Σ' (v443 : FVec F S1x256 .f32) (v445 : FVec F S256x128 .fp8e4m3), Vec F S1x1x64x256 .fp8e4m3 ← k0_part108 (F:=F) i arg3 harg3 B.q B.hq B.sq B.hsq B.k B.hk B.sk B.hsk B.v B.hv B.x B.hx B.w B.hw B.y B.hy B.o B.ho B.b B.hb B.acc B.hacc B.m B.hm v1 v411 v413 v414
  let ⟨v475, v477, v478⟩ : Σ' (v475 : FVec F S1x256 .f32) (v477 : FVec F S256x128 .fp8e4m3), Vec F S1x1x64x256 .fp8e4m3 ← k0_part109 (F:=F) i arg3 harg3 B.q B.hq B.sq B.hsq B.k B.hk B.sk B.hsk B.v B.hv B.x B.hx B.w B.hw B.y B.hy B.o B.ho B.b B.hb B.acc B.hacc B.m B.hm v1 v443 v445 v446
  let ⟨v507, v509, v510⟩ : Σ' (v507 : FVec F S1x256 .f32) (v509 : FVec F S256x128 .fp8e4m3), Vec F S1x1x64x256 .fp8e4m3 ← k0_part110 (F:=F) i arg3 harg3 B.q B.hq B.sq B.hsq B.k B.hk B.sk B.hsk B.v B.hv B.x B.hx B.w B.hw B.y B.hy B.o B.ho B.b B.hb B.acc B.hacc B.m B.hm v1 v475 v477 v478
  K v507 v509 v510

/-- The printed kernel is its head, middle and rest. -/
theorem kernel_parts (i : grid0.Coords) (arg3 : Memref sig .tc .smem S2 .i32) (harg3 : arg3.IsWhole) (B : Bufs) :
    cc0_row_kernel (F := F) i arg3 harg3 B.q B.hq B.sq B.hsq B.k B.hk B.sk B.hsk B.v B.hv B.x B.hx B.w B.hw B.y B.hy B.o B.ho B.b B.hb B.acc B.hacc B.m B.hm = (do
      let x ← k0_part95 (F := F) i arg3 harg3 B.q B.hq B.sq B.hsq B.k B.hk B.sk B.hsk B.v B.hv B.x B.hx B.w B.hw B.y B.hy B.o B.ho B.b B.hb B.acc B.hacc B.m B.hm
      midK i arg3 harg3 B x.1 x.2.2.2.1 x.2.2.2.2.1 x.2.2.2.2.2 fun a b c => restK i arg3 harg3 B x.1 x.2.1 x.2.2.1 a b c) := by
  chain_rfl

theorem head_eq (i : grid0.Coords) (arg3 : Memref sig .tc .smem S2 .i32) (harg3 : arg3.IsWhole) (B : Bufs) : k0_part95 (F := F) i arg3 harg3 B.q B.hq B.sq B.hsq B.k B.hk B.sk B.hsk B.v B.hv B.x B.hx B.w B.hw B.y B.hy B.o B.ho B.b B.hb B.acc B.hacc B.m B.hm = headP i arg3 B := by
  chain_rfl

theorem mid_eq (i : grid0.Coords) (arg3 : Memref sig .tc .smem S2 .i32) (harg3 : arg3.IsWhole) (B : Bufs) (v1 : Elt F .i32) (fq : FVec F S1x256 .f32) (kc : FVec F S256x128 .fp8e4m3) (qv : Vec F S1x1x64x256 .fp8e4m3)
    (K : FVec F S1x256 .f32 → FVec F S256x128 .fp8e4m3 → Vec F S1x1x64x256 .fp8e4m3 → P (F := F) PUnit) :
    midK i arg3 harg3 B v1 fq kc qv K = midP B v1 fq kc qv K := by
  chain_rfl

theorem loop_eq (i : grid0.Coords) (arg3 : Memref sig .tc .smem S2 .i32) (harg3 : arg3.IsWhole) (B : Bufs) (v1 hw1 v20 a b c) : k0_part111 (F := F) i arg3 harg3 B.q B.hq B.sq B.hsq B.k B.hk B.sk B.hsk B.v B.hv B.x B.hx B.w B.hw B.y B.hy B.o B.ho B.b B.hb B.acc B.hacc B.m B.hm v1 hw1 v20 a b c = loopP i arg3 harg3 B v1 hw1 v20 a b c := by
  chain_rfl

theorem check_eq (i : grid0.Coords) (arg3 : Memref sig .tc .smem S2 .i32) (harg3 : arg3.IsWhole) (B : Bufs) (v1 : Elt F .i32) (t0 : FVec F S1x1024 .f32) : k0_part112 (F := F) i arg3 harg3 B.q B.hq B.sq B.hsq B.k B.hk B.sk B.hsk B.v B.hv B.x B.hx B.w B.hw B.y B.hy B.o B.ho B.b B.hb B.acc B.hacc B.m B.hm v1 t0 = checkP B v1 t0 := by
  chain_rfl

theorem out_eq (i : grid0.Coords) (arg3 : Memref sig .tc .smem S2 .i32) (harg3 : arg3.IsWhole) (B : Bufs) (n0 : FVec F S64x256 .f32) (d0 : FVec F S1x256 .f32) : outK i arg3 harg3 B n0 d0 = outP B n0 d0 := by
  chain_rfl

/-- The printed row kernel runs the tiles' program. -/
theorem kernel_eq (i : grid0.Coords) (arg3 : Memref sig .tc .smem S2 .i32) (harg3 : arg3.IsWhole) (B : Bufs) :
    cc0_row_kernel (F := F) i arg3 harg3 B.q B.hq B.sq B.hsq B.k B.hk B.sk B.hsk B.v B.hv B.x B.hx B.w B.hw B.y B.hy B.o B.ho B.b B.hb B.acc B.hacc B.m B.hm
      = bodyP i arg3 harg3 B := by
  have hr : ∀ v1 hw1 v20 a b c, restK i arg3 harg3 B v1 hw1 v20 a b c = restP (F := F) i arg3 harg3 B v1 hw1 v20 a b c := by
    intro v1 hw1 v20 a b c
    simp only [restK, restP, loop_eq, check_eq, out_eq]
  rw [kernel_parts, head_eq]
  simp only [mid_eq, hr, bodyP]

end Cert.Kernel.Row

end
-- ==== Proof.KBody.lean ====
/-
  The body's run: each tile's program as a step on the state, the loops as iterated steps, and the whole body.
-/
module

public import proofs.«01_k».proof.Proof.KRuns
public import proofs.«01_k».proof.Proof.KTilesEq
public import Idealize.ShloMosaic.Lib.ValueIdxCore

@[expose] public section

set_option maxRecDepth 16384

noncomputable section

namespace Cert.Kernel.Row

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F]

/-! ## The spread scales -/

theorem spread_key (j : ℕ) (hj : j < 9216) : 128 * (j / 128) + 128 ≤ 9216 := by omega

/-- Every key's scale along 128 lanes, keys at or past `n` at zero. -/
def bFull (n : BitVec 32) (sk : Vec F S1x1x4x9216 .f32) : Vec F S4x9216x128 .f32 := fun i =>
  spreadPay n (BitVec.ofNat 32 (128 * ((i 1).val / 128)))
    (View.ld sk (rSk (i 0) (128 * ((i 1).val / 128)) (spread_key _ (i 1).isLt)))
    (ix3 0 ⟨(i 1).val % 128, Nat.mod_lt _ (by decide)⟩ (i 2))

/-- The spread scales of the first `j` keys are in place. -/
def Spread (n : BitVec 32) (sk : Vec F S1x1x4x9216 .f32) (j : ℕ) (b : Vec F S4x9216x128 .f32) : Prop :=
  ∀ i, (i 1).val < j → b i = bFull n sk i

theorem sk_congr (sk : Vec F S1x1x4x9216 .f32) (h : Fin 4) {a b : ℕ} (e : a = b) (ha : a + 128 ≤ 9216) (hb : b + 128 ≤ 9216) :
    (View.ld sk (rSk h a ha) : Vec F S1x1x1x128 .f32) = View.ld sk (rSk h b hb) := by subst e; rfl

theorem bFull_at (n : BitVec 32) (sk : Vec F S1x1x4x9216 .f32) (h : Fin 4) (st : BitVec 32) (hst : st.toNat + 128 ≤ 9216) (hd : 128 ∣ st.toNat)
    (x : S1x128x128.Idx) (i : S4x9216x128.Idx) (h0 : (i 0).val = h.val) (h1 : (i 1).val = st.toNat + (x 1).val) (h2 : (i 2).val = (x 2).val) :
    bFull n sk i = spreadPay n st (View.ld sk (rSk h st.toNat hst)) x := by
  have x1 : (x 1).val < 128 := (x 1).isLt
  have x0 : (x 0).val < 1 := (x 0).isLt
  have e : 128 * ((i 1).val / 128) = st.toNat := by omega
  have e0 : i 0 = h := Fin.ext h0
  have ex : x = ix3 0 ⟨(i 1).val % 128, Nat.mod_lt _ (by decide)⟩ (i 2) := by
    funext a
    match a with
    | ⟨0, _⟩ => exact Fin.ext (by show (x 0).val = 0; omega)
    | ⟨1, _⟩ => exact Fin.ext (by show (x 1).val = (i 1).val % 128; omega)
    | ⟨2, _⟩ => exact Fin.ext h2.symm
  unfold bFull
  rw [ex, sk_congr sk (i 0) e (spread_key _ (i 1).isLt) hst, e0, show BitVec.ofNat 32 (128 * ((i 1).val / 128)) = st by rw [e]; simp]
  rfl

/-- One head's spreading of 128 keys, as a step on the buffer. -/
def spreadStep (n : BitVec 32) (sk : Vec F S1x1x4x9216 .f32) (st : BitVec 32) (hst : st.toNat + 128 ≤ 9216)
    (ag : Vec F S4x9216x128 .f32 → Prop) (h : Fin 4) : Vec F S4x9216x128 .f32 → Prop :=
  fun b' => ∃ b, ag b ∧ b' = put b (rB128 h st.toNat hst) (spreadPay n st (View.ld sk (rSk h st.toNat hst)))

/-- Where an element of a head's 128 keys lies. -/
theorem rB128_emb (h : Fin 4) (j : ℕ) (hj : j + 128 ≤ 9216) (x : S1x128x128.Idx) :
    (((rB128 h j hj).emb x) 0).val = h.val ∧ (((rB128 h j hj).emb x) 1).val = j + (x 1).val ∧ (((rB128 h j hj).emb x) 2).val = (x 2).val := by
  have x0 : (x 0).val < 1 := (x 0).isLt
  refine ⟨(Rect.emb_apply (rB128 h j hj) x 0).trans ?_, (Rect.emb_apply (rB128 h j hj) x 1).trans ?_, (Rect.emb_apply (rB128 h j hj) x 2).trans ?_⟩
  · show h.val + 1 * (x 0).val = h.val; omega
  · show j + 1 * (x 1).val = j + (x 1).val; omega
  · show 0 + 1 * (x 2).val = (x 2).val; omega

/-- One head's store of 128 keys: what the buffer reads after it. -/
theorem put_spread (n : BitVec 32) (sk : Vec F S1x1x4x9216 .f32) (st : BitVec 32) (j : ℕ) (hj : st.toNat = j) (hst : st.toNat + 128 ≤ 9216) (hd : 128 ∣ st.toNat)
    (b : Vec F S4x9216x128 .f32) (h : Fin 4) (i : S4x9216x128.Idx) (hi : (i 1).val < j + 128) :
    put b (rB128 h st.toNat hst) (spreadPay n st (View.ld sk (rSk h st.toNat hst))) i = if (i 0).val = h.val ∧ j ≤ (i 1).val then bFull n sk i else b i := by
  subst hj
  split
  · rename_i hc
    have hx : ∃ x, (rB128 h st.toNat hst).emb x = i := by
      refine ⟨ix3 (⟨0, Nat.one_pos⟩ : Fin 1) (⟨(i 1).val - st.toNat, by omega⟩ : Fin 128) (i 2), ?_⟩
      obtain ⟨e0, e1, e2⟩ := rB128_emb h st.toNat hst (ix3 (⟨0, Nat.one_pos⟩ : Fin 1) (⟨(i 1).val - st.toNat, by omega⟩ : Fin 128) (i 2))
      have e1' : (((rB128 h st.toNat hst).emb (ix3 (⟨0, Nat.one_pos⟩ : Fin 1) (⟨(i 1).val - st.toNat, by omega⟩ : Fin 128) (i 2))) 1).val = st.toNat + ((i 1).val - st.toNat) := e1
      funext a
      match a with
      | ⟨0, _⟩ => exact Fin.ext (e0.trans hc.1.symm)
      | ⟨1, _⟩ => exact Fin.ext (e1'.trans (show st.toNat + ((i 1).val - st.toNat) = (i 1).val by omega))
      | ⟨2, _⟩ => exact Fin.ext e2
    obtain ⟨x, hx⟩ := hx
    obtain ⟨e0, e1, e2⟩ := rB128_emb h st.toNat hst x
    rw [hx] at e0 e1 e2
    rw [bFull_at n sk h st hst hd x i e0 e1 e2, ← hx]
    exact put_emb _ _ _ x
  · rename_i hc
    refine put_miss _ _ _ _ fun x hx => hc ?_
    obtain ⟨e0, e1, e2⟩ := rB128_emb h st.toNat hst x
    rw [hx] at e0 e1
    exact ⟨e0, by omega⟩

/-- After one trip of the spreading 128 more keys are in place. -/
theorem spread_step (n : BitVec 32) (sk : Vec F S1x1x4x9216 .f32) (st : BitVec 32) (j : ℕ) (hj : st.toNat = j) (hst : st.toNat + 128 ≤ 9216) (hd : 128 ∣ st.toNat)
    (b : Vec F S4x9216x128 .f32) (h : heads.foldl (spreadStep n sk st hst) (Spread n sk j) b) : Spread n sk (j + 128) b := by
  obtain ⟨b3, ⟨b2, ⟨b1, ⟨b0, hb0, rfl⟩, rfl⟩, rfl⟩, rfl⟩ := h
  intro i hi
  have i0 : (i 0).val < 4 := (i 0).isLt
  have key := fun b h => put_spread n sk st j hj hst hd b h i hi
  rw [key, key, key, key]
  have hb := hb0 i
  split
  · rfl
  rename_i c3
  split
  · rfl
  rename_i c2
  split
  · rfl
  rename_i c1
  split
  · rfl
  rename_i c0
  refine hb ?_
  dsimp only at c0 c1 c2 c3
  omega

/-! ## The tiles' steps -/

variable {c : Dev nD} {a3 : Memref sig .tc .smem S2 .i32} {B : Bufs}

/-- One tile of the first maximum, as a step on the accumulator and the maxima. -/
def firstStep (n : BitVec 32) (I : In F) (s : Vec F S4x80x1024 .f32 × Vec F S4x1024 .f32) (p : Fin 4 × Fin 4) : Vec F S4x80x1024 .f32 × Vec F S4x1024 .f32 :=
  (put s.1 (rAcc p.1 p.2) (shapeCast S1x80x256 (broadcast S80x256 (Scalar.ofBits .f32 0x00000000#32 : F .f32)) shapeCasts_S80x256_S1x80x256),
   put s.2 (rM p.1 p.2) (firstPay n p.1 (qs (View.ld I.sq (rSq p.1 p.2))) (kc256 (View.ld I.k (rK256 p.1 0 (by decide)))) (View.ld I.q (rQ p.1 p.2))
     (View.ld (bFull n I.sk) (rB256 p.1 0 (by decide)))))

/-- One tile of the main loop, as a step on the accumulator. -/
def mainStep (n st : BitVec 32) (hst : st.toNat + 1024 ≤ 9216) (I : In F) (m : Vec F S4x1024 .f32) (a : Vec F S4x80x1024 .f32) (p : Fin 4 × Fin 4) : Vec F S4x80x1024 .f32 :=
  put a (rAcc p.1 p.2) (mainPay n st p.1 (View.ld I.sq (rSq p.1 p.2)) (View.ld I.k (rK1024 p.1 st.toNat hst)) (View.ld I.q (rQ p.1 p.2))
    (View.ld (bFull n I.sk) (rB1024 p.1 st.toNat hst)) (View.ld m (rM p.1 p.2)) (View.ld a (rAcc p.1 p.2)) (View.ld I.v (rV1024 p.1 st.toNat hst)))

/-- One tile of the redo loop, as a step on the accumulator and the maxima. -/
def safeStep (n st : BitVec 32) (hst : st.toNat + 256 ≤ 9216) (I : In F) (s : Vec F S4x80x1024 .f32 × Vec F S4x1024 .f32) (p : Fin 4 × Fin 4) :
    Vec F S4x80x1024 .f32 × Vec F S4x1024 .f32 :=
  (put s.1 (rAcc p.1 p.2) (safePay n st p.1 (qs (View.ld I.sq (rSq p.1 p.2))) (kc256 (View.ld I.k (rK256 p.1 st.toNat hst))) (View.ld I.q (rQ p.1 p.2))
     (View.ld (bFull n I.sk) (rB256 p.1 st.toNat hst)) (View.ld s.2 (rM p.1 p.2)) (View.ld s.1 (rAcc p.1 p.2)) (View.ld I.v (rV256 p.1 st.toNat hst))),
   put s.2 (rM p.1 p.2) (shapeCast S1x256 (safeMax n st p.1 (qs (View.ld I.sq (rSq p.1 p.2))) (kc256 (View.ld I.k (rK256 p.1 st.toNat hst))) (View.ld I.q (rQ p.1 p.2))
     (View.ld (bFull n I.sk) (rB256 p.1 st.toNat hst)) (View.ld s.2 (rM p.1 p.2))) shapeCasts_S1x256_S1x256))

/-- The whole output-weights rectangle. -/
abbrev rW : Rect S256x256 := Rect.unit (s := S256x256) ![0, 0] S256x256.size inb_S256x256_S256x256_0_0

/-- A block of 256 query columns' projected attention. -/
def proj (I : In F) (a : Vec F S4x80x1024 .f32) (t : Fin 4) : FVec F S256x256 .f32 :=
  projPay (ratio (numC (View.ld a (rNum h0 t))) (denC (View.ld a (rDen h0 t)))) (ratio (numC (View.ld a (rNum h1 t))) (denC (View.ld a (rDen h1 t))))
    (ratio (numC (View.ld a (rNum h2 t))) (denC (View.ld a (rDen h2 t)))) (ratio (numC (View.ld a (rNum h3 t))) (denC (View.ld a (rDen h3 t)))) (View.ld I.w rW)

/-- One block's output, as a step on the two results. -/
def outStep (I : In F) (a : Vec F S4x80x1024 .f32) (s : Vec F S1x1x1024x256 .bf16 × Vec F S1x1x1024x256 .bf16) (t : Fin 4) :
    Vec F S1x1x1024x256 .bf16 × Vec F S1x1x1024x256 .bf16 :=
  (put s.1 (rOut t) (resPay (proj I a t) (View.ld I.x (rOut t))), put s.2 (rOut t) (outPay (proj I a t)))

variable {I : In F}

theorem spread_tile (n st : BitVec 32) (hst : st.toNat + 128 ≤ 9216) (s : St F) (h : Fin 4) (ag : Vec F S4x9216x128 .f32 → Prop) :
    Runs c a3 B I (spreadTile B n st hst h) { s with ag := ag } ⟨⟩ { s with ag := spreadStep n I.sk st hst ag h } := by
  unfold spreadTile
  refine Runs.bind (Runs.load_sk _) ?_
  refine Runs.bind_b fun bv => ?_
  exact Runs.store_b _ _ fun b hb => ⟨b, hb, rfl⟩

/-- The spread scales of a rectangle of keys all in place. -/
theorem ld_spread {n : BitVec 32} {sk : Vec F S1x1x4x9216 .f32} {j : ℕ} {b : Vec F S4x9216x128 .f32} (h : Spread n sk j b) (r : Rect S4x9216x128)
    (hr : r.off 1 + r.stride 1 * (r.shape.size 1 - 1) < j) : (View.ld b r : r.shape.Idx → Elt F .f32) = View.ld (bFull n sk) r := by
  funext x
  refine h _ ?_
  rw [show ((r.idx x) 1).val = r.off 1 + r.stride 1 * (x 1).val from rfl]
  have hx : (x 1).val < r.shape.size 1 := (x 1).isLt
  have := Nat.mul_le_mul_left (r.stride 1) (show (x 1).val ≤ r.shape.size 1 - 1 by omega)
  omega

abbrev AM (F : FTy → Type) : Type := Vec F S4x80x1024 .f32 × Vec F S4x1024 .f32
abbrev YO (F : FTy → Type) : Type := Vec F S1x1x1024x256 .bf16 × Vec F S1x1x1024x256 .bf16

theorem first_tail (n : BitVec 32) (p : Fin 4 × Fin 4) (s : St F) {j : ℕ} (hj : 256 ≤ j) (hs : s.ag = Spread n I.sk j) :
    Runs c a3 B I (firstTail B n p (qs (View.ld I.sq (rSq p.1 p.2))) (kc256 (View.ld I.k (rK256 p.1 0 (by decide)))) (View.ld I.q (rQ p.1 p.2)))
      s ⟨⟩ { s with acc := (firstStep n I (s.acc, s.m) p).1, m := (firstStep n I (s.acc, s.m) p).2 } := by
  unfold firstTail
  dsimp only [firstStep]
  refine Runs.bind (Runs.load_b _ fun b hb => ld_spread (by rw [hs] at hb; exact hb) _ (by show 0 + 1 * 255 < j; omega)) ?_
  refine Runs.bind (Runs.load_m _) ?_
  refine Runs.bind (Runs.store_m _) ?_
  refine Runs.bind (Runs.load_acc _) ?_
  exact Runs.store_acc _

theorem first_tile (n : BitVec 32) (p : Fin 4 × Fin 4) (s : St F) {j : ℕ} (hj : 256 ≤ j) (hs : s.ag = Spread n I.sk j) :
    Runs c a3 B I (firstTile B n p) s ⟨⟩ { s with acc := (firstStep n I (s.acc, s.m) p).1, m := (firstStep n I (s.acc, s.m) p).2 } := by
  unfold firstTile
  refine Runs.bind (Runs.load_sq _) ?_
  refine Runs.bind (Runs.load_k _) ?_
  refine Runs.bind (Runs.load_q _) ?_
  exact first_tail n p s hj hs

theorem main_tile (n st : BitVec 32) (hst : st.toNat + 1024 ≤ 9216) (p : Fin 4 × Fin 4) (s : St F) {j : ℕ} (hj : st.toNat + 1024 ≤ j) (hs : s.ag = Spread n I.sk j) :
    Runs c a3 B I (mainTile B n st hst p) s ⟨⟩ { s with acc := mainStep n st hst I s.m s.acc p } := by
  unfold mainTile
  refine Runs.bind (Runs.load_sq _) ?_
  refine Runs.bind (Runs.load_k _) ?_
  refine Runs.bind (Runs.load_q _) ?_
  refine Runs.bind (Runs.load_b _ fun b hb => ld_spread (by rw [hs] at hb; exact hb) _ (by show st.toNat + 1 * 1023 < j; omega)) ?_
  refine Runs.bind (Runs.load_m _) ?_
  refine Runs.bind (Runs.load_acc _) ?_
  refine Runs.bind (Runs.load_v _) ?_
  refine Runs.bind (Runs.load_acc _) ?_
  exact Runs.store_acc _

theorem safe_tile (n st : BitVec 32) (hst : st.toNat + 256 ≤ 9216) (p : Fin 4 × Fin 4) (s : St F) {j : ℕ} (hj : st.toNat + 256 ≤ j) (hs : s.ag = Spread n I.sk j) :
    Runs c a3 B I (safeTile B n st hst p) s ⟨⟩ { s with acc := (safeStep n st hst I (s.acc, s.m) p).1, m := (safeStep n st hst I (s.acc, s.m) p).2 } := by
  unfold safeTile
  dsimp only [safeStep]
  refine Runs.bind (Runs.load_sq _) ?_
  refine Runs.bind (Runs.load_k _) ?_
  refine Runs.bind (Runs.load_q _) ?_
  refine Runs.bind (Runs.load_b _ fun b hb => ld_spread (by rw [hs] at hb; exact hb) _ (by show st.toNat + 1 * 255 < j; omega)) ?_
  refine Runs.bind (Runs.load_m _) ?_
  refine Runs.bind (Runs.load_m _) ?_
  refine Runs.bind (Runs.store_m _) ?_
  refine Runs.bind (Runs.load_acc _) ?_
  refine Runs.bind (Runs.load_v _) ?_
  refine Runs.bind (Runs.load_acc _) ?_
  exact Runs.store_acc _

set_option maxHeartbeats 2000000 in
theorem out_tail (t : Fin 4) (s : St F) :
    Runs c a3 B I (outTail B t (numC (View.ld s.acc (rNum h0 t))) (denC (View.ld s.acc (rDen h0 t)))) s ⟨⟩
      { s with y := (outStep I s.acc (s.y, s.o) t).1, o := (outStep I s.acc (s.y, s.o) t).2 } := by
  unfold outTail
  dsimp only [outStep, proj]
  refine Runs.bind (Runs.load_acc _) ?_
  refine Runs.bind (Runs.load_acc _) ?_
  refine Runs.bind (Runs.load_acc _) ?_
  refine Runs.bind (Runs.load_acc _) ?_
  refine Runs.bind (Runs.load_acc _) ?_
  refine Runs.bind (Runs.load_acc _) ?_
  refine Runs.bind (Runs.load_w _) ?_
  generalize projPay (F := F) _ _ _ _ _ = A
  refine Runs.bind (Runs.load_o _) ?_
  refine Runs.bind (Runs.store_o _) ?_
  refine Runs.bind (Runs.load_x _) ?_
  refine Runs.bind (Runs.load_y _) ?_
  exact Runs.store_y _

theorem out_tile (t : Fin 4) (s : St F) :
    Runs c a3 B I (outTile B t) s ⟨⟩ { s with y := (outStep I s.acc (s.y, s.o) t).1, o := (outStep I s.acc (s.y, s.o) t).2 } := by
  unfold outTile
  refine Runs.bind (Runs.load_acc _) ?_
  refine Runs.bind (Runs.load_acc _) ?_
  exact out_tail t s

end Cert.Kernel.Row
end
-- ==== Proof.KWhole.lean ====
/-
  The body whole: the loops as iterated steps, the branches, and what the two results' buffers read after the body.
-/
module

public import proofs.«01_k».proof.Proof.KBody

@[expose] public section

set_option maxRecDepth 16384

noncomputable section

namespace Cert.Kernel.Row

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F]

/-! ## The steps of whole trips -/

/-- An accumulator and maxima of zeros; two results of zeros. -/
def am0 : AM F := (fun _ => Scalar.ofBits .f32 0x00000000#32, fun _ => Scalar.ofBits .f32 0x00000000#32)
def yo0 : YO F := (fun _ => Scalar.ofBits .bf16 0x0000#16, fun _ => Scalar.ofBits .bf16 0x0000#16)

/-- The first maximum: the accumulator at zero, the maxima at the first 256 keys'. -/
def firstAM (n : BitVec 32) (I : In F) : AM F := tiles.foldl (firstStep n I) am0

/-- Trip `k` of the main loop. -/
def mainTrip (n : BitVec 32) (I : In F) (m : Vec F S4x1024 .f32) (k : ℕ) (a : Vec F S4x80x1024 .f32) : Vec F S4x80x1024 .f32 :=
  if h : (stw 1024#32 0#32 k).toNat + 1024 ≤ 9216 then tiles.foldl (mainStep n (stw 1024#32 0#32 k) h I m) a else a

/-- The accumulator after `k` trips of the main loop. -/
def mainA (n : BitVec 32) (I : In F) (m : Vec F S4x1024 .f32) (a : Vec F S4x80x1024 .f32) : ℕ → Vec F S4x80x1024 .f32
  | 0 => a
  | k + 1 => mainTrip n I m k (mainA n I m a k)

/-- Trip `k` of the redo loop. -/
def safeTrip (n : BitVec 32) (I : In F) (k : ℕ) (s : AM F) : AM F :=
  if h : (stw 256#32 0#32 k).toNat + 256 ≤ 9216 then tiles.foldl (safeStep n (stw 256#32 0#32 k) h I) s else s

/-- The accumulator and the maxima after `k` trips of the redo loop. -/
def safeA (n : BitVec 32) (I : In F) (s : AM F) : ℕ → AM F
  | 0 => s
  | k + 1 => safeTrip n I k (safeA n I s k)

/-- The rectangles of the check: a head's totals, all heads' rows, and everything. -/
abbrev rT0 : Rect S4x80x1024 := Rect.unit (s := S4x80x1024) ![0, 64, 0] S1x1x1024.size inb_S4x80x1024_S1x1x1024_0_64_0
abbrev rT1 : Rect S4x80x1024 := Rect.unit (s := S4x80x1024) ![1, 64, 0] S1x1x1024.size inb_S4x80x1024_S1x1x1024_1_64_0
abbrev rT2 : Rect S4x80x1024 := Rect.unit (s := S4x80x1024) ![2, 64, 0] S1x1x1024.size inb_S4x80x1024_S1x1x1024_2_64_0
abbrev rT3 : Rect S4x80x1024 := Rect.unit (s := S4x80x1024) ![3, 64, 0] S1x1x1024.size inb_S4x80x1024_S1x1x1024_3_64_0
abbrev rNs : Rect S4x80x1024 := Rect.unit (s := S4x80x1024) ![0, 0, 0] S4x64x1024.size inb_S4x80x1024_S4x64x1024_0_0_0
abbrev rA : Rect S4x80x1024 := Rect.unit (s := S4x80x1024) ![0, 0, 0] S4x80x1024.size inb_S4x80x1024_S4x80x1024_0_0_0
abbrev rMA : Rect S4x1024 := Rect.unit (s := S4x1024) ![0, 0] S4x1024.size inb_S4x1024_S4x1024_0_0

/-- The kernel's test of an accumulator. -/
def bad (a : Vec F S4x80x1024 .f32) : BitVec 1 :=
  badOf (shapeCast S1x1024 (View.ld a rT0) shapeCasts_S1x1x1024_S1x1024) (View.ld a rT1) (View.ld a rT2) (View.ld a rT3) (View.ld a rNs)

/-- Where the redo loop starts: everything at zero, the maxima at minus infinity. -/
def resetAM (s : AM F) : AM F :=
  (put s.1 rA (shapeCast S4x80x1024 (broadcast S4x80x1024 (Scalar.ofBits .f32 0x00000000#32 : F .f32)) shapeCasts_S4x80x1024_S4x80x1024),
   put s.2 rMA (shapeCast S4x1024 (broadcast S4x1024 (Scalar.ofBits .f32 0xFF800000#32 : F .f32)) shapeCasts_S4x1024_S4x1024))

/-- The check and the redo loop, as a step. -/
def checkAM (n : BitVec 32) (I : In F) (s : AM F) : AM F :=
  if k0_cond2 (bad s.1) = 1#1 then safeA n I (resetAM s) (nc n) else s

/-- The accumulator and the maxima the body ends with. -/
def lastAM (n : BitVec 32) (I : In F) : AM F :=
  checkAM n I (mainA n I (firstAM n I).2 (firstAM n I).1 (nb n), (firstAM n I).2)

/-- The two results of the body. -/
def results (n : BitVec 32) (I : In F) : YO F := heads.foldl (outStep I (lastAM n I).1) yo0

/-! ## What covering steps forget -/

theorem put_congr {s : Shape} {e : EltTy} {X Y : s.Idx → Elt F e} (r : Rect s) (w : r.shape.Idx → Elt F e) (i : s.Idx) (h : X i = Y i ∨ ∃ x, r.emb x = i) :
    put X r w i = put Y r w i := by
  by_cases hx : ∃ x, r.emb x = i
  · obtain ⟨x, rfl⟩ := hx; rw [put_emb, put_emb]
  · rw [put_miss _ _ _ _ fun x hx' => hx ⟨x, hx'⟩, put_miss _ _ _ _ fun x hx' => hx ⟨x, hx'⟩]
    exact h.resolve_right hx

/-- Stores that do not read what they overwrite, over rectangles that cover, leave nothing of what was there. -/
theorem foldl_put {ι : Type} {s : Shape} {e : EltTy} (r : ι → Rect s) (w : (p : ι) → (r p).shape.Idx → Elt F e) (l : List ι) (i : s.Idx) :
    ∀ (X Y : s.Idx → Elt F e), (X i = Y i ∨ ∃ p ∈ l, ∃ x, (r p).emb x = i) →
      l.foldl (fun X p => put X (r p) (w p)) X i = l.foldl (fun X p => put X (r p) (w p)) Y i := by
  induction l with
  | nil => intro X Y h; exact h.resolve_right (by simp)
  | cons p l ih =>
    intro X Y h
    refine ih _ _ ?_
    by_cases hx : ∃ x, (r p).emb x = i
    · exact .inl (put_congr _ _ _ (.inr hx))
    · rcases h with h | ⟨p', hp', x, hx'⟩
      · exact .inl (put_congr _ _ _ (.inl h))
      · rcases List.mem_cons.1 hp' with rfl | hp'
        · exact absurd ⟨x, hx'⟩ hx
        · exact .inr ⟨p', hp', x, hx'⟩

theorem foldl_fst {ι α β : Type} (f : ι → α → α) (g : ι → β → β) (l : List ι) : ∀ (s : α × β),
    l.foldl (fun s p => (f p s.1, g p s.2)) s = (l.foldl (fun a p => f p a) s.1, l.foldl (fun b p => g p b) s.2) := by
  induction l with
  | nil => intro s; rfl
  | cons p l ih => intro s; exact ih _

theorem mem_tiles (h t : Fin 4) : (h, t) ∈ tiles := by revert h t; decide
theorem mem_heads (t : Fin 4) : t ∈ heads := by revert t; decide

theorem cover_acc (i : S4x80x1024.Idx) : ∃ p ∈ tiles, ∃ x, (rAcc p.1 p.2).emb x = i := by
  have i0 : (i 0).val < 4 := (i 0).isLt
  have i1 : (i 1).val < 80 := (i 1).isLt
  have i2 : (i 2).val < 1024 := (i 2).isLt
  refine ⟨(⟨(i 0).val, i0⟩, ⟨(i 2).val / 256, by omega⟩), mem_tiles _ _, ix3 (⟨0, Nat.one_pos⟩ : Fin 1) (⟨(i 1).val, i1⟩ : Fin 80) (⟨(i 2).val % 256, by omega⟩ : Fin 256), ?_⟩
  funext a
  match a with
  | ⟨0, _⟩ => exact Fin.ext (show (i 0).val + 1 * 0 = (i 0).val by omega)
  | ⟨1, _⟩ => exact Fin.ext (show 0 + 1 * (i 1).val = (i 1).val by omega)
  | ⟨2, _⟩ => exact Fin.ext (show 256 * ((i 2).val / 256) + 1 * ((i 2).val % 256) = (i 2).val by omega)

theorem cover_m (i : S4x1024.Idx) : ∃ p ∈ tiles, ∃ x, (rM p.1 p.2).emb x = i := by
  have i0 : (i 0).val < 4 := (i 0).isLt
  have i1 : (i 1).val < 1024 := (i 1).isLt
  refine ⟨(⟨(i 0).val, i0⟩, ⟨(i 1).val / 256, by omega⟩), mem_tiles _ _, ix2 (⟨0, Nat.one_pos⟩ : Fin 1) (⟨(i 1).val % 256, by omega⟩ : Fin 256), ?_⟩
  funext a
  match a with
  | ⟨0, _⟩ => exact Fin.ext (show (i 0).val + 1 * 0 = (i 0).val by omega)
  | ⟨1, _⟩ => exact Fin.ext (show 256 * ((i 1).val / 256) + 1 * ((i 1).val % 256) = (i 1).val by omega)

theorem cover_out (i : S1x1x1024x256.Idx) : ∃ t ∈ heads, ∃ x, (rOut t).emb x = i := by
  have i0 : (i 0).val < 1 := (i 0).isLt
  have i1 : (i 1).val < 1 := (i 1).isLt
  have i2 : (i 2).val < 1024 := (i 2).isLt
  have i3 : (i 3).val < 256 := (i 3).isLt
  refine ⟨⟨(i 2).val / 256, by omega⟩, mem_heads _, ix4 (⟨0, Nat.one_pos⟩ : Fin 1) (⟨0, Nat.one_pos⟩ : Fin 1) (⟨(i 2).val % 256, by omega⟩ : Fin 256) (⟨(i 3).val, i3⟩ : Fin 256), ?_⟩
  funext a
  match a with
  | ⟨0, _⟩ => exact Fin.ext (show 0 + 1 * 0 = (i 0).val by omega)
  | ⟨1, _⟩ => exact Fin.ext (show 0 + 1 * 0 = (i 1).val by omega)
  | ⟨2, _⟩ => exact Fin.ext (show 256 * ((i 2).val / 256) + 1 * ((i 2).val % 256) = (i 2).val by omega)
  | ⟨3, _⟩ => exact Fin.ext (show 0 + 1 * (i 3).val = (i 3).val by omega)

/-- The first maximum leaves nothing of what the buffers held. -/
theorem first_forget (n : BitVec 32) (I : In F) (s : AM F) : tiles.foldl (firstStep n I) s = firstAM n I := by
  have e := fun s : AM F => foldl_fst (ι := Fin 4 × Fin 4) (α := Vec F S4x80x1024 .f32) (β := Vec F S4x1024 .f32)
    (fun p a => put a (rAcc p.1 p.2) (shapeCast S1x80x256 (broadcast S80x256 (Scalar.ofBits .f32 0x00000000#32 : F .f32)) shapeCasts_S80x256_S1x80x256))
    (fun p m => put m (rM p.1 p.2) (firstPay n p.1 (qs (View.ld I.sq (rSq p.1 p.2))) (kc256 (View.ld I.k (rK256 p.1 0 (by decide)))) (View.ld I.q (rQ p.1 p.2))
     (View.ld (bFull n I.sk) (rB256 p.1 0 (by decide))))) tiles s
  refine (e s).trans (Eq.trans ?_ (e am0).symm)
  refine Prod.ext ?_ ?_
  · funext i; exact foldl_put _ _ _ i _ _ (.inr (cover_acc i))
  · funext i; exact foldl_put _ _ _ i _ _ (.inr (cover_m i))

/-- The outputs leave nothing of what the buffers held. -/
theorem out_forget (I : In F) (a : Vec F S4x80x1024 .f32) (s : YO F) : heads.foldl (outStep I a) s = heads.foldl (outStep I a) yo0 := by
  have e := fun s : YO F => foldl_fst (ι := Fin 4) (α := Vec F S1x1x1024x256 .bf16) (β := Vec F S1x1x1024x256 .bf16)
    (fun t y => put y (rOut t) (resPay (proj I a t) (View.ld I.x (rOut t)))) (fun t o => put o (rOut t) (outPay (proj I a t))) heads s
  refine (e s).trans (Eq.trans ?_ (e yo0).symm)
  refine Prod.ext ?_ ?_
  · funext i; exact foldl_put _ _ _ i _ _ (.inr (cover_out i))
  · funext i; exact foldl_put _ _ _ i _ _ (.inr (cover_out i))

/-! ## The body's parts -/

variable {c : Dev nD} {a3 : Memref sig .tc .smem S2 .i32} {B : Bufs} {I : In F}

/-- The word of the table at a grid point. -/
def wd (i : grid0.Coords) (n : Vec F S2 .i32) : BitVec 32 := View.ld n (Rect.unit (s := S2) (k0_off1 i) S1.size (k0_off1_inb i)) (Shape.Idx.first (numel1_S1.symm ▸ Nat.one_pos))

/-- The spread scales the body leaves. -/
abbrev G (n : BitVec 32) (sk : Vec F S1x1x4x9216 .f32) : Vec F S4x9216x128 .f32 → Prop := Spread n sk (1024 * nb n)

theorem spread_tiles (n st : BitVec 32) (hst : st.toNat + 128 ≤ 9216) (s : St F) (ag : Vec F S4x9216x128 .f32 → Prop) :
    Runs c a3 B I (seqL (spreadTile B n st hst) heads) { s with ag := ag } ⟨⟩ { s with ag := heads.foldl (spreadStep n I.sk st hst) ag } :=
  Runs.seqL (fun ag => { s with ag := ag }) _ (spreadStep n I.sk st hst) (fun h ag => spread_tile n st hst s h ag) heads ag

theorem spread_trip {n : BitVec 32} (st : BitVec 32) (j : ℕ) (hj : st.toNat = j) (hst : st.toNat + 128 ≤ 9216) (hd : 128 ∣ st.toNat) (s : St F) :
    Runs c a3 B I (seqL (spreadTile B n st hst) heads) { s with ag := Spread n I.sk j } ⟨⟩ { s with ag := Spread n I.sk (j + 128) } :=
  Runs.weaken (spread_tiles n st hst s _) _ fun b hb => spread_step n I.sk st j hj hst hd b hb

end Cert.Kernel.Row
end
-- ==== Proof.KBodyRun.lean ====
/-
  The body's run, from any contents of the results, the accumulator and the maxima.
-/
module

public import proofs.«01_k».proof.Proof.KWhole

@[expose] public section

set_option maxRecDepth 16384

noncomputable section

namespace Cert.Kernel.Row

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F]
variable {c : Dev nD} {a3 : Memref sig .tc .smem S2 .i32} {B : Bufs} {I : In F}

/-- A counted loop of `m` trips, from a state at each trip. -/
theorem Runs.loopN {l : Scf.Loop 32} {hok : l.OK} {body : Fin l.trips → Unit → P (F := F) Unit} (S : ℕ → St F) (m : ℕ) (hm : l.trips = m)
    (hb : ∀ t : Fin l.trips, Runs c a3 B I (body t ⟨⟩) (S t.val) ⟨⟩ (S (t.val + 1))) :
    Runs c a3 B I (Scf.Loop.for l hok ⟨⟩ body) (S 0) ⟨⟩ (S m) := by subst hm; exact Runs.loop S hb

/-- Less may be known of the spread scales at the start, too. -/
theorem Runs.pre {α : Type} {p : P (F := F) α} {s s' : St F} {a : α} (ag' : Vec F S4x9216x128 .f32 → Prop) (hag : ∀ b, s.ag b → ag' b)
    (h : Runs c a3 B I p { s with ag := ag' } a s') : Runs c a3 B I p s a s' :=
  Runs.bind (p := pure ()) (f := fun _ => p) (Runs.weaken (Runs.ret () s) ag' hag) h

theorem stw_dvd (k : ℕ) (h : k < 72) : 128 ∣ (stw 128#32 0#32 k).toNat := ⟨k, by rw [stw_toNat _ _ (by show k * 128 < 2 ^ 32; omega)]; show k * 128 = 128 * k; omega⟩

theorem head_run (i : grid0.Coords) {n : BitVec 32} (hN : InRange n) (hn : wd i I.n = n) (s : St F) (hag : k0_cond1 i ≠ 1#1 → ∀ b, s.ag b → G n I.sk b) :
    Runs c a3 B I (headP i a3 B) s ⟨n, chk1 i hN, nblk n, qs (View.ld I.sq (rSq h0 h0)), kc256 (View.ld I.k (rK256 h0 0 (by decide))), View.ld I.q (rQ h0 h0)⟩
      { s with ag := G n I.sk } := by
  subst hn
  unfold headP
  refine Runs.bind (Runs.word _) ?_
  change Runs c a3 B I (bind _ _) _ _ _
  refine Runs.bind (Runs.assume (chk1 i hN) _) ?_
  dsimp only
  have tail : Runs c a3 B I (do
      let sqv ← Prog.lift (.load B.sq (rSq h0 h0).toLoadRect (View.loadsAt_vmem h_S1x1x1x256))
      let kv ← Prog.lift (.load B.k (rK256 h0 0 (by decide)).toLoadRect (View.loadsAt_vmem h_S1x1x256x128))
      let qv ← Prog.lift (.load B.q (rQ h0 h0).toLoadRect (View.loadsAt_vmem h_S1x1x64x256))
      (pure ⟨wd i I.n, chk1 i hN, nblk (wd i I.n), qs sqv, kc256 kv, qv⟩ :
        P (F := F) (Σ' (v1 : Elt F .i32) (_ : k0_chk1 i v1) (_ : BitVec 32) (_ : FVec F S1x256 .f32) (_ : FVec F S256x128 .fp8e4m3), Vec F S1x1x64x256 .fp8e4m3)))
      { s with ag := G (wd i I.n) I.sk } ⟨wd i I.n, chk1 i hN, nblk (wd i I.n), qs (View.ld I.sq (rSq h0 h0)), kc256 (View.ld I.k (rK256 h0 0 (by decide))), View.ld I.q (rQ h0 h0)⟩
      { s with ag := G (wd i I.n) I.sk } := by
    refine Runs.bind (Runs.load_sq _) ?_
    refine Runs.bind (Runs.load_k _) ?_
    refine Runs.bind (Runs.load_q _) ?_
    exact Runs.ret _ _
  split
  · rename_i hc
    refine Runs.pre (Spread (wd i I.n) I.sk (0 * 128)) (fun b _ i hi => absurd hi (by omega)) ?_
    refine Runs.bind (Runs.loopN (fun k => { s with ag := Spread (wd i I.n) I.sk (k * 128) }) _ hN.t1 fun t => ?_) ?_
    · have ht := hN.lt1 t
      have := spread_trip (c := c) (a3 := a3) (B := B) (I := I) (n := wd i I.n) (stw 128#32 (k0_t1_loop (wd i I.n)).lb t) (t.val * 128) (stw1 _ ht)
        (by rw [stw1 _ ht]; omega) (by rw [stw1 _ ht]; omega) s
      rw [show (t.val + 1) * 128 = t.val * 128 + 128 by omega]
      exact this
    refine Runs.bind (Runs.loop0 hN.t2 _) ?_
    rw [show 8 * nb (wd i I.n) * 128 = 1024 * nb (wd i I.n) by omega]
    exact tail
  · rename_i hc
    exact Runs.pre _ (hag hc) tail

theorem stw3_lt {n : BitVec 32} (hN : InRange n) (t : Fin (k0_t3_loop n).trips) : (stw 1024#32 (k0_t3_loop n).lb t).toNat + 1024 ≤ 1024 * nb n := by
  rw [stw3 _ (hN.lt3 t)]; have := t.isLt; have := hN.t3; omega
theorem stw5_lt {n : BitVec 32} (hN : InRange n) (t : Fin (k0_t5_loop n).trips) : (stw 256#32 (k0_t5_loop n).lb t).toNat + 256 ≤ 1024 * nb n := by
  rw [stw5 _ (hN.lt5 t)]; have := t.isLt; have := hN.t5; unfold nc nb at *; omega
theorem nb256 {n : BitVec 32} (hN : InRange n) : 256 ≤ 1024 * nb n := by have := hN.nb_pos; omega

theorem main_tiles {n : BitVec 32} (st : BitVec 32) (hst : st.toNat + 1024 ≤ 9216) (hle : st.toNat + 1024 ≤ 1024 * nb n) (s : St F) (hs : s.ag = G n I.sk)
    (a : Vec F S4x80x1024 .f32) :
    Runs c a3 B I (seqL (mainTile B n st hst) tiles) { s with acc := a } ⟨⟩ { s with acc := tiles.foldl (mainStep n st hst I s.m) a } :=
  Runs.seqL (fun a => { s with acc := a }) _ (mainStep n st hst I s.m) (fun p a => main_tile n st hst p { s with acc := a } hle hs) tiles a

theorem safe_tiles {n : BitVec 32} (st : BitVec 32) (hst : st.toNat + 256 ≤ 9216) (hle : st.toNat + 256 ≤ 1024 * nb n) (s : St F) (hs : s.ag = G n I.sk) (x : AM F) :
    Runs c a3 B I (seqL (safeTile B n st hst) tiles) { s with acc := x.1, m := x.2 } ⟨⟩
      { s with acc := (tiles.foldl (safeStep n st hst I) x).1, m := (tiles.foldl (safeStep n st hst I) x).2 } :=
  Runs.seqL (fun x : AM F => { s with acc := x.1, m := x.2 }) _ (safeStep n st hst I) (fun p x => safe_tile n st hst p { s with acc := x.1, m := x.2 } hle hs) tiles x

theorem first_tiles {n : BitVec 32} (hN : InRange n) (s : St F) (hs : s.ag = G n I.sk) (l : List (Fin 4 × Fin 4)) (x : AM F) :
    Runs c a3 B I (seqL (firstTile B n) l) { s with acc := x.1, m := x.2 } ⟨⟩
      { s with acc := (l.foldl (firstStep n I) x).1, m := (l.foldl (firstStep n I) x).2 } :=
  Runs.seqL (fun x : AM F => { s with acc := x.1, m := x.2 }) _ (firstStep n I) (fun p x => first_tile n p { s with acc := x.1, m := x.2 } (nb256 hN) hs) l x

theorem out_tiles (s : St F) (l : List (Fin 4)) (x : YO F) :
    Runs c a3 B I (seqL (outTile B) l) { s with y := x.1, o := x.2 } ⟨⟩
      { s with y := (l.foldl (outStep I s.acc) x).1, o := (l.foldl (outStep I s.acc) x).2 } :=
  Runs.seqL (fun x : YO F => { s with y := x.1, o := x.2 }) _ (outStep I s.acc) (fun t x => out_tile t { s with y := x.1, o := x.2 }) l x

theorem loop_run (i : grid0.Coords) (ha3 : a3.IsWhole) {n : BitVec 32} (hN : InRange n) (s : St F) (hs : s.ag = G n I.sk) (x : AM F) (hx : x = (s.acc, s.m)) :
    Runs c a3 B I (loopP i a3 ha3 B n (chk1 i hN) (nblk n) (qs (View.ld I.sq (rSq h3 h3))) (kc256 (View.ld I.k (rK256 h3 0 (by decide)))) (View.ld I.q (rQ h3 h3)))
      s (shapeCast S1x1024 (View.ld (mainA n I (firstStep n I x (h3, h3)).2 (firstStep n I x (h3, h3)).1 (nb n)) rT0) shapeCasts_S1x1x1024_S1x1024)
      { s with acc := mainA n I (firstStep n I x (h3, h3)).2 (firstStep n I x (h3, h3)).1 (nb n), m := (firstStep n I x (h3, h3)).2 } := by
  subst hx
  unfold loopP
  refine Runs.bind (first_tail n (h3, h3) s (nb256 hN) hs) ?_
  generalize firstStep n I (s.acc, s.m) (h3, h3) = f
  refine Runs.bind (Runs.loopN (fun k => { s with acc := mainA n I f.2 f.1 k, m := f.2 }) _ hN.t3 fun t => ?_) ?_
  · rw [main_eq]
    have hst : (stw 1024#32 (k0_t3_loop n).lb t).toNat + 1024 ≤ 9216 := by have := stw3_lt hN t; have := hN.nb_le; omega
    have := main_tiles (c := c) (a3 := a3) (B := B) (I := I) (stw 1024#32 (k0_t3_loop n).lb t) hst (stw3_lt hN t) { s with m := f.2 } hs (mainA n I f.2 f.1 t.val)
    have e : mainA n I f.2 f.1 (t.val + 1) = tiles.foldl (mainStep n (stw 1024#32 (k0_t3_loop n).lb t) hst I f.2) (mainA n I f.2 f.1 t.val) := dif_pos hst
    rw [e]
    exact this
  refine Runs.bind (Runs.loop0 hN.t4 _) ?_
  refine Runs.bind (Runs.load_acc _) ?_
  exact Runs.ret _ _

theorem check_run {n : BitVec 32} (hN : InRange n) (s : St F) (hs : s.ag = G n I.sk) (x : AM F) (hx : x = (s.acc, s.m)) :
    Runs c a3 B I (checkP B n (shapeCast S1x1024 (View.ld s.acc rT0) shapeCasts_S1x1x1024_S1x1024)) s
      ⟨numC (View.ld (checkAM n I x).1 (rNum h0 h0)), denC (View.ld (checkAM n I x).1 (rDen h0 h0))⟩
      { s with acc := (checkAM n I x).1, m := (checkAM n I x).2 } := by
  subst hx
  unfold checkP
  refine Runs.bind (Runs.load_acc _) ?_
  refine Runs.bind (Runs.load_acc _) ?_
  refine Runs.bind (Runs.load_acc _) ?_
  refine Runs.bind (Runs.load_acc _) ?_
  refine Runs.bind (Runs.assume (chk2 _ hN) _) ?_
  have tail : ∀ x : AM F, Runs c a3 B I (do
      let n0 ← Prog.lift (.load B.acc (rNum h0 h0).toLoadRect (View.loadsAt_vmem h_S1x64x256))
      let d0 ← Prog.lift (.load B.acc (rDen h0 h0).toLoadRect (View.loadsAt_vmem h_S1x1x256))
      (pure ⟨numC n0, denC d0⟩ : P (F := F) (Σ' (_ : FVec F S64x256 .f32), FVec F S1x256 .f32)))
      { s with acc := x.1, m := x.2 } ⟨numC (View.ld x.1 (rNum h0 h0)), denC (View.ld x.1 (rDen h0 h0))⟩ { s with acc := x.1, m := x.2 } := fun x => by
    refine Runs.bind (Runs.load_acc _) ?_
    refine Runs.bind (Runs.load_acc _) ?_
    exact Runs.ret _ _
  dsimp only
  split
  · rename_i hc
    have e : checkAM n I (s.acc, s.m) = safeA n I (resetAM (s.acc, s.m)) (nc n) := if_pos hc
    rw [e]
    refine Runs.bind (Runs.load_m _) ?_
    refine Runs.bind (Runs.store_m _) ?_
    refine Runs.bind (Runs.load_acc _) ?_
    refine Runs.bind (Runs.store_acc _) ?_
    change Runs c a3 B I _ { s with acc := (resetAM (s.acc, s.m)).1, m := (resetAM (s.acc, s.m)).2 } _ _
    generalize resetAM (s.acc, s.m) = f
    refine Runs.bind (Runs.loopN (fun k => { s with acc := (safeA n I f k).1, m := (safeA n I f k).2 }) _ hN.t5 fun t => ?_) ?_
    · have hst : (stw 256#32 (k0_t5_loop n).lb t).toNat + 256 ≤ 9216 := by have := stw5_lt hN t; have := hN.nb_le; omega
      have := safe_tiles (c := c) (a3 := a3) (B := B) (I := I) (stw 256#32 (k0_t5_loop n).lb t) hst (stw5_lt hN t) s hs (safeA n I f t.val)
      have e : safeA n I f (t.val + 1) = tiles.foldl (safeStep n (stw 256#32 (k0_t5_loop n).lb t) hst I) (safeA n I f t.val) := dif_pos hst
      rw [e]
      exact this
    refine Runs.bind (Runs.loop0 hN.t6 _) ?_
    exact tail (safeA n I f (nc n))
  · rename_i hc
    have e : checkAM n I (s.acc, s.m) = (s.acc, s.m) := if_neg hc
    rw [e]
    exact tail (s.acc, s.m)

theorem out_run (s : St F) :
    Runs c a3 B I (outP B (numC (View.ld s.acc (rNum h0 h0))) (denC (View.ld s.acc (rDen h0 h0)))) s ⟨⟩
      { s with y := (heads.foldl (outStep I s.acc) (s.y, s.o)).1, o := (heads.foldl (outStep I s.acc) (s.y, s.o)).2 } := by
  unfold outP
  refine Runs.bind (out_tail h0 s) ?_
  exact out_tiles s heads.tail (outStep I s.acc (s.y, s.o) h0)

theorem tiles_eq : tiles = (h0, h0) :: (midTiles ++ [(h3, h3)]) := rfl

/-- **The body runs**: from any results, accumulator and maxima, and either the spread scales in place or the grid point
    one that spreads them, to the results the steps give. -/
theorem body_run (i : grid0.Coords) (ha3 : a3.IsWhole) {n : BitVec 32} (hN : InRange n) (hn : wd i I.n = n) (s : St F)
    (hag : k0_cond1 i ≠ 1#1 → ∀ b, s.ag b → G n I.sk b) :
    Runs c a3 B I (bodyP i a3 ha3 B) s ⟨⟩ ⟨(results n I).1, (results n I).2, G n I.sk, (lastAM n I).1, (lastAM n I).2⟩ := by
  unfold bodyP
  refine Runs.bind (head_run i hN hn s hag) ?_
  dsimp only
  unfold midP
  refine Runs.bind (first_tail n (h0, h0) { s with ag := G n I.sk } (nb256 hN) rfl) ?_
  dsimp only
  generalize e0 : firstStep n I (s.acc, s.m) (h0, h0) = f0
  refine Runs.bind (first_tiles hN ({ s with ag := G n I.sk }) rfl midTiles f0) ?_
  generalize e1 : midTiles.foldl (firstStep n I) f0 = f1
  refine Runs.bind (Runs.load_sq _) ?_
  refine Runs.bind (Runs.load_k _) ?_
  refine Runs.bind (Runs.load_q _) ?_
  unfold restP
  refine Runs.bind (loop_run i ha3 hN _ rfl f1 rfl) ?_
  have e2 : firstStep n I f1 (h3, h3) = firstAM n I := by
    rw [← first_forget n I (s.acc, s.m), tiles_eq, List.foldl_cons, List.foldl_append, e0, e1]; rfl
  rw [e2]
  have ck := check_run (c := c) (a3 := a3) (B := B) (I := I) hN
    { s with ag := G n I.sk, acc := mainA n I (firstAM n I).2 (firstAM n I).1 (nb n), m := (firstAM n I).2 } rfl
    (mainA n I (firstAM n I).2 (firstAM n I).1 (nb n), (firstAM n I).2) rfl
  refine Runs.bind ck ?_
  have e3 : checkAM n I (mainA n I (firstAM n I).2 (firstAM n I).1 (nb n), (firstAM n I).2) = lastAM n I := rfl
  rw [e3]
  have := out_run (c := c) (a3 := a3) (B := B) (I := I) { s with ag := G n I.sk, acc := (lastAM n I).1, m := (lastAM n I).2 }
  dsimp only at this
  rw [out_forget] at this
  exact this

end Cert.Kernel.Row
end
-- ==== Proof.KRowRun.lean ====
/-
  The launch: the pipeline's proof data, the body at each grid point, and what every final state holds.
-/
module

public import proofs.«01_k».proof.Proof.KBodyRun
public import proofs.«01_k».proof.Proof.Gen.Kernel.Launch
public import Idealize.ShloMosaic.Lib.Pipeline.Frame

@[expose] public section

set_option maxRecDepth 16384

noncomputable section

namespace Cert.Kernel.Row

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose heldIn)

variable {F : FTy → Type} [FloatOps F]

/-- The resource algebra. -/
local notation "𝕄" => MT nD τ sig Unit (Elt F) ℕ (UR sig nD τ) ℕ

variable (m : (ℓ : Loc nD τ sig) → Buf (Elt F) ℓ)

/-- The table's contents at launch. -/
def pf0 : pre0.Contents (Elt F) := fun k => m (((0 : Dev nD) : Thread nD τ).loc (pre0.ref k))

/-- The table as the body reads it. -/
abbrev tab : Vec F S2 .i32 := pf0 m 0

/-- The admissible contents the pipeline runs at. -/
def adm : (pcfg0 (F := F)).Adm := ⟨pf0 m, trivial⟩

/-- The pipeline at the launch's table. -/
abbrev cfgA : Cfg sig Λ₀ := cfg0 (adm m)

/-- A core's buffers when the pipeline starts: the two casts have run. -/
abbrev V (c : Dev nD) (b : Ref sig .tc) : Buf (Elt F) ((c : Thread nD τ).loc b) :=
  StableHlo.after hostOps0 (fun b => m (c, b)) b

/-- The windowed arrays when the pipeline starts. -/
abbrev arrs (c : Dev nD) (w : Fin (cfgA m).W) : Buf (Elt F) (((cfgA m).win w).arr.view.loc (c : Thread nD τ)) :=
  V m c (Pipeline.arrRef spec0 w)

/-- What an input window holds at a grid point. -/
def held (c : Dev nD) (w : Fin (cfgA m).W) (n : ℕ) (h : n < (cfgA m).N) : ((cfgA m).win w).block.Idx → Elt F ((cfgA m).win w).elt :=
  heldIn (Val := Elt F) (cfgA m) (arrs m c) w n h

/-- The operands at a grid point. -/
def inAt (c : Dev nD) (n : ℕ) (h : n < (cfgA m).N) : In F :=
  ⟨fullShare.right, tab m, held m c 0 n h, held m c 1 n h, held m c 2 n h, held m c 3 n h, held m c 4 n h, held m c 5 n h, held m c 6 n h⟩

/-- The row length at a grid point. -/
def nAt (n : ℕ) (h : n < (cfgA m).N) : BitVec 32 := wd (grid0.coords ⟨n, h⟩) (tab m)

/-- What is known of the spread scales before a grid point. -/
def tr (c : Dev nD) : (n : ℕ) → n ≤ (cfgA m).N → Vec F S4x9216x128 .f32 → Prop
  | 0, _ => fun _ => True
  | n + 1, h => G (nAt m n h) (inAt m c n h).sk

/-- The invariant before a grid point. -/
def PhiS (c : Dev nD) (n : ℕ) (h : n ≤ (cfgA m).N) : sProp 𝕄 :=
  iprop((∃ b, ⌜tr m c n h b⌝ ∗ own c (Memref.whole cc0_scratch0) b) ∗ (∃ a, own c (Memref.whole cc0_scratch1) a)
    ∗ (∃ a, own c (Memref.whole cc0_scratch2) a) ∗ (∃ r, prngReg c r) ∗ owns (c : Thread nD τ) (Memref.whole main_arg0) fullShare.right (tab m))

/-- The pipeline's proof data. -/
def dats (_ : Fin 1) (c : Dev nD) : Dat τ (Elt F) Unit ℕ (UR sig nD τ) ℕ (cfgA m) c where
  A w := V m c (Pipeline.arrRef spec0 w)
  after w t := match w with
    | ⟨0, _⟩ => held m c 0 t.val t.isLt
    | ⟨1, _⟩ => held m c 1 t.val t.isLt
    | ⟨2, _⟩ => held m c 2 t.val t.isLt
    | ⟨3, _⟩ => held m c 3 t.val t.isLt
    | ⟨4, _⟩ => held m c 4 t.val t.isLt
    | ⟨5, _⟩ => held m c 5 t.val t.isLt
    | ⟨6, _⟩ => held m c 6 t.val t.isLt
    | ⟨7, _⟩ => (results (nAt m t.val t.isLt) (inAt m c t.val t.isLt)).1
    | ⟨8, _⟩ => (results (nAt m t.val t.isLt) (inAt m c t.val t.isLt)).2
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin (cfgA m).W) : (dats m 0 c).A w = V m c (Pipeline.arrRef spec0 w) := by
  dsimp only [dats]

theorem Phi_castSucc (c : Dev nD) (t : Fin (cfgA m).N) : (dats m 0 c).Φ t.castSucc = PhiS m c t.val (Nat.le_of_lt t.isLt) := by
  dsimp only [dats]; exact Pipeline.Dat.Φ_castSucc (PhiS m c) t

theorem Phi_succ (c : Dev nD) (t : Fin (cfgA m).N) : (dats m 0 c).Φ t.succ = PhiS m c (t.val + 1) t.isLt := by
  dsimp only [dats]; rfl

/-- What an input window's buffer holds when the body runs. -/
theorem before_in (c : Dev nD) (w : Fin (cfgA m).W) (hw : ((cfgA m).win w).isOut = false)
    (ha : ∀ t, (dats m 0 c).after w t = held m c w t.val t.isLt) (t : Fin (cfgA m).N) (d) :
    (dats m 0 c).before w t d = held m c w t.val t.isLt :=
  (dats m 0 c).before_eq_heldIn w hw (fun _ => rfl) (fun _ _ => rfl) ha t d

/-- Within a row, the first two coordinates stay. -/
theorem coords_stay : ∀ (n : Fin 233), k0_cond1 (grid0.coords ⟨n.val + 1, by have := n.isLt; rw [N_0]; omega⟩) ≠ 1#1 →
    grid0.coords ⟨n.val + 1, by have := n.isLt; rw [N_0]; omega⟩ 0 = grid0.coords ⟨n.val, by have := n.isLt; rw [N_0]; omega⟩ 0
    ∧ grid0.coords ⟨n.val + 1, by have := n.isLt; rw [N_0]; omega⟩ 1 = grid0.coords ⟨n.val, by have := n.isLt; rw [N_0]; omega⟩ 1 := by
  decide +kernel

theorem cond1_zero : k0_cond1 (grid0.coords ⟨0, by rw [N_0]; omega⟩) = 1#1 := by decide +kernel

theorem wd_congr (i i' : grid0.Coords) (n : Vec F S2 .i32) (h0 : i 0 = i' 0) (h1 : i 1 = i' 1) : wd i n = wd i' n := by
  have e : k0_off1 i = k0_off1 i' := by unfold k0_off1; simp only [h0, h1]
  unfold wd
  congr 1
  simp only [e]

theorem fetch_stay (n : ℕ) (h : n + 1 < (cfgA m).N) (hi : k0_cond1 (grid0.coords ⟨n + 1, h⟩) ≠ 1#1) :
    ((cfgA m).win 3).fetch ⟨n + 1, h⟩ = false := by
  have hN : n + 1 < 234 := N_0 ▸ h
  obtain ⟨h0, h1⟩ := coords_stay ⟨n, by omega⟩ hi
  rw [Bool.eq_false_iff]
  intro hf
  rcases (((cfgA m).win 3).fetch_in rfl ⟨n + 1, h⟩).mp hf with h' | ⟨_, h'⟩
  · exact absurd h' (Nat.succ_ne_zero n)
  · refine h' ?_
    show cc0_transform_3 (grid0.coords ⟨n + 1, h⟩) = cc0_transform_3 (grid0.coords ⟨n, Nat.lt_of_succ_lt h⟩)
    unfold cc0_transform_3
    rw [h0, h1]

/-- Within a row, what is known of the spread scales is what the next point needs. -/
theorem tr_stay (c : Dev nD) (n : ℕ) (h : n < (cfgA m).N) (hi : k0_cond1 (grid0.coords ⟨n, h⟩) ≠ 1#1) (b : Vec F S4x9216x128 .f32)
    (hb : tr m c n (Nat.le_of_lt h) b) : G (nAt m n h) (inAt m c n h).sk b := by
  cases n with
  | zero => exact absurd cond1_zero hi
  | succ n =>
    have hN : n + 1 < 234 := N_0 ▸ h
    obtain ⟨h0, h1⟩ := coords_stay ⟨n, by omega⟩ hi
    have e1 : nAt m (n + 1) h = nAt m n (Nat.lt_of_succ_lt h) := wd_congr _ _ _ h0 h1
    have e2 : (inAt m c (n + 1) h).sk = (inAt m c n (Nat.lt_of_succ_lt h)).sk :=
      Pipeline.heldIn_of_not_fetch (cfg := cfgA m) (arrs m c) 3 n h (fetch_stay m n h hi)
    rw [e1, e2]
    exact hb

/-- The body's buffers at a grid point. -/
def bufs (s : (w : Fin 9) → Fin (spec0 w).nbuf) : Bufs :=
  ⟨spec0_0.stage (s 0), hstage0_0 ((s 0).cast nbuf0_0), spec0_1.stage (s 1), hstage0_1 ((s 1).cast nbuf0_1), spec0_2.stage (s 2), hstage0_2 ((s 2).cast nbuf0_2),
   spec0_3.stage (s 3), hstage0_3 ((s 3).cast nbuf0_3), spec0_4.stage (s 4), hstage0_4 ((s 4).cast nbuf0_4), spec0_5.stage (s 5), hstage0_5 ((s 5).cast nbuf0_5),
   spec0_6.stage (s 6), hstage0_6 ((s 6).cast nbuf0_6), spec0_7.stage (s 7), hstage0_7 ((s 7).cast nbuf0_7), spec0_8.stage (s 8), hstage0_8 ((s 8).cast nbuf0_8),
   Memref.whole cc0_scratch0, Memref.isWhole_whole _, Memref.whole cc0_scratch1, Memref.isWhole_whole _, Memref.whole cc0_scratch2, Memref.isWhole_whole _⟩

/-- The body the pipeline calls. -/
theorem body_prog (t : Fin grid0.N) (s : (w : Fin 9) → Fin (spec0 w).nbuf) :
    defs₀ (F := F) .tc 0 (t, s) = bodyP (grid0.coords t) (Memref.whole main_arg0) (Memref.isWhole_whole _) (bufs s) :=
  kernel_eq (grid0.coords t) (Memref.whole main_arg0) (Memref.isWhole_whole _) (bufs s)

set_option backward.isDefEq.respectTransparency.types false in
/-- The body at every grid point. -/
theorem body_obligation (hN : ∀ n h, InRange (nAt m n h)) (c : Dev nD) : BodyObligation (dats m 0 c) (defs₀ (F := F)) Variants.none () Set.univ := fun t => by
  rw [bigSep_W0, bigSep_W0]
  dsimp only
  simp only [before_in m c 0 rfl (fun _ => rfl), before_in m c 1 rfl (fun _ => rfl), before_in m c 2 rfl (fun _ => rfl), before_in m c 3 rfl (fun _ => rfl),
    before_in m c 4 rfl (fun _ => rfl), before_in m c 5 rfl (fun _ => rfl), before_in m c 6 rfl (fun _ => rfl)]
  rw [Phi_castSucc, Phi_succ]
  have ho : (dats m 0 c).owesAt () t.castSucc = (dats m 0 c).owesAt () t.succ := rfl
  rw [ho]
  generalize (dats m 0 c).owesAt () t.succ = O
  unfold PhiS
  iintro ⟨⟨⟨%b, %hb, Hb⟩, ⟨%a1, Ha1⟩, ⟨%a2, Ha2⟩, Hp, Ht⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have run := body_run (c := c) (a3 := Memref.whole main_arg0) (B := bufs ((cfgA m).slots t)) (I := inAt m c t.val t.isLt) (grid0.coords t)
    (Memref.isWhole_whole _) (hN t.val t.isLt) rfl
    ⟨(dats m 0 c).before 7 t d7, (dats m 0 c).before 8 t d8, tr m c t.val (Nat.le_of_lt t.isLt), a1, a2⟩
    (fun hi b hb => tr_stay m c t.val t.isLt hi b hb)
  have prog := body_prog (F := F) t ((cfgA m).slots t)
  iapply (show iprop(H c (Memref.whole main_arg0) (bufs ((cfgA m).slots t)) (inAt m c t.val t.isLt)
      ⟨(dats m 0 c).before 7 t d7, (dats m 0 c).before 8 t d8, tr m c t.val (Nat.le_of_lt t.isLt), a1, a2⟩ ∗ ((∃ r, prngReg c r) ∗ O)) ⊢ _ from by
    rw [prog]
    refine run _ _ ?_
    unfold H
    iintro ⟨⟨Ht, H0, H1, H2, H3, H4, H5, H6, H7, H8, ⟨%b, %hb, Hb⟩, Ha1, Ha2⟩, Hp, HO⟩
    isplitl [Hb Ha1 Ha2 Hp Ht]
    · isplitl [Hb]
      · iexists b; isplitr; · ipureintro; exact hb
        iexact Hb
      isplitl [Ha1]; · iexists _; iexact Ha1
      isplitl [Ha2]; · iexists _; iexact Ha2
      isplitl [Hp]; · iexact Hp
      iexact Ht
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8)
  unfold H
  isplitl [Ht H0 H1 H2 H3 H4 H5 H6 H7 H8 Hb Ha1 Ha2]
  · isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hb]
    · iexists b; isplitr; · ipureintro; exact hb
      iexact Hb
    isplitl [Ha1]; · iexact Ha1
    iexact Ha2
  isplitl [Hp]; · iexact Hp
  iexact HO

/-- No host operation writes these buffers: each reaches the pipeline, and the end, as launched. -/
theorem not_written (b : Ref sig .tc) (h0 : b ≠ main_v0) (h1 : b ≠ main_v1) : ∀ op ∈ (hostOps0 (F := F)), Proc.devRef .tc b ∉ op.writes := by
  intro op hop
  simp only [List.mem_cons, List.mem_nil_iff, or_false] at hop
  rcases hop with rfl | rfl <;> simp only [StableHlo.unary_writes, Finset.mem_singleton] <;> exact StableHlo.devRef_ne_of_ne ‹_›

theorem V_arg (c : Dev nD) (b : Ref sig .tc) (h0 : b ≠ main_v0) (h1 : b ≠ main_v1) : V m c b = m ((c : Thread nD τ).loc b) :=
  StableHlo.after_of_forall_not_mem (b := Proc.devRef .tc b) hostOps0 (fun b => m (c, b)) (not_written b h0 h1)

/-- The table's half the launch hands the body. -/
theorem prefHeld_one (c : Dev nD) (q : PosShare TreeShare) (v : pre0.Contents (Elt F)) :
    (Pipeline.prefHeld pre0 c (fun _ => q) v : sProp 𝕄) = (((c : Thread nD τ).loc main_arg0) ↦{q} (show Buf (Elt F) ((c : Thread nD τ).loc main_arg0) from v 0)) := by
  unfold Pipeline.prefHeld
  rw [show (Finset.univ : Finset (Fin 1)) = {0} from by decide, bigSep_singleton]
  rfl

set_option backward.isDefEq.respectTransparency.types false in
/-- From any memory with zero counters whose row lengths are in range, every weakly fair execution ends with every
    windowed array at what the write-backs make it and every other array as it was when the pipeline started. -/
theorem run_main (g : Dev nD → PrngReg) (hN : ∀ n h, InRange (nAt m n h)) :
    θ_run defs (onTc (τ := τ) (main (F := F))) (s₀ m g)
      (fun r => Pipeline.FramePost (Pipeline.pin (pcfgs (F := F)) (fun _ => adm m)) (dats m) 0 (V m) r ∧ r.2.sem = fun _ => 0) :=
  Pipeline.θ_run_frameP_track (pcfgs (F := F)) (fun _ => adm m) (dats m) 0 launch0 defs₀ Variants.none m g main
    (fun c => (body_obligation m hN c).loose) (fun c => (dats m 0 c).share_full fun _ => rfl) (fun _ _ => rfl)
    (V m)
    (Pipeline.hmainP_prefix (pcfgs (F := F)) 0 defs₀ Variants.none m main hostOps0 hostOps0_sub ⟨rfl, rfl⟩ main_chain)
    (A_eq m)
    (fun c k => by
      obtain rfl : c = 0 := Subsingleton.elim _ _
      obtain rfl : k = 0 := Subsingleton.elim _ _
      exact V_arg m 0 main_arg0 (by decide) (by decide))
    (fun c => by
      rw [show (dats m 0 c).Φ 0 = PhiS m c 0 (Nat.zero_le _) from rfl]
      unfold Pipeline.ΦA PhiS
      rw [scopedRest0_eq, show (Pipeline.ΦT (pcfgs (F := F) 0).pre (adm m).1 c : sProp 𝕄) = _ from prefHeld_one c fullShare.right (pf0 m)]
      simp only [own, owns_whole]
      iintro ⟨⟨⟨⟨%f0, H0⟩, ⟨%f1, H1⟩, ⟨%f2, H2⟩⟩, Hp⟩, Ht⟩
      isplitl [H0]
      · iexists f0; isplitr; · ipureintro; trivial
        iexact H0
      isplitl [H1]; · iexists f1; iexact H1
      isplitl [H2]; · iexists f2; iexact H2
      isplitl [Hp]; · iexact Hp
      iexact Ht)
    (fun c => by
      rw [show (dats m 0 c).Φ (Fin.last _) = PhiS m c (cfgA m).N (le_refl _) from rfl]
      unfold Pipeline.ΦA PhiS
      rw [scopedRest0_eq]
      simp only [own, owns_whole]
      iintro ⟨⟨%f0, -, H0⟩, ⟨%f1, H1⟩, ⟨%f2, H2⟩, Hp, -⟩
      isplitl [H0 H1 H2]
      · isplitl [H0]; · iexists f0; iexact H0
        isplitl [H1]; · iexists f1; iexact H1
        iexists f2; iexact H2
      iexact Hp)
    _ (fun _ h => h)

end Cert.Kernel.Row
end
-- ==== Proof.KFrames.lean ====
/-
  The frames of the kernel at the words.
-/
module

public import proofs.«01_k».proof.Defs
public import proofs.«01_k».proof.Proof.KRowRun
public import proofs.«01_k».proof.Proof.Gen.Pre_rows_in_range
public import Idealize.ShloMosaic.Lib.ReduceAll

@[expose] public section

set_option maxRecDepth 16384

noncomputable section

namespace Cert.Kernel.Row

open Cert.Kernel Cert.Kernel.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The predicate's bounds, at every word of the table. -/
theorem range_of_and {s : Shape} (x : s.Idx → BitVec 32) (lo hi : s.Idx → BitVec 32) (hlo : ∀ j, lo j = 1#32) (hhi : ∀ j, hi j = 9216#32)
    (h : ∀ j, andi (cmpi .sge x lo) (cmpi .sle x hi) j = 1#1) (j : s.Idx) : InRange (x j) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := h j
  simp only [andi, cmpi, IntOp.cmpi, andi_ofBool, ofBool_eq_one, Bool.and_eq_true, hlo, hhi] at e
  obtain ⟨h1, h2⟩ := e
  simp only [BitVec.sle, decide_eq_true_eq, BitVec.toInt, BitVec.toNat_ofNat] at h1 h2
  constructor <;> omega

theorem nAt_range (h : ∀ j, InRange (tab m j)) : ∀ n hn, InRange (nAt m n hn) := fun n hn => h _

/-- What a final state of the launch says of the arguments. -/
theorem args_kept (r : PUnit × MemSt nD τ sig (Elt F))
    (h : Pipeline.FramePost (Pipeline.pin (pcfgs (F := F)) (fun _ => adm m)) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  obtain ⟨hw, hr⟩ := h c
  have rest (b : Ref sig .tc) (hb : b ∈ Pipeline.restRefs sig spec0) (h0 : b ≠ main_v0) (h1 : b ≠ main_v1) :
      r.2.mem ((c.tc : Thread nD τ).loc b) = m ((c.tc : Thread nD τ).loc b) := (hr b hb).trans (V_arg m c b h0 h1)
  have win (w : Fin 9) (hi : ((cfgA m).win w).isOut = false) (h0 : Pipeline.arrRef spec0 w ≠ main_v0) (h1 : Pipeline.arrRef spec0 w ≠ main_v1) :
      r.2.mem ((c.tc : Thread nD τ).loc (Pipeline.arrRef spec0 w)) = m ((c.tc : Thread nD τ).loc (Pipeline.arrRef spec0 w)) :=
    ((hw w).trans ((dats m 0 c).arrAt_in w hi _)).trans ((A_eq m c w).trans (V_arg m c _ h0 h1))
  exact ⟨rest main_arg0 (by decide) (by decide) (by decide), rest main_arg1 (by decide) (by decide) (by decide), win 1 rfl (by decide) (by decide),
    rest main_arg3 (by decide) (by decide) (by decide), win 3 rfl (by decide) (by decide), win 4 rfl (by decide) (by decide),
    win 5 rfl (by decide) (by decide), win 6 rfl (by decide) (by decide)⟩

/-- The launch ends with its arguments as they were and every counter at zero. -/
theorem frame_of_range (g : Dev nD → PrngReg) (h : ∀ j, InRange (tab m j)) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨args_kept m r hr.1, hr.2⟩) (run_main m g (nAt_range m h))

/-- The precondition bounds every word of the table. -/
theorem range_of_pre [FloatOps F] (x0 : IVec S2 32) (x1 x2 x3 x4 x5 x6 x7)
    (h : Cert.Pre_rows_in_range.fn (F := F) x0 x1 x2 x3 x4 x5 x6 x7 = fun _ => 1#1) (j : S2.Idx) : InRange (x0 j) := by
  refine range_of_and x0 _ _ (fun _ => rfl) (fun _ => rfl) (fun i => ?_) j
  exact Host.reduce_andi_all _ _ _ _ _ (congrFun h (Shape.Idx.first Cert.Pre_rows_in_range.Facts.h_S_)) i

theorem frame_p : Cert.quiescent_Kernel := fun m g h =>
  frame_of_range m g fun j => range_of_pre _ _ _ _ _ _ _ _ (h 0) j

end Cert.Kernel.Row
end
-- ==== Proof.Math.lean ====
/-
  The attention's mathematics over the real numbers, and how the extended reals' operations read on real numbers:
  a weighted mean with weights 2^(t - μ) or e^(z - M) does not depend on the number subtracted.
-/
module

public import Idealize.ShloMosaic.Lib.Pointwise
public import Idealize.ShloMosaic.Lib.WordCmp

@[expose] public section

noncomputable section

namespace Cert.Attn

open Idealize.ShloMosaic

/-! ## Sums, words, constants -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem ofBits_neg_inf : Ideal.ofBits .f32 0xFF800000#32 = ⊥ := by simp [Ideal.ofBits, Ideal.ieee]

theorem ofBits_eighth : Ideal.ofBits .f32 0x3E000000#32 = ((1 / 8 : ℝ) : EReal) := by
  simp [Ideal.ofBits, Ideal.ieee, -EReal.coe_mul]; norm_num

/-- A comparison of two small words under a choice. -/
theorem sel_lt {α : Type} (j : ℕ) (x n : BitVec 32) (hx : x.toNat = j) (hj : j < 2 ^ 31) (hn : n.toNat < 2 ^ 31) (a b : α) :
    Scalar.select (IntOp.cmpi .slt x n) a b = if j < n.toNat then a else b := by
  rw [WordCmp.cmpi_slt_of_lt (by rw [hx]; exact hj) hn, hx]
  unfold Scalar.select
  by_cases h : j < n.toNat <;> simp [h]

theorem sel_add {α : Type} (st n : BitVec 32) (j : ℕ) (hj : st.toNat + j < 2 ^ 31) (hn : n.toNat < 2 ^ 31) (a b : α) :
    Scalar.select (IntOp.cmpi .slt (IntOp.addi st (BitVec.ofNat 32 j)) n) a b = if st.toNat + j < n.toNat then a else b := by
  refine sel_lt (st.toNat + j) _ n ?_ hj hn a b
  show (st + BitVec.ofNat 32 j).toNat = _
  rw [BitVec.toNat_add, BitVec.toNat_ofNat, Nat.mod_eq_of_lt (show j < 2 ^ 32 by omega), Nat.mod_eq_of_lt (by omega)]

theorem sel_nat {α : Type} (n : BitVec 32) (j : ℕ) (hj : j < 2 ^ 31) (hn : n.toNat < 2 ^ 31) (a b : α) :
    Scalar.select (IntOp.cmpi .slt (BitVec.ofNat 32 j) n) a b = if j < n.toNat then a else b :=
  sel_lt j _ n (by rw [BitVec.toNat_ofNat, Nat.mod_eq_of_lt (by omega)]) hj hn a b

/-- The largest of real numbers, some left out at minus infinity, is a real number when one is in. -/
theorem fold_max_real {ι : Type} (s : Finset ι) (p : ι → Prop) [DecidablePred p] (t : ι → ℝ) (m : EReal) (hm : m ≠ ⊤) (h : m ≠ ⊥ ∨ ∃ i ∈ s, p i) :
    ∃ μ : ℝ, s.fold max m (fun i => if p i then ((t i : ℝ) : EReal) else ⊥) = μ := by
  classical
  have top : ∀ s : Finset ι, s.fold max m (fun i => if p i then ((t i : ℝ) : EReal) else ⊥) ≠ ⊤ := by
    intro s
    induction s using Finset.induction_on with
    | empty => simpa using hm
    | insert a s ha ih =>
      rw [Finset.fold_insert ha]
      rcases max_choice (if p a then ((t a : ℝ) : EReal) else ⊥) (s.fold max m (fun i => if p i then ((t i : ℝ) : EReal) else ⊥)) with e | e
      · rw [e]; split
        · exact EReal.coe_ne_top _
        · exact bot_ne_top
      · rw [e]; exact ih
  have bot : s.fold max m (fun i => if p i then ((t i : ℝ) : EReal) else ⊥) ≠ ⊥ := by
    rcases h with h | ⟨i, hi, hp⟩
    · exact ne_bot_of_le_ne_bot h ((Finset.le_fold_max m).2 (.inl le_rfl))
    · exact ne_bot_of_le_ne_bot (EReal.coe_ne_bot (t i)) ((Finset.le_fold_max _).2 (.inr ⟨i, hi, by rw [if_pos hp]⟩))
  exact ⟨_, (EReal.coe_toReal (top s) bot).symm⟩

theorem coe_max (a b : ℝ) : max (a : EReal) (b : EReal) = ((max a b : ℝ) : EReal) := (EReal.coe_strictMono.monotone.map_max).symm

theorem ideal_div (a b : ℝ) (h : b ≠ 0) : Ideal.div (a : EReal) (b : EReal) = ((a / b : ℝ) : EReal) := by
  rw [Ideal.div_coe h, ← EReal.coe_mul, mul_one_div]

/-! ## The mean -/

/-- A real number at or above zero multiplies a sum of extended reals term by term. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The mean of the first `n` values with weights `e^z`. -/
def soft (n : ℕ) (z : ℕ → ℝ) (v : ℕ → EReal) : EReal := ∑ j ∈ Finset.range n, v j * ((Real.exp (z j) / ∑ i ∈ Finset.range n, Real.exp (z i) : ℝ) : EReal)

/-- A total of weighted values at weights `2^(t - μ)`. -/
def tot (K : ℕ) (t : ℕ → ℝ) (v : ℕ → EReal) (μ : ℝ) : EReal := ∑ j ∈ Finset.range K, v j * ((Real.rpow 2 (t j - μ) : ℝ) : EReal)

theorem tot_zero (t : ℕ → ℝ) (v : ℕ → EReal) (μ : ℝ) : tot 0 t v μ = 0 := by simp [tot]

/-- The next block of keys. -/
theorem tot_add (K B : ℕ) (t : ℕ → ℝ) (v : ℕ → EReal) (μ : ℝ) :
    tot (K + B) t v μ = tot K t v μ + ∑ x : Fin B, v (K + x.val) * ((Real.rpow 2 (t (K + x.val) - μ) : ℝ) : EReal) := by
  unfold tot
  rw [Finset.sum_range_add]
  congr 1
  exact Finset.sum_range _

/-- Another number subtracted. -/
theorem tot_shift (K : ℕ) (t : ℕ → ℝ) (v : ℕ → EReal) (μ μ' : ℝ) : tot K t v μ * ((Real.rpow 2 (μ - μ') : ℝ) : EReal) = tot K t v μ' := by
  unfold tot
  rw [sum_mul_coe _ _ (Real.rpow 2 (μ - μ')) (Real.rpow_nonneg (by norm_num) _)]
  refine Finset.sum_congr rfl fun j _ => ?_
  rw [mul_assoc, ← EReal.coe_mul]
  congr 2
  show (2 : ℝ) ^ (t j - μ) * (2 : ℝ) ^ (μ - μ') = (2 : ℝ) ^ (t j - μ')
  rw [← Real.rpow_add (by norm_num)]
  congr 1; ring

/-- Values at zero past `n` add nothing. -/
theorem tot_cut (n K : ℕ) (t : ℕ → ℝ) (v : ℕ → EReal) (μ : ℝ) (h : n ≤ K) (hv : ∀ j, n ≤ j → j < K → v j = 0) : tot K t v μ = tot n t v μ := by
  unfold tot
  refine (Finset.sum_subset (Finset.range_subset_range.2 h) fun j hK hj => ?_).symm
  rw [hv j (by simpa using hj) (Finset.mem_range.1 hK), zero_mul]

theorem tot_congr (n : ℕ) (t t' : ℕ → ℝ) (v v' : ℕ → EReal) (μ : ℝ) (ht : ∀ j < n, t j = t' j) (hv : ∀ j < n, v j = v' j) : tot n t v μ = tot n t' v' μ := by
  unfold tot
  refine Finset.sum_congr rfl fun j hj => ?_
  rw [ht j (Finset.mem_range.1 hj), hv j (Finset.mem_range.1 hj)]

theorem two_pow (z μ : ℝ) : Real.rpow 2 (z * (Real.log 2)⁻¹ - μ) = Real.exp (z) * Real.exp (-(μ * Real.log 2)) := by
  have h2 : Real.log 2 ≠ 0 := (Real.log_pos (by norm_num)).ne'
  show (2 : ℝ) ^ (z * (Real.log 2)⁻¹ - μ) = _
  rw [Real.rpow_def_of_pos (by norm_num), ← Real.exp_add]
  congr 1
  field_simp
  ring

theorem sum_pow_pos (n : ℕ) (hn : 0 < n) (t : ℕ → ℝ) (μ : ℝ) : 0 < ∑ j ∈ Finset.range n, Real.rpow 2 (t j - μ) :=
  Finset.sum_pos (fun j _ => Real.rpow_pos_of_pos (by norm_num) _) ⟨0, Finset.mem_range.2 hn⟩

theorem tot_one (n : ℕ) (t : ℕ → ℝ) (μ : ℝ) : tot n t (fun _ => 1) μ = ((∑ j ∈ Finset.range n, Real.rpow 2 (t j - μ) : ℝ) : EReal) := by
  unfold tot
  simp only [one_mul]
  exact coe_sum _ _

/-- The mean as the ratio of two totals. -/
theorem tot_ratio (n : ℕ) (hn : 0 < n) (z : ℕ → ℝ) (v : ℕ → EReal) (μ : ℝ) :
    Ideal.div (tot n (fun j => z j * (Real.log 2)⁻¹) v μ) (tot n (fun j => z j * (Real.log 2)⁻¹) (fun _ => 1) μ) = soft n z v := by
  have hp := sum_pow_pos n hn (fun j => z j * (Real.log 2)⁻¹) μ
  rw [tot_one, Ideal.div_coe hp.ne']
  unfold tot soft
  rw [sum_mul_coe _ _ _ (one_div_pos.2 hp).le]
  refine Finset.sum_congr rfl fun j _ => ?_
  rw [mul_assoc, ← EReal.coe_mul]
  congr 2
  simp only [two_pow, ← Finset.sum_mul, mul_one_div]
  exact mul_div_mul_right _ _ (Real.exp_pos _).ne'

/-- The mean with a number subtracted from every exponent, weight by weight. -/
theorem exp_ratio (n : ℕ) (z : ℕ → ℝ) (v : ℕ → EReal) (M : ℝ) :
    ∑ j ∈ Finset.range n, v j * ((Real.exp (z j - M) / ∑ i ∈ Finset.range n, Real.exp (z i - M) : ℝ) : EReal) = soft n z v := by
  unfold soft
  simp only [sub_eq_add_neg, Real.exp_add, ← Finset.sum_mul]
  simp only [mul_div_mul_right _ _ (Real.exp_pos (-M)).ne']

/-- A sum over all keys, those at or past `N` adding nothing. -/
theorem sum_cut (M N : ℕ) (h : N ≤ M) (g : ℕ → EReal) : ∑ x : Fin M, (if x.val < N then g x.val else 0) = ∑ j ∈ Finset.range N, g j := by
  rw [← Finset.sum_range (fun j => if j < N then g j else 0)]
  rw [← Finset.sum_subset (Finset.range_subset_range.2 h) fun j _ hj => if_neg (by simpa using hj)]
  exact Finset.sum_congr rfl fun j hj => if_pos (Finset.mem_range.1 hj)

/-! ## The attention -/

/-- Row `x` of head `h`; key `j`. -/
def hrow (h : Fin 4) (x : Fin 64) : Fin 256 := ⟨h.val * 64 + x.val, by omega⟩
def key (j : ℕ) : Fin 9216 := ⟨j % 9216, Nat.mod_lt _ (by decide)⟩

theorem key_eq (j : ℕ) (h : j < 9216) : key j = ⟨j, h⟩ := Fin.ext (Nat.mod_eq_of_lt h)
theorem key_val (x : Fin 9216) : key x.val = x := Fin.ext (Nat.mod_eq_of_lt x.isLt)

/-- The arguments as real numbers, the values as extended reals: per table the number of keys; per table and feature query
    codes and scales, key codes and scales, and values. -/
structure Data where
  n : Fin 2 → ℕ
  q : Fin 2 → Fin 13 → Fin 256 → Fin 9216 → ℝ
  sq : Fin 2 → Fin 13 → Fin 4 → Fin 9216 → ℝ
  k : Fin 2 → Fin 13 → Fin 9216 → Fin 256 → ℝ
  sk : Fin 2 → Fin 13 → Fin 4 → Fin 9216 → ℝ
  v : Fin 2 → Fin 13 → Fin 256 → Fin 9216 → EReal

/-- The score of query `i` against key `j`. -/
def Data.z (D : Data) (b : Fin 2) (f : Fin 13) (h : Fin 4) (i : Fin 9216) (j : ℕ) : ℝ :=
  (∑ x : Fin 64, D.q b f (hrow h x) i * D.k b f (key j) (hrow h x)) * (D.sq b f h i * D.sk b f h (key j) * (1 / 8))

/-- Row `d` of head `h`'s values. -/
def Data.w (D : Data) (b : Fin 2) (f : Fin 13) (h : Fin 4) (d : Fin 64) (j : ℕ) : EReal := D.v b f (hrow h d) (key j)

/-- The attention's output: the heads' means through the output weights. -/
def Data.out (D : Data) (wo : Fin 256 → Fin 256 → EReal) (b : Fin 2) (f : Fin 13) (i : Fin 9216) (e : Fin 256) : EReal :=
  ∑ d : Fin 64, ∑ h : Fin 4, soft (D.n b) (D.z b f h i) (D.w b f h d) * wo (hrow h d) e

end Cert.Attn
end
-- ==== Proof.Pay.lean ====
/-
  The tiles' arithmetic at an element, over the extended reals.
-/
module

public import proofs.«01_k».proof.Proof.Tiles
public import proofs.«01_k».proof.Proof.Math

@[expose] public section

set_option maxRecDepth 16384

noncomputable section

namespace Cert.KernelIdeal.Row

open Cert.KernelIdeal Cert.KernelIdeal.Gen Cert.Attn
open Idealize.ShloMosaic Idealize.ShloMosaic.TcCoe

theorem kap_eq : (kap : Ideal .f32) = (((1 / 8) * (Real.log 2)⁻¹ : ℝ) : EReal) := rfl

theorem qs_at (sqv : Vec Ideal S1x1x1x256 .f32) (r : Fin 256) : qs (F := Ideal) sqv (ix2 0 r) = sqv (ix4 0 0 0 r) * kap := by
  pointwise [qs]
  done

theorem spreadPay_at (n st : BitVec 32) (hst : st.toNat + 128 ≤ 9216) (hn : n.toNat ≤ 9216) (sv : Vec Ideal S1x1x1x128 .f32) (j l : Fin 128) :
    spreadPay (F := Ideal) n st sv (ix3 0 j l) = if st.toNat + j.val < n.toNat then sv (ix4 0 0 0 j) else 0 := by
  pointwise [spreadPay]
  exact sel_add st n j.val (by omega) (by omega) _ _

theorem qop_even (h : Fin 4) (hh : h.val % 2 = 0) (qv : Vec Ideal S1x1x64x256 .fp8e4m3) (d : Fin 128) (r : Fin 256) :
    qop (F := Ideal) h qv (ix2 d r) = if hd : d.val < 64 then qv (ix4 0 0 ⟨d.val, hd⟩ r) else 0 := by
  have hb : Nat.beq (h.val % 2) 0 = true := by rw [hh]; rfl
  unfold qop
  rw [hb]
  pointwise []
  done

theorem qop_odd (h : Fin 4) (hh : h.val % 2 = 1) (qv : Vec Ideal S1x1x64x256 .fp8e4m3) (d : Fin 128) (r : Fin 256) :
    qop (F := Ideal) h qv (ix2 d r) = if hd : d.val < 64 then 0 else qv (ix4 0 0 ⟨d.val - 64, by omega⟩ r) := by
  have hb : Nat.beq (h.val % 2) 0 = false := by rw [hh]; rfl
  unfold qop
  rw [hb]
  pointwise []
  done

/-- The sum over the 128 rows is the sum over the head's 64. -/
theorem qop_sum (h : Fin 4) (qv : Vec Ideal S1x1x64x256 .fp8e4m3) (r : Fin 256) (f : Fin 128 → EReal) (g : Fin 64 → EReal)
    (hg : ∀ (x : Fin 64) (y : Fin 128), y.val = 64 * (h.val % 2) + x.val → f y = g x) :
    ∑ x : Fin 128, f x * qop (F := Ideal) h qv (ix2 x r) = ∑ x : Fin 64, g x * qv (ix4 0 0 x r) := by
  rw [show ∑ x : Fin 128, f x * qop (F := Ideal) h qv (ix2 x r) = _ from Fin.sum_univ_add (a := 64) (b := 64) fun x => f x * qop (F := Ideal) h qv (ix2 x r)]
  rcases Nat.mod_two_eq_zero_or_one h.val with hh | hh
  · rw [Finset.sum_eq_zero (s := Finset.univ) (f := fun i : Fin 64 => f (Fin.natAdd 64 i) * qop (F := Ideal) h qv (ix2 (Fin.natAdd 64 i) r)), add_zero]
    · refine Finset.sum_congr rfl fun x _ => ?_
      rw [qop_even h hh, dif_pos (show (Fin.castAdd 64 x).val < 64 from x.isLt), hg x _ (by rw [hh]; simp)]
      rfl
    · intro x _
      rw [qop_even h hh, dif_neg (show ¬ (Fin.natAdd 64 x).val < 64 by simp), mul_zero]
  · rw [Finset.sum_eq_zero (s := Finset.univ) (f := fun i : Fin 64 => f (Fin.castAdd 64 i) * qop (F := Ideal) h qv (ix2 (Fin.castAdd 64 i) r)), zero_add]
    · refine Finset.sum_congr rfl fun x _ => ?_
      rw [qop_odd h hh, dif_neg (show ¬ (Fin.natAdd 64 x).val < 64 by simp), hg x _ (by rw [hh]; simp; omega)]
      congr 2
      refine congrArg (fun y => ix4 0 0 y r) (Fin.ext ?_)
      simp
    · intro x _
      rw [qop_odd h hh, dif_pos (show (Fin.castAdd 64 x).val < 64 from x.isLt), mul_zero]

theorem sc1024_at (h : Fin 4) (sqv : Vec Ideal S1x1x1x256 .f32) (kv : Vec Ideal S1x1x1024x128 .fp8e4m3) (qv : Vec Ideal S1x1x64x256 .fp8e4m3)
    (bv : Vec Ideal S1x1024x128 .f32) (j : Fin 1024) (r : Fin 256) :
    sc1024 (F := Ideal) h sqv kv qv bv (ix2 j r) = ((∑ x : Fin 128, kv (ix4 0 0 j x) * qop h qv (ix2 x r)) *
        if h : r.val < 128 then bv (ix3 0 j ⟨r.val, h⟩) else bv (ix3 0 j ⟨r.val - 128, by omega⟩)) * qs sqv (ix2 0 r) := by
  pointwise [sc1024]
  done

theorem sc256_at (h : Fin 4) (fq : FVec Ideal S1x256 .f32) (kv : Vec Ideal S1x1x256x128 .fp8e4m3) (qv : Vec Ideal S1x1x64x256 .fp8e4m3)
    (bv : Vec Ideal S1x256x128 .f32) (j : Fin 256) (r : Fin 256) :
    sc256 (F := Ideal) h fq (kc256 kv) qv bv (ix2 j r) = ((∑ x : Fin 128, kv (ix4 0 0 j x) * qop h qv (ix2 x r)) *
        if h : r.val < 128 then bv (ix3 0 j ⟨r.val, h⟩) else bv (ix3 0 j ⟨r.val - 128, by omega⟩)) * fq (ix2 0 r) := by
  pointwise [sc256, kc256]
  done

theorem mainPay_at (n st : BitVec 32) (h : Fin 4) (sqv : Vec Ideal S1x1x1x256 .f32) (kv : Vec Ideal S1x1x1024x128 .fp8e4m3) (qv : Vec Ideal S1x1x64x256 .fp8e4m3)
    (bv : Vec Ideal S1x1024x128 .f32) (mv : Vec Ideal S1x256 .f32) (av : Vec Ideal S1x80x256 .f32) (vv : Vec Ideal S1x1x64x1024 .bf16) (d : Fin 80) (r : Fin 256) :
    mainPay (F := Ideal) n st h sqv kv qv bv mv av vv (ix3 0 d r) = av (ix3 0 d r) + ∑ x : Fin 1024,
        (if h : d.val < 64 then vv (ix4 0 0 ⟨d.val, h⟩ x) else Scalar.select (IntOp.cmpi .slt (IntOp.addi st (BitVec.ofNat 32 x.val)) n) 1 0) *
          Ideal.exp2 (sc1024 h sqv kv qv bv (ix2 x r) - mv (ix2 0 r)) := by
  pointwise [mainPay]
  rfl

theorem firstPay_at (n : BitVec 32) (h : Fin 4) (fq : FVec Ideal S1x256 .f32) (kc : FVec Ideal S256x128 .fp8e4m3) (qv : Vec Ideal S1x1x64x256 .fp8e4m3)
    (bv : Vec Ideal S1x256x128 .f32) (r : Fin 256) : firstPay (F := Ideal) n h fq kc qv bv (ix2 0 r) =
      Finset.univ.fold max (Ideal.ofBits .f32 0xFF800000#32) fun x : Fin 256 =>
        Scalar.select (IntOp.cmpi .slt (BitVec.ofNat 32 x.val) n) (sc256 h fq kc qv bv (ix2 x r)) (Ideal.ofBits .f32 0xFF800000#32) := by
  pointwise [firstPay]
  done

theorem safeSc_at (n st : BitVec 32) (h : Fin 4) (fq : FVec Ideal S1x256 .f32) (kc : FVec Ideal S256x128 .fp8e4m3) (qv : Vec Ideal S1x1x64x256 .fp8e4m3)
    (bv : Vec Ideal S1x256x128 .f32) (j r : Fin 256) : safeSc (F := Ideal) n st h fq kc qv bv (ix2 j r) =
      Scalar.select (IntOp.cmpi .slt (IntOp.addi st (BitVec.ofNat 32 j.val)) n) (sc256 h fq kc qv bv (ix2 j r)) (Ideal.ofBits .f32 0xFF800000#32) := by
  pointwise [safeSc]
  done

theorem safeMax_at (n st : BitVec 32) (h : Fin 4) (fq : FVec Ideal S1x256 .f32) (kc : FVec Ideal S256x128 .fp8e4m3) (qv : Vec Ideal S1x1x64x256 .fp8e4m3)
    (bv : Vec Ideal S1x256x128 .f32) (mv : Vec Ideal S1x256 .f32) (r : Fin 256) : safeMax (F := Ideal) n st h fq kc qv bv mv (ix2 0 r) =
      max (mv (ix2 0 r)) (Finset.univ.fold max (Ideal.ofBits .f32 0xFF800000#32) fun x : Fin 256 => safeSc (F := Ideal) n st h fq kc qv bv (ix2 x r)) := by
  pointwise [safeMax]
  done

theorem safePay_at (n st : BitVec 32) (h : Fin 4) (fq : FVec Ideal S1x256 .f32) (kc : FVec Ideal S256x128 .fp8e4m3) (qv : Vec Ideal S1x1x64x256 .fp8e4m3)
    (bv : Vec Ideal S1x256x128 .f32) (mv : Vec Ideal S1x256 .f32) (av : Vec Ideal S1x80x256 .f32) (vv : Vec Ideal S1x1x64x256 .bf16) (d : Fin 80) (r : Fin 256) :
    safePay (F := Ideal) n st h fq kc qv bv mv av vv (ix3 0 d r) =
      av (ix3 0 d r) * Ideal.exp2 (mv (ix2 0 r) - safeMax (F := Ideal) n st h fq kc qv bv mv (ix2 0 r)) + ∑ x : Fin 256,
        (if h : d.val < 64 then vv (ix4 0 0 ⟨d.val, h⟩ x) else Scalar.select (IntOp.cmpi .slt (IntOp.addi st (BitVec.ofNat 32 x.val)) n) 1 0) *
          Ideal.exp2 (safeSc (F := Ideal) n st h fq kc qv bv (ix2 x r) - safeMax (F := Ideal) n st h fq kc qv bv mv (ix2 0 r)) := by
  pointwise [safePay]
  rfl

theorem proj_at (r0 r1 r2 r3 : FVec Ideal S64x256 .f32) (wv : Vec Ideal S256x256 .bf16) (i c : Fin 256) : projPay (F := Ideal) r0 r1 r2 r3 wv (ix2 i c) =
    ∑ x : Fin 256, (if h : x.val < 64 then r0 (ix2 ⟨x.val, h⟩ i)
        else if h : x.val - 64 < 64 then r1 (ix2 ⟨x.val - 64, h⟩ i)
          else if h : x.val - 64 - 64 < 64 then r2 (ix2 ⟨x.val - 64 - 64, h⟩ i) else r3 (ix2 ⟨x.val - 64 - 64 - 64, by omega⟩ i)) * wv (ix2 x c) := by
  pointwise [projPay]
  done

theorem ratio_at (nv : Vec Ideal S1x64x256 .f32) (dv : Vec Ideal S1x1x256 .f32) (d : Fin 64) (r : Fin 256) :
    ratio (F := Ideal) (numC nv) (denC dv) (ix2 d r) = Ideal.div (nv (ix3 0 d r)) (dv (ix3 0 0 r)) := by
  pointwise [ratio, numC, denC]
  done

theorem outPay_at (a : FVec Ideal S256x256 .f32) (i c : Fin 256) : outPay (F := Ideal) a (ix4 0 0 i c) = a (ix2 i c) := by
  pointwise [outPay]
  done

theorem resPay_at (a : FVec Ideal S256x256 .f32) (xv : Vec Ideal S1x1x256x256 .f32) (i c : Fin 256) : resPay (F := Ideal) a xv (ix4 0 0 i c) = xv (ix4 0 0 i c) + a (ix2 i c) := by
  pointwise [resPay]
  done

end Cert.KernelIdeal.Row
end
-- ==== Proof.Vals.lean ====
/-
  What the body's loops leave, over real operands: each tile's accumulator holds the totals of the weighted values of the
  keys read so far, at weights `2^(t - μ)` for some number `μ`, whichever loop left it.
-/
module

public import proofs.«01_k».proof.Proof.Whole
public import proofs.«01_k».proof.Proof.Pay

@[expose] public section

set_option maxRecDepth 16384

noncomputable section

namespace Cert.KernelIdeal.Row

open Cert.KernelIdeal Cert.KernelIdeal.Gen Cert.Attn
open Idealize.ShloMosaic Idealize.ShloMosaic.TcCoe

/-! ## The real operands -/

/-- Query column `r` of block `t`. -/
def col (t : Fin 4) (r : Fin 256) : Fin 1024 := ⟨256 * t.val + r.val, by omega⟩

/-- The operands of one grid point as real numbers: query codes and scales, key codes and scales; the values as extended reals. -/
structure Reals where
  q : Fin 256 → Fin 1024 → ℝ
  sq : Fin 4 → Fin 1024 → ℝ
  k : Fin 9216 → Fin 256 → ℝ
  sk : Fin 4 → Fin 9216 → ℝ
  v : Fin 256 → Fin 9216 → EReal

/-- The operands are these numbers, the key codes and scales up to the `N`-th key, the values zero past it. -/
structure Is (N : ℕ) (I : In Ideal) (R : Reals) : Prop where
  q : ∀ d r, I.q (ix4 0 0 d r) = ((R.q d r : ℝ) : EReal)
  sq : ∀ h r, I.sq (ix4 0 0 h r) = ((R.sq h r : ℝ) : EReal)
  k : ∀ j d, j.val < N → I.k (ix4 0 0 j d) = ((R.k j d : ℝ) : EReal)
  sk : ∀ h j, j.val < N → I.sk (ix4 0 0 h j) = ((R.sk h j : ℝ) : EReal)
  v : ∀ d j, I.v (ix4 0 0 d j) = R.v d j
  v0 : ∀ d j, N ≤ j.val → R.v d j = 0

/-- A key's codes against a query's. -/
def dotR (R : Reals) (h : Fin 4) (r : Fin 1024) (j : ℕ) : ℝ := ∑ x : Fin 64, R.k (key j) (hrow h x) * R.q (hrow h x) r

/-- A score in units of log 2, with the key scale zero past the `N`-th key. -/
def tt (N : ℕ) (R : Reals) (h : Fin 4) (r : Fin 1024) (j : ℕ) : ℝ :=
  dotR R h r j * (if j < N then R.sk h (key j) else 0) * (R.sq h r * ((1 / 8) * (Real.log 2)⁻¹))

/-- A score. -/
def zz (R : Reals) (h : Fin 4) (r : Fin 1024) (j : ℕ) : ℝ := dotR R h r j * (R.sq h r * R.sk h (key j) * (1 / 8))

/-- Row `d` of a head's values, with rows of ones on the first `N` keys below. -/
def vx (N : ℕ) (R : Reals) (h : Fin 4) (d : Fin 80) (j : ℕ) : EReal :=
  if hd : d.val < 64 then R.v (hrow h ⟨d.val, hd⟩) (key j) else if j < N then 1 else 0

/-! ## Loads -/

theorem ld_sq (X : Vec Ideal S1x1x4x1024 .f32) (h t : Fin 4) (r : Fin 256) :
    View.ld X (rSq h t) (ix4 0 0 0 r : S1x1x1x256.Idx) = X (ix4 0 0 h (col t r)) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show h.val + 1 * 0 = h.val by omega)
    | ⟨3, _⟩ => Fin.ext (show 256 * t.val + 1 * r.val = 256 * t.val + r.val by omega))

theorem ld_q (X : Vec Ideal S1x1x256x1024 .fp8e4m3) (h t : Fin 4) (x : Fin 64) (r : Fin 256) :
    View.ld X (rQ h t) (ix4 0 0 x r : S1x1x64x256.Idx) = X (ix4 0 0 (hrow h x) (col t r)) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show 64 * h.val + 1 * x.val = h.val * 64 + x.val by omega)
    | ⟨3, _⟩ => Fin.ext (show 256 * t.val + 1 * r.val = 256 * t.val + r.val by omega))

theorem ld_k1024 (X : Vec Ideal S1x1x9216x256 .fp8e4m3) (h : Fin 4) (s : ℕ) (hs : s + 1024 ≤ 9216) (j : Fin 1024) (x : Fin 64) (y : Fin 128) (hy : y.val = 64 * (h.val % 2) + x.val) :
    View.ld X (rK1024 h s hs) (ix4 0 0 j y : S1x1x1024x128.Idx) = X (ix4 0 0 (key (s + j.val)) (hrow h x)) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show s + 1 * j.val = (s + j.val) % 9216 by omega)
    | ⟨3, _⟩ => Fin.ext (show 128 * (h.val / 2) + 1 * y.val = h.val * 64 + x.val by omega))

theorem ld_k256 (X : Vec Ideal S1x1x9216x256 .fp8e4m3) (h : Fin 4) (s : ℕ) (hs : s + 256 ≤ 9216) (j : Fin 256) (x : Fin 64) (y : Fin 128) (hy : y.val = 64 * (h.val % 2) + x.val) :
    View.ld X (rK256 h s hs) (ix4 0 0 j y : S1x1x256x128.Idx) = X (ix4 0 0 (key (s + j.val)) (hrow h x)) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show s + 1 * j.val = (s + j.val) % 9216 by omega)
    | ⟨3, _⟩ => Fin.ext (show 128 * (h.val / 2) + 1 * y.val = h.val * 64 + x.val by omega))

theorem ld_b1024 (X : Vec Ideal S4x9216x128 .f32) (h : Fin 4) (s : ℕ) (hs : s + 1024 ≤ 9216) (j : Fin 1024) (l : Fin 128) :
    View.ld X (rB1024 h s hs) (ix3 0 j l : S1x1024x128.Idx) = X (ix3 h (key (s + j.val)) l) :=
  congrArg X (funext fun a => match a with
    | ⟨0, _⟩ => Fin.ext (show h.val + 1 * 0 = h.val by omega)
    | ⟨1, _⟩ => Fin.ext (show s + 1 * j.val = (s + j.val) % 9216 by omega)
    | ⟨2, _⟩ => Fin.ext (show 0 + 1 * l.val = l.val by omega))

theorem ld_b256 (X : Vec Ideal S4x9216x128 .f32) (h : Fin 4) (s : ℕ) (hs : s + 256 ≤ 9216) (j : Fin 256) (l : Fin 128) :
    View.ld X (rB256 h s hs) (ix3 0 j l : S1x256x128.Idx) = X (ix3 h (key (s + j.val)) l) :=
  congrArg X (funext fun a => match a with
    | ⟨0, _⟩ => Fin.ext (show h.val + 1 * 0 = h.val by omega)
    | ⟨1, _⟩ => Fin.ext (show s + 1 * j.val = (s + j.val) % 9216 by omega)
    | ⟨2, _⟩ => Fin.ext (show 0 + 1 * l.val = l.val by omega))

theorem ld_v1024 (X : Vec Ideal S1x1x256x9216 .bf16) (h : Fin 4) (s : ℕ) (hs : s + 1024 ≤ 9216) (x : Fin 64) (j : Fin 1024) :
    View.ld X (rV1024 h s hs) (ix4 0 0 x j : S1x1x64x1024.Idx) = X (ix4 0 0 (hrow h x) (key (s + j.val))) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show 64 * h.val + 1 * x.val = h.val * 64 + x.val by omega)
    | ⟨3, _⟩ => Fin.ext (show s + 1 * j.val = (s + j.val) % 9216 by omega))

theorem ld_v256 (X : Vec Ideal S1x1x256x9216 .bf16) (h : Fin 4) (s : ℕ) (hs : s + 256 ≤ 9216) (x : Fin 64) (j : Fin 256) :
    View.ld X (rV256 h s hs) (ix4 0 0 x j : S1x1x64x256.Idx) = X (ix4 0 0 (hrow h x) (key (s + j.val))) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show 64 * h.val + 1 * x.val = h.val * 64 + x.val by omega)
    | ⟨3, _⟩ => Fin.ext (show s + 1 * j.val = (s + j.val) % 9216 by omega))

theorem ld_sk (X : Vec Ideal S1x1x4x9216 .f32) (h : Fin 4) (s : ℕ) (hs : s + 128 ≤ 9216) (j : Fin 128) :
    View.ld X (rSk h s hs) (ix4 0 0 0 j : S1x1x1x128.Idx) = X (ix4 0 0 h (key (s + j.val))) :=
  congrArg X (funext fun a => match a with
    | ⟨0, _⟩ => Fin.ext (show 0 + 1 * 0 = 0 by omega)
    | ⟨1, _⟩ => Fin.ext (show 0 + 1 * 0 = 0 by omega)
    | ⟨2, _⟩ => Fin.ext (show h.val + 1 * 0 = h.val by omega)
    | ⟨3, _⟩ => Fin.ext (show s + 1 * j.val = (s + j.val) % 9216 by omega))

theorem ld_num (X : Vec Ideal S4x80x1024 .f32) (h t : Fin 4) (d : Fin 64) (r : Fin 256) :
    View.ld X (rNum h t) (ix3 0 d r : S1x64x256.Idx) = View.ld X (rAcc h t) (ix3 0 ⟨d.val, by omega⟩ r : S1x80x256.Idx) :=
  congrArg X (funext fun a => match a with
    | ⟨0, _⟩ => rfl
    | ⟨1, _⟩ => rfl
    | ⟨2, _⟩ => rfl)

theorem ld_den (X : Vec Ideal S4x80x1024 .f32) (h t : Fin 4) (r : Fin 256) :
    View.ld X (rDen h t) (ix3 0 0 r : S1x1x256.Idx) = View.ld X (rAcc h t) (ix3 0 ⟨64, by omega⟩ r : S1x80x256.Idx) :=
  congrArg X (funext fun a => match a with
    | ⟨0, _⟩ => rfl
    | ⟨1, _⟩ => Fin.ext (show 64 + 1 * 0 = 0 + 1 * 64 by omega)
    | ⟨2, _⟩ => rfl)

/-! ## The scores -/

section

variable {n : BitVec 32} {I : In Ideal} {R : Reals}

/-- A spread scale. -/
theorem bFull_real (hn : n.toNat ≤ 9216) (hI : Is n.toNat I R) (h : Fin 4) (j : ℕ) (hj : j < 9216) (l : Fin 128) :
    bFull n I.sk (ix3 h (key j) l) = (((if j < n.toNat then R.sk h (key j) else 0 : ℝ)) : EReal) := by
  have hs : (BitVec.ofNat 32 (128 * (j / 128))).toNat = 128 * (j / 128) := by
    rw [BitVec.toNat_ofNat]; exact Nat.mod_eq_of_lt (by omega)
  have key_val : (key j).val = j := Nat.mod_eq_of_lt hj
  rw [bFull_at n I.sk h (BitVec.ofNat 32 (128 * (j / 128))) (by rw [hs]; omega) (by rw [hs]; exact ⟨_, rfl⟩)
    (ix3 0 (⟨j % 128, Nat.mod_lt _ (by decide)⟩ : Fin 128) l) (ix3 h (key j) l) rfl
    (by rw [hs]; show (key j).val = 128 * (j / 128) + j % 128; rw [key_val]; omega) rfl]
  rw [spreadPay_at n _ (by rw [hs]; omega) hn, ld_sk]
  have e : (BitVec.ofNat 32 (128 * (j / 128))).toNat + j % 128 = j := by rw [hs]; exact Nat.div_add_mod j 128
  simp only [e]
  split
  · exact hI.sk _ _ (by rw [key_val]; assumption)
  · rfl

theorem sc_main (hn : n.toNat ≤ 9216) (hI : Is n.toNat I R) (h t : Fin 4) (s : ℕ) (hs : s + 1024 ≤ 9216) (j : Fin 1024) (r : Fin 256) :
    sc1024 h (View.ld I.sq (rSq h t)) (View.ld I.k (rK1024 h s hs)) (View.ld I.q (rQ h t)) (View.ld (bFull n I.sk) (rB1024 h s hs)) (ix2 j r)
      = ((tt n.toNat R h (col t r) (s + j.val) : ℝ) : EReal) := by
  rw [sc1024_at, qop_sum h _ r _ (fun x => I.k (ix4 0 0 (key (s + j.val)) (hrow h x))) (fun x y hy => ld_k1024 I.k h s hs j x y hy)]
  rw [qs_at, kap_eq]
  have hb : ∀ l : Fin 128, View.ld (bFull n I.sk) (rB1024 h s hs) (ix3 0 j l : S1x1024x128.Idx) = _ := fun l => (ld_b1024 _ h s hs j l).trans (bFull_real hn hI h (s + j.val) (by omega) l)
  have hb' : (if hr : r.val < 128 then View.ld (bFull n I.sk) (rB1024 h s hs) (ix3 0 j ⟨r.val, hr⟩ : S1x1024x128.Idx) else View.ld (bFull n I.sk) (rB1024 h s hs) (ix3 0 j ⟨r.val - 128, by omega⟩ : S1x1024x128.Idx)) = _ :=
    dite_eq_iff.2 (by by_cases hr : r.val < 128 <;> [exact .inl ⟨hr, hb _⟩; exact .inr ⟨hr, hb _⟩])
  have hk : View.ld I.sq (rSq h t) (ix4 0 0 0 r : S1x1x1x256.Idx) = _ := (ld_sq I.sq h t r).trans (hI.sq _ _)
  have hq : ∀ x : Fin 64, View.ld I.q (rQ h t) (ix4 0 0 x r : S1x1x64x256.Idx) = _ := fun x => (ld_q I.q h t x r).trans (hI.q _ _)
  refine (congrArg₂ (fun a b : EReal => a * b) (congrArg₂ (fun a b : EReal => a * b) (Finset.sum_congr rfl fun x _ => congrArg (fun a : EReal => _ * a) (hq x)) hb') (congrArg (fun a : EReal => a * _) hk)).trans ?_
  by_cases hlt : s + j.val < n.toNat
  · have kv : (key (s + j.val)).val < n.toNat := by rw [key_eq _ (show s + j.val < 9216 by omega)]; exact hlt
    simp only [hI.k _ _ kv, ← EReal.coe_mul, coe_sum]
    rfl
  · unfold tt
    simp only [if_neg hlt, EReal.coe_zero, mul_zero, zero_mul]

theorem sc_safe (hn : n.toNat ≤ 9216) (hI : Is n.toNat I R) (h t : Fin 4) (s : ℕ) (hs : s + 256 ≤ 9216) (j : Fin 256) (r : Fin 256) :
    sc256 h (qs (View.ld I.sq (rSq h t))) (kc256 (View.ld I.k (rK256 h s hs))) (View.ld I.q (rQ h t)) (View.ld (bFull n I.sk) (rB256 h s hs)) (ix2 j r)
      = ((tt n.toNat R h (col t r) (s + j.val) : ℝ) : EReal) := by
  rw [sc256_at, qop_sum h _ r _ (fun x => I.k (ix4 0 0 (key (s + j.val)) (hrow h x))) (fun x y hy => ld_k256 I.k h s hs j x y hy)]
  rw [qs_at, kap_eq]
  have hb : ∀ l : Fin 128, View.ld (bFull n I.sk) (rB256 h s hs) (ix3 0 j l : S1x256x128.Idx) = _ := fun l => (ld_b256 _ h s hs j l).trans (bFull_real hn hI h (s + j.val) (by omega) l)
  have hb' : (if hr : r.val < 128 then View.ld (bFull n I.sk) (rB256 h s hs) (ix3 0 j ⟨r.val, hr⟩ : S1x256x128.Idx) else View.ld (bFull n I.sk) (rB256 h s hs) (ix3 0 j ⟨r.val - 128, by omega⟩ : S1x256x128.Idx)) = _ :=
    dite_eq_iff.2 (by by_cases hr : r.val < 128 <;> [exact .inl ⟨hr, hb _⟩; exact .inr ⟨hr, hb _⟩])
  have hk : View.ld I.sq (rSq h t) (ix4 0 0 0 r : S1x1x1x256.Idx) = _ := (ld_sq I.sq h t r).trans (hI.sq _ _)
  have hq : ∀ x : Fin 64, View.ld I.q (rQ h t) (ix4 0 0 x r : S1x1x64x256.Idx) = _ := fun x => (ld_q I.q h t x r).trans (hI.q _ _)
  refine (congrArg₂ (fun a b : EReal => a * b) (congrArg₂ (fun a b : EReal => a * b) (Finset.sum_congr rfl fun x _ => congrArg (fun a : EReal => _ * a) (hq x)) hb') (congrArg (fun a : EReal => a * _) hk)).trans ?_
  by_cases hlt : s + j.val < n.toNat
  · have kv : (key (s + j.val)).val < n.toNat := by rw [key_eq _ (show s + j.val < 9216 by omega)]; exact hlt
    simp only [hI.k _ _ kv, ← EReal.coe_mul, coe_sum]
    rfl
  · unfold tt
    simp only [if_neg hlt, EReal.coe_zero, mul_zero, zero_mul]

/-- The values' rows and the rows of ones. -/
theorem vx_main (hn : n.toNat ≤ 9216) (hI : Is n.toNat I R) (h : Fin 4) (st : BitVec 32) (hst : st.toNat + 1024 ≤ 9216) (d : Fin 80) (x : Fin 1024) :
    (if hd : d.val < 64 then View.ld I.v (rV1024 h st.toNat hst) (ix4 0 0 ⟨d.val, hd⟩ x : S1x1x64x1024.Idx)
      else Scalar.select (IntOp.cmpi .slt (IntOp.addi st (BitVec.ofNat 32 x.val)) n) 1 0) = vx n.toNat R h d (st.toNat + x.val) := by
  unfold vx
  by_cases hd : d.val < 64
  · rw [dif_pos hd, dif_pos hd, ld_v1024]; exact hI.v _ _
  · rw [dif_neg hd, dif_neg hd]
    exact sel_add st n x.val (by omega) (by omega) _ _

theorem vx_safe (hn : n.toNat ≤ 9216) (hI : Is n.toNat I R) (h : Fin 4) (st : BitVec 32) (hst : st.toNat + 256 ≤ 9216) (d : Fin 80) (x : Fin 256) :
    (if hd : d.val < 64 then View.ld I.v (rV256 h st.toNat hst) (ix4 0 0 ⟨d.val, hd⟩ x : S1x1x64x256.Idx)
      else Scalar.select (IntOp.cmpi .slt (IntOp.addi st (BitVec.ofNat 32 x.val)) n) 1 0) = vx n.toNat R h d (st.toNat + x.val) := by
  unfold vx
  by_cases hd : d.val < 64
  · rw [dif_pos hd, dif_pos hd, ld_v256]; exact hI.v _ _
  · rw [dif_neg hd, dif_neg hd]
    exact sel_add st n x.val (by omega) (by omega) _ _

theorem vx_zero (hI : Is n.toNat I R) (h : Fin 4) (d : Fin 80) (j : ℕ) (hj : n.toNat ≤ j) (hj' : j < 9216) : vx n.toNat R h d j = 0 := by
  unfold vx
  split
  · exact hI.v0 _ _ (by rw [key_eq j hj']; exact hj)
  · rw [if_neg (Nat.not_lt.2 hj)]

/-! ## A tile -/

/-- The main loop's tile adds the next 1024 keys. -/
theorem main_block (hn : n.toNat ≤ 9216) (hI : Is n.toNat I R) (h t : Fin 4) (st : BitVec 32) (hst : st.toNat + 1024 ≤ 9216) (mv : Vec Ideal S1x256 .f32) (av : Vec Ideal S1x80x256 .f32)
    (d : Fin 80) (r : Fin 256) (μ : ℝ) (hm : mv (ix2 0 r) = (μ : EReal))
    (ha : av (ix3 0 d r) = tot st.toNat (tt n.toNat R h (col t r)) (vx n.toNat R h d) μ) :
    mainPay n st h (View.ld I.sq (rSq h t)) (View.ld I.k (rK1024 h st.toNat hst)) (View.ld I.q (rQ h t)) (View.ld (bFull n I.sk) (rB1024 h st.toNat hst)) mv av
      (View.ld I.v (rV1024 h st.toNat hst)) (ix3 0 d r) = tot (st.toNat + 1024) (tt n.toNat R h (col t r)) (vx n.toNat R h d) μ := by
  rw [mainPay_at, ha, hm, tot_add]
  congr 1
  refine Finset.sum_congr rfl fun x _ => ?_
  rw [vx_main hn hI h st hst d x, sc_main hn hI h t st.toNat hst x r, ← EReal.coe_sub, Ideal.exp2_coe]

/-- The first maximum is a real number. -/
theorem first_block (hn : n.toNat ≤ 9216) (h1 : 1 ≤ n.toNat) (hI : Is n.toNat I R) (h t : Fin 4) (r : Fin 256) :
    ∃ μ : ℝ, firstPay n h (qs (View.ld I.sq (rSq h t))) (kc256 (View.ld I.k (rK256 h 0 (by decide)))) (View.ld I.q (rQ h t)) (View.ld (bFull n I.sk) (rB256 h 0 (by decide))) (ix2 0 r)
      = (μ : EReal) := by
  rw [firstPay_at, ofBits_neg_inf]
  simp only [sc_safe hn hI h t 0 (by decide)]
  have e : ∀ x : Fin 256, Scalar.select (IntOp.cmpi .slt (BitVec.ofNat 32 x.val) n) ((tt n.toNat R h (col t r) (0 + x.val) : ℝ) : EReal) ⊥ = if x.val < n.toNat then ((tt n.toNat R h (col t r) (0 + x.val) : ℝ) : EReal) else ⊥ :=
    fun x => sel_nat n x.val (by omega) (by omega) _ _
  simp only [e]
  exact fold_max_real _ (fun x : Fin 256 => x.val < n.toNat) (fun x : Fin 256 => tt n.toNat R h (col t r) (0 + x.val)) ⊥ bot_ne_top (.inr ⟨0, Finset.mem_univ _, h1⟩)

/-- What a tile of the redo loop holds, `K` keys read: nothing yet, or totals at a real number. -/
def Redo (N : ℕ) (R : Reals) (h t : Fin 4) (r : Fin 256) (K : ℕ) (mv : Vec Ideal S1x256 .f32) (av : Vec Ideal S1x80x256 .f32) : Prop :=
  (K = 0 ∧ mv (ix2 0 r) = ⊥ ∧ ∀ d : Fin 80, av (ix3 0 d r) = 0)
  ∨ ∃ μ : ℝ, mv (ix2 0 r) = (μ : EReal) ∧ ∀ d : Fin 80, av (ix3 0 d r) = tot K (tt N R h (col t r)) (vx N R h d) μ

/-- The redo loop's tile adds the next 256 keys. -/
theorem safe_block (hn : n.toNat ≤ 9216) (hI : Is n.toNat I R) (h t : Fin 4) (st : BitVec 32) (hst : st.toNat + 256 ≤ 9216) (hlt : st.toNat < n.toNat)
    (mv : Vec Ideal S1x256 .f32) (av : Vec Ideal S1x80x256 .f32) (r : Fin 256) (hr : Redo n.toNat R h t r st.toNat mv av) :
    ∃ μ : ℝ, safeMax n st h (qs (View.ld I.sq (rSq h t))) (kc256 (View.ld I.k (rK256 h st.toNat hst))) (View.ld I.q (rQ h t)) (View.ld (bFull n I.sk) (rB256 h st.toNat hst)) mv (ix2 0 r) = (μ : EReal)
      ∧ ∀ d : Fin 80, safePay n st h (qs (View.ld I.sq (rSq h t))) (kc256 (View.ld I.k (rK256 h st.toNat hst))) (View.ld I.q (rQ h t)) (View.ld (bFull n I.sk) (rB256 h st.toNat hst)) mv av
        (View.ld I.v (rV256 h st.toNat hst)) (ix3 0 d r) = tot (st.toNat + 256) (tt n.toNat R h (col t r)) (vx n.toNat R h d) μ := by
  have e : ∀ x : Fin 256, safeSc n st h (qs (View.ld I.sq (rSq h t))) (kc256 (View.ld I.k (rK256 h st.toNat hst))) (View.ld I.q (rQ h t)) (View.ld (bFull n I.sk) (rB256 h st.toNat hst)) (ix2 x r)
      = if st.toNat + x.val < n.toNat then ((tt n.toNat R h (col t r) (st.toNat + x.val) : ℝ) : EReal) else ⊥ := fun x => by
    rw [safeSc_at, sc_safe hn hI h t st.toNat hst x r, ofBits_neg_inf, sel_add st n x.val (by omega) (by omega)]
  obtain ⟨ν, hν⟩ := fold_max_real Finset.univ (fun x : Fin 256 => st.toNat + x.val < n.toNat) (fun x : Fin 256 => tt n.toNat R h (col t r) (st.toNat + x.val)) ⊥ bot_ne_top
    (.inr ⟨0, Finset.mem_univ _, hlt⟩)
  have hM : ∃ μ : ℝ, safeMax n st h (qs (View.ld I.sq (rSq h t))) (kc256 (View.ld I.k (rK256 h st.toNat hst))) (View.ld I.q (rQ h t)) (View.ld (bFull n I.sk) (rB256 h st.toNat hst)) mv (ix2 0 r) = (μ : EReal) := by
    rw [safeMax_at, ofBits_neg_inf]
    simp only [e]
    rw [hν]
    rcases hr with ⟨_, hm, _⟩ | ⟨μ, hm, _⟩
    · exact ⟨ν, by rw [hm]; exact max_eq_right bot_le⟩
    · exact ⟨max μ ν, by rw [hm]; exact coe_max _ _⟩
  obtain ⟨μ', hμ'⟩ := hM
  refine ⟨μ', hμ', fun d => ?_⟩
  rw [safePay_at, hμ', tot_add]
  congr 1
  · rcases hr with ⟨h0, hm, ha⟩ | ⟨μ, hm, ha⟩
    · rw [ha, h0, tot_zero, zero_mul]
    · rw [ha, hm, ← EReal.coe_sub, Ideal.exp2_coe, tot_shift]
  · refine Finset.sum_congr rfl fun x _ => ?_
    rw [vx_safe hn hI h st hst d x, e x]
    by_cases hx : st.toNat + x.val < n.toNat
    · rw [if_pos hx, ← EReal.coe_sub, Ideal.exp2_coe]
    · rw [vx_zero hI h d _ (Nat.not_lt.1 hx) (by omega), zero_mul, zero_mul]

end

end Cert.KernelIdeal.Row
end
-- ==== Proof.Loops.lean ====
/-
  The body's loops over real operands: what the accumulator ends with, and the two results.
-/
module

public import proofs.«01_k».proof.Proof.Vals

@[expose] public section

set_option maxRecDepth 16384

noncomputable section

namespace Cert.KernelIdeal.Row

open Cert.KernelIdeal Cert.KernelIdeal.Gen Cert.Attn
open Idealize.ShloMosaic Idealize.ShloMosaic.TcCoe

/-! ## Steps over disjoint parts -/

section

variable {ι α β : Type} (get : α → ι → β) (step : α → ι → α)

theorem foldl_miss (h2 : ∀ s p q, p ≠ q → get (step s p) q = get s q) (q : ι) (l : List ι) : ∀ s, q ∉ l → get (l.foldl step s) q = get s q := by
  induction l with
  | nil => intro s _; rfl
  | cons p l ih =>
    intro s hq
    rw [List.mem_cons, not_or] at hq
    exact (ih _ hq.2).trans (h2 _ _ _ (Ne.symm hq.1))

/-- Each step changes its own part, once. -/
theorem foldl_at (φ : ι → β → β) (h1 : ∀ s p, get (step s p) p = φ p (get s p)) (h2 : ∀ s p q, p ≠ q → get (step s p) q = get s q) (q : ι) (l : List ι) :
    ∀ s, l.Nodup → q ∈ l → get (l.foldl step s) q = φ q (get s q) := by
  induction l with
  | nil => intro s _ h; exact absurd h (by simp)
  | cons p l ih =>
    intro s hn hq
    rw [List.nodup_cons] at hn
    by_cases e : p = q
    · subst e
      exact (foldl_miss get step h2 p l _ hn.1).trans (h1 _ _)
    · rcases List.mem_cons.1 hq with h | h
      · exact absurd h.symm e
      · exact (ih _ hn.2 h).trans (congrArg _ (h2 _ _ _ e))

end

theorem nodup_tiles : tiles.Nodup := by decide
theorem nodup_heads : heads.Nodup := by decide

theorem ld_put {s : Shape} {e : EltTy} (X : s.Idx → Elt Ideal e) (r : Rect s) (w : r.shape.Idx → Elt Ideal e) : View.ld (put X r w) r = w :=
  funext fun x => put_emb X r w x

theorem ld_put_ne {s : Shape} {e : EltTy} (X : s.Idx → Elt Ideal e) (r r' : Rect s) (w : r.shape.Idx → Elt Ideal e) (h : ∀ x y, r.emb x ≠ r'.emb y) :
    View.ld (put X r w) r' = View.ld X r' :=
  funext fun y => put_miss X r w _ fun x => h x y

theorem acc_ne (p q : Fin 4 × Fin 4) (h : p ≠ q) (x : (rAcc p.1 p.2).shape.Idx) (y : (rAcc q.1 q.2).shape.Idx) : (rAcc p.1 p.2).emb x ≠ (rAcc q.1 q.2).emb y := fun e => by
  have e0 : p.1.val + 1 * (x 0).val = q.1.val + 1 * (y 0).val := congrArg Fin.val (congrFun e 0)
  have e2 : 256 * p.2.val + 1 * (x 2).val = 256 * q.2.val + 1 * (y 2).val := congrArg Fin.val (congrFun e 2)
  have x0 : (x 0).val < 1 := (x 0).isLt
  have y0 : (y 0).val < 1 := (y 0).isLt
  have x2 : (x 2).val < 256 := (x 2).isLt
  have y2 : (y 2).val < 256 := (y 2).isLt
  exact h (Prod.ext (Fin.ext (by omega)) (Fin.ext (by omega)))

theorem m_ne (p q : Fin 4 × Fin 4) (h : p ≠ q) (x : (rM p.1 p.2).shape.Idx) (y : (rM q.1 q.2).shape.Idx) : (rM p.1 p.2).emb x ≠ (rM q.1 q.2).emb y := fun e => by
  have e0 : p.1.val + 1 * (x 0).val = q.1.val + 1 * (y 0).val := congrArg Fin.val (congrFun e 0)
  have e2 : 256 * p.2.val + 1 * (x 1).val = 256 * q.2.val + 1 * (y 1).val := congrArg Fin.val (congrFun e 1)
  have x0 : (x 0).val < 1 := (x 0).isLt
  have y0 : (y 0).val < 1 := (y 0).isLt
  have x2 : (x 1).val < 256 := (x 1).isLt
  have y2 : (y 1).val < 256 := (y 1).isLt
  exact h (Prod.ext (Fin.ext (by omega)) (Fin.ext (by omega)))

theorem out_ne (p q : Fin 4) (h : p ≠ q) (x : (rOut p).shape.Idx) (y : (rOut q).shape.Idx) : (rOut p).emb x ≠ (rOut q).emb y := fun e => by
  have e2 : 256 * p.val + 1 * (x 2).val = 256 * q.val + 1 * (y 2).val := congrArg Fin.val (congrFun e 2)
  have x2 : (x 2).val < 256 := (x 2).isLt
  have y2 : (y 2).val < 256 := (y 2).isLt
  exact h (Fin.ext (by omega))

/-- A tile's accumulator block; with its maxima. -/
def getA (a : Vec Ideal S4x80x1024 .f32) (p : Fin 4 × Fin 4) : Vec Ideal S1x80x256 .f32 := View.ld a (rAcc p.1 p.2)
def getM (a : Vec Ideal S4x1024 .f32) (p : Fin 4 × Fin 4) : Vec Ideal S1x256 .f32 := View.ld a (rM p.1 p.2)
def getAM (s : AM Ideal) (p : Fin 4 × Fin 4) : Vec Ideal S1x80x256 .f32 × Vec Ideal S1x256 .f32 := (getA s.1 p, getM s.2 p)

theorem splat_at {s s' : Shape} (w : BitVec 32) (h) (i : s'.Idx) : shapeCast s' (broadcast s (Scalar.ofBits .f32 w : Ideal .f32)) h i = Ideal.ofBits .f32 w := rfl

theorem ofBits_zero : Ideal.ofBits .f32 0x00000000#32 = 0 := by simp [Ideal.ofBits, Ideal.ieee]

theorem same_at (x : FVec Ideal S1x256 .f32) (r : Fin 256) : shapeCast S1x256 x shapeCasts_S1x256_S1x256 (ix2 0 r) = x (ix2 0 r) := by
  pointwise []

/-! ## The loops -/

section

variable {n : BitVec 32} {I : In Ideal} {R : Reals}

/-- What a tile's step makes of its block. -/
def firstPhi (n : BitVec 32) (I : In Ideal) (p : Fin 4 × Fin 4) : Vec Ideal S1x80x256 .f32 × Vec Ideal S1x256 .f32 :=
  (shapeCast S1x80x256 (broadcast S80x256 (Scalar.ofBits .f32 0x00000000#32 : Ideal .f32)) shapeCasts_S80x256_S1x80x256,
   firstPay n p.1 (qs (View.ld I.sq (rSq p.1 p.2))) (kc256 (View.ld I.k (rK256 p.1 0 (by decide)))) (View.ld I.q (rQ p.1 p.2)) (View.ld (bFull n I.sk) (rB256 p.1 0 (by decide))))

def mainPhi (n st : BitVec 32) (hst : st.toNat + 1024 ≤ 9216) (I : In Ideal) (m : Vec Ideal S4x1024 .f32) (p : Fin 4 × Fin 4) (av : Vec Ideal S1x80x256 .f32) : Vec Ideal S1x80x256 .f32 :=
  mainPay n st p.1 (View.ld I.sq (rSq p.1 p.2)) (View.ld I.k (rK1024 p.1 st.toNat hst)) (View.ld I.q (rQ p.1 p.2))
    (View.ld (bFull n I.sk) (rB1024 p.1 st.toNat hst)) (getM m p) av (View.ld I.v (rV1024 p.1 st.toNat hst))

def safePhi (n st : BitVec 32) (hst : st.toNat + 256 ≤ 9216) (I : In Ideal) (p : Fin 4 × Fin 4) (s : Vec Ideal S1x80x256 .f32 × Vec Ideal S1x256 .f32) :
    Vec Ideal S1x80x256 .f32 × Vec Ideal S1x256 .f32 :=
  (safePay n st p.1 (qs (View.ld I.sq (rSq p.1 p.2))) (kc256 (View.ld I.k (rK256 p.1 st.toNat hst))) (View.ld I.q (rQ p.1 p.2))
     (View.ld (bFull n I.sk) (rB256 p.1 st.toNat hst)) s.2 s.1 (View.ld I.v (rV256 p.1 st.toNat hst)),
   shapeCast S1x256 (safeMax n st p.1 (qs (View.ld I.sq (rSq p.1 p.2))) (kc256 (View.ld I.k (rK256 p.1 st.toNat hst))) (View.ld I.q (rQ p.1 p.2))
     (View.ld (bFull n I.sk) (rB256 p.1 st.toNat hst)) s.2) shapeCasts_S1x256_S1x256)

theorem getA_put (a : Vec Ideal S4x80x1024 .f32) (p : Fin 4 × Fin 4) (w : Vec Ideal S1x80x256 .f32) : getA (put a (rAcc p.1 p.2) w) p = w := ld_put a (rAcc p.1 p.2) w
theorem getM_put (a : Vec Ideal S4x1024 .f32) (p : Fin 4 × Fin 4) (w : Vec Ideal S1x256 .f32) : getM (put a (rM p.1 p.2) w) p = w := ld_put a (rM p.1 p.2) w
theorem getA_ne (a : Vec Ideal S4x80x1024 .f32) (p q : Fin 4 × Fin 4) (h : p ≠ q) (w : Vec Ideal S1x80x256 .f32) : getA (put a (rAcc p.1 p.2) w) q = getA a q :=
  ld_put_ne a (rAcc p.1 p.2) (rAcc q.1 q.2) w (acc_ne p q h)
theorem getM_ne (a : Vec Ideal S4x1024 .f32) (p q : Fin 4 × Fin 4) (h : p ≠ q) (w : Vec Ideal S1x256 .f32) : getM (put a (rM p.1 p.2) w) q = getM a q :=
  ld_put_ne a (rM p.1 p.2) (rM q.1 q.2) w (m_ne p q h)

theorem first_hit (s : AM Ideal) (p : Fin 4 × Fin 4) : getAM (firstStep n I s p) p = firstPhi n I p := by
  unfold getAM firstStep firstPhi
  dsimp only
  rw [getA_put, getM_put]
theorem first_ne (s : AM Ideal) (p q : Fin 4 × Fin 4) (h : p ≠ q) : getAM (firstStep n I s p) q = getAM s q := by
  unfold getAM firstStep
  dsimp only
  rw [getA_ne _ _ _ h, getM_ne _ _ _ h]
theorem main_hit (st : BitVec 32) (hst : st.toNat + 1024 ≤ 9216) (m : Vec Ideal S4x1024 .f32) (a : Vec Ideal S4x80x1024 .f32) (p : Fin 4 × Fin 4) :
    getA (mainStep n st hst I m a p) p = mainPhi n st hst I m p (getA a p) := by
  unfold mainStep
  rw [getA_put]
  rfl
theorem main_ne (st : BitVec 32) (hst : st.toNat + 1024 ≤ 9216) (m : Vec Ideal S4x1024 .f32) (a : Vec Ideal S4x80x1024 .f32) (p q : Fin 4 × Fin 4) (h : p ≠ q) :
    getA (mainStep n st hst I m a p) q = getA a q := by
  unfold mainStep
  rw [getA_ne _ _ _ h]
theorem safe_hit (st : BitVec 32) (hst : st.toNat + 256 ≤ 9216) (s : AM Ideal) (p : Fin 4 × Fin 4) : getAM (safeStep n st hst I s p) p = safePhi n st hst I p (getAM s p) := by
  unfold getAM safeStep
  dsimp only
  rw [getA_put, getM_put]
  rfl
theorem safe_ne (st : BitVec 32) (hst : st.toNat + 256 ≤ 9216) (s : AM Ideal) (p q : Fin 4 × Fin 4) (h : p ≠ q) : getAM (safeStep n st hst I s p) q = getAM s q := by
  unfold getAM safeStep
  dsimp only
  rw [getA_ne _ _ _ h, getM_ne _ _ _ h]

theorem firstAM_at (p : Fin 4 × Fin 4) : getAM (firstAM n I) p = firstPhi n I p :=
  foldl_at getAM (firstStep n I) (fun p _ => firstPhi n I p) first_hit first_ne p tiles am0 nodup_tiles (mem_tiles _ _)

/-- The accumulator after `k` trips of the main loop. -/
theorem mainA_at (hN : InRange n) (hI : Is n.toNat I R) (h t : Fin 4) (r : Fin 256) (d : Fin 80) (m : Vec Ideal S4x1024 .f32) (a : Vec Ideal S4x80x1024 .f32) (μ : ℝ)
    (hm : getM m (h, t) (ix2 0 r) = (μ : EReal)) (ha : getA a (h, t) (ix3 0 d r) = 0) (k : ℕ) (hk : k ≤ 9) :
    getA (mainA n I m a k) (h, t) (ix3 0 d r) = tot (k * 1024) (tt n.toNat R h (col t r)) (vx n.toNat R h d) μ := by
  induction k with
  | zero => rw [Nat.zero_mul, tot_zero]; exact ha
  | succ k ih =>
    have hst : (stw 1024#32 0#32 k).toNat = k * 1024 := stw_toNat 1024#32 k (by show k * 1024 < 2 ^ 32; omega)
    have hle : (stw 1024#32 0#32 k).toNat + 1024 ≤ 9216 := by omega
    have e : mainA n I m a (k + 1) = tiles.foldl (mainStep n (stw 1024#32 0#32 k) hle I m) (mainA n I m a k) := dif_pos hle
    have ih' := ih (by omega)
    rw [← hst] at ih'
    rw [e, foldl_at getA (mainStep n (stw 1024#32 0#32 k) hle I m) (mainPhi n (stw 1024#32 0#32 k) hle I m) (main_hit _ hle m) (main_ne _ hle m) (h, t) tiles _ nodup_tiles (mem_tiles _ _),
      show (k + 1) * 1024 = (stw 1024#32 0#32 k).toNat + 1024 by omega]
    exact main_block hN.top hI h t (stw 1024#32 0#32 k) hle (getM m (h, t)) (getA (mainA n I m a k) (h, t)) d r μ hm ih'

/-- The accumulator and the maxima after `k` trips of the redo loop. -/
theorem safeA_at (hN : InRange n) (hI : Is n.toNat I R) (h t : Fin 4) (r : Fin 256) (s : AM Ideal) (hs : Redo n.toNat R h t r 0 (getM s.2 (h, t)) (getA s.1 (h, t)))
    (k : ℕ) (hk : k ≤ nc n) :
    Redo n.toNat R h t r (k * 256) (getM (safeA n I s k).2 (h, t)) (getA (safeA n I s k).1 (h, t)) := by
  induction k with
  | zero => rw [Nat.zero_mul]; exact hs
  | succ k ih =>
    have hc := hN.nc_le
    have hst : (stw 256#32 0#32 k).toNat = k * 256 := stw_toNat 256#32 k (by show k * 256 < 2 ^ 32; omega)
    have hle : (stw 256#32 0#32 k).toNat + 256 ≤ 9216 := by omega
    have hlt : (stw 256#32 0#32 k).toNat < n.toNat := by unfold nc at hk; omega
    have e : safeA n I s (k + 1) = tiles.foldl (safeStep n (stw 256#32 0#32 k) hle I) (safeA n I s k) := dif_pos hle
    have ih' := ih (by omega)
    rw [← hst] at ih'
    have f := foldl_at getAM (safeStep n (stw 256#32 0#32 k) hle I) (safePhi n (stw 256#32 0#32 k) hle I) (safe_hit _ hle) (safe_ne _ hle) (h, t) tiles (safeA n I s k) nodup_tiles (mem_tiles _ _)
    have f1 := congrArg Prod.fst f
    have f2 := congrArg Prod.snd f
    obtain ⟨μ, h1, h2⟩ := safe_block hN.top hI h t (stw 256#32 0#32 k) hle hlt (getM (safeA n I s k).2 (h, t)) (getA (safeA n I s k).1 (h, t)) r ih'
    refine .inr ⟨μ, ?_, fun d => ?_⟩
    · rw [e]
      exact (congrFun f2 _).trans ((same_at _ r).trans h1)
    · rw [e, show (k + 1) * 256 = (stw 256#32 0#32 k).toNat + 256 by omega]
      exact (congrFun f1 _).trans (h2 d)

theorem reset_at (s : AM Ideal) (h t : Fin 4) (r : Fin 256) : Redo n.toNat R h t r 0 (getM (resetAM s).2 (h, t)) (getA (resetAM s).1 (h, t)) := by
  refine .inl ⟨rfl, ?_, fun d => ?_⟩
  · have e : (rM h t).emb (ix2 0 r : S1x256.Idx) = rMA.emb ((rM h t).emb (ix2 0 r : S1x256.Idx)) := funext fun a => match a with
      | ⟨0, _⟩ => Fin.ext (show h.val + 1 * 0 = 0 + 1 * (h.val + 1 * 0) by omega)
      | ⟨1, _⟩ => Fin.ext (show 256 * t.val + 1 * r.val = 0 + 1 * (256 * t.val + 1 * r.val) by omega)
    show put s.2 rMA _ ((rM h t).emb (ix2 0 r : S1x256.Idx)) = ⊥
    rw [e, put_emb, splat_at, ofBits_neg_inf]
  · have e : (rAcc h t).emb (ix3 0 d r : S1x80x256.Idx) = rA.emb ((rAcc h t).emb (ix3 0 d r : S1x80x256.Idx)) := funext fun a => match a with
      | ⟨0, _⟩ => Fin.ext (show h.val + 1 * 0 = 0 + 1 * (h.val + 1 * 0) by omega)
      | ⟨1, _⟩ => Fin.ext (show 0 + 1 * d.val = 0 + 1 * (0 + 1 * d.val) by omega)
      | ⟨2, _⟩ => Fin.ext (show 256 * t.val + 1 * r.val = 0 + 1 * (256 * t.val + 1 * r.val) by omega)
    show put s.1 rA _ ((rAcc h t).emb (ix3 0 d r : S1x80x256.Idx)) = 0
    rw [e, put_emb, splat_at, ofBits_zero]

/-- What the accumulator ends with: every row's total over the keys, at one real number per head and query. -/
theorem lastAM_at (hN : InRange n) (hI : Is n.toNat I R) (h t : Fin 4) (r : Fin 256) :
    ∃ μ : ℝ, ∀ d : Fin 80, getA (lastAM n I).1 (h, t) (ix3 0 d r) = tot n.toNat (tt n.toNat R h (col t r)) (vx n.toNat R h d) μ := by
  have ht := hN.top
  unfold lastAM checkAM
  split
  · rcases safeA_at hN hI h t r _ (reset_at _ h t r) (nc n) le_rfl with ⟨h0, _⟩ | ⟨μ, _, ha⟩
    · have := hN.one; unfold nc at h0; omega
    · refine ⟨μ, fun d => (ha d).trans ?_⟩
      have := hN.nc_le
      rw [tot_cut n.toNat (nc n * 256) _ _ μ (by unfold nc; omega) fun j hj hj' => vx_zero hI h d j hj (by omega)]
  · have f := firstAM_at (n := n) (I := I) (h, t)
    obtain ⟨μ, hμ⟩ := first_block ht hN.one hI h t r
    have := hN.nb_le
    have fa : getA (firstAM n I).1 (h, t) = (firstPhi n I (h, t)).1 := congrArg Prod.fst f
    have fm : getM (firstAM n I).2 (h, t) = (firstPhi n I (h, t)).2 := congrArg Prod.snd f
    have z : ∀ d : Fin 80, getA (firstAM n I).1 (h, t) (ix3 0 d r) = 0 := fun d => by
      rw [fa]
      unfold firstPhi
      dsimp only
      rw [splat_at, ofBits_zero]
    have y : getM (firstAM n I).2 (h, t) (ix2 0 r) = (μ : EReal) := by
      rw [fm]
      unfold firstPhi
      dsimp only
      exact hμ
    refine ⟨μ, fun d => (mainA_at hN hI h t r d (firstAM n I).2 (firstAM n I).1 μ y (z d) (nb n) hN.nb_le).trans ?_⟩
    rw [tot_cut n.toNat (nb n * 1024) _ _ μ (by unfold nb; omega) fun j hj hj' => vx_zero hI h d j hj (by omega)]

/-! ## The results -/

/-- A head's row over its total is the mean. -/
theorem ratio_real (hN : InRange n) (hI : Is n.toNat I R) (h t : Fin 4) (d : Fin 64) (r : Fin 256) :
    ratio (numC (View.ld (lastAM n I).1 (rNum h t))) (denC (View.ld (lastAM n I).1 (rDen h t))) (ix2 d r)
      = soft n.toNat (zz R h (col t r)) (fun j => R.v (hrow h d) (key j)) := by
  obtain ⟨μ, hμ⟩ := lastAM_at hN hI h t r
  have e1 : tot n.toNat (tt n.toNat R h (col t r)) (vx n.toNat R h ⟨d.val, by omega⟩) μ = tot n.toNat (fun j => zz R h (col t r) j * (Real.log 2)⁻¹) (fun j => R.v (hrow h d) (key j)) μ :=
    tot_congr _ _ _ _ _ _ (fun j hj => by unfold tt zz; rw [if_pos hj]; ring) (fun j hj => by unfold vx; rw [dif_pos d.isLt])
  have e2 : tot n.toNat (tt n.toNat R h (col t r)) (vx n.toNat R h ⟨64, by omega⟩) μ = tot n.toNat (fun j => zz R h (col t r) j * (Real.log 2)⁻¹) (fun _ => 1) μ :=
    tot_congr _ _ _ _ _ _ (fun j hj => by unfold tt zz; rw [if_pos hj]; ring) (fun j hj => by unfold vx; rw [dif_neg (Nat.lt_irrefl 64), if_pos hj])
  have g1 := ((ld_num (lastAM n I).1 h t d r).trans (hμ ⟨d.val, by omega⟩)).trans e1
  have g2 := ((ld_den (lastAM n I).1 h t r).trans (hμ ⟨64, by omega⟩)).trans e2
  rw [ratio_at]
  exact (congrArg₂ Ideal.div g1 g2).trans (tot_ratio _ hN.one _ _ _)

theorem sum_rows (f : Fin 256 → EReal) : ∑ x : Fin 256, f x = ∑ d : Fin 64, ∑ h : Fin 4, f (hrow h d) := by
  rw [← (finProdFinEquiv (m := 4) (n := 64)).sum_comp f, Fintype.sum_prod_type, Finset.sum_comm]
  exact Finset.sum_congr rfl fun d _ => Finset.sum_congr rfl fun h _ => congrArg f (Fin.ext (show d.val + 64 * h.val = h.val * 64 + d.val by omega))

theorem row_pick (r0 r1 r2 r3 : Fin 64 → EReal) (h : Fin 4) (d : Fin 64) :
    (if g : (hrow h d).val < 64 then r0 ⟨(hrow h d).val, g⟩
      else if g : (hrow h d).val - 64 < 64 then r1 ⟨(hrow h d).val - 64, g⟩
        else if g : (hrow h d).val - 64 - 64 < 64 then r2 ⟨(hrow h d).val - 64 - 64, g⟩ else r3 ⟨(hrow h d).val - 64 - 64 - 64, by have := (hrow h d).isLt; omega⟩)
      = (![r0, r1, r2, r3] : Fin 4 → Fin 64 → EReal) h d := by
  match h with
  | ⟨0, p⟩ =>
    have hv : (hrow ⟨0, p⟩ d).val = 0 * 64 + d.val := rfl
    rw [dif_pos (by omega)]
    exact congrArg r0 (Fin.ext (by show (hrow ⟨0, p⟩ d).val = d.val; omega))
  | ⟨1, p⟩ =>
    have hv : (hrow ⟨1, p⟩ d).val = 1 * 64 + d.val := rfl
    rw [dif_neg (by omega), dif_pos (by omega)]
    exact congrArg r1 (Fin.ext (by show (hrow ⟨1, p⟩ d).val - 64 = d.val; omega))
  | ⟨2, p⟩ =>
    have hv : (hrow ⟨2, p⟩ d).val = 2 * 64 + d.val := rfl
    rw [dif_neg (by omega), dif_neg (by omega), dif_pos (by omega)]
    exact congrArg r2 (Fin.ext (by show (hrow ⟨2, p⟩ d).val - 64 - 64 = d.val; omega))
  | ⟨3, p⟩ =>
    have hv : (hrow ⟨3, p⟩ d).val = 3 * 64 + d.val := rfl
    rw [dif_neg (by omega), dif_neg (by omega), dif_neg (by omega)]
    exact congrArg r3 (Fin.ext (by show (hrow ⟨3, p⟩ d).val - 64 - 64 - 64 = d.val; omega))

/-- The projected means of query column `i`. -/
def mean (N : ℕ) (R : Reals) (w : Vec Ideal S256x256 .bf16) (i : Fin 1024) (c : Fin 256) : EReal :=
  ∑ d : Fin 64, ∑ h : Fin 4, soft N (zz R h i) (fun j => R.v (hrow h d) (key j)) * w (ix2 (hrow h d) c)

theorem ld_w (w : Vec Ideal S256x256 .bf16) (a c : Fin 256) : View.ld w rW (ix2 a c : S256x256.Idx) = w (ix2 a c) :=
  congrArg w (funext fun x => match x with
    | ⟨0, _⟩ => Fin.ext (show 0 + 1 * a.val = a.val by omega)
    | ⟨1, _⟩ => Fin.ext (show 0 + 1 * c.val = c.val by omega))

theorem proj_real (hN : InRange n) (hI : Is n.toNat I R) (t : Fin 4) (i c : Fin 256) :
    proj I (lastAM n I).1 t (ix2 i c) = mean n.toNat R I.w (col t i) c := by
  unfold proj
  rw [proj_at, sum_rows]
  refine Finset.sum_congr rfl fun d _ => Finset.sum_congr rfl fun h _ => congrArg₂ (fun a b : EReal => a * b) ?_ (ld_w I.w _ _)
  refine (row_pick (fun d => (ratio (F := Ideal) (numC (View.ld (lastAM n I).1 (rNum h0 t))) (denC (View.ld (lastAM n I).1 (rDen h0 t))) (ix2 d i) : EReal)) (fun d => (ratio (F := Ideal) (numC (View.ld (lastAM n I).1 (rNum h1 t))) (denC (View.ld (lastAM n I).1 (rDen h1 t))) (ix2 d i) : EReal)) (fun d => (ratio (F := Ideal) (numC (View.ld (lastAM n I).1 (rNum h2 t))) (denC (View.ld (lastAM n I).1 (rDen h2 t))) (ix2 d i) : EReal)) (fun d => (ratio (F := Ideal) (numC (View.ld (lastAM n I).1 (rNum h3 t))) (denC (View.ld (lastAM n I).1 (rDen h3 t))) (ix2 d i) : EReal)) h d).trans ?_
  match h with
  | ⟨0, _⟩ => exact ratio_real hN hI h0 t d i
  | ⟨1, _⟩ => exact ratio_real hN hI h1 t d i
  | ⟨2, _⟩ => exact ratio_real hN hI h2 t d i
  | ⟨3, _⟩ => exact ratio_real hN hI h3 t d i

def getY (a : Vec Ideal S1x1x1024x256 .bf16) (t : Fin 4) : Vec Ideal S1x1x256x256 .bf16 := View.ld a (rOut t)
def getYO (s : YO Ideal) (t : Fin 4) : Vec Ideal S1x1x256x256 .bf16 × Vec Ideal S1x1x256x256 .bf16 := (getY s.1 t, getY s.2 t)

theorem getY_put (a : Vec Ideal S1x1x1024x256 .bf16) (t : Fin 4) (w : Vec Ideal S1x1x256x256 .bf16) : getY (put a (rOut t) w) t = w := ld_put a (rOut t) w
theorem getY_ne (a : Vec Ideal S1x1x1024x256 .bf16) (p q : Fin 4) (h : p ≠ q) (w : Vec Ideal S1x1x256x256 .bf16) : getY (put a (rOut p) w) q = getY a q :=
  ld_put_ne a (rOut p) (rOut q) w (out_ne p q h)

theorem results_get (t : Fin 4) : getYO (results n I) t = (resPay (proj I (lastAM n I).1 t) (View.ld I.x (rOut t)), outPay (proj I (lastAM n I).1 t)) :=
  foldl_at getYO (outStep I (lastAM n I).1) (fun t _ => (resPay (proj I (lastAM n I).1 t) (View.ld I.x (rOut t)), outPay (proj I (lastAM n I).1 t)))
    (fun s p => by unfold getYO outStep; dsimp only; rw [getY_put, getY_put])
    (fun s p q h => by unfold getYO outStep; dsimp only; rw [getY_ne _ _ _ h, getY_ne _ _ _ h])
    t heads yo0 nodup_heads (mem_heads _)

theorem out_emb (t : Fin 4) (i c : Fin 256) : (rOut t).emb (ix4 0 0 i c : S1x1x256x256.Idx) = (ix4 0 0 (col t i) c : S1x1x1024x256.Idx) :=
  funext fun x => match x with
    | ⟨0, _⟩ => Fin.ext (show 0 + 1 * 0 = 0 by omega)
    | ⟨1, _⟩ => Fin.ext (show 0 + 1 * 0 = 0 by omega)
    | ⟨2, _⟩ => Fin.ext (show 256 * t.val + 1 * i.val = 256 * t.val + i.val by omega)
    | ⟨3, _⟩ => Fin.ext (show 0 + 1 * c.val = c.val by omega)

theorem col_split (i : Fin 1024) : i = col ⟨i.val / 256, by omega⟩ ⟨i.val % 256, Nat.mod_lt _ (by decide)⟩ := Fin.ext (Nat.div_add_mod _ _).symm

/-- The body's results at an element. -/
theorem results_at (hN : InRange n) (hI : Is n.toNat I R) (i : Fin 1024) (c : Fin 256) :
    (results n I).1 (ix4 0 0 i c) = I.x (ix4 0 0 i c) + mean n.toNat R I.w i c ∧ (results n I).2 (ix4 0 0 i c) = mean n.toNat R I.w i c := by
  rw [col_split i]
  generalize (⟨i.val / 256, _⟩ : Fin 4) = t
  generalize (⟨i.val % 256, _⟩ : Fin 256) = i
  have g := results_get (n := n) (I := I) t
  have e := out_emb t i c
  constructor
  · refine ((congrArg (results n I).1 e).symm.trans (congrFun (congrArg Prod.fst g) (ix4 0 0 i c))).trans ((resPay_at _ _ i c).trans ?_)
    exact congrArg₂ (fun a b : EReal => a + b) (congrArg I.x e) (proj_real hN hI t i c)
  · exact ((congrArg (results n I).2 e).symm.trans (congrFun (congrArg Prod.snd g) (ix4 0 0 i c))).trans ((outPay_at _ i c).trans (proj_real hN hI t i c))

end

end Cert.KernelIdeal.Row
end
-- ==== Proof.RefRun.lean ====
/-
  What the reference leaves in its two results, as one term of the arguments, and that term read at an element.
-/
module

public import proofs.«01_k».proof.Proof.Gen.ReferenceIdeal.Frame
public import Idealize.ShloMosaic.Lib.StableHlo.RunRead
public import Idealize.ShloMosaic.Lib.Pointwise

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.StableHlo

/-! ## The reference's term -/

/-- The scores: codes' products times both scales times an eighth. -/
def scoreT (q : FVec Ideal S2x13x256x9216 .f32) (k : FVec Ideal S2x13x9216x256 .f32) (sq sk : FVec Ideal S2x13x4x9216 .f32) : FVec Ideal S2x13x4x9216x9216 .f32 :=
  mulf (Host.dotGeneral (φ₁ := .f32) (φ₂ := .f32) dot_S2x13x4x64x9216_S2x13x9216x4x64_S2x13x4x9216x9216_3_4_4_2_012_013 none
      (shapeCast S2x13x4x64x9216 q shapeCasts_S2x13x256x9216_S2x13x4x64x9216) (shapeCast S2x13x9216x4x64 k shapeCasts_S2x13x9216x256_S2x13x9216x4x64))
    (mulf (mulf
        (broadcastInDim S2x13x4x9216x9216 ![0, 1, 2, 3, 4] bcast_S2x13x4x9216x1_S2x13x4x9216x9216_0_1_2_3_4 (broadcastInDim S2x13x4x9216x1 ![0, 1, 2, 3] bcast_S2x13x4x9216_S2x13x4x9216x1_0_1_2_3 sq))
        (broadcastInDim S2x13x4x9216x9216 ![0, 1, 2, 3, 4] bcast_S2x13x4x1x9216_S2x13x4x9216x9216_0_1_2_3_4 (broadcastInDim S2x13x4x1x9216 ![0, 1, 2, 4] bcast_S2x13x4x9216_S2x13x4x1x9216_0_1_2_4 sk)))
      (broadcastInDim S2x13x4x9216x9216 ![] bcast_S_S2x13x4x9216x9216 (constant S_ .f32 0x3E000000#32)))

/-- The scores with keys at or past a table's row count at minus infinity. -/
def maskT (n : IVec S2 32) (s : FVec Ideal S2x13x4x9216x9216 .f32) : FVec Ideal S2x13x4x9216x9216 .f32 :=
  select (broadcastInDim S2x13x4x9216x9216 ![0, 1, 2, 3, 4] bcast_S2x1x1x1x9216_S2x13x4x9216x9216_0_1_2_3_4
      (broadcastInDim S2x1x1x1x9216 ![0, 4] bcast_S2x9216_S2x1x1x1x9216_0_4
        (cmpi .slt (broadcastInDim S2x9216 ![0, 1] bcast_S1x9216_S2x9216_0_1 (broadcastInDim S1x9216 ![1] bcast_S9216_S1x9216_1 (iotaInDim S9216 32 0)))
          (broadcastInDim S2x9216 ![0, 1] bcast_S2x1_S2x9216_0_1 (broadcastInDim S2x1 ![0] bcast_S2_S2x1_0 n)))))
    s (broadcastInDim S2x13x4x9216x9216 ![] bcast_S_S2x13x4x9216x9216 (constant S_ .f32 0xFF800000#32))

/-- Each query's largest score. -/
def maxT (s : FVec Ideal S2x13x4x9216x9216 .f32) : FVec Ideal S2x13x4x9216 .f32 :=
  maximumf (broadcastInDim S2x13x4x9216 ![] bcast_S_S2x13x4x9216 (constant S_ .f32 0xFF800000#32))
    (Host.reduce (FloatOps.maximumf (F := Ideal) (φ := .f32)) s (constant S_ .f32 0xFF800000#32) reducesTo_S2x13x4x9216x9216_S2x13x4x9216_d4 h_S_)

/-- The exponentials of the scores less the largest. -/
def expT (s : FVec Ideal S2x13x4x9216x9216 .f32) : FVec Ideal S2x13x4x9216x9216 .f32 :=
  Host.exp (subf s (broadcastInDim S2x13x4x9216x9216 ![0, 1, 2, 3, 4] bcast_S2x13x4x9216x1_S2x13x4x9216x9216_0_1_2_3_4 (broadcastInDim S2x13x4x9216x1 ![0, 1, 2, 3] bcast_S2x13x4x9216_S2x13x4x9216x1_0_1_2_3 (maxT s))))

/-- The weights: the exponentials over their sum. -/
def probT (e : FVec Ideal S2x13x4x9216x9216 .f32) : FVec Ideal S2x13x4x9216x9216 .bf16 :=
  truncf .bf16 (Host.divf e (broadcastInDim S2x13x4x9216x9216 ![0, 1, 2, 3, 4] bcast_S2x13x4x9216x1_S2x13x4x9216x9216_0_1_2_3_4 (broadcastInDim S2x13x4x9216x1 ![0, 1, 2, 3] bcast_S2x13x4x9216_S2x13x4x9216x1_0_1_2_3
    (Host.reduceAdd e (constant S_ .f32 0x00000000#32) reducesTo_S2x13x4x9216x9216_S2x13x4x9216_d4 h_S_)))) bitsLt_bf16_f32

/-- The weighted values. -/
def ctxT (v : FVec Ideal S2x13x256x9216 .bf16) (p : FVec Ideal S2x13x4x9216x9216 .bf16) : FVec Ideal S2x13x9216x4x64 .bf16 :=
  truncf .bf16 (transpose S2x13x9216x4x64 [0, 1, 4, 2, 3]
    (Host.dotGeneral (φ₁ := .bf16) (φ₂ := .bf16) dot_S2x13x4x64x9216_S2x13x4x9216x9216_S2x13x4x64x9216_4_4_3_3_012_012 none (shapeCast S2x13x4x64x9216 v shapeCasts_S2x13x256x9216_S2x13x4x64x9216) p)
    transposes_S2x13x4x64x9216_S2x13x9216x4x64_0_1_4_2_3) bitsLt_bf16_f32

/-- The weighted values through the output weights. -/
def outT (c : FVec Ideal S2x13x9216x4x64 .bf16) (wo : FVec Ideal S256x256 .bf16) : FVec Ideal S2x13x9216x256 .f32 :=
  Host.dotGeneral (φ₁ := .bf16) (φ₂ := .bf16) dot_S2x13x9216x4x64_S4x64x256_S2x13x9216x256_43_10_012_2_n_n none c (shapeCast S4x64x256 wo shapeCasts_S256x256_S4x64x256)

/-- The attention's output. -/
def attnT (n : IVec S2 32) (q : FVec Ideal S2x13x256x9216 .f32) (sq : FVec Ideal S2x13x4x9216 .f32) (k : FVec Ideal S2x13x9216x256 .f32) (sk : FVec Ideal S2x13x4x9216 .f32)
    (v : FVec Ideal S2x13x256x9216 .bf16) (wo : FVec Ideal S256x256 .bf16) : FVec Ideal S2x13x9216x256 .f32 :=
  outT (ctxT v (probT (expT (maskT n (scoreT q k sq sk))))) wo

theorem tail_v40 (W : Valuation τ sig (Elt Ideal)) :
    after ([hostOps1, hostOps1_1, hostOps1_2] : List (List (HloOp τ sig (Elt Ideal)))).flatten W (Proc.devRef .tc main_v40) =
      truncf (F := Ideal) .bf16 (attnT (W (Proc.devRef .tc main_arg0)) (W (Proc.devRef .tc main_v0_0)) (W (Proc.devRef .tc main_arg2)) (W (Proc.devRef .tc main_v0_1)) (W (Proc.devRef .tc main_arg4))
        (W (Proc.devRef .tc main_arg5)) (W (Proc.devRef .tc main_arg7))) bitsLt_bf16_f32 := by
  simp only [List.flatten_cons, List.flatten_nil, List.append_nil]
  after_reads_simp
  simp only [TRef.ofBuf_toBuf]
  rfl

theorem tail_v39 (W : Valuation τ sig (Elt Ideal)) :
    after ([hostOps1, hostOps1_1, hostOps1_2] : List (List (HloOp τ sig (Elt Ideal)))).flatten W (Proc.devRef .tc main_v39) =
      truncf (F := Ideal) .bf16 (addf (W (Proc.devRef .tc main_arg6)) (attnT (W (Proc.devRef .tc main_arg0)) (W (Proc.devRef .tc main_v0_0)) (W (Proc.devRef .tc main_arg2)) (W (Proc.devRef .tc main_v0_1)) (W (Proc.devRef .tc main_arg4))
        (W (Proc.devRef .tc main_arg5)) (W (Proc.devRef .tc main_arg7)))) bitsLt_bf16_f32 := by
  simp only [List.flatten_cons, List.flatten_nil, List.append_nil]
  after_reads_simp
  simp only [TRef.ofBuf_toBuf]
  rfl

/-! ## The term at an element -/

theorem scoreT_at (q : FVec Ideal S2x13x256x9216 .f32) (k : FVec Ideal S2x13x9216x256 .f32) (sq sk : FVec Ideal S2x13x4x9216 .f32)
    (b : Fin 2) (f : Fin 13) (h : Fin 4) (i j : Fin 9216) :
    scoreT q k sq sk (ix5 b f h i j) = (∑ x : Fin 64, q (ix4 b f ⟨h.val * 64 + x.val, by omega⟩ i) * k (ix4 b f j ⟨h.val * 64 + x.val, by omega⟩))
      * (sq (ix4 b f h i) * sk (ix4 b f h j) * Ideal.ofBits .f32 0x3E000000#32) := by
  pointwise [scoreT]

theorem maskT_at (n : IVec S2 32) (s : FVec Ideal S2x13x4x9216x9216 .f32) (b : Fin 2) (f : Fin 13) (h : Fin 4) (i j : Fin 9216) :
    maskT n s (ix5 b f h i j) = Scalar.select (IntOp.cmpi .slt (BitVec.ofNat 32 j.val) (n (ix1 b))) (s (ix5 b f h i j)) (Ideal.ofBits .f32 0xFF800000#32) := by
  pointwise [maskT]

theorem expT_at (s : FVec Ideal S2x13x4x9216x9216 .f32) (b : Fin 2) (f : Fin 13) (h : Fin 4) (i j : Fin 9216) :
    expT s (ix5 b f h i j) = Ideal.exp (s (ix5 b f h i j) - maxT s (ix4 b f h i)) := by
  pointwise [expT]

theorem probT_at (s : FVec Ideal S2x13x4x9216x9216 .f32) (b : Fin 2) (f : Fin 13) (h : Fin 4) (i j : Fin 9216) :
    probT s (ix5 b f h i j) = Ideal.div (s (ix5 b f h i j)) (∑ x : Fin 9216, s (ix5 b f h i x)) := by
  pointwise [probT]

theorem ctxT_at (v : FVec Ideal S2x13x256x9216 .bf16) (s : FVec Ideal S2x13x4x9216x9216 .bf16) (b : Fin 2) (f : Fin 13) (i : Fin 9216) (h : Fin 4) (d : Fin 64) :
    ctxT v s (ix5 b f i h d) = ∑ x : Fin 9216, v (ix4 b f ⟨h.val * 64 + d.val, by omega⟩ x) * s (ix5 b f h i x) := by
  pointwise [ctxT]

theorem outT_at (c : FVec Ideal S2x13x9216x4x64 .bf16) (wo : FVec Ideal S256x256 .bf16) (b : Fin 2) (f : Fin 13) (i : Fin 9216) (e : Fin 256) :
    outT c wo (ix4 b f i e) = ∑ d : Fin 64, ∑ h : Fin 4, c (ix5 b f i h d) * wo (ix2 ⟨h.val * 64 + d.val, by omega⟩ e) := by
  pointwise [outT]

end Cert.ReferenceIdeal.Ref
end
-- ==== Proof.RefVal.lean ====
/-
  The reference's results over real arguments.
-/
module

public import proofs.«01_k».proof.Proof.RefRun
public import proofs.«01_k».proof.Proof.Math

@[expose] public section

set_option maxRecDepth 16384

noncomputable section

namespace Cert.ReferenceIdeal.Ref

open Cert.ReferenceIdeal Cert.ReferenceIdeal.Gen Cert.Attn
open Idealize.ShloMosaic Idealize.ShloMosaic.TcCoe

/-- The larger of a number and the host's maximum along the last of five axes, at an element. -/
theorem reduce_max {n0 n1 n2 n3 n4 : ℕ} {u : Shape} (c : FVec Ideal ⟨4, ![n0, n1, n2, n3]⟩ .f32) (s : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (b : Fin n0) (f : Fin n1) (g : Fin n2) (i : Fin n3) :
    maximumf c (Host.reduce (FloatOps.maximumf (F := Ideal) (φ := .f32)) s init h hu) (ix4 b f g i)
      = max (c (ix4 b f g i)) ((Finset.univ : Finset (Fin n4)).fold (max : EReal → EReal → EReal) (init (Shape.Idx.first hu)) (fun k => s (ix5 b f g i k))) := by
  show max (c (ix4 b f g i)) (Host.reduce (max : EReal → EReal → EReal) s init h hu (ix4 b f g i)) = _
  rw [Host.reduce_eq_fold]
  exact congrArg (max (c (ix4 b f g i))) (h.fold_fiber_r5_a4 _ _ _ _)

theorem const_at (w : BitVec 32) (b : Fin 2) (f : Fin 13) (h : Fin 4) (i : Fin 9216) :
    broadcastInDim S2x13x4x9216 ![] bcast_S_S2x13x4x9216 (constant (F := Ideal) S_ .f32 w) (ix4 b f h i) = Ideal.ofBits .f32 w := rfl

theorem first_at (w : BitVec 32) : constant (F := Ideal) S_ .f32 w (Shape.Idx.first h_S_) = Ideal.ofBits .f32 w := rfl

theorem maxT_at (s : FVec Ideal S2x13x4x9216x9216 .f32) (b : Fin 2) (f : Fin 13) (h : Fin 4) (i : Fin 9216) :
    maxT s (ix4 b f h i) = max (Ideal.ofBits .f32 0xFF800000#32) (Finset.univ.fold max (Ideal.ofBits .f32 0xFF800000#32) fun j : Fin 9216 => s (ix5 b f h i j)) := by
  unfold maxT
  refine (reduce_max _ s _ reducesTo_S2x13x4x9216x9216_S2x13x4x9216_d4 h_S_ b f h i).trans ?_
  rw [const_at, first_at]

/-- The arguments are these numbers, the key codes and scales at the keys. -/
structure Of (D : Data) (n : IVec S2 32) (q : FVec Ideal S2x13x256x9216 .f32) (sq : FVec Ideal S2x13x4x9216 .f32) (k : FVec Ideal S2x13x9216x256 .f32)
    (sk : FVec Ideal S2x13x4x9216 .f32) (v : FVec Ideal S2x13x256x9216 .bf16) : Prop where
  n : ∀ b, (n (ix1 b)).toNat = D.n b
  one : ∀ b, 1 ≤ D.n b
  top : ∀ b, D.n b ≤ 9216
  q : ∀ b f d i, q (ix4 b f d i) = ((D.q b f d i : ℝ) : EReal)
  sq : ∀ b f h i, sq (ix4 b f h i) = ((D.sq b f h i : ℝ) : EReal)
  k : ∀ b f j d, j.val < D.n b → k (ix4 b f j d) = ((D.k b f j d : ℝ) : EReal)
  sk : ∀ b f h j, j.val < D.n b → sk (ix4 b f h j) = ((D.sk b f h j : ℝ) : EReal)
  v : ∀ b f d j, v (ix4 b f d j) = D.v b f d j

variable {D : Data} {n : IVec S2 32} {q : FVec Ideal S2x13x256x9216 .f32} {sq : FVec Ideal S2x13x4x9216 .f32} {k : FVec Ideal S2x13x9216x256 .f32}
  {sk : FVec Ideal S2x13x4x9216 .f32} {v : FVec Ideal S2x13x256x9216 .bf16}

theorem score_real (H : Of D n q sq k sk v) (b : Fin 2) (f : Fin 13) (h : Fin 4) (i j : Fin 9216) (hj : j.val < D.n b) :
    scoreT q k sq sk (ix5 b f h i j) = ((D.z b f h i j.val : ℝ) : EReal) := by
  rw [scoreT_at, ofBits_eighth]
  simp only [H.q, H.k _ _ _ _ hj, H.sq, H.sk _ _ _ _ hj, ← EReal.coe_mul, coe_sum]
  unfold Data.z
  rw [key_val]
  rfl

theorem mask_real (H : Of D n q sq k sk v) (b : Fin 2) (f : Fin 13) (h : Fin 4) (i j : Fin 9216) :
    maskT n (scoreT q k sq sk) (ix5 b f h i j) = if j.val < D.n b then ((D.z b f h i j.val : ℝ) : EReal) else ⊥ := by
  have := H.top b
  rw [maskT_at, ofBits_neg_inf, sel_nat _ _ (by omega) (by rw [H.n]; omega), H.n]
  split
  · exact score_real H b f h i j ‹_›
  · rfl

theorem max_real (H : Of D n q sq k sk v) (b : Fin 2) (f : Fin 13) (h : Fin 4) (i : Fin 9216) :
    ∃ M : ℝ, maxT (maskT n (scoreT q k sq sk)) (ix4 b f h i) = (M : EReal) := by
  rw [maxT_at, ofBits_neg_inf]
  simp only [mask_real H]
  obtain ⟨M, hM⟩ := fold_max_real Finset.univ (fun j : Fin 9216 => j.val < D.n b) (fun j : Fin 9216 => D.z b f h i j.val) ⊥ bot_ne_top
    (.inr ⟨0, Finset.mem_univ _, H.one b⟩)
  exact ⟨M, by rw [hM]; exact max_eq_right bot_le⟩

/-- The weighted values are the mean. -/
theorem ctx_real (H : Of D n q sq k sk v) (b : Fin 2) (f : Fin 13) (h : Fin 4) (i : Fin 9216) (d : Fin 64) :
    ctxT v (probT (expT (maskT n (scoreT q k sq sk)))) (ix5 b f i h d) = soft (D.n b) (D.z b f h i) (D.w b f h d) := by
  obtain ⟨M, hM⟩ := max_real H b f h i
  have he : ∀ j : Fin 9216, expT (maskT n (scoreT q k sq sk)) (ix5 b f h i j) = if j.val < D.n b then ((Real.exp (D.z b f h i j.val - M) : ℝ) : EReal) else 0 := fun j => by
    rw [expT_at, hM, mask_real H]
    split
    · rw [← EReal.coe_sub, Ideal.exp_coe]
    · rw [EReal.bot_sub, Ideal.exp_bot]
  have hS : 0 < ∑ j ∈ Finset.range (D.n b), Real.exp (D.z b f h i j - M) :=
    Finset.sum_pos (fun j _ => Real.exp_pos _) ⟨0, Finset.mem_range.2 (H.one b)⟩
  have hp : ∀ j : Fin 9216, probT (expT (maskT n (scoreT q k sq sk))) (ix5 b f h i j)
      = if j.val < D.n b then ((Real.exp (D.z b f h i j.val - M) / ∑ j ∈ Finset.range (D.n b), Real.exp (D.z b f h i j - M) : ℝ) : EReal) else 0 := fun j => by
    rw [probT_at]
    simp only [he]
    rw [sum_cut 9216 (D.n b) (H.top b) fun j => ((Real.exp (D.z b f h i j - M) : ℝ) : EReal), coe_sum]
    split
    · exact ideal_div _ _ hS.ne'
    · rw [Ideal.div_coe hS.ne', zero_mul]
  rw [ctxT_at, ← exp_ratio _ _ _ M, ← sum_cut 9216 (D.n b) (H.top b)]
  refine Finset.sum_congr rfl fun x _ => ?_
  rw [hp x, H.v]
  split
  · unfold Data.w; rw [key_val]; rfl
  · rw [mul_zero]

theorem attn_real (H : Of D n q sq k sk v) (wo : FVec Ideal S256x256 .bf16) (b : Fin 2) (f : Fin 13) (i : Fin 9216) (e : Fin 256) :
    attnT n q sq k sk v wo (ix4 b f i e) = D.out (fun a c => wo (ix2 a c)) b f i e := by
  unfold attnT
  rw [outT_at]
  unfold Data.out
  refine Finset.sum_congr rfl fun d _ => Finset.sum_congr rfl fun h _ => ?_
  rw [ctx_real H]
  rfl

end Cert.ReferenceIdeal.Ref
end
-- ==== Proof.KVal.lean ====
/-
  The kernel's result arrays: at every grid point the body's operands are blocks of the arguments, and the blocks it
  writes back are the attention's.
-/
module

public import proofs.«01_k».proof.Proof.Loops
public import proofs.«01_k».proof.Proof.Frames
public import proofs.«01_k».proof.Proof.RefVal
public import Idealize.ShloMosaic.Lib.Pipeline.ValueKit

@[expose] public section

set_option maxRecDepth 16384

noncomputable section

namespace Cert.KernelIdeal.Row

open Cert.KernelIdeal Cert.KernelIdeal.Facts₀ Cert.KernelIdeal.Facts Cert.KernelIdeal.Gen Cert.Attn
open Idealize.ShloMosaic Idealize.ShloMosaic.TcCoe Idealize.ShloMosaic.Tactic
open Idealize.SL.Sem

variable (m : (ℓ : Loc nD τ sig) → Buf (Elt Ideal) ℓ)

/-! ## The blocks -/

/-- A grid point's batch row, its field and its tile of queries. -/
def gb (t : Fin (cfgA m).N) : Fin 2 := grid0.coords t 0
def gf (t : Fin (cfgA m).N) : Fin 13 := grid0.coords t 1
def gt (t : Fin (cfgA m).N) : Fin 9 := grid0.coords t 2
/-- A query of the tile among all. -/
def gq (t : Fin (cfgA m).N) (r : Fin 1024) : Fin 9216 := ⟨(gt m t).val * 1024 + r.val, by have := (gt m t).isLt; omega⟩

theorem w0 (t : Fin (cfgA m).N) : (BitVec.ofNat 32 (grid0.coords t 0).val).toNat = (gb m t).val := by
  have : (gb m t).val < 2 := (gb m t).isLt
  show (gb m t).val % 2 ^ 32 = _
  omega
theorem w1 (t : Fin (cfgA m).N) : (BitVec.ofNat 32 (grid0.coords t 1).val).toNat = (gf m t).val := by
  have : (gf m t).val < 13 := (gf m t).isLt
  show (gf m t).val % 2 ^ 32 = _
  omega
theorem w2 (t : Fin (cfgA m).N) : (BitVec.ofNat 32 (grid0.coords t 2).val).toNat = (gt m t).val := by
  have : (gt m t).val < 9 := (gt m t).isLt
  show (gt m t).val % 2 ^ 32 = _
  omega

theorem emb_q (t : Fin (cfgA m).N) (d : Fin 256) (r : Fin 1024) :
    (((cfgA m).win 0).blk t).view.emb (ix4 0 0 d r : S1x1x256x1024.Idx) = (ix4 (gb m t) (gf m t) d (gq m t r) : S2x13x256x9216.Idx) := funext fun a => match a with
  | ⟨0, _⟩ => Fin.ext (show (BitVec.ofNat 32 (grid0.coords t 0).val).toNat * 1 + 1 * 0 = (gb m t).val by rw [w0]; omega)
  | ⟨1, _⟩ => Fin.ext (show (BitVec.ofNat 32 (grid0.coords t 1).val).toNat * 1 + 1 * 0 = (gf m t).val by rw [w1]; omega)
  | ⟨2, _⟩ => Fin.ext (show 0 * 256 + 1 * d.val = d.val by omega)
  | ⟨3, _⟩ => Fin.ext (show (BitVec.ofNat 32 (grid0.coords t 2).val).toNat * 1024 + 1 * r.val = (gt m t).val * 1024 + r.val by rw [w2]; omega)
theorem emb_sq (t : Fin (cfgA m).N) (h : Fin 4) (r : Fin 1024) :
    (((cfgA m).win 1).blk t).view.emb (ix4 0 0 h r : S1x1x4x1024.Idx) = (ix4 (gb m t) (gf m t) h (gq m t r) : S2x13x4x9216.Idx) := funext fun a => match a with
  | ⟨0, _⟩ => Fin.ext (show (BitVec.ofNat 32 (grid0.coords t 0).val).toNat * 1 + 1 * 0 = (gb m t).val by rw [w0]; omega)
  | ⟨1, _⟩ => Fin.ext (show (BitVec.ofNat 32 (grid0.coords t 1).val).toNat * 1 + 1 * 0 = (gf m t).val by rw [w1]; omega)
  | ⟨2, _⟩ => Fin.ext (show 0 * 4 + 1 * h.val = h.val by omega)
  | ⟨3, _⟩ => Fin.ext (show (BitVec.ofNat 32 (grid0.coords t 2).val).toNat * 1024 + 1 * r.val = (gt m t).val * 1024 + r.val by rw [w2]; omega)
theorem emb_k (t : Fin (cfgA m).N) (j : Fin 9216) (d : Fin 256) :
    (((cfgA m).win 2).blk t).view.emb (ix4 0 0 j d : S1x1x9216x256.Idx) = (ix4 (gb m t) (gf m t) j d : S2x13x9216x256.Idx) := funext fun a => match a with
  | ⟨0, _⟩ => Fin.ext (show (BitVec.ofNat 32 (grid0.coords t 0).val).toNat * 1 + 1 * 0 = (gb m t).val by rw [w0]; omega)
  | ⟨1, _⟩ => Fin.ext (show (BitVec.ofNat 32 (grid0.coords t 1).val).toNat * 1 + 1 * 0 = (gf m t).val by rw [w1]; omega)
  | ⟨2, _⟩ => Fin.ext (show 0 * 9216 + 1 * j.val = j.val by omega)
  | ⟨3, _⟩ => Fin.ext (show 0 * 256 + 1 * d.val = d.val by omega)
theorem emb_sk (t : Fin (cfgA m).N) (h : Fin 4) (j : Fin 9216) :
    (((cfgA m).win 3).blk t).view.emb (ix4 0 0 h j : S1x1x4x9216.Idx) = (ix4 (gb m t) (gf m t) h j : S2x13x4x9216.Idx) := funext fun a => match a with
  | ⟨0, _⟩ => Fin.ext (show (BitVec.ofNat 32 (grid0.coords t 0).val).toNat * 1 + 1 * 0 = (gb m t).val by rw [w0]; omega)
  | ⟨1, _⟩ => Fin.ext (show (BitVec.ofNat 32 (grid0.coords t 1).val).toNat * 1 + 1 * 0 = (gf m t).val by rw [w1]; omega)
  | ⟨2, _⟩ => Fin.ext (show 0 * 4 + 1 * h.val = h.val by omega)
  | ⟨3, _⟩ => Fin.ext (show 0 * 9216 + 1 * j.val = j.val by omega)
theorem emb_v (t : Fin (cfgA m).N) (d : Fin 256) (j : Fin 9216) :
    (((cfgA m).win 4).blk t).view.emb (ix4 0 0 d j : S1x1x256x9216.Idx) = (ix4 (gb m t) (gf m t) d j : S2x13x256x9216.Idx) := funext fun a => match a with
  | ⟨0, _⟩ => Fin.ext (show (BitVec.ofNat 32 (grid0.coords t 0).val).toNat * 1 + 1 * 0 = (gb m t).val by rw [w0]; omega)
  | ⟨1, _⟩ => Fin.ext (show (BitVec.ofNat 32 (grid0.coords t 1).val).toNat * 1 + 1 * 0 = (gf m t).val by rw [w1]; omega)
  | ⟨2, _⟩ => Fin.ext (show 0 * 256 + 1 * d.val = d.val by omega)
  | ⟨3, _⟩ => Fin.ext (show 0 * 9216 + 1 * j.val = j.val by omega)
theorem emb_x (t : Fin (cfgA m).N) (i : Fin 1024) (e : Fin 256) :
    (((cfgA m).win 5).blk t).view.emb (ix4 0 0 i e : S1x1x1024x256.Idx) = (ix4 (gb m t) (gf m t) (gq m t i) e : S2x13x9216x256.Idx) := funext fun a => match a with
  | ⟨0, _⟩ => Fin.ext (show (BitVec.ofNat 32 (grid0.coords t 0).val).toNat * 1 + 1 * 0 = (gb m t).val by rw [w0]; omega)
  | ⟨1, _⟩ => Fin.ext (show (BitVec.ofNat 32 (grid0.coords t 1).val).toNat * 1 + 1 * 0 = (gf m t).val by rw [w1]; omega)
  | ⟨2, _⟩ => Fin.ext (show (BitVec.ofNat 32 (grid0.coords t 2).val).toNat * 1024 + 1 * i.val = (gt m t).val * 1024 + i.val by rw [w2]; omega)
  | ⟨3, _⟩ => Fin.ext (show 0 * 256 + 1 * e.val = e.val by omega)
theorem emb_w (t : Fin (cfgA m).N) (a c : Fin 256) :
    (((cfgA m).win 6).blk t).view.emb (ix2 a c : S256x256.Idx) = (ix2 a c : S256x256.Idx) := funext fun x => match x with
  | ⟨0, _⟩ => Fin.ext (show 0 * 256 + 1 * a.val = a.val by omega)
  | ⟨1, _⟩ => Fin.ext (show 0 * 256 + 1 * c.val = c.val by omega)
theorem emb_res (t : Fin (cfgA m).N) (i : Fin 1024) (e : Fin 256) :
    (((cfgA m).win 7).blk t).view.emb (ix4 0 0 i e : S1x1x1024x256.Idx) = (ix4 (gb m t) (gf m t) (gq m t i) e : S2x13x9216x256.Idx) := emb_x m t i e
theorem emb_out (t : Fin (cfgA m).N) (i : Fin 1024) (e : Fin 256) :
    (((cfgA m).win 8).blk t).view.emb (ix4 0 0 i e : S1x1x1024x256.Idx) = (ix4 (gb m t) (gf m t) (gq m t i) e : S2x13x9216x256.Idx) := emb_x m t i e

/-- An operand window's buffer is the window's block, whether or not this point fetched it. -/
theorem held_eq (c : Dev nD) (w : Fin (cfgA m).W) (hw : ((cfgA m).win w).isOut = false)
    (hc : ∀ t t' : Fin (cfgA m).N, ((cfgA m).win w).index t = ((cfgA m).win w).index t' → ((cfgA m).win w).clip ((cfgA m).grid.coords t) = ((cfgA m).win w).clip ((cfgA m).grid.coords t')) :
    ∀ (n : ℕ) (h : n < (cfgA m).N), held m c w n h = (dats m 0 c).fetched w ⟨n, h⟩ (fun _ => Classical.arbitrary _)
  | 0, _ => rfl
  | n + 1, h => by
    by_cases hf : ((cfgA m).win w).fetch ⟨n + 1, h⟩ = true
    · exact Pipeline.heldIn_of_fetch (cfg := cfgA m) (arrs m c) w ⟨n + 1, h⟩ hf
    · rw [Bool.not_eq_true] at hf
      obtain ⟨-, hix⟩ := ((cfgA m).win w).index_eq_of_fetch hw ⟨n + 1, h⟩ hf
      exact (Pipeline.heldIn_of_not_fetch (cfg := cfgA m) (arrs m c) w n h hf).trans
        ((held_eq c w hw hc n (Nat.lt_of_succ_lt h)).trans ((dats m 0 c).fetched_congr w hix.symm (hc _ _ hix.symm) _))

theorem held_q (c : Dev nD) (t : Fin (cfgA m).N) (d : Fin 256) (r : Fin 1024) :
    held m c 0 t.val t.isLt (ix4 0 0 d r : S1x1x256x1024.Idx) = V m c main_v0 (ix4 (gb m t) (gf m t) d (gq m t r) : S2x13x256x9216.Idx) :=
  (congrFun (held_eq m c 0 rfl (fun _ _ _ => rfl) t.val t.isLt) _).trans (congrArg (V m c main_v0) (emb_q m t d r))
theorem held_sq (c : Dev nD) (t : Fin (cfgA m).N) (h : Fin 4) (r : Fin 1024) :
    held m c 1 t.val t.isLt (ix4 0 0 h r : S1x1x4x1024.Idx) = V m c main_arg2 (ix4 (gb m t) (gf m t) h (gq m t r) : S2x13x4x9216.Idx) :=
  (congrFun (held_eq m c 1 rfl (fun _ _ _ => rfl) t.val t.isLt) _).trans (congrArg (V m c main_arg2) (emb_sq m t h r))
theorem held_k (c : Dev nD) (t : Fin (cfgA m).N) (j : Fin 9216) (d : Fin 256) :
    held m c 2 t.val t.isLt (ix4 0 0 j d : S1x1x9216x256.Idx) = V m c main_v1 (ix4 (gb m t) (gf m t) j d : S2x13x9216x256.Idx) :=
  (congrFun (held_eq m c 2 rfl (fun _ _ _ => rfl) t.val t.isLt) _).trans (congrArg (V m c main_v1) (emb_k m t j d))
theorem held_sk (c : Dev nD) (t : Fin (cfgA m).N) (h : Fin 4) (j : Fin 9216) :
    held m c 3 t.val t.isLt (ix4 0 0 h j : S1x1x4x9216.Idx) = V m c main_arg4 (ix4 (gb m t) (gf m t) h j : S2x13x4x9216.Idx) :=
  (congrFun (held_eq m c 3 rfl (fun _ _ _ => rfl) t.val t.isLt) _).trans (congrArg (V m c main_arg4) (emb_sk m t h j))
theorem held_v (c : Dev nD) (t : Fin (cfgA m).N) (d : Fin 256) (j : Fin 9216) :
    held m c 4 t.val t.isLt (ix4 0 0 d j : S1x1x256x9216.Idx) = V m c main_arg5 (ix4 (gb m t) (gf m t) d j : S2x13x256x9216.Idx) :=
  (congrFun (held_eq m c 4 rfl (fun _ _ _ => rfl) t.val t.isLt) _).trans (congrArg (V m c main_arg5) (emb_v m t d j))
theorem held_x (c : Dev nD) (t : Fin (cfgA m).N) (i : Fin 1024) (e : Fin 256) :
    held m c 5 t.val t.isLt (ix4 0 0 i e : S1x1x1024x256.Idx) = V m c main_arg6 (ix4 (gb m t) (gf m t) (gq m t i) e : S2x13x9216x256.Idx) :=
  (congrFun (held_eq m c 5 rfl (fun _ _ _ => rfl) t.val t.isLt) _).trans (congrArg (V m c main_arg6) (emb_x m t i e))
theorem held_w (c : Dev nD) (t : Fin (cfgA m).N) (a e : Fin 256) :
    held m c 6 t.val t.isLt (ix2 a e : S256x256.Idx) = V m c main_arg7 (ix2 a e : S256x256.Idx) :=
  (congrFun (held_eq m c 6 rfl (fun _ _ _ => rfl) t.val t.isLt) _).trans (congrArg (V m c main_arg7) (emb_w m t a e))

end Cert.KernelIdeal.Row
end
-- ==== Proof.KEnd.lean ====
/-
  The kernel's results over real arguments.
-/
module

public import proofs.«01_k».proof.Proof.KVal
public import Idealize.ShloMosaic.Lib.Pipeline.Covers

@[expose] public section

set_option maxRecDepth 16384

noncomputable section

namespace Cert.KernelIdeal.Row

open Cert.KernelIdeal Cert.KernelIdeal.Gen Cert.Attn
open Idealize.ShloMosaic Idealize.ShloMosaic.TcCoe Idealize.ShloMosaic.Tactic
open Idealize.SL.Sem

variable (m : (ℓ : Loc nD τ sig) → Buf (Elt Ideal) ℓ)

/-- The cast arrays are the arguments. -/
theorem V_v0 (c : Dev nD) : V m c main_v0 = (truncf .fp8e4m3 (show FVec Ideal S2x13x256x9216 .f32 from m ((c : Thread nD τ).loc main_arg1)) bitsLt_fp8e4m3_f32 : FVec Ideal S2x13x256x9216 .fp8e4m3) := by
  unfold V
  after_reads_simp
  rfl
theorem V_v1 (c : Dev nD) : V m c main_v1 = (truncf .fp8e4m3 (show FVec Ideal S2x13x9216x256 .f32 from m ((c : Thread nD τ).loc main_arg3)) bitsLt_fp8e4m3_f32 : FVec Ideal S2x13x9216x256 .fp8e4m3) := by
  unfold V
  after_reads_simp
  rfl

/-- The row length at a grid point is the table's word for its batch row. -/
theorem nAt_eq (t : Fin (cfgA m).N) : nAt m t.val t.isLt = tab m (ix1 (gb m t)) :=
  congrArg (tab m) (funext fun a => match a with
    | ⟨0, _⟩ => Fin.ext (show (BitVec.ofNat 32 (grid0.coords t 0).val).toNat + 1 * 0 = (gb m t).val by rw [w0]; omega))

/-- The arguments as the reference names them. -/
abbrev OfM (D : Data) (c : Dev nD) : Prop :=
  Cert.ReferenceIdeal.Ref.Of D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {D : Data}

/-- The real numbers a grid point's operands are. -/
def reals (D : Data) (b : Fin 2) (f : Fin 13) (g : Fin 1024 → Fin 9216) : Reals :=
  ⟨fun d r => D.q b f d (g r), fun h r => D.sq b f h (g r), D.k b f, D.sk b f, D.v b f⟩

theorem is_at (c : Dev nD) (H : OfM m D c) (hz : ∀ b f d (j : Fin 9216), D.n b ≤ j.val → D.v b f d j = 0) (t : Fin (cfgA m).N) :
    Is (D.n (gb m t)) (inAt m c t.val t.isLt) (reals D (gb m t) (gf m t) (gq m t)) where
  q d r := ((held_q m c t d r).trans (congrFun (V_v0 m c) _)).trans (H.q _ _ _ _)
  sq h r := ((held_sq m c t h r).trans (congrFun (V_arg m c main_arg2 (by decide) (by decide)) _)).trans (H.sq _ _ _ _)
  k j d hj := ((held_k m c t j d).trans (congrFun (V_v1 m c) _)).trans (H.k _ _ _ _ hj)
  sk h j hj := ((held_sk m c t h j).trans (congrFun (V_arg m c main_arg4 (by decide) (by decide)) _)).trans (H.sk _ _ _ _ hj)
  v d j := ((held_v m c t d j).trans (congrFun (V_arg m c main_arg5 (by decide) (by decide)) _)).trans (H.v _ _ _ _)
  v0 d j hj := hz _ _ _ _ hj

/-- A tile's mean is the attention's. -/
theorem mean_eq (b : Fin 2) (f : Fin 13) (g : Fin 1024 → Fin 9216) (w : Vec Ideal S256x256 .bf16) (wo : Fin 256 → Fin 256 → EReal) (hw : ∀ a e, w (ix2 a e) = wo a e)
    (i : Fin 1024) (e : Fin 256) : mean (D.n b) (reals D b f g) w i e = D.out wo b f (g i) e := by
  unfold mean Data.out
  refine Finset.sum_congr rfl fun d _ => Finset.sum_congr rfl fun h _ => ?_
  have ez : zz (reals D b f g) h i = D.z b f h (g i) := funext fun j =>
    congrArg (fun s : ℝ => s * (D.sq b f h (g i) * D.sk b f h (key j) * (1 / 8))) (Finset.sum_congr rfl fun x _ => mul_comm _ _)
  have ew : (fun j => (reals D b f g).v (hrow h d) (key j)) = D.w b f h d := rfl
  rw [ez, ew, hw]

/-- What the body leaves in the two result windows at a grid point. -/
theorem point (c : Dev nD) (H : OfM m D c) (hz : ∀ b f d (j : Fin 9216), D.n b ≤ j.val → D.v b f d j = 0) (hN : ∀ n hn, InRange (nAt m n hn))
    (A : FVec Ideal S2x13x9216x256 .f32) (X : FVec Ideal S2x13x9216x256 .f32) (hX : ∀ y, X y = m ((c : Thread nD τ).loc main_arg6) y)
    (wo : Fin 256 → Fin 256 → EReal) (hw : ∀ a e, (m ((c : Thread nD τ).loc main_arg7) : FVec Ideal S256x256 .bf16) (ix2 a e) = wo a e)
    (hA : ∀ b f i e, A (ix4 b f i e) = D.out wo b f i e) (t : Fin (cfgA m).N) (i : Fin 1024) (e : Fin 256) :
    (results (nAt m t.val t.isLt) (inAt m c t.val t.isLt)).1 (ix4 0 0 i e) = (X (ix4 (gb m t) (gf m t) (gq m t i) e) : EReal) + (A (ix4 (gb m t) (gf m t) (gq m t i) e) : EReal)
    ∧ (results (nAt m t.val t.isLt) (inAt m c t.val t.isLt)).2 (ix4 0 0 i e) = (A (ix4 (gb m t) (gf m t) (gq m t i) e) : EReal) := by
  have hn : (nAt m t.val t.isLt).toNat = D.n (gb m t) := by
    rw [nAt_eq]
    obtain rfl : c = 0 := Subsingleton.elim _ _
    exact H.n (gb m t)
  have hI := is_at m c H hz t
  rw [← hn] at hI
  obtain ⟨r1, r2⟩ := results_at (hN t.val t.isLt) hI i e
  have em := mean_eq (D := D) (gb m t) (gf m t) (gq m t) (inAt m c t.val t.isLt).w wo
    (fun a e => ((held_w m c t a e).trans (congrFun (V_arg m c main_arg7 (by decide) (by decide)) _)).trans (hw a e)) i e
  rw [← hn] at em
  have ex : (inAt m c t.val t.isLt).x (ix4 0 0 i e) = X (ix4 (gb m t) (gf m t) (gq m t i) e) :=
    ((held_x m c t i e).trans (congrFun (V_arg m c main_arg6 (by decide) (by decide)) _)).trans (hX _).symm
  rw [r1, r2, em, ex, hA]
  exact ⟨rfl, rfl⟩

theorem block_ix (y : S1x1x1024x256.Idx) : y = (ix4 0 0 (y 2) (y 3) : S1x1x1024x256.Idx) := funext fun a => match a with
  | ⟨0, _⟩ => Subsingleton.elim (α := Fin 1) _ _
  | ⟨1, _⟩ => Subsingleton.elim (α := Fin 1) _ _
  | ⟨2, _⟩ => rfl
  | ⟨3, _⟩ => rfl

theorem surj7 : ∀ β : (a : Fin 4) → Fin ((![2, 13, 9, 1] : Fin 4 → ℕ) a), ∃ i : grid0.Coords, ∀ a, cc0_transform_7 i a = β a := by decide +kernel

theorem nblk7 (a : Fin 4) : ((cfgA m).win 7).nblk a = (![2, 13, 9, 1] : Fin 4 → ℕ) a := match a with
  | ⟨0, _⟩ => (by decide : (2 + 1 - 1) / 1 = (![2, 13, 9, 1] : Fin 4 → ℕ) 0)
  | ⟨1, _⟩ => (by decide : (13 + 1 - 1) / 1 = (![2, 13, 9, 1] : Fin 4 → ℕ) 1)
  | ⟨2, _⟩ => (by decide : (9216 + 1024 - 1) / 1024 = (![2, 13, 9, 1] : Fin 4 → ℕ) 2)
  | ⟨3, _⟩ => (by decide : (256 + 256 - 1) / 256 = (![2, 13, 9, 1] : Fin 4 → ℕ) 3)
theorem size7 : ∀ a : Fin 4, 0 < S1x1x1024x256.size a := by decide

theorem cov7 : ((cfgA m).win 7).Covers :=
  ((cfgA m).win 7).covers_of_indexMap_surj rfl size7 fun β => surj7 fun a => (β a).cast (nblk7 m a)
theorem cov8 : ((cfgA m).win 8).Covers :=
  ((cfgA m).win 8).covers_of_indexMap_surj rfl size7 fun β => surj7 fun a => (β a).cast (nblk7 m a)

/-- The first result array: the attention added to the input. -/
theorem final_7 (c : Dev nD) (H : OfM m D c) (hz : ∀ b f d (j : Fin 9216), D.n b ≤ j.val → D.v b f d j = 0) (hN : ∀ n hn, InRange (nAt m n hn))
    (A : FVec Ideal S2x13x9216x256 .f32) (X : FVec Ideal S2x13x9216x256 .f32) (hX : ∀ y, X y = m ((c : Thread nD τ).loc main_arg6) y)
    (wo : Fin 256 → Fin 256 → EReal) (hw : ∀ a e, (m ((c : Thread nD τ).loc main_arg7) : FVec Ideal S256x256 .bf16) (ix2 a e) = wo a e)
    (hA : ∀ b f i e, A (ix4 b f i e) = D.out wo b f i e) :
    (dats m 0 c).arrAt 7 (cfgA m).N = (truncf (F := Ideal) .bf16 (addf X A) bitsLt_bf16_f32 : FVec Ideal S2x13x9216x256 .bf16) := by
  refine (dats m 0 c).arrAt_eq_of_covers 7 _ (cov7 m) fun t hf y => ?_
  have key : ∀ y : S1x1x1024x256.Idx, (results (nAt m t.val t.isLt) (inAt m c t.val t.isLt)).1 y
      = ((truncf (F := Ideal) .bf16 (addf X A) bitsLt_bf16_f32 : FVec Ideal S2x13x9216x256 .bf16)) ((((cfgA m).win 7).blk t).view.emb y) := fun y => by
    have e := (point m c H hz hN A X hX wo hw hA t (y 2) (y 3)).1
    rw [← block_ix y] at e
    have em := emb_res m t (y 2) (y 3)
    rw [← block_ix y] at em
    exact e.trans (congrArg (truncf (F := Ideal) .bf16 (addf X A) bitsLt_bf16_f32 : FVec Ideal S2x13x9216x256 .bf16) em).symm
  exact key y

/-- The second result array: the attention. -/
theorem final_8 (c : Dev nD) (H : OfM m D c) (hz : ∀ b f d (j : Fin 9216), D.n b ≤ j.val → D.v b f d j = 0) (hN : ∀ n hn, InRange (nAt m n hn))
    (A : FVec Ideal S2x13x9216x256 .f32) (X : FVec Ideal S2x13x9216x256 .f32) (hX : ∀ y, X y = m ((c : Thread nD τ).loc main_arg6) y)
    (wo : Fin 256 → Fin 256 → EReal) (hw : ∀ a e, (m ((c : Thread nD τ).loc main_arg7) : FVec Ideal S256x256 .bf16) (ix2 a e) = wo a e)
    (hA : ∀ b f i e, A (ix4 b f i e) = D.out wo b f i e) :
    (dats m 0 c).arrAt 8 (cfgA m).N = (truncf (F := Ideal) .bf16 A bitsLt_bf16_f32 : FVec Ideal S2x13x9216x256 .bf16) := by
  refine (dats m 0 c).arrAt_eq_of_covers 8 _ (cov8 m) fun t hf y => ?_
  have key : ∀ y : S1x1x1024x256.Idx, (results (nAt m t.val t.isLt) (inAt m c t.val t.isLt)).2 y
      = ((truncf (F := Ideal) .bf16 A bitsLt_bf16_f32 : FVec Ideal S2x13x9216x256 .bf16)) ((((cfgA m).win 8).blk t).view.emb y) := fun y => by
    have e := (point m c H hz hN A X hX wo hw hA t (y 2) (y 3)).2
    rw [← block_ix y] at e
    have em := emb_out m t (y 2) (y 3)
    rw [← block_ix y] at em
    exact e.trans (congrArg (truncf (F := Ideal) .bf16 A bitsLt_bf16_f32 : FVec Ideal S2x13x9216x256 .bf16) em).symm
  exact key y

end Cert.KernelIdeal.Row
end
-- ==== Proof.KPre.lean ====
/-
  What the precondition says of the arguments, element by element.
-/
module

public import proofs.«01_k».proof.Proof.Frames
public import proofs.«01_k».proof.Proof.RefVal
public import proofs.«01_k».proof.Proof.Gen.Pre_finite_inputs
public import Idealize.ShloMosaic.Lib.ReduceAll
public import Idealize.ShloMosaic.Lib.WordCmp

@[expose] public section

set_option maxRecDepth 16384

noncomputable section

namespace Cert.Pre_finite_inputs.Ref

open Cert.Pre_finite_inputs Cert.Pre_finite_inputs.Gen Cert.Attn
open Idealize.ShloMosaic Idealize.ShloMosaic.TcCoe

theorem and_both {s : Shape} {p q : s.Idx → BitVec 1} {j : s.Idx} (h : andi p q j = 1#1) : p j = 1#1 ∧ q j = 1#1 :=
  (by decide : ∀ a b : BitVec 1, IntOp.andi a b = 1#1 → a = 1#1 ∧ b = 1#1) _ _ h

theorem or_one {s : Shape} {p q : s.Idx → BitVec 1} {j : s.Idx} (h : ori p q j = 1#1) : p j = 1#1 ∨ q j = 1#1 :=
  (by decide : ∀ a b : BitVec 1, IntOp.ori a b = 1#1 → a = 1#1 ∨ b = 1#1) _ _ h

theorem inf32 : Ideal.ofBits .f32 0x7F800000#32 = ⊤ := by simp [Ideal.ofBits, Ideal.ieee]
theorem zero16 : Ideal.ofBits .bf16 0x0000#16 = 0 := by simp [Ideal.ofBits, Ideal.ieee]

/-- A broadcast constant, at an element. -/
theorem const32 {s : Shape} {u : Shape} (dims : Fin u.rank → Fin s.rank) (hb : u.BroadcastsInDim s dims) (w : BitVec 32) (j : s.Idx) :
    broadcastInDim s dims hb (constant (F := Ideal) u .f32 w) j = Ideal.ofBits .f32 w := rfl
theorem const16 {s : Shape} {u : Shape} (dims : Fin u.rank → Fin s.rank) (hb : u.BroadcastsInDim s dims) (w : BitVec 16) (j : s.Idx) :
    broadcastInDim s dims hb (constant (F := Ideal) u .bf16 w) j = Ideal.ofBits .bf16 w := rfl

/-- A number whose magnitude is below infinity is real. -/
theorem real_of {s : Shape} {φ : FTy} (x c : FVec Ideal s φ) (j : s.Idx) (hc : c j = (⊤ : EReal)) (h : cmpf .olt (Host.absf x) c j = 1#1) :
    (x j : EReal) = (((x j : EReal).toReal : ℝ) : EReal) := by
  have e : max (x j : EReal) (-(x j : EReal)) < (c j : EReal) := (Ideal.cmp_olt_eq_one _ _).1 h
  rw [hc] at e
  have e1 : (x j : EReal) < ⊤ := lt_of_le_of_lt (le_max_left _ _) e
  have e2 : -(x j : EReal) < ⊤ := lt_of_le_of_lt (le_max_right _ _) e
  refine (EReal.coe_toReal e1.ne ?_).symm
  intro hb
  rw [hb, EReal.neg_bot] at e2
  exact lt_irrefl _ e2

variable {x0 : IVec S2 32} {x1 : FVec Ideal S2x13x256x9216 .f32} {x2 : FVec Ideal S2x13x4x9216 .f32} {x3 : FVec Ideal S2x13x9216x256 .f32} {x4 : FVec Ideal S2x13x4x9216 .f32}
  {x5 : FVec Ideal S2x13x256x9216 .bf16} {x6 : FVec Ideal S2x13x9216x256 .f32} {x7 : FVec Ideal S256x256 .bf16}

/-- Whether row `j` is at or past the row count. -/
theorem sge_at {n : BitVec 32} (h : Cert.KernelIdeal.Row.InRange n) (j : Fin 9216) : IntOp.cmpi .sge (BitVec.ofNat 32 j.val) n = BitVec.ofBool (decide (n.toNat ≤ j.val)) := by
  have := h.top
  have hm : (BitVec.ofNat 32 j.val).toNat = j.val := by rw [BitVec.toNat_ofNat]; exact Nat.mod_eq_of_lt (by omega)
  rw [WordCmp.cmpi_sge_of_lt (by rw [hm]; omega) (by omega), hm]

theorem bit_of {p : Prop} [Decidable p] (h : BitVec.ofBool (decide p) = 1#1) : p :=
  of_decide_eq_true ((by decide : ∀ b : Bool, BitVec.ofBool b = 1#1 → b = true) _ h)
theorem bit_not {p : Prop} [Decidable p] (h : ~~~(BitVec.ofBool (decide p)) = 1#1) : ¬ p :=
  of_decide_eq_false ((by decide : ∀ b : Bool, ~~~(BitVec.ofBool b) = 1#1 → b = false) _ h)

/-- Every part of the precondition, at its elements. -/
theorem parts (h : fn (F := Ideal) x0 x1 x2 x3 x4 x5 x6 x7 = fun _ => 1#1) :
    (∀ j, Cert.KernelIdeal.Row.InRange (x0 j))
    ∧ (∀ (b : Fin 2) (f : Fin 13) (d : Fin 256) (j : Fin 9216), (x0 (ix1 b)).toNat ≤ j.val → (x5 (ix4 b f d j) : EReal) = 0)
    ∧ (∀ y, (x1 y : EReal) = (((x1 y : EReal).toReal : ℝ) : EReal))
    ∧ (∀ y, (x2 y : EReal) = (((x2 y : EReal).toReal : ℝ) : EReal))
    ∧ (∀ (b : Fin 2) (f : Fin 13) (j : Fin 9216) (d : Fin 256), j.val < (x0 (ix1 b)).toNat → (x3 (ix4 b f j d) : EReal) = (((x3 (ix4 b f j d) : EReal).toReal : ℝ) : EReal))
    ∧ (∀ (b : Fin 2) (f : Fin 13) (h : Fin 4) (j : Fin 9216), j.val < (x0 (ix1 b)).toNat → (x4 (ix4 b f h j) : EReal) = (((x4 (ix4 b f h j) : EReal).toReal : ℝ) : EReal)) := by
  have e := congrFun h (Shape.Idx.first Facts.h_S_)
  obtain ⟨e, gsk⟩ := and_both e
  obtain ⟨e, gk⟩ := and_both e
  obtain ⟨e, g2⟩ := and_both e
  obtain ⟨e, g1⟩ := and_both e
  obtain ⟨g0, gv⟩ := and_both e
  have r : ∀ j, Cert.KernelIdeal.Row.InRange (x0 j) := fun j =>
    Cert.KernelIdeal.Row.range_of_and x0 _ _ (fun _ => rfl) (fun _ => rfl) (fun i => Host.reduce_andi_all _ _ _ _ _ g0 i) j
  refine ⟨r, fun b f d j hj => ?_, fun y => real_of x1 _ y ((const32 _ _ _ _).trans inf32) (Host.reduce_andi_all _ _ _ _ _ g1 y),
    fun y => real_of x2 _ y ((const32 _ _ _ _).trans inf32) (Host.reduce_andi_all _ _ _ _ _ g2 y), fun b f j d hj => ?_, fun b f h j hj => ?_⟩
  · rcases or_one (Host.reduce_andi_all _ _ _ _ _ gv (ix4 b f d j)) with hl | hz
    · have hl' : ~~~(IntOp.cmpi .sge (BitVec.ofNat 32 j.val) (x0 (ix1 b))) = 1#1 := by
        refine Eq.trans ?_ hl
        pointwise
      rw [sge_at (r _)] at hl'
      exact absurd hj (bit_not hl')
    · exact ((Ideal.cmp_oeq_eq_one _ _).1 hz).trans ((const16 _ _ _ _).trans zero16)
  · rcases or_one (Host.reduce_andi_all _ _ _ _ _ gk (ix4 b f j d)) with hl | hz
    · have hl' : IntOp.cmpi .sge (BitVec.ofNat 32 j.val) (x0 (ix1 b)) = 1#1 := by
        refine Eq.trans ?_ hl
        pointwise
      rw [sge_at (r _)] at hl'
      exact absurd (bit_of hl') (Nat.not_le.2 hj)
    · exact real_of x3 _ _ ((const32 _ _ _ _).trans inf32) hz
  · rcases or_one (Host.reduce_andi_all _ _ _ _ _ gsk (ix4 b f h j)) with hl | hz
    · have hl' : IntOp.cmpi .sge (BitVec.ofNat 32 j.val) (x0 (ix1 b)) = 1#1 := by
        refine Eq.trans ?_ hl
        pointwise
      rw [sge_at (r _)] at hl'
      exact absurd (bit_of hl') (Nat.not_le.2 hj)
    · exact real_of x4 _ _ ((const32 _ _ _ _).trans inf32) hz

end Cert.Pre_finite_inputs.Ref
end
-- ==== Proof.RefEnd.lean ====
/-
  The reference's run: its two results are the attention of its arguments.
-/
module

public import proofs.«01_k».proof.Proof.RefVal
public import proofs.«01_k».proof.Proof.Gen.ReferenceIdeal.Frame
public import Idealize.ShloMosaic.Lib.Pipeline.ValueKit

@[expose] public section

set_option maxRecDepth 16384

noncomputable section

namespace Cert.ReferenceIdeal.Ref

open Cert.ReferenceIdeal Cert.ReferenceIdeal.Facts Cert.ReferenceIdeal.Gen
open Idealize.ShloMosaic Idealize.ShloMosaic.TcCoe Idealize.ShloMosaic.Tactic
open Idealize.SL.Sem

variable (m : (ℓ : Loc nD τ sig) → Buf (Elt Ideal) ℓ)

/-- At the one grid point every block is the whole array. -/
theorem idx : ∀ t : Fin cfg0.N, win0_0.index t = ![0, 0, 0, 0] ∧ win0_1.index t = ![0, 0, 0, 0] ∧ win0_2.index t = ![0, 0, 0, 0] ∧ win0_3.index t = ![0, 0, 0, 0] :=
  (by decide +kernel : ∀ t : Fin grid0.N, _)

theorem canon0 (p : Vec Ideal S2x13x256x9216 .f32) (y : S2x13x256x9216.Idx) : View.canon [(⟨r0_0, p⟩ : View.Piece (Elt Ideal) S2x13x256x9216 .f32)] y = p y := by
  have e : r0_0.emb y = y := funext fun a => match a with
    | ⟨0, _⟩ => Fin.ext (show 0 + 1 * (y 0).val = (y 0).val by omega)
    | ⟨1, _⟩ => Fin.ext (show 0 + 1 * (y 1).val = (y 1).val by omega)
    | ⟨2, _⟩ => Fin.ext (show 0 + 1 * (y 2).val = (y 2).val by omega)
    | ⟨3, _⟩ => Fin.ext (show 0 + 1 * (y 3).val = (y 3).val by omega)
  have := View.canon_cons_emb r0_0 p [] y
  rwa [e] at this

theorem canon1 (p : Vec Ideal S2x13x9216x256 .f32) (y : S2x13x9216x256.Idx) : View.canon [(⟨r0_1, p⟩ : View.Piece (Elt Ideal) S2x13x9216x256 .f32)] y = p y := by
  have e : r0_1.emb y = y := funext fun a => match a with
    | ⟨0, _⟩ => Fin.ext (show 0 + 1 * (y 0).val = (y 0).val by omega)
    | ⟨1, _⟩ => Fin.ext (show 0 + 1 * (y 1).val = (y 1).val by omega)
    | ⟨2, _⟩ => Fin.ext (show 0 + 1 * (y 2).val = (y 2).val by omega)
    | ⟨3, _⟩ => Fin.ext (show 0 + 1 * (y 3).val = (y 3).val by omega)
  have := View.canon_cons_emb r0_1 p [] y
  rwa [e] at this

theorem ld0 (x : Vec Ideal S2x13x256x9216 .f32) (y : S2x13x256x9216.Idx) : k0_pay1 (View.ld x r0_0) y = x y :=
  congrArg x (funext fun a => match a with
    | ⟨0, _⟩ => Fin.ext (show 0 + 1 * (y 0).val = (y 0).val by omega)
    | ⟨1, _⟩ => Fin.ext (show 0 + 1 * (y 1).val = (y 1).val by omega)
    | ⟨2, _⟩ => Fin.ext (show 0 + 1 * (y 2).val = (y 2).val by omega)
    | ⟨3, _⟩ => Fin.ext (show 0 + 1 * (y 3).val = (y 3).val by omega))
theorem ld1 (x : Vec Ideal S2x13x9216x256 .f32) (y : S2x13x9216x256.Idx) : k0_pay2 (View.ld x r0_1) y = x y :=
  congrArg x (funext fun a => match a with
    | ⟨0, _⟩ => Fin.ext (show 0 + 1 * (y 0).val = (y 0).val by omega)
    | ⟨1, _⟩ => Fin.ext (show 0 + 1 * (y 1).val = (y 1).val by omega)
    | ⟨2, _⟩ => Fin.ext (show 0 + 1 * (y 2).val = (y 2).val by omega)
    | ⟨3, _⟩ => Fin.ext (show 0 + 1 * (y 3).val = (y 3).val by omega))

/-- The first coded array is the argument. -/
theorem final_0 (c : Dev nD) : (dats m 0 c).arrAt 2 cfg0.N = m ((c : Thread nD τ).loc main_arg1) := by
  refine (dats m 0 c).arrAt_eq_of_covers 2 _ (by decide +kernel) fun t hf y => ?_
  blk_simp
  rw [after0_2]
  unfold out0_2
  refine (canon0 _ y).trans ((ld0 _ y).trans ?_)
  unfold iblk
  blk_simp
  exact congrArg (m ((c : Thread nD τ).loc main_arg1)) (by blk_ext [(idx t).1, (idx t).2.2.1])

/-- The second coded array is the argument. -/
theorem final_1 (c : Dev nD) : (dats m 0 c).arrAt 3 cfg0.N = m ((c : Thread nD τ).loc main_arg3) := by
  refine (dats m 0 c).arrAt_eq_of_covers 3 _ (by decide +kernel) fun t hf y => ?_
  blk_simp
  rw [after0_3]
  unfold out0_3
  refine (canon1 _ y).trans ((ld1 _ y).trans ?_)
  unfold iblk
  blk_simp
  exact congrArg (m ((c : Thread nD τ).loc main_arg3)) (by blk_ext [(idx t).2.1, (idx t).2.2.2])

/-- The attention of the launch's arguments. -/
def attnM (c : Dev nD) : FVec Ideal S2x13x9216x256 .f32 :=
  attnT (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg7))

theorem arr_inj : Function.Injective (Pipeline.arrRef spec0) := by decide

/-- A buffer no window has is as launched when the pipeline has ended. -/
theorem keep (c : Dev nD) (b : Ref sig .tc) (hb : ∀ w, Pipeline.arrRef spec0 w ≠ b) :
    Pipeline.withArrays (cfgs 0).spec c (V0 m c) (fun w => (dats m 0 c).arrAt w (cfgs 0).N) (Proc.devRef .tc b) = m ((c : Thread nD τ).loc b) :=
  Pipeline.withArrays_of_ne spec0 c (V0 m c) _ b hb

theorem coded_0 (c : Dev nD) :
    Pipeline.withArrays (cfgs 0).spec c (V0 m c) (fun w => (dats m 0 c).arrAt w (cfgs 0).N) (Proc.devRef .tc main_v0_0) = m ((c : Thread nD τ).loc main_arg1) :=
  (Pipeline.withArrays_arr spec0 arr_inj c (V0 m c) (fun w => (dats m 0 c).arrAt w (cfgs 0).N) 2).trans (final_0 m c)
theorem coded_1 (c : Dev nD) :
    Pipeline.withArrays (cfgs 0).spec c (V0 m c) (fun w => (dats m 0 c).arrAt w (cfgs 0).N) (Proc.devRef .tc main_v0_1) = m ((c : Thread nD τ).loc main_arg3) :=
  (Pipeline.withArrays_arr spec0 arr_inj c (V0 m c) (fun w => (dats m 0 c).arrAt w (cfgs 0).N) 3).trans (final_1 m c)

theorem end_40 (c : Dev nD) :
    Pipeline.afterTail₀ cfgs (dats m) 0 (V0 m) [hostOps1, hostOps1_1, hostOps1_2] c main_v40 = truncf (F := Ideal) .bf16 (attnM m c) bitsLt_bf16_f32 := by
  unfold Pipeline.afterTail₀ attnM
  rw [tail_v40, coded_0, coded_1, keep m c main_arg0 (by decide), keep m c main_arg2 (by decide), keep m c main_arg4 (by decide), keep m c main_arg5 (by decide),
    keep m c main_arg7 (by decide)]

theorem end_39 (c : Dev nD) :
    Pipeline.afterTail₀ cfgs (dats m) 0 (V0 m) [hostOps1, hostOps1_1, hostOps1_2] c main_v39
      = truncf (F := Ideal) .bf16 (addf (show FVec Ideal S2x13x9216x256 .f32 from m ((c : Thread nD τ).loc main_arg6)) (attnM m c)) bitsLt_bf16_f32 := by
  unfold Pipeline.afterTail₀ attnM
  rw [tail_v39, coded_0, coded_1, keep m c main_arg0 (by decide), keep m c main_arg2 (by decide), keep m c main_arg4 (by decide), keep m c main_arg5 (by decide),
    keep m c main_arg6 (by decide), keep m c main_arg7 (by decide)]

/-- Every execution of the reference ends with its results the attention added to its input, and the attention. -/
theorem run_values (g : Dev nD → PrngReg) :
    θ_run defs (onTc (τ := τ) (main (F := Ideal))) ⟨m, fun _ => 0, g⟩ (fun r => ∀ c : Dev nD,
      r.2.mem ((c.tc : Thread nD τ).loc main_v39) = truncf (F := Ideal) .bf16 (addf (show FVec Ideal S2x13x9216x256 .f32 from m ((c : Thread nD τ).loc main_arg6)) (attnM m c)) bitsLt_bf16_f32
      ∧ r.2.mem ((c.tc : Thread nD τ).loc main_v40) = truncf (F := Ideal) .bf16 (attnM m c) bitsLt_bf16_f32) :=
  (θ_run defs _ _).mono (fun r h c =>
    ⟨((h c).2 main_v39 (Pipeline.mem_restRefs_of main_v39 (by decide) (by decide))).trans (end_39 m c),
     ((h c).2 main_v40 (Pipeline.mem_restRefs_of main_v40 (by decide) (by decide))).trans (end_40 m c)⟩) (run_main m g)

end Cert.ReferenceIdeal.Ref
end
-- ==== Proof.Algebra.lean ====
/-
  The kernel and the reference, run on the same arguments, end with the same two arrays.
-/
module

public import proofs.«01_k».proof.Defs
public import proofs.«01_k».proof.Proof.KEnd
public import proofs.«01_k».proof.Proof.KPre
public import proofs.«01_k».proof.Proof.RefEnd
public import proofs.«01_k».proof.Proof.Gen.Kernel
public import proofs.«01_k».proof.Proof.Gen.Pre_rows_in_range
public import Idealize.ShloMosaic.Adequacy
public import Idealize.ShloMosaic.Init

@[expose] public section

set_option maxRecDepth 16384

noncomputable section

namespace Cert.Value

open Cert.Attn
open Idealize.ShloMosaic Idealize.ShloMosaic.TcCoe Idealize.SL.Sem
open Cert.KernelIdeal (S2 S2x13x256x9216 S2x13x4x9216 S2x13x9216x256 S256x256)

/-- The numbers the arguments are. -/
def dataOf (n : IVec S2 32) (q : FVec Ideal S2x13x256x9216 .f32) (sq : FVec Ideal S2x13x4x9216 .f32) (k : FVec Ideal S2x13x9216x256 .f32)
    (sk : FVec Ideal S2x13x4x9216 .f32) (v : FVec Ideal S2x13x256x9216 .bf16) : Data where
  n b := (n (ix1 b)).toNat
  q b f d i := (q (ix4 b f d i) : EReal).toReal
  sq b f h i := (sq (ix4 b f h i) : EReal).toReal
  k b f j d := (k (ix4 b f j d) : EReal).toReal
  sk b f h j := (sk (ix4 b f h j) : EReal).toReal
  v b f d j := v (ix4 b f d j)

section
variable (m : (ℓ : Loc Cert.KernelIdeal.nD Cert.KernelIdeal.τ Cert.KernelIdeal.sig) → Buf (Elt Ideal) ℓ) (c : Dev Cert.KernelIdeal.nD)

/-- Those of a memory. -/
def dataM : Data := dataOf (m ((c.tc : Thread Cert.KernelIdeal.nD Cert.KernelIdeal.τ).loc Cert.KernelIdeal.main_arg0))
  (m ((c.tc : Thread Cert.KernelIdeal.nD Cert.KernelIdeal.τ).loc Cert.KernelIdeal.main_arg1)) (m ((c.tc : Thread Cert.KernelIdeal.nD Cert.KernelIdeal.τ).loc Cert.KernelIdeal.main_arg2))
  (m ((c.tc : Thread Cert.KernelIdeal.nD Cert.KernelIdeal.τ).loc Cert.KernelIdeal.main_arg3)) (m ((c.tc : Thread Cert.KernelIdeal.nD Cert.KernelIdeal.τ).loc Cert.KernelIdeal.main_arg4))
  (m ((c.tc : Thread Cert.KernelIdeal.nD Cert.KernelIdeal.τ).loc Cert.KernelIdeal.main_arg5))

variable (hpre : Cert.Pre_KernelIdeal_finite_inputs m)
include hpre

theorem range (j) : Cert.KernelIdeal.Row.InRange (Cert.KernelIdeal.Row.tab m j) := (Cert.Pre_finite_inputs.Ref.parts (hpre 0)).1 j

theorem isOf : Cert.KernelIdeal.Row.OfM m (dataM m c) c := by
  obtain ⟨r, _, h1, h2, h3, h4⟩ := Cert.Pre_finite_inputs.Ref.parts (hpre c)
  exact { n := fun b => rfl
          one := fun b => (r (ix1 b)).1
          top := fun b => (r (ix1 b)).2
          q := fun b f d i => h1 _
          sq := fun b f h i => h2 _
          k := fun b f j d hj => h3 _ _ _ _ hj
          sk := fun b f h j hj => h4 _ _ _ _ hj
          v := fun b f d j => rfl }

theorem zero_past : ∀ b f d (j : Fin 9216), (dataM m c).n b ≤ j.val → (dataM m c).v b f d j = 0 := fun b f d j h =>
  (Cert.Pre_finite_inputs.Ref.parts (hpre c)).2.1 b f d j h

end

/-- The kernel and the reference end with the same two arrays. -/
theorem algebraic : Cert.algebraic_KernelIdeal_ReferenceIdeal_pre_finite_inputs := by
  intro m g m' g' hpre hagree
  refine ⟨fun c => truncf (F := Ideal) .bf16 (addf (show FVec Ideal S2x13x9216x256 .f32 from m' ((c.tc : Thread Cert.ReferenceIdeal.nD Cert.ReferenceIdeal.τ).loc Cert.ReferenceIdeal.main_arg6)) (Cert.ReferenceIdeal.Ref.attnM m' c)) Cert.KernelIdeal.Facts₀.bitsLt_bf16_f32,
    fun c => truncf (F := Ideal) .bf16 (Cert.ReferenceIdeal.Ref.attnM m' c) Cert.KernelIdeal.Facts₀.bitsLt_bf16_f32, ?_, ?_⟩
  · have hN := Cert.KernelIdeal.Row.nAt_range m (range m hpre)
    refine (θ_run _ _ _).mono (fun r h c => ?_) (Cert.KernelIdeal.Row.run_main m g hN)
    obtain ⟨a0, a1, a2, a3, a4, a5, a6, a7⟩ := hagree c
    have hA : ∀ b f i e, Cert.ReferenceIdeal.Ref.attnM m' c (ix4 b f i e)
        = (dataM m c).out (fun a e => (m ((c.tc : Thread Cert.KernelIdeal.nD Cert.KernelIdeal.τ).loc Cert.KernelIdeal.main_arg7) : FVec Ideal S256x256 .bf16) (ix2 a e)) b f i e := fun b f i e => by
      unfold Cert.ReferenceIdeal.Ref.attnM
      rw [a0, a1, a2, a3, a4, a5, a7]
      exact Cert.ReferenceIdeal.Ref.attn_real (isOf m c hpre) _ b f i e
    exact ⟨((h.1 c).1 7).trans (Cert.KernelIdeal.Row.final_7 m c (isOf m c hpre) (zero_past m c hpre) hN _ _ (fun y => congrFun a6 y) _ (fun a e => rfl) hA),
      ((h.1 c).1 8).trans (Cert.KernelIdeal.Row.final_8 m c (isOf m c hpre) (zero_past m c hpre) hN _ _ (fun y => congrFun a6 y) _ (fun a e => rfl) hA),
      Cert.KernelIdeal.Row.args_kept m r h.1 c⟩
  · exact (θ_run _ _ _).mono (fun r h c => ⟨(h.1 c).1, (h.1 c).2, h.2 c⟩)
      (θ_run_and (Cert.ReferenceIdeal.Ref.run_values m' g') (Cert.ReferenceIdeal.Gen.unchanged m' g'))

end Cert.Value
end
-- ==== Proof.lean ====
/-
  The claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_rows_in_range
public import proofs.«01_k».proof.Proof.Gen.Pre_finite_inputs
public import proofs.«01_k».proof.Proof.Frames
public import proofs.«01_k».proof.Proof.KFrames
public import proofs.«01_k».proof.Proof.Algebra
public import Idealize.ShloMosaic.Adequacy
public import Idealize.ShloMosaic.Init

@[expose] public section

noncomputable section

namespace Cert.Proof

open Idealize.ShloMosaic Idealize.SL.Sem

/-- The reference runs, leaves its arguments as they were and every counter at zero. -/
theorem frame_ri : Cert.quiescent_ReferenceIdeal := fun m g _ => Cert.ReferenceIdeal.Gen.frame m g

/-- The constant the kernel scales the scores by is an eighth of the inverse of the logarithm of two. -/
theorem preserves : Cert.preserves_Kernel_KernelIdeal :=
  IdealRules.named_const.statement Cert.KernelIdeal.κ "log2e_over_8" .f32 0x3E38AA3B#32 (((1 / 8) * (Real.log 2)⁻¹ : ℝ) : EReal) rfl

/-- Under the value claim's precondition too the kernel runs and leaves its arguments as they were. -/
theorem frame_pi_finite : Cert.quiescent_KernelIdeal_pre_finite_inputs := fun m g h =>
  Cert.KernelIdeal.Row.frame_of_range m g (Cert.Value.range m h)

/-- So does the reference. -/
theorem frame_ri_finite : Cert.quiescent_ReferenceIdeal_pre_finite_inputs := fun m g _ => Cert.ReferenceIdeal.Gen.frame m g

theorem claim : Cert.Claim :=
  ⟨Cert.Kernel.Gen.facts, Cert.KernelIdeal.Gen.facts, Cert.ReferenceIdeal.Gen.facts, Cert.Pre_rows_in_range.Gen.facts, Cert.Pre_finite_inputs.Gen.facts,
    Cert.Kernel.Row.frame_p, Cert.KernelIdeal.Row.frame_pi, frame_pi_finite, frame_ri, frame_ri_finite, preserves, Cert.Value.algebraic⟩

end Cert.Proof

end
